-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_within_capacity_KernelIdeal [hPre_finite_within_capacity_KernelIdeal : Cert.Pre_finite_within_capacity_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_within_capacity_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_within_capacity_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_within_capacity_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite_within_capacity_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite_within_capacity_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_within_capacity_ReferenceIdeal [hPre_finite_within_capacity_ReferenceIdeal : Cert.Pre_finite_within_capacity_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_within_capacity_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_within_capacity_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_within_capacity_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite_within_capacity_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite_within_capacity_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_within_capacity_KernelIdeal [hKernelIdeal : Cert.KernelIdeal.Facts] [hPre_finite_within_capacity_KernelIdeal : Cert.Pre_finite_within_capacity_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_within_capacity_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_within_capacity_ReferenceIdeal [hReferenceIdeal : Cert.ReferenceIdeal.Facts] [hPre_finite_within_capacity_ReferenceIdeal : Cert.Pre_finite_within_capacity_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_within_capacity_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_within_capacity_KernelIdeal [hKernelIdeal : Cert.KernelIdeal.Facts] [hReferenceIdeal : Cert.ReferenceIdeal.Facts] [hPre_finite_within_capacity_KernelIdeal : Cert.Pre_finite_within_capacity_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_within_capacity_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![16384, 512]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![2048, 1]⟩ ⟨2, ![16384, 1]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![8, 512, 1024]⟩ ⟨3, ![64, 512, 1024]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = Layout.block ⟨2, ![2048, 1024]⟩ ⟨2, ![16384, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v38) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_within_capacity_KernelIdeal : Cert.Pre_finite_within_capacity_KernelIdeal.Facts) (hPre_finite_within_capacity_ReferenceIdeal : Cert.Pre_finite_within_capacity_ReferenceIdeal.Facts),
    quiescent_Kernel (hKernel := hKernel)
    ∧ quiescent_KernelIdeal (hKernelIdeal := hKernelIdeal)
    ∧ quiescent_KernelIdeal_pre_finite_within_capacity_KernelIdeal (hKernelIdeal := hKernelIdeal) (hPre_finite_within_capacity_KernelIdeal := hPre_finite_within_capacity_KernelIdeal)
    ∧ quiescent_ReferenceIdeal (hReferenceIdeal := hReferenceIdeal)
    ∧ quiescent_ReferenceIdeal_pre_finite_within_capacity_ReferenceIdeal (hReferenceIdeal := hReferenceIdeal) (hPre_finite_within_capacity_ReferenceIdeal := hPre_finite_within_capacity_ReferenceIdeal)
    ∧ preserves_Kernel_KernelIdeal
    ∧ algebraic_KernelIdeal_ReferenceIdeal_pre_finite_within_capacity_KernelIdeal (hKernelIdeal := hKernelIdeal) (hReferenceIdeal := hReferenceIdeal) (hPre_finite_within_capacity_KernelIdeal := hPre_finite_within_capacity_KernelIdeal)
-- ==== Pre_finite_within_capacity_KernelIdeal.lean ====
abbrev S2048x512 : Shape := ⟨2, ![2048, 512]⟩
abbrev S512x64 : Shape := ⟨2, ![512, 64]⟩
abbrev S2048x1 : Shape := ⟨2, ![2048, 1]⟩
abbrev S8x512x1024 : Shape := ⟨3, ![8, 512, 1024]⟩
abbrev S512x1024 : Shape := ⟨2, ![512, 1024]⟩
abbrev S64 : Shape := ⟨1, ![64]⟩
abbrev S1x64 : Shape := ⟨2, ![1, 64]⟩
abbrev S2048x64 : Shape := ⟨2, ![2048, 64]⟩
abbrev S_ : Shape := ⟨0, ![]⟩

class Facts : Prop where
  bcast_S64_S1x64_1 : S64.BroadcastsInDim S1x64 (![1] : Fin 1 → Fin S1x64.rank)
  bcast_S2048x1_S2048x64_0_1 : S2048x1.BroadcastsInDim S2048x64 (![0, 1] : Fin 2 → Fin S2048x64.rank)
  bcast_S1x64_S2048x64_0_1 : S1x64.BroadcastsInDim S2048x64 (![0, 1] : Fin 2 → Fin S2048x64.rank)
  bcast_S_S2048x512 : S_.BroadcastsInDim S2048x512 (![] : Fin 0 → Fin S2048x512.rank)
  bcast_S_S512x64 : S_.BroadcastsInDim S512x64 (![] : Fin 0 → Fin S512x64.rank)
  bcast_S_S2048x1 : S_.BroadcastsInDim S2048x1 (![] : Fin 0 → Fin S2048x1.rank)
  natLt_1_32 : 1 < 32
  reducesTo_S2048x64_S64_d0 : S2048x64.ReducesTo [0] S64
  h_S_ : 0 < S_.numel
  bcast_S_S64 : S_.BroadcastsInDim S64 (![] : Fin 0 → Fin S64.rank)

variable [Facts]

def fn_part1 {F : FTy → Type} [FloatOps F] (main_v7 : IVec S2048x512 1) (main_v10 : IVec S512x64 1) (main_v12 : IVec S2048x1 1) (main_v14 : IVec S2048x1 1) (main_v16 : IVec S64 32) (main_v17 : IVec S64 32) : IVec S2048x512 1 × IVec S512x64 1 × IVec S2048x1 1 × IVec S2048x1 1 × IVec S64 1 :=
  let main_v18 : IVec S64 1 := cmpi .sle main_v16 main_v17
  (main_v7, main_v10, main_v12, main_v14, main_v18)

def fn {F : FTy → Type} [FloatOps F] (main_arg0 : FVec F S2048x512 .f32) (main_arg1 : FVec F S512x64 .f32) (main_arg2 : IVec S2048x1 32) (main_arg3 : FVec F S8x512x1024 .f32) (main_arg4 : FVec F S512x1024 .f32) : IVec S2048x512 1 × IVec S512x64 1 × IVec S2048x1 1 × IVec S2048x1 1 × IVec S64 1 :=
  let main_v0 : IVec S64 32 := iotaInDim S64 32 0
  let main_v1 : IVec S1x64 32 := broadcastInDim S1x64 ![1] bcast_S64_S1x64_1 main_v0
  let main_v2 : IVec S2048x64 32 := broadcastInDim S2048x64 ![0, 1] bcast_S2048x1_S2048x64_0_1 main_arg2
  let main_v3 : IVec S2048x64 32 := broadcastInDim S2048x64 ![0, 1] bcast_S1x64_S2048x64_0_1 main_v1
  let main_v4 : IVec S2048x64 1 := cmpi .eq main_v2 main_v3
  let main_v5 : FVec F S2048x512 .f32 := Host.absf main_arg0
  let main_cst : FVec F S_ .f32 := constant S_ .f32 0x7F800000#32
  let main_v6 : FVec F S2048x512 .f32 := broadcastInDim S2048x512 ![] bcast_S_S2048x512 main_cst
  let main_v7 : IVec S2048x512 1 := cmpf .olt main_v5 main_v6
  let main_v8 : FVec F S512x64 .f32 := Host.absf main_arg1
  let main_cst_0 : FVec F S_ .f32 := constant S_ .f32 0x7F800000#32
  let main_v9 : FVec F S512x64 .f32 := broadcastInDim S512x64 ![] bcast_S_S512x64 main_cst_0
  let main_v10 : IVec S512x64 1 := cmpf .olt main_v8 main_v9
  let main_c : IVec S_ 32 := constantI S_ 32 0#32
  let main_v11 : IVec S2048x1 32 := broadcastInDim S2048x1 ![] bcast_S_S2048x1 main_c
  let main_v12 : IVec S2048x1 1 := cmpi .sge main_arg2 main_v11
  let main_c_1 : IVec S_ 32 := constantI S_ 32 64#32
  let main_v13 : IVec S2048x1 32 := broadcastInDim S2048x1 ![] bcast_S_S2048x1 main_c_1
  let main_v14 : IVec S2048x1 1 := cmpi .slt main_arg2 main_v13
  let main_v15 : IVec S2048x64 32 := (extui 32 · natLt_1_32) main_v4
  let main_c_2 : IVec S_ 32 := constantI S_ 32 0#32
  let main_v16 : IVec S64 32 := (fun x v => Host.reduce IntOp.addi x v reducesTo_S2048x64_S64_d0 h_S_) main_v15 main_c_2
  let main_c_3 : IVec S_ 32 := constantI S_ 32 64#32
  let main_v17 : IVec S64 32 := broadcastInDim S64 ![] bcast_S_S64 main_c_3
  fn_part1 (F := F) main_v7 main_v10 main_v12 main_v14 main_v16 main_v17
-- ==== Pre_finite_within_capacity_ReferenceIdeal.lean ====
abbrev S16384x512 : Shape := ⟨2, ![16384, 512]⟩
abbrev S512x64 : Shape := ⟨2, ![512, 64]⟩
abbrev S16384x1 : Shape := ⟨2, ![16384, 1]⟩
abbrev S64x512x1024 : Shape := ⟨3, ![64, 512, 1024]⟩
abbrev S512x1024 : Shape := ⟨2, ![512, 1024]⟩
abbrev S64 : Shape := ⟨1, ![64]⟩
abbrev S1x64 : Shape := ⟨2, ![1, 64]⟩
abbrev S16384x64 : Shape := ⟨2, ![16384, 64]⟩
abbrev S_ : Shape := ⟨0, ![]⟩

class Facts : Prop where
  bcast_S64_S1x64_1 : S64.BroadcastsInDim S1x64 (![1] : Fin 1 → Fin S1x64.rank)
  bcast_S16384x1_S16384x64_0_1 : S16384x1.BroadcastsInDim S16384x64 (![0, 1] : Fin 2 → Fin S16384x64.rank)
  bcast_S1x64_S16384x64_0_1 : S1x64.BroadcastsInDim S16384x64 (![0, 1] : Fin 2 → Fin S16384x64.rank)
  bcast_S_S16384x512 : S_.BroadcastsInDim S16384x512 (![] : Fin 0 → Fin S16384x512.rank)
  bcast_S_S512x64 : S_.BroadcastsInDim S512x64 (![] : Fin 0 → Fin S512x64.rank)
  bcast_S_S16384x1 : S_.BroadcastsInDim S16384x1 (![] : Fin 0 → Fin S16384x1.rank)
  natLt_1_32 : 1 < 32
  reducesTo_S16384x64_S64_d0 : S16384x64.ReducesTo [0] S64
  h_S_ : 0 < S_.numel
  bcast_S_S64 : S_.BroadcastsInDim S64 (![] : Fin 0 → Fin S64.rank)

variable [Facts]

def fn_part1 {F : FTy → Type} [FloatOps F] (main_v7 : IVec S16384x512 1) (main_v10 : IVec S512x64 1) (main_v12 : IVec S16384x1 1) (main_v14 : IVec S16384x1 1) (main_v16 : IVec S64 32) (main_v17 : IVec S64 32) : IVec S16384x512 1 × IVec S512x64 1 × IVec S16384x1 1 × IVec S16384x1 1 × IVec S64 1 :=
  let main_v18 : IVec S64 1 := cmpi .sle main_v16 main_v17
  (main_v7, main_v10, main_v12, main_v14, main_v18)

def fn {F : FTy → Type} [FloatOps F] (main_arg0 : FVec F S16384x512 .f32) (main_arg1 : FVec F S512x64 .f32) (main_arg2 : IVec S16384x1 32) (main_arg3 : FVec F S64x512x1024 .f32) (main_arg4 : FVec F S512x1024 .f32) : IVec S16384x512 1 × IVec S512x64 1 × IVec S16384x1 1 × IVec S16384x1 1 × IVec S64 1 :=
  let main_v0 : IVec S64 32 := iotaInDim S64 32 0
  let main_v1 : IVec S1x64 32 := broadcastInDim S1x64 ![1] bcast_S64_S1x64_1 main_v0
  let main_v2 : IVec S16384x64 32 := broadcastInDim S16384x64 ![0, 1] bcast_S16384x1_S16384x64_0_1 main_arg2
  let main_v3 : IVec S16384x64 32 := broadcastInDim S16384x64 ![0, 1] bcast_S1x64_S16384x64_0_1 main_v1
  let main_v4 : IVec S16384x64 1 := cmpi .eq main_v2 main_v3
  let main_v5 : FVec F S16384x512 .f32 := Host.absf main_arg0
  let main_cst : FVec F S_ .f32 := constant S_ .f32 0x7F800000#32
  let main_v6 : FVec F S16384x512 .f32 := broadcastInDim S16384x512 ![] bcast_S_S16384x512 main_cst
  let main_v7 : IVec S16384x512 1 := cmpf .olt main_v5 main_v6
  let main_v8 : FVec F S512x64 .f32 := Host.absf main_arg1
  let main_cst_0 : FVec F S_ .f32 := constant S_ .f32 0x7F800000#32
  let main_v9 : FVec F S512x64 .f32 := broadcastInDim S512x64 ![] bcast_S_S512x64 main_cst_0
  let main_v10 : IVec S512x64 1 := cmpf .olt main_v8 main_v9
  let main_c : IVec S_ 32 := constantI S_ 32 0#32
  let main_v11 : IVec S16384x1 32 := broadcastInDim S16384x1 ![] bcast_S_S16384x1 main_c
  let main_v12 : IVec S16384x1 1 := cmpi .sge main_arg2 main_v11
  let main_c_1 : IVec S_ 32 := constantI S_ 32 64#32
  let main_v13 : IVec S16384x1 32 := broadcastInDim S16384x1 ![] bcast_S_S16384x1 main_c_1
  let main_v14 : IVec S16384x1 1 := cmpi .slt main_arg2 main_v13
  let main_v15 : IVec S16384x64 32 := (extui 32 · natLt_1_32) main_v4
  let main_c_2 : IVec S_ 32 := constantI S_ 32 0#32
  let main_v16 : IVec S64 32 := (fun x v => Host.reduce IntOp.addi x v reducesTo_S16384x64_S64_d0 h_S_) main_v15 main_c_2
  let main_c_3 : IVec S_ 32 := constantI S_ 32 64#32
  let main_v17 : IVec S64 32 := broadcastInDim S64 ![] bcast_S_S64 main_c_3
  fn_part1 (F := F) main_v7 main_v10 main_v12 main_v14 main_v16 main_v17
-- ==== Kernel.lean ====
abbrev S2048x512 : Shape := ⟨2, ![2048, 512]⟩
abbrev S512x64 : Shape := ⟨2, ![512, 64]⟩
abbrev S2048x1 : Shape := ⟨2, ![2048, 1]⟩
abbrev S8x512x1024 : Shape := ⟨3, ![8, 512, 1024]⟩
abbrev S512x1024 : Shape := ⟨2, ![512, 1024]⟩
abbrev S2048 : Shape := ⟨1, ![2048]⟩
abbrev S64 : Shape := ⟨1, ![64]⟩
abbrev S1x64 : Shape := ⟨2, ![1, 64]⟩
abbrev S2048x64 : Shape := ⟨2, ![2048, 64]⟩
abbrev S_ : Shape := ⟨0, ![]⟩
abbrev S2048x1024 : Shape := ⟨2, ![2048, 1024]⟩
abbrev S8x8x64x512 : Shape := ⟨4, ![8, 8, 64, 512]⟩
abbrev S8x8x64x1024 : Shape := ⟨4, ![8, 8, 64, 1024]⟩
abbrev S2x512x1024 : Shape := ⟨3, ![2, 512, 1024]⟩
abbrev S8 : Shape := ⟨1, ![8]⟩
abbrev S2 : Shape := ⟨1, ![2]⟩
abbrev S1 : Shape := ⟨1, ![1]⟩
abbrev S1x512x1024 : Shape := ⟨3, ![1, 512, 1024]⟩
abbrev S512x512 : Shape := ⟨2, ![512, 512]⟩
abbrev S1x8x64x512 : Shape := ⟨4, ![1, 8, 64, 512]⟩
abbrev S8x64x512 : Shape := ⟨3, ![8, 64, 512]⟩
abbrev S8x1x64x512 : Shape := ⟨4, ![8, 1, 64, 512]⟩
abbrev S8x64x1024 : Shape := ⟨3, ![8, 64, 1024]⟩
abbrev S8x1x64x1024 : Shape := ⟨4, ![8, 1, 64, 1024]⟩
abbrev S1x8x64x1024 : Shape := ⟨4, ![1, 8, 64, 1024]⟩
abbrev S512x1 : Shape := ⟨2, ![512, 1]⟩

abbrev nBuf : Space → Nat
  | .hbm => 33
  | .vmem => 12
  | .smem => 0
  | _ => 0

abbrev bufTy : (tb : Table) → Fin (tcTables nBuf tb) → BufTy
  | .hbm, ⟨0, _⟩ => ⟨S2048x512, .f32⟩
  | .hbm, ⟨1, _⟩ => ⟨S512x64, .f32⟩
  | .hbm, ⟨2, _⟩ => ⟨S2048x1, .i32⟩
  | .hbm, ⟨3, _⟩ => ⟨S8x512x1024, .f32⟩
  | .hbm, ⟨4, _⟩ => ⟨S512x1024, .f32⟩
  | .hbm, ⟨5, _⟩ => ⟨S2048, .i32⟩
  | .hbm, ⟨6, _⟩ => ⟨S64, .i32⟩
  | .hbm, ⟨7, _⟩ => ⟨S1x64, .i32⟩
  | .hbm, ⟨8, _⟩ => ⟨S2048x64, .i32⟩
  | .hbm, ⟨9, _⟩ => ⟨S2048x64, .i32⟩
  | .hbm, ⟨10, _⟩ => ⟨S2048x64, .i1⟩
  | .hbm, ⟨11, _⟩ => ⟨S2048x64, .i32⟩
  | .hbm, ⟨12, _⟩ => ⟨S_, .i32⟩
  | .hbm, ⟨13, _⟩ => ⟨S_, .i32⟩
  | .hbm, ⟨14, _⟩ => ⟨S2048x64, .i32⟩
  | .hbm, ⟨15, _⟩ => ⟨S_, .i32⟩
  | .hbm, ⟨16, _⟩ => ⟨S_, .i32⟩
  | .hbm, ⟨17, _⟩ => ⟨S2048x64, .i32⟩
  | .hbm, ⟨18, _⟩ => ⟨S2048x64, .i32⟩
  | .hbm, ⟨19, _⟩ => ⟨S_, .i32⟩
  | .hbm, ⟨20, _⟩ => ⟨S2048, .i32⟩
  | .hbm, ⟨21, _⟩ => ⟨S_, .i32⟩
  | .hbm, ⟨22, _⟩ => ⟨S2048, .i32⟩
  | .hbm, ⟨23, _⟩ => ⟨S2048, .i32⟩
  | .hbm, ⟨24, _⟩ => ⟨S_, .i32⟩
  | .hbm, ⟨25, _⟩ => ⟨S2048, .i32⟩
  | .hbm, ⟨26, _⟩ => ⟨S2048, .i32⟩
  | .hbm, ⟨27, _⟩ => ⟨S_, .i32⟩
  | .hbm, ⟨28, _⟩ => ⟨S2048, .i32⟩
  | .hbm, ⟨29, _⟩ => ⟨S2048, .i32⟩
  | .hbm, ⟨30, _⟩ => ⟨S2048, .i32⟩
  | .hbm, ⟨31, _⟩ => ⟨S2048x1, .i32⟩
  | .hbm, ⟨32, _⟩ => ⟨S2048x1024, .f32⟩
  | .local _ .vmem, ⟨0, _⟩ => ⟨S2048x512, .f32⟩
  | .local _ .vmem, ⟨1, _⟩ => ⟨S512x64, .f32⟩
  | .local _ .vmem, ⟨2, _⟩ => ⟨S2048x1, .i32⟩
  | .local _ .vmem, ⟨3, _⟩ => ⟨S2048x1, .i32⟩
  | .local _ .vmem, ⟨4, _⟩ => ⟨S512x1024, .f32⟩
  | .local _ .vmem, ⟨5, _⟩ => ⟨S2048x1024, .f32⟩
  | .local _ .vmem, ⟨6, _⟩ => ⟨S2048x512, .bf16⟩
  | .local _ .vmem, ⟨7, _⟩ => ⟨S8x8x64x512, .bf16⟩
  | .local _ .vmem, ⟨8, _⟩ => ⟨S8x8x64x1024, .bf16⟩
  | .local _ .vmem, ⟨9, _⟩ => ⟨S8x8x64x1024, .bf16⟩
  | .local _ .vmem, ⟨10, _⟩ => ⟨S2x512x1024, .f32⟩
  | .local _ .vmem, ⟨11, _⟩ => ⟨S8x8x64x512, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  (ofTc nBuf bufTy 1 40 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_call0_c : Ref sig .tc := ⟨.hbm, 12, rfl⟩
abbrev main_call0_call0_v0 : Ref sig .tc := ⟨.hbm, 13, rfl⟩
abbrev main_v8 : Ref sig .tc := ⟨.hbm, 14, rfl⟩
abbrev main_c : Ref sig .tc := ⟨.hbm, 15, rfl⟩
abbrev main_call1_v0 : Ref sig .tc := ⟨.hbm, 16, rfl⟩
abbrev main_call1_v1 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_6 : BitVec 32 := 0#32
  let v10 : BitVec 1 := Scalar.cmpi .ne v2 c0_i32_6
  let v11 : BitVec 32 := Scalar.extui v10
  let c0_i32_7 : BitVec 32 := 0#32
  let v12 : BitVec 1 := Scalar.cmpi .ne v11 c0_i32_7
  v12

def k0_dev1 : Nat :=
  let c0_i32_1386 : BitVec 32 := 0#32
  let c0_i32_1384 : BitVec 32 := 0#32
  let c1_i32_1385 : BitVec 32 := 1#32
  let v1851 : BitVec 32 := Scalar.muli c0_i32_1384 c1_i32_1385
  let v1852 : BitVec 32 := Scalar.addi c0_i32_1386 v1851
  v1852.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_8 : BitVec 32 := 1#32
  let v13 : BitVec 1 := Scalar.cmpi .ne v2 c1_i32_8
  let v14 : BitVec 32 := Scalar.extui v13
  let c0_i32_9 : BitVec 32 := 0#32
  let v15 : BitVec 1 := Scalar.cmpi .ne v14 c0_i32_9
  v15

def k0_dev2 : Nat :=
  let c0_i32_1386 : BitVec 32 := 0#32
  let c1_i32_1384 : BitVec 32 := 1#32
  let c1_i32_1385 : BitVec 32 := 1#32
  let v1851 : BitVec 32 := Scalar.muli c1_i32_1384 c1_i32_1385
  let v1852 : BitVec 32 := Scalar.addi c0_i32_1386 v1851
  v1852.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v16 : BitVec 1 := Scalar.cmpi .ne v2 c2_i32
  let v17 : BitVec 32 := Scalar.extui v16
  let c0_i32_10 : BitVec 32 := 0#32
  let v18 : BitVec 1 := Scalar.cmpi .ne v17 c0_i32_10
  v18

def k0_dev3 : Nat :=
  let c0_i32_1386 : BitVec 32 := 0#32
  let c2_i32_1384 : BitVec 32 := 2#32
  let c1_i32_1385 : BitVec 32 := 1#32
  let v1851 : BitVec 32 := Scalar.muli c2_i32_1384 c1_i32_1385
  let v1852 : BitVec 32 := Scalar.addi c0_i32_1386 v1851
  v1852.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v19 : BitVec 1 := Scalar.cmpi .ne v2 c3_i32
  let v20 : BitVec 32 := Scalar.extui v19
  let c0_i32_11 : BitVec 32 := 0#32
  let v21 : BitVec 1 := Scalar.cmpi .ne v20 c0_i32_11
  v21

def k0_dev4 : Nat :=
  let c0_i32_1386 : BitVec 32 := 0#32
  let c3_i32_1384 : BitVec 32 := 3#32
  let c1_i32_1385 : BitVec 32 := 1#32
  let v1851 : BitVec 32 := Scalar.muli c3_i32_1384 c1_i32_1385
  let v1852 : BitVec 32 := Scalar.addi c0_i32_1386 v1851
  v1852.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v22 : BitVec 1 := Scalar.cmpi .ne v2 c4_i32
  let v23 : BitVec 32 := Scalar.extui v22
  let c0_i32_12 : BitVec 32 := 0#32
  let v24 : BitVec 1 := Scalar.cmpi .ne v23 c0_i32_12
  v24

def k0_dev5 : Nat :=
  let c0_i32_1386 : BitVec 32 := 0#32
  let c4_i32_1384 : BitVec 32 := 4#32
  let c1_i32_1385 : BitVec 32 := 1#32
  let v1851 : BitVec 32 := Scalar.muli c4_i32_1384 c1_i32_1385
  let v1852 : BitVec 32 := Scalar.addi c0_i32_1386 v1851
  v1852.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v25 : BitVec 1 := Scalar.cmpi .ne v2 c5_i32
  let v26 : BitVec 32 := Scalar.extui v25
  let c0_i32_13 : BitVec 32 := 0#32
  let v27 : BitVec 1 := Scalar.cmpi .ne v26 c0_i32_13
  v27

def k0_dev6 : Nat :=
  let c0_i32_1386 : BitVec 32 := 0#32
  let c5_i32_1384 : BitVec 32 := 5#32
  let c1_i32_1385 : BitVec 32 := 1#32
  let v1851 : BitVec 32 := Scalar.muli c5_i32_1384 c1_i32_1385
  let v1852 : BitVec 32 := Scalar.addi c0_i32_1386 v1851
  v1852.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v28 : BitVec 1 := Scalar.cmpi .ne v2 c6_i32
  let v29 : BitVec 32 := Scalar.extui v28
  let c0_i32_14 : BitVec 32 := 0#32
  let v30 : BitVec 1 := Scalar.cmpi .ne v29 c0_i32_14
  v30

def k0_dev7 : Nat :=
  let c0_i32_1386 : BitVec 32 := 0#32
  let c6_i32_1384 : BitVec 32 := 6#32
  let c1_i32_1385 : BitVec 32 := 1#32
  let v1851 : BitVec 32 := Scalar.muli c6_i32_1384 c1_i32_1385
  let v1852 : BitVec 32 := Scalar.addi c0_i32_1386 v1851
  v1852.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v31 : BitVec 1 := Scalar.cmpi .ne v2 c7_i32
  let v32 : BitVec 32 := Scalar.extui v31
  let c0_i32_15 : BitVec 32 := 0#32
  let v33 : BitVec 1 := Scalar.cmpi .ne v32 c0_i32_15
  v33

def k0_dev8 : Nat :=
  let c0_i32_1386 : BitVec 32 := 0#32
  let c7_i32_1384 : BitVec 32 := 7#32
  let c1_i32_1385 : BitVec 32 := 1#32
  let v1851 : BitVec 32 := Scalar.muli c7_i32_1384 c1_i32_1385
  let v1852 : BitVec 32 := Scalar.addi c0_i32_1386 v1851
  v1852.toNat
def k0_off1 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v90 : Index := Scalar.indexCast v2
  let c0_42 : Index := 0#32
  let c0_43 : Index := 0#32
  let c0_44 : Index := 0#32
  ![v90.toNat, 0, 0, 0]
def k0_off2 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_64 : BitVec 32 := 0#32
  let c0_i32_65 : BitVec 32 := 0#32
  let c0_i32_66 : BitVec 32 := 0#32
  ![v2.toNat, 0, 0, 0]
def k0_dev9 (d0 : Dev nD) : Nat :=
  let c0_i32_63 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_45 : BitVec 32 := 1#32
  let v94 : BitVec 32 := Scalar.addi v2 c1_i32_45
  let c8_i32_46 : BitVec 32 := 8#32
  let c0_i32_47 : BitVec 32 := 0#32
  let v95 : BitVec 1 := Scalar.cmpi .eq c8_i32_46 c0_i32_47
  let c1_i32_48 : BitVec 32 := 1#32
  let v96 : BitVec 32 := Scalar.select v95 c1_i32_48 c8_i32_46
  let v97 : BitVec 32 := Scalar.remsi v94 v96
  let c0_i32_50 : BitVec 32 := 0#32
  let v99 : BitVec 1 := Scalar.cmpi .slt v97 c0_i32_50
  let c0_i32_51 : BitVec 32 := 0#32
  let v100 : BitVec 1 := Scalar.cmpi .slt v96 c0_i32_51
  let v101 : BitVec 1 := Scalar.xori v99 v100
  let c0_i32_49 : BitVec 32 := 0#32
  let v98 : BitVec 1 := Scalar.cmpi .ne v97 c0_i32_49
  let v102 : BitVec 1 := Scalar.andi v101 v98
  let v103 : BitVec 32 := Scalar.addi v97 v96
  let v104 : BitVec 32 := Scalar.select v102 v103 v97
  let c1_i32_62 : BitVec 32 := 1#32
  let v122 : BitVec 32 := Scalar.muli v104 c1_i32_62
  let v123 : BitVec 32 := Scalar.addi c0_i32_63 v122
  v123.toNat
def k0_dev10 (d0 : Dev nD) : Nat :=
  let c0_i32_88 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_70 : BitVec 32 := 2#32
  let v132 : BitVec 32 := Scalar.addi v2 c2_i32_70
  let c8_i32_71 : BitVec 32 := 8#32
  let c0_i32_72 : BitVec 32 := 0#32
  let v133 : BitVec 1 := Scalar.cmpi .eq c8_i32_71 c0_i32_72
  let c1_i32_73 : BitVec 32 := 1#32
  let v134 : BitVec 32 := Scalar.select v133 c1_i32_73 c8_i32_71
  let v135 : BitVec 32 := Scalar.remsi v132 v134
  let c0_i32_75 : BitVec 32 := 0#32
  let v137 : BitVec 1 := Scalar.cmpi .slt v135 c0_i32_75
  let c0_i32_76 : BitVec 32 := 0#32
  let v138 : BitVec 1 := Scalar.cmpi .slt v134 c0_i32_76
  let v139 : BitVec 1 := Scalar.xori v137 v138
  let c0_i32_74 : BitVec 32 := 0#32
  let v136 : BitVec 1 := Scalar.cmpi .ne v135 c0_i32_74
  let v140 : BitVec 1 := Scalar.andi v139 v136
  let v141 : BitVec 32 := Scalar.addi v135 v134
  let v142 : BitVec 32 := Scalar.select v140 v141 v135
  let c1_i32_87 : BitVec 32 := 1#32
  let v160 : BitVec 32 := Scalar.muli v142 c1_i32_87
  let v161 : BitVec 32 := Scalar.addi c0_i32_88 v160
  v161.toNat
def k0_dev11 (d0 : Dev nD) : Nat :=
  let c0_i32_113 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_95 : BitVec 32 := 3#32
  let v170 : BitVec 32 := Scalar.addi v2 c3_i32_95
  let c8_i32_96 : BitVec 32 := 8#32
  let c0_i32_97 : BitVec 32 := 0#32
  let v171 : BitVec 1 := Scalar.cmpi .eq c8_i32_96 c0_i32_97
  let c1_i32_98 : BitVec 32 := 1#32
  let v172 : BitVec 32 := Scalar.select v171 c1_i32_98 c8_i32_96
  let v173 : BitVec 32 := Scalar.remsi v170 v172
  let c0_i32_100 : BitVec 32 := 0#32
  let v175 : BitVec 1 := Scalar.cmpi .slt v173 c0_i32_100
  let c0_i32_101 : BitVec 32 := 0#32
  let v176 : BitVec 1 := Scalar.cmpi .slt v172 c0_i32_101
  let v177 : BitVec 1 := Scalar.xori v175 v176
  let c0_i32_99 : BitVec 32 := 0#32
  let v174 : BitVec 1 := Scalar.cmpi .ne v173 c0_i32_99
  let v178 : BitVec 1 := Scalar.andi v177 v174
  let v179 : BitVec 32 := Scalar.addi v173 v172
  let v180 : BitVec 32 := Scalar.select v178 v179 v173
  let c1_i32_112 : BitVec 32 := 1#32
  let v198 : BitVec 32 := Scalar.muli v180 c1_i32_112
  let v199 : BitVec 32 := Scalar.addi c0_i32_113 v198
  v199.toNat
def k0_dev12 (d0 : Dev nD) : Nat :=
  let c0_i32_138 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_120 : BitVec 32 := 4#32
  let v208 : BitVec 32 := Scalar.addi v2 c4_i32_120
  let c8_i32_121 : BitVec 32 := 8#32
  let c0_i32_122 : BitVec 32 := 0#32
  let v209 : BitVec 1 := Scalar.cmpi .eq c8_i32_121 c0_i32_122
  let c1_i32_123 : BitVec 32 := 1#32
  let v210 : BitVec 32 := Scalar.select v209 c1_i32_123 c8_i32_121
  let v211 : BitVec 32 := Scalar.remsi v208 v210
  let c0_i32_125 : BitVec 32 := 0#32
  let v213 : BitVec 1 := Scalar.cmpi .slt v211 c0_i32_125
  let c0_i32_126 : BitVec 32 := 0#32
  let v214 : BitVec 1 := Scalar.cmpi .slt v210 c0_i32_126
  let v215 : BitVec 1 := Scalar.xori v213 v214
  let c0_i32_124 : BitVec 32 := 0#32
  let v212 : BitVec 1 := Scalar.cmpi .ne v211 c0_i32_124
  let v216 : BitVec 1 := Scalar.andi v215 v212
  let v217 : BitVec 32 := Scalar.addi v211 v210
  let v218 : BitVec 32 := Scalar.select v216 v217 v211
  let c1_i32_137 : BitVec 32 := 1#32
  let v236 : BitVec 32 := Scalar.muli v218 c1_i32_137
  let v237 : BitVec 32 := Scalar.addi c0_i32_138 v236
  v237.toNat
def k0_dev13 (d0 : Dev nD) : Nat :=
  let c0_i32_163 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_145 : BitVec 32 := 5#32
  let v246 : BitVec 32 := Scalar.addi v2 c5_i32_145
  let c8_i32_146 : BitVec 32 := 8#32
  let c0_i32_147 : BitVec 32 := 0#32
  let v247 : BitVec 1 := Scalar.cmpi .eq c8_i32_146 c0_i32_147
  let c1_i32_148 : BitVec 32 := 1#32
  let v248 : BitVec 32 := Scalar.select v247 c1_i32_148 c8_i32_146
  let v249 : BitVec 32 := Scalar.remsi v246 v248
  let c0_i32_150 : BitVec 32 := 0#32
  let v251 : BitVec 1 := Scalar.cmpi .slt v249 c0_i32_150
  let c0_i32_151 : BitVec 32 := 0#32
  let v252 : BitVec 1 := Scalar.cmpi .slt v248 c0_i32_151
  let v253 : BitVec 1 := Scalar.xori v251 v252
  let c0_i32_149 : BitVec 32 := 0#32
  let v250 : BitVec 1 := Scalar.cmpi .ne v249 c0_i32_149
  let v254 : BitVec 1 := Scalar.andi v253 v250
  let v255 : BitVec 32 := Scalar.addi v249 v248
  let v256 : BitVec 32 := Scalar.select v254 v255 v249
  let c1_i32_162 : BitVec 32 := 1#32
  let v274 : BitVec 32 := Scalar.muli v256 c1_i32_162
  let v275 : BitVec 32 := Scalar.addi c0_i32_163 v274
  v275.toNat
def k0_dev14 (d0 : Dev nD) : Nat :=
  let c0_i32_188 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_170 : BitVec 32 := 6#32
  let v284 : BitVec 32 := Scalar.addi v2 c6_i32_170
  let c8_i32_171 : BitVec 32 := 8#32
  let c0_i32_172 : BitVec 32 := 0#32
  let v285 : BitVec 1 := Scalar.cmpi .eq c8_i32_171 c0_i32_172
  let c1_i32_173 : BitVec 32 := 1#32
  let v286 : BitVec 32 := Scalar.select v285 c1_i32_173 c8_i32_171
  let v287 : BitVec 32 := Scalar.remsi v284 v286
  let c0_i32_175 : BitVec 32 := 0#32
  let v289 : BitVec 1 := Scalar.cmpi .slt v287 c0_i32_175
  let c0_i32_176 : BitVec 32 := 0#32
  let v290 : BitVec 1 := Scalar.cmpi .slt v286 c0_i32_176
  let v291 : BitVec 1 := Scalar.xori v289 v290
  let c0_i32_174 : BitVec 32 := 0#32
  let v288 : BitVec 1 := Scalar.cmpi .ne v287 c0_i32_174
  let v292 : BitVec 1 := Scalar.andi v291 v288
  let v293 : BitVec 32 := Scalar.addi v287 v286
  let v294 : BitVec 32 := Scalar.select v292 v293 v287
  let c1_i32_187 : BitVec 32 := 1#32
  let v312 : BitVec 32 := Scalar.muli v294 c1_i32_187
  let v313 : BitVec 32 := Scalar.addi c0_i32_188 v312
  v313.toNat
def k0_dev15 (d0 : Dev nD) : Nat :=
  let c0_i32_213 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_195 : BitVec 32 := 7#32
  let v322 : BitVec 32 := Scalar.addi v2 c7_i32_195
  let c8_i32_196 : BitVec 32 := 8#32
  let c0_i32_197 : BitVec 32 := 0#32
  let v323 : BitVec 1 := Scalar.cmpi .eq c8_i32_196 c0_i32_197
  let c1_i32_198 : BitVec 32 := 1#32
  let v324 : BitVec 32 := Scalar.select v323 c1_i32_198 c8_i32_196
  let v325 : BitVec 32 := Scalar.remsi v322 v324
  let c0_i32_200 : BitVec 32 := 0#32
  let v327 : BitVec 1 := Scalar.cmpi .slt v325 c0_i32_200
  let c0_i32_201 : BitVec 32 := 0#32
  let v328 : BitVec 1 := Scalar.cmpi .slt v324 c0_i32_201
  let v329 : BitVec 1 := Scalar.xori v327 v328
  let c0_i32_199 : BitVec 32 := 0#32
  let v326 : BitVec 1 := Scalar.cmpi .ne v325 c0_i32_199
  let v330 : BitVec 1 := Scalar.andi v329 v326
  let v331 : BitVec 32 := Scalar.addi v325 v324
  let v332 : BitVec 32 := Scalar.select v330 v331 v325
  let c1_i32_212 : BitVec 32 := 1#32
  let v350 : BitVec 32 := Scalar.muli v332 c1_i32_212
  let v351 : BitVec 32 := Scalar.addi c0_i32_213 v350
  v351.toNat
def k0_off3 (d0 : Dev nD) (c1_i32_245 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v384 : BitVec 32 := Scalar.subi v2 c1_i32_245
  let c8_i32_246 : BitVec 32 := 8#32
  let c0_i32_247 : BitVec 32 := 0#32
  let v385 : BitVec 1 := Scalar.cmpi .eq c8_i32_246 c0_i32_247
  let c1_i32_248 : BitVec 32 := 1#32
  let v386 : BitVec 32 := Scalar.select v385 c1_i32_248 c8_i32_246
  let v387 : BitVec 32 := Scalar.remsi v384 v386
  let c0_i32_250 : BitVec 32 := 0#32
  let v389 : BitVec 1 := Scalar.cmpi .slt v387 c0_i32_250
  let c0_i32_251 : BitVec 32 := 0#32
  let v390 : BitVec 1 := Scalar.cmpi .slt v386 c0_i32_251
  let v391 : BitVec 1 := Scalar.xori v389 v390
  let c0_i32_249 : BitVec 32 := 0#32
  let v388 : BitVec 1 := Scalar.cmpi .ne v387 c0_i32_249
  let v392 : BitVec 1 := Scalar.andi v391 v388
  let v393 : BitVec 32 := Scalar.addi v387 v386
  let v394 : BitVec 32 := Scalar.select v392 v393 v387
  let c0_i32_257 : BitVec 32 := 0#32
  let c0_i32_258 : BitVec 32 := 0#32
  let c0_i32_259 : BitVec 32 := 0#32
  ![v394.toNat, 0, 0, 0]
def k0_off4 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v703 : Index := Scalar.indexCast v2
  let c0_572 : Index := 0#32
  let c0_573 : Index := 0#32
  let c0_574 : Index := 0#32
  ![v703.toNat, 0, 0, 0]
def k0_off5 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_589 : BitVec 32 := 0#32
  let c0_i32_590 : BitVec 32 := 0#32
  let c0_i32_591 : BitVec 32 := 0#32
  ![v2.toNat, 0, 0, 0]
def k0_off6 (d0 : Dev nD) (c1_i32_578 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v709 : BitVec 32 := Scalar.addi v2 c1_i32_578
  let c8_i32_579 : BitVec 32 := 8#32
  let c0_i32_580 : BitVec 32 := 0#32
  let v710 : BitVec 1 := Scalar.cmpi .eq c8_i32_579 c0_i32_580
  let c1_i32_581 : BitVec 32 := 1#32
  let v711 : BitVec 32 := Scalar.select v710 c1_i32_581 c8_i32_579
  let v712 : BitVec 32 := Scalar.remsi v709 v711
  let c0_i32_583 : BitVec 32 := 0#32
  let v714 : BitVec 1 := Scalar.cmpi .slt v712 c0_i32_583
  let c0_i32_584 : BitVec 32 := 0#32
  let v715 : BitVec 1 := Scalar.cmpi .slt v711 c0_i32_584
  let v716 : BitVec 1 := Scalar.xori v714 v715
  let c0_i32_582 : BitVec 32 := 0#32
  let v713 : BitVec 1 := Scalar.cmpi .ne v712 c0_i32_582
  let v717 : BitVec 1 := Scalar.andi v716 v713
  let v718 : BitVec 32 := Scalar.addi v712 v711
  let v719 : BitVec 32 := Scalar.select v717 v718 v712
  let c0_i32_592 : BitVec 32 := 0#32
  let c0_i32_593 : BitVec 32 := 0#32
  let c0_i32_594 : BitVec 32 := 0#32
  ![v719.toNat, 0, 0, 0]
def k0_dev16 (d0 : Dev nD) : Nat :=
  let c0_i32_588 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_578 : BitVec 32 := 1#32
  let v709 : BitVec 32 := Scalar.addi v2 c1_i32_578
  let c8_i32_579 : BitVec 32 := 8#32
  let c0_i32_580 : BitVec 32 := 0#32
  let v710 : BitVec 1 := Scalar.cmpi .eq c8_i32_579 c0_i32_580
  let c1_i32_581 : BitVec 32 := 1#32
  let v711 : BitVec 32 := Scalar.select v710 c1_i32_581 c8_i32_579
  let v712 : BitVec 32 := Scalar.remsi v709 v711
  let c0_i32_583 : BitVec 32 := 0#32
  let v714 : BitVec 1 := Scalar.cmpi .slt v712 c0_i32_583
  let c0_i32_584 : BitVec 32 := 0#32
  let v715 : BitVec 1 := Scalar.cmpi .slt v711 c0_i32_584
  let v716 : BitVec 1 := Scalar.xori v714 v715
  let c0_i32_582 : BitVec 32 := 0#32
  let v713 : BitVec 1 := Scalar.cmpi .ne v712 c0_i32_582
  let v717 : BitVec 1 := Scalar.andi v716 v713
  let v718 : BitVec 32 := Scalar.addi v712 v711
  let v719 : BitVec 32 := Scalar.select v717 v718 v712
  let c1_i32_587 : BitVec 32 := 1#32
  let v720 : BitVec 32 := Scalar.muli v719 c1_i32_587
  let v721 : BitVec 32 := Scalar.addi c0_i32_588 v720
  v721.toNat
def k0_dev17 (d0 : Dev nD) : Nat :=
  let c0_i32_605 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_595 : BitVec 32 := 2#32
  let v730 : BitVec 32 := Scalar.addi v2 c2_i32_595
  let c8_i32_596 : BitVec 32 := 8#32
  let c0_i32_597 : BitVec 32 := 0#32
  let v731 : BitVec 1 := Scalar.cmpi .eq c8_i32_596 c0_i32_597
  let c1_i32_598 : BitVec 32 := 1#32
  let v732 : BitVec 32 := Scalar.select v731 c1_i32_598 c8_i32_596
  let v733 : BitVec 32 := Scalar.remsi v730 v732
  let c0_i32_600 : BitVec 32 := 0#32
  let v735 : BitVec 1 := Scalar.cmpi .slt v733 c0_i32_600
  let c0_i32_601 : BitVec 32 := 0#32
  let v736 : BitVec 1 := Scalar.cmpi .slt v732 c0_i32_601
  let v737 : BitVec 1 := Scalar.xori v735 v736
  let c0_i32_599 : BitVec 32 := 0#32
  let v734 : BitVec 1 := Scalar.cmpi .ne v733 c0_i32_599
  let v738 : BitVec 1 := Scalar.andi v737 v734
  let v739 : BitVec 32 := Scalar.addi v733 v732
  let v740 : BitVec 32 := Scalar.select v738 v739 v733
  let c1_i32_604 : BitVec 32 := 1#32
  let v741 : BitVec 32 := Scalar.muli v740 c1_i32_604
  let v742 : BitVec 32 := Scalar.addi c0_i32_605 v741
  v742.toNat
def k0_dev18 (d0 : Dev nD) : Nat :=
  let c0_i32_622 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_612 : BitVec 32 := 3#32
  let v751 : BitVec 32 := Scalar.addi v2 c3_i32_612
  let c8_i32_613 : BitVec 32 := 8#32
  let c0_i32_614 : BitVec 32 := 0#32
  let v752 : BitVec 1 := Scalar.cmpi .eq c8_i32_613 c0_i32_614
  let c1_i32_615 : BitVec 32 := 1#32
  let v753 : BitVec 32 := Scalar.select v752 c1_i32_615 c8_i32_613
  let v754 : BitVec 32 := Scalar.remsi v751 v753
  let c0_i32_617 : BitVec 32 := 0#32
  let v756 : BitVec 1 := Scalar.cmpi .slt v754 c0_i32_617
  let c0_i32_618 : BitVec 32 := 0#32
  let v757 : BitVec 1 := Scalar.cmpi .slt v753 c0_i32_618
  let v758 : BitVec 1 := Scalar.xori v756 v757
  let c0_i32_616 : BitVec 32 := 0#32
  let v755 : BitVec 1 := Scalar.cmpi .ne v754 c0_i32_616
  let v759 : BitVec 1 := Scalar.andi v758 v755
  let v760 : BitVec 32 := Scalar.addi v754 v753
  let v761 : BitVec 32 := Scalar.select v759 v760 v754
  let c1_i32_621 : BitVec 32 := 1#32
  let v762 : BitVec 32 := Scalar.muli v761 c1_i32_621
  let v763 : BitVec 32 := Scalar.addi c0_i32_622 v762
  v763.toNat
def k0_dev19 (d0 : Dev nD) : Nat :=
  let c0_i32_639 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_629 : BitVec 32 := 4#32
  let v772 : BitVec 32 := Scalar.addi v2 c4_i32_629
  let c8_i32_630 : BitVec 32 := 8#32
  let c0_i32_631 : BitVec 32 := 0#32
  let v773 : BitVec 1 := Scalar.cmpi .eq c8_i32_630 c0_i32_631
  let c1_i32_632 : BitVec 32 := 1#32
  let v774 : BitVec 32 := Scalar.select v773 c1_i32_632 c8_i32_630
  let v775 : BitVec 32 := Scalar.remsi v772 v774
  let c0_i32_634 : BitVec 32 := 0#32
  let v777 : BitVec 1 := Scalar.cmpi .slt v775 c0_i32_634
  let c0_i32_635 : BitVec 32 := 0#32
  let v778 : BitVec 1 := Scalar.cmpi .slt v774 c0_i32_635
  let v779 : BitVec 1 := Scalar.xori v777 v778
  let c0_i32_633 : BitVec 32 := 0#32
  let v776 : BitVec 1 := Scalar.cmpi .ne v775 c0_i32_633
  let v780 : BitVec 1 := Scalar.andi v779 v776
  let v781 : BitVec 32 := Scalar.addi v775 v774
  let v782 : BitVec 32 := Scalar.select v780 v781 v775
  let c1_i32_638 : BitVec 32 := 1#32
  let v783 : BitVec 32 := Scalar.muli v782 c1_i32_638
  let v784 : BitVec 32 := Scalar.addi c0_i32_639 v783
  v784.toNat
def k0_dev20 (d0 : Dev nD) : Nat :=
  let c0_i32_656 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_646 : BitVec 32 := 5#32
  let v793 : BitVec 32 := Scalar.addi v2 c5_i32_646
  let c8_i32_647 : BitVec 32 := 8#32
  let c0_i32_648 : BitVec 32 := 0#32
  let v794 : BitVec 1 := Scalar.cmpi .eq c8_i32_647 c0_i32_648
  let c1_i32_649 : BitVec 32 := 1#32
  let v795 : BitVec 32 := Scalar.select v794 c1_i32_649 c8_i32_647
  let v796 : BitVec 32 := Scalar.remsi v793 v795
  let c0_i32_651 : BitVec 32 := 0#32
  let v798 : BitVec 1 := Scalar.cmpi .slt v796 c0_i32_651
  let c0_i32_652 : BitVec 32 := 0#32
  let v799 : BitVec 1 := Scalar.cmpi .slt v795 c0_i32_652
  let v800 : BitVec 1 := Scalar.xori v798 v799
  let c0_i32_650 : BitVec 32 := 0#32
  let v797 : BitVec 1 := Scalar.cmpi .ne v796 c0_i32_650
  let v801 : BitVec 1 := Scalar.andi v800 v797
  let v802 : BitVec 32 := Scalar.addi v796 v795
  let v803 : BitVec 32 := Scalar.select v801 v802 v796
  let c1_i32_655 : BitVec 32 := 1#32
  let v804 : BitVec 32 := Scalar.muli v803 c1_i32_655
  let v805 : BitVec 32 := Scalar.addi c0_i32_656 v804
  v805.toNat
def k0_dev21 (d0 : Dev nD) : Nat :=
  let c0_i32_673 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_663 : BitVec 32 := 6#32
  let v814 : BitVec 32 := Scalar.addi v2 c6_i32_663
  let c8_i32_664 : BitVec 32 := 8#32
  let c0_i32_665 : BitVec 32 := 0#32
  let v815 : BitVec 1 := Scalar.cmpi .eq c8_i32_664 c0_i32_665
  let c1_i32_666 : BitVec 32 := 1#32
  let v816 : BitVec 32 := Scalar.select v815 c1_i32_666 c8_i32_664
  let v817 : BitVec 32 := Scalar.remsi v814 v816
  let c0_i32_668 : BitVec 32 := 0#32
  let v819 : BitVec 1 := Scalar.cmpi .slt v817 c0_i32_668
  let c0_i32_669 : BitVec 32 := 0#32
  let v820 : BitVec 1 := Scalar.cmpi .slt v816 c0_i32_669
  let v821 : BitVec 1 := Scalar.xori v819 v820
  let c0_i32_667 : BitVec 32 := 0#32
  let v818 : BitVec 1 := Scalar.cmpi .ne v817 c0_i32_667
  let v822 : BitVec 1 := Scalar.andi v821 v818
  let v823 : BitVec 32 := Scalar.addi v817 v816
  let v824 : BitVec 32 := Scalar.select v822 v823 v817
  let c1_i32_672 : BitVec 32 := 1#32
  let v825 : BitVec 32 := Scalar.muli v824 c1_i32_672
  let v826 : BitVec 32 := Scalar.addi c0_i32_673 v825
  v826.toNat
def k0_dev22 (d0 : Dev nD) : Nat :=
  let c0_i32_690 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_680 : BitVec 32 := 7#32
  let v835 : BitVec 32 := Scalar.addi v2 c7_i32_680
  let c8_i32_681 : BitVec 32 := 8#32
  let c0_i32_682 : BitVec 32 := 0#32
  let v836 : BitVec 1 := Scalar.cmpi .eq c8_i32_681 c0_i32_682
  let c1_i32_683 : BitVec 32 := 1#32
  let v837 : BitVec 32 := Scalar.select v836 c1_i32_683 c8_i32_681
  let v838 : BitVec 32 := Scalar.remsi v835 v837
  let c0_i32_685 : BitVec 32 := 0#32
  let v840 : BitVec 1 := Scalar.cmpi .slt v838 c0_i32_685
  let c0_i32_686 : BitVec 32 := 0#32
  let v841 : BitVec 1 := Scalar.cmpi .slt v837 c0_i32_686
  let v842 : BitVec 1 := Scalar.xori v840 v841
  let c0_i32_684 : BitVec 32 := 0#32
  let v839 : BitVec 1 := Scalar.cmpi .ne v838 c0_i32_684
  let v843 : BitVec 1 := Scalar.andi v842 v839
  let v844 : BitVec 32 := Scalar.addi v838 v837
  let v845 : BitVec 32 := Scalar.select v843 v844 v838
  let c1_i32_689 : BitVec 32 := 1#32
  let v846 : BitVec 32 := Scalar.muli v845 c1_i32_689
  let v847 : BitVec 32 := Scalar.addi c0_i32_690 v846
  v847.toNat
def k0_off7 (d0 : Dev nD) (c0_i32_697 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v856 : BitVec 32 := Scalar.subi v2 c0_i32_697
  let c8_i32_698 : BitVec 32 := 8#32
  let c0_i32_699 : BitVec 32 := 0#32
  let v857 : BitVec 1 := Scalar.cmpi .eq c8_i32_698 c0_i32_699
  let c1_i32_700 : BitVec 32 := 1#32
  let v858 : BitVec 32 := Scalar.select v857 c1_i32_700 c8_i32_698
  let v859 : BitVec 32 := Scalar.remsi v856 v858
  let c0_i32_702 : BitVec 32 := 0#32
  let v861 : BitVec 1 := Scalar.cmpi .slt v859 c0_i32_702
  let c0_i32_703 : BitVec 32 := 0#32
  let v862 : BitVec 1 := Scalar.cmpi .slt v858 c0_i32_703
  let v863 : BitVec 1 := Scalar.xori v861 v862
  let c0_i32_701 : BitVec 32 := 0#32
  let v860 : BitVec 1 := Scalar.cmpi .ne v859 c0_i32_701
  let v864 : BitVec 1 := Scalar.andi v863 v860
  let v865 : BitVec 32 := Scalar.addi v859 v858
  let v866 : BitVec 32 := Scalar.select v864 v865 v859
  let v867 : Index := Scalar.indexCast v866
  let c0_704 : Index := 0#32
  let c0_705 : Index := 0#32
  let c0_706 : Index := 0#32
  ![v867.toNat, 0, 0, 0]
def k0_off8 (d0 : Dev nD) (c1_i32_739 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v934 : BitVec 32 := Scalar.subi v2 c1_i32_739
  let c8_i32_740 : BitVec 32 := 8#32
  let c0_i32_741 : BitVec 32 := 0#32
  let v935 : BitVec 1 := Scalar.cmpi .eq c8_i32_740 c0_i32_741
  let c1_i32_742 : BitVec 32 := 1#32
  let v936 : BitVec 32 := Scalar.select v935 c1_i32_742 c8_i32_740
  let v937 : BitVec 32 := Scalar.remsi v934 v936
  let c0_i32_744 : BitVec 32 := 0#32
  let v939 : BitVec 1 := Scalar.cmpi .slt v937 c0_i32_744
  let c0_i32_745 : BitVec 32 := 0#32
  let v940 : BitVec 1 := Scalar.cmpi .slt v936 c0_i32_745
  let v941 : BitVec 1 := Scalar.xori v939 v940
  let c0_i32_743 : BitVec 32 := 0#32
  let v938 : BitVec 1 := Scalar.cmpi .ne v937 c0_i32_743
  let v942 : BitVec 1 := Scalar.andi v941 v938
  let v943 : BitVec 32 := Scalar.addi v937 v936
  let v944 : BitVec 32 := Scalar.select v942 v943 v937
  let c0_i32_750 : BitVec 32 := 0#32
  let c0_i32_751 : BitVec 32 := 0#32
  let c0_i32_752 : BitVec 32 := 0#32
  ![v944.toNat, 0, 0, 0]
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S16384x512 : Shape := ⟨2, ![16384, 512]⟩
abbrev S512x64 : Shape := ⟨2, ![512, 64]⟩
abbrev S16384x1 : Shape := ⟨2, ![16384, 1]⟩
abbrev S64x512x1024 : Shape := ⟨3, ![64, 512, 1024]⟩
abbrev S512x1024 : Shape := ⟨2, ![512, 1024]⟩
abbrev S16384x64 : Shape := ⟨2, ![16384, 64]⟩
abbrev S_ : Shape := ⟨0, ![]⟩
abbrev S16384 : Shape := ⟨1, ![16384]⟩
abbrev S16384x1024 : Shape := ⟨2, ![16384, 1024]⟩
abbrev S16384x2 : Shape := ⟨2, ![16384, 2]⟩
abbrev S16384x512x1024 : Shape := ⟨3, ![16384, 512, 1024]⟩

abbrev nBuf : Space → Nat
  | .hbm => 52
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S512x64, .f32⟩
  | .hbm, ⟨2, _⟩ => ⟨S16384x1, .i32⟩
  | .hbm, ⟨3, _⟩ => ⟨S64x512x1024, .f32⟩
  | .hbm, ⟨4, _⟩ => ⟨S512x1024, .f32⟩
  | .hbm, ⟨5, _⟩ => ⟨S16384x64, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S16384x64, .f32⟩
  | .hbm, ⟨10, _⟩ => ⟨S16384x64, .f32⟩
  | .hbm, ⟨11, _⟩ => ⟨S16384x64, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S16384x64, .f32⟩
  | .hbm, ⟨16, _⟩ => ⟨S16384x64, .f32⟩
  | .hbm, ⟨17, _⟩ => ⟨S16384x1024, .f32⟩
  | .hbm, ⟨18, _⟩ => ⟨S16384, .i32⟩
  | .hbm, ⟨19, _⟩ => ⟨S16384, .i32⟩
  | .hbm, ⟨20, _⟩ => ⟨S_, .i32⟩
  | .hbm, ⟨21, _⟩ => ⟨S16384, .i32⟩
  | .hbm, ⟨22, _⟩ => ⟨S16384, .i1⟩
  | .hbm, ⟨23, _⟩ => ⟨S_, .i32⟩
  | .hbm, ⟨24, _⟩ => ⟨S16384, .i32⟩
  | .hbm, ⟨25, _⟩ => ⟨S16384, .i32⟩
  | .hbm, ⟨26, _⟩ => ⟨S16384, .i32⟩
  | .hbm, ⟨27, _⟩ => ⟨S_, .i32⟩
  | .hbm, ⟨28, _⟩ => ⟨S16384, .i32⟩
  | .hbm, ⟨29, _⟩ => ⟨S16384, .i1⟩
  | .hbm, ⟨30, _⟩ => ⟨S_, .i32⟩
  | .hbm, ⟨31, _⟩ => ⟨S16384, .i32⟩
  | .hbm, ⟨32, _⟩ => ⟨S16384, .i32⟩
  | .hbm, ⟨33, _⟩ => ⟨S16384, .i32⟩
  | .hbm, ⟨34, _⟩ => ⟨S16384x1, .i32⟩
  | .hbm, ⟨35, _⟩ => ⟨S16384x1, .i32⟩
  | .hbm, ⟨36, _⟩ => ⟨S16384x2, .i32⟩
  | .hbm, ⟨37, _⟩ => ⟨S16384, .f32⟩
  | .hbm, ⟨38, _⟩ => ⟨S_, .i32⟩
  | .hbm, ⟨39, _⟩ => ⟨S16384, .i32⟩
  | .hbm, ⟨40, _⟩ => ⟨S16384, .i1⟩
  | .hbm, ⟨41, _⟩ => ⟨S_, .i32⟩
  | .hbm, ⟨42, _⟩ => ⟨S16384, .i32⟩
  | .hbm, ⟨43, _⟩ => ⟨S16384, .i32⟩
  | .hbm, ⟨44, _⟩ => ⟨S16384, .i32⟩
  | .hbm, ⟨45, _⟩ => ⟨S16384x1, .i32⟩
  | .hbm, ⟨46, _⟩ => ⟨S16384x512x1024, .f32⟩
  | .hbm, ⟨47, _⟩ => ⟨S16384x1024, .f32⟩
  | .hbm, ⟨48, _⟩ => ⟨S16384x1, .f32⟩
  | .hbm, ⟨49, _⟩ => ⟨S16384x1024, .f32⟩
  | .hbm, ⟨50, _⟩ => ⟨S16384x1024, .f32⟩
  | .hbm, ⟨51, _⟩ => ⟨S16384x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_4 : Ref sig .tc := ⟨.hbm, 38, rfl⟩
abbrev main_v27 : Ref sig .tc := ⟨.hbm, 39, rfl⟩
abbrev main_v28 : Ref sig .tc := ⟨.hbm, 40, rfl⟩
abbrev main_c_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Proof.Geo.lean ====
/-
  Slots of a buffer: the elements at one coordinate of one axis, as views of slices and squeezes name them,
  a buffer held as its slots, and what a transfer between two slots of the same shape lands.
-/
module

public import proofs.«01_k».proof.Proof.Gen.KernelIdeal.Frame
public import proofs.«01_k».proof.Proof.Gen.KernelIdeal.Skeleton

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The elements whose coordinate on axis `a` is `k`. -/
def slotAt (s : Shape) (a : Fin s.rank) (k : ℕ) : Finset s.Idx := Finset.univ.filter fun i => (i a : ℕ) = k

theorem mem_slotAt {s : Shape} {a : Fin s.rank} {k : ℕ} {i : s.Idx} : i ∈ slotAt s a k ↔ (i a : ℕ) = k := by
  simp [slotAt]

/-- A unit rectangle one thick on axis `a` and full on the others is a slot. -/
theorem set_unit_slot {s : Shape} (a : Fin s.rank) (k : ℕ) (off size : Fin s.rank → ℕ) (inb)
    (h0 : off a = k) (h1 : size a = 1) (hr : ∀ b, b ≠ a → off b = 0 ∧ size b = s.size b) :
    (Rect.unit (s := s) off size inb).set = slotAt s a k := by
  ext i
  rw [Rect.mem_set_unit, mem_slotAt]
  constructor
  · intro h
    have := h a
    omega
  · intro h b
    by_cases hb : b = a
    · subst hb; omega
    · obtain ⟨h2, h3⟩ := hr b hb
      rw [h2, h3]
      exact ⟨Nat.zero_le _, by simpa using (i b).isLt⟩

theorem slotAt_disjoint {s : Shape} {a : Fin s.rank} {k k' : ℕ} (h : k ≠ k') : Disjoint (slotAt s a k) (slotAt s a k') :=
  Finset.disjoint_left.mpr fun i hi hj => h ((mem_slotAt.mp hi).symm.trans (mem_slotAt.mp hj))

theorem slotAt_cover {s : Shape} (a : Fin s.rank) {n : ℕ} (hn : s.size a = n) :
    (Finset.univ : Finset (Fin n)).biUnion (fun k : Fin n => slotAt s a k.val) = Finset.univ := by
  subst hn
  ext i
  simp only [Finset.mem_biUnion, Finset.mem_univ, true_and, iff_true]
  exact ⟨i a, mem_slotAt.mpr rfl⟩

section Pts

variable {nD : Nat} {τ : Topo} {sig : RefSig} {Ix : Type} [DecidableEq Ix]
variable {Val : EltTy → Type} {Name : Type} [DecidableEq Name]
variable {U : Type} [URA U] {Lvl : Type}

local notation "𝕄" => MT nD τ sig Ix Val Name U Lvl

/-- A buffer held whole is its slots on an axis. -/
theorem pts_slots {ℓ : Loc nD τ sig} (S : ℕ → Finset (Idx ℓ)) (n : ℕ)
    (hd : ∀ k k', k ≠ k' → Disjoint (S k) (S k')) (hc : (Finset.univ : Finset (Fin n)).biUnion (fun k : Fin n => S k.val) = Finset.univ)
    (f : Buf Val ℓ) :
    (ℓ ↦[Finset.univ]{fullShare} f : sProp 𝕄) = bigSep (Finset.univ : Finset (Fin n)) fun k : Fin n => ℓ ↦[S k.val]{fullShare} f := by
  rw [← pointsTo_biUnion Finset.univ (fun k : Fin n => S k.val)
    (fun k _ k' _ h => hd _ _ (fun e => h (Fin.ext e))), hc]

/-- A buffer's slots held at different contents are the buffer at contents that agree with each. -/
theorem pts_slots_join {ℓ : Loc nD τ sig} (S : ℕ → Finset (Idx ℓ)) (n : ℕ)
    (hd : ∀ k k', k ≠ k' → Disjoint (S k) (S k')) (hc : (Finset.univ : Finset (Fin n)).biUnion (fun k : Fin n => S k.val) = Finset.univ)
    (f₀ : Buf Val ℓ) :
    (bigSep (Finset.univ : Finset (Fin n)) fun k : Fin n => iprop(∃ f, ℓ ↦[S k.val]{fullShare} f) : sProp 𝕄)
      ⊢ iprop(∃ g, ℓ ↦[Finset.univ]{fullShare} g) := by
  haveI : Nonempty (Buf Val ℓ) := ⟨f₀⟩
  refine (bigSep_exists_pi (Y := fun _ : Fin n => Buf Val ℓ) Finset.univ (fun k f => (ℓ ↦[S k.val]{fullShare} f : sProp 𝕄))).trans ?_
  iintro ⟨%fs, H⟩
  ihave H' := (pointsTo_biUnion_join Finset.univ (fun k : Fin n => S k.val) fs f₀
    (fun k _ k' _ h => hd _ _ (fun e => h (Fin.ext e)))) $$ H
  icases H' with ⟨%g, -, H⟩
  rw [hc]
  iexists g; iexact H

end Pts

section Land

variable {sig : RefSig} {κ κ' : Kind} {sp sp' : Space} {s s' t : Shape} {e : EltTy} {Val : EltTy → Type}

/-- A transfer between two views reshaped alike lands what the same transfer between the views themselves does. -/
theorem write_read_reshape (v : View sig κ sp s e) (w : View sig κ' sp' s e) (h h' : t.numel = s.numel)
    (f : v.ty.Contents Val) (g : w.ty.Contents Val) :
    (v.reshape t h).write Val f ((w.reshape t h').read Val g) Finset.univ = v.write Val f (w.read Val g) Finset.univ := by
  rw [View.write_reshape_univ]
  congr 1
  funext x
  simp [View.read_apply]

end Land

end Cert.KernelIdeal.Moe
-- ==== Proof.Data.lean ====
/-
  What every device computes, as functions of every device's blocks of the inputs: the scaled rows, the rows it sends
  to each device, the rows it receives, the experts' results, the results it receives, and the output.
-/
module

public import proofs.«01_k».proof.Proof.Geo

@[expose] public section

set_option maxRecDepth 16384

noncomputable section

namespace Cert.KernelIdeal.Moe

open Idealize.ShloMosaic Idealize.ShloMosaic.TcCoe
open Cert.KernelIdeal Cert.KernelIdeal.Gen

variable {F : FTy → Type} [FloatOps F]

/-- Every device's blocks of the call's inputs. -/
structure Inp (F : FTy → Type) [FloatOps F] where
  /-- the tokens -/
  x : Dev nD → Vec F S2048x512 .f32
  /-- the router's weights -/
  rw : Dev nD → Vec F S512x64 .f32
  /-- the expert of every token -/
  ri : Dev nD → Vec F S2048x1 .i32
  /-- the slot of every token -/
  sl : Dev nD → Vec F S2048x1 .i32
  /-- the shared expert's weights -/
  sw : Dev nD → Vec F S512x1024 .f32
  /-- the device's own experts' weights -/
  ew : Dev nD → Vec F S8x512x1024 .f32

/-- The rows that go to device number `w`: the one-hot matrix of the slots of its experts, times the scaled rows. -/
def dispG (w : BitVec 32) (xs : Vec F S2048x512 .bf16) (sl : Vec F S2048x1 .i32) : FVec F S1x8x64x512 .bf16 :=
  shapeCast S1x8x64x512 (truncf .bf16 (matmul dot_S2048x512_S2048x512_S512x512_0_0_1_1_n_n none
    (truncf .bf16 (sitofp .f32 (extui 32 (cmpi .eq
      (broadcastTo S2048x512 (shapeCast S2048x1 sl shapeCasts_S2048x1_S2048x1) broadcasts_S2048x1_S2048x512)
      (addi (iota .tc S2048x512 32 [1] iota_S2048x512_d1_w32) (broadcast S2048x512 (Scalar.muli w 512#32)))) natLt_1_32)) bitsLt_bf16_f32)
    xs (constant S512x512 .f32 0x00000000#32)) bitsLt_bf16_f32) shapeCasts_S512x512_S1x8x64x512

/-- One expert's results on the rows of its slots. -/
def expG (r : Vec F S8x1x64x512 .bf16) (w : Vec F S1x512x1024 .f32) : FVec F S8x1x64x1024 .bf16 := k0_pay16 r w

/-- The shared expert on one block of rows. -/
def sharedG (xb : Vec F S512x512 .f32) (w : Vec F S512x1024 .f32) : FVec F S512x1024 .f32 := k0_pay11 xb w

/-- One block of rows of the output after the results of device number `w` are added. -/
def combG (w : BitVec 32) (rb : Vec F S1x8x64x1024 .bf16) (sl : Vec F S512x1 .i32) (prev : Vec F S512x1024 .f32) : FVec F S512x1024 .f32 :=
  addf (shapeCast S512x1024 prev shapeCasts_S512x1024_S512x1024)
    (matmul dot_S512x512_S512x1024_S512x1024_1_0_0_1_n_n none
      (truncf .bf16 (sitofp .f32 (extui 32 (cmpi .eq
        (broadcastTo S512x512 (shapeCast S512x1 sl shapeCasts_S512x1_S512x1) broadcasts_S512x1_S512x512)
        (addi (iota .tc S512x512 32 [1] iota_S512x512_d1_w32) (broadcast S512x512 (Scalar.muli w 512#32)))) natLt_1_32)) bitsLt_bf16_f32)
      (shapeCast S512x1024 rb shapeCasts_S1x8x64x1024_S512x1024) (constant S512x1024 .f32 0x00000000#32))

/-- The indices of the buffers of slots. -/
def i8x512 (d e : Fin 8) (r : Fin 64) (i : Fin 512) : S8x8x64x512.Idx := fun | 0 => d | 1 => e | 2 => r | 3 => i
def i8x1024 (d e : Fin 8) (r : Fin 64) (o : Fin 1024) : S8x8x64x1024.Idx := fun | 0 => d | 1 => e | 2 => r | 3 => o
def i1x512 (e : Fin 8) (r : Fin 64) (i : Fin 512) : S1x8x64x512.Idx := fun | 0 => (0 : Fin 1) | 1 => e | 2 => r | 3 => i
def i1x1024 (e : Fin 8) (r : Fin 64) (i : Fin 1024) : S1x8x64x1024.Idx := fun | 0 => (0 : Fin 1) | 1 => e | 2 => r | 3 => i
def iE (d : Fin 8) (r : Fin 64) (o : Fin 1024) : S8x1x64x1024.Idx := fun | 0 => d | 1 => (0 : Fin 1) | 2 => r | 3 => o
def iW (e : Fin 8) (i : Fin 512) (o : Fin 1024) : S8x512x1024.Idx := fun | 0 => e | 1 => i | 2 => o
def iO (i : Fin 512) (o : Fin 1024) : S512x1024.Idx := fun | 0 => i | 1 => o

variable (I : Inp F)

/-- The scaled rows of device `c`. -/
def XS (c : Dev nD) : FVec F S2048x512 .bf16 := k0_pay1 (I.x c) (I.rw c) (I.ri c) (I.x c)

/-- The number of the device `k` places on, and `k` places back, as a word. -/
def wUp (c : Dev nD) (k : Fin 8) : BitVec 32 := BitVec.ofNat 32 (c + k : Fin 8).val
def wDn (c : Dev nD) (k : Fin 8) : BitVec 32 := BitVec.ofNat 32 (c - k : Fin 8).val

/-- The rows that device `s` sends `k` places on. -/
def DISP (s : Dev nD) (k : Fin 8) : FVec F S1x8x64x512 .bf16 := dispG (wUp s k) (XS I s) (I.sl s)

/-- The rows that device `c` receives, by sender. -/
def RECV (c : Dev nD) : Vec F S8x8x64x512 .bf16 := fun i => DISP I (i 0) ((fun d : Fin 8 => (c - d : Fin 8)) (i 0)) (i1x512 (i 1) (i 2) (i 3))

/-- The rows that device `c` receives for its expert `el`. -/
def rowsE (c : Dev nD) (el : Fin 8) : Vec F S8x1x64x512 .bf16 := fun p => RECV I c (i8x512 (p 0) el (p 2) (p 3))
/-- The weights of expert `el` of device `c`. -/
def wtsE (c : Dev nD) (el : Fin 8) : Vec F S1x512x1024 .f32 := fun p => I.ew c (iW el (p 1) (p 2))
/-- The results of expert `el` of device `c`. -/
def YE (c : Dev nD) (el : Fin 8) : FVec F S8x1x64x1024 .bf16 := expG (rowsE I c el) (wtsE I c el)
/-- The results of device `c`'s experts. -/
def YY (c : Dev nD) : Vec F S8x8x64x1024 .bf16 := fun i => YE I c (i 1) (iE (i 0) (i 2) (i 3))
/-- The results that device `c` receives, by sender. -/
def RES (c : Dev nD) : Vec F S8x8x64x1024 .bf16 := fun i => YY I (i 0) (i8x1024 c (i 1) (i 2) (i 3))
/-- The results that device `c` receives from device `d`. -/
def resB (c d : Dev nD) : Vec F S1x8x64x1024 .bf16 := fun p => RES I c (i8x1024 d (p 1) (p 2) (p 3))

theorem row_lt (b : Fin 4) (i : Fin 512) : 512 * b.val + i.val < 2048 := by omega

/-- Block `b` of the rows of the tokens and of the slots. -/
def xRow (c : Dev nD) (b : Fin 4) : Vec F S512x512 .f32 := fun p => I.x c (fun | 0 => (⟨512 * b.val + (p 0).val, row_lt b (p 0)⟩ : Fin 2048) | 1 => (p 1 : Fin 512))
def slRow (c : Dev nD) (b : Fin 4) : Vec F S512x1 .i32 := fun p => I.sl c (fun | 0 => (⟨512 * b.val + (p 0).val, row_lt b (p 0)⟩ : Fin 2048) | 1 => (p 1 : Fin 1))

/-- Block `b` of the output after the results of `n` devices are added: the own first, then those 1, 2, … places back. -/
def PP (c : Dev nD) (b : Fin 4) : ℕ → FVec F S512x1024 .f32
  | 0 => sharedG (xRow I c b) (I.sw c)
  | n + 1 => combG (wDn c (Fin.ofNat 8 n)) (resB I c (c - Fin.ofNat 8 n : Fin 8)) (slRow I c b) (PP c b n)

/-- Blocks of rows put together. -/
def glue (p : Fin 4 → Vec F S512x1024 .f32) : Vec F S2048x1024 .f32 := fun i =>
  p ⟨(i 0).val / 512, by have : (i 0).val < 2048 := (i 0).isLt; omega⟩ (iO ⟨(i 0).val % 512, Nat.mod_lt _ (by decide)⟩ (i 1))

/-- The output of device `c`. -/
def OUT (c : Dev nD) : Vec F S2048x1024 .f32 := glue fun b => PP I c b 8

end Cert.KernelIdeal.Moe
-- ==== Proof.Proto.lean ====
/-
  The protocol. Every device signals every other device's barrier semaphore, giving the receiver the slots that it will
  fill; it sends the rows for the other devices' experts into the receivers' slots, and later the results; every
  transfer's two semaphores are cells of one round of one duty. The two semaphores of the local copies of the experts'
  weights run four rounds each.
-/
module

public import proofs.«01_k».proof.Proof.Data

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- The cells of the pipeline and the cells of the protocol. -/
abbrev UU : Type := UR sig nD τ × URounds (GSem nD τ sig) (Fin 8)

local notation "𝕄" => MT nD τ sig Unit (Elt F) ℕ UU ℕ

abbrev EP : Emb (UR sig nD τ) (MT nD τ sig Unit (Elt F) ℕ UU ℕ) := embL
abbrev ER : Emb (URounds (GSem nD τ sig) (Fin 8)) (MT nD τ sig Unit (Elt F) ℕ UU ℕ) := embR

/-! ## Cells -/

/-- The protocol's transfer semaphores: four kinds (rows sent, rows received, results sent, results received) by
    distance, and the two of the local copies. -/
abbrev CK : Type := (Fin 4 × Fin 8) ⊕ Fin 2

def dsem : CK → DmaSem sig
  | .inl (t, k) => ⟨6 + (8 * t.val + k.val), by have := t.isLt; have := k.isLt; show _ < 40; omega⟩
  | .inr b => ⟨38 + b.val, by have := b.isLt; show _ < 40; omega⟩

def osem (i : CK) : SemLoc sig := .dma (dsem i)

abbrev barS : Sem sig := ⟨0, by decide⟩
abbrev barC (c : Dev nD) : GSem nD τ sig := ((c : Thread nD τ), .reg barS)
abbrev cellC (c : Dev nD) (i : CK) : GSem nD τ sig := ((c : Thread nD τ), osem i)
abbrev dsC (c : Dev nD) (k : Fin 8) : GSem nD τ sig := cellC c (.inl (0, k))
abbrev drC (c : Dev nD) (k : Fin 8) : GSem nD τ sig := cellC c (.inl (1, k))
abbrev rsC (c : Dev nD) (k : Fin 8) : GSem nD τ sig := cellC c (.inl (2, k))
abbrev rrC (c : Dev nD) (k : Fin 8) : GSem nD τ sig := cellC c (.inl (3, k))
abbrev ewC (c : Dev nD) (b : Fin 2) : GSem nD τ sig := cellC c (.inr b)

/-! ## Buffers and slots -/

abbrev pt (c : Dev nD) (b : Ref sig .tc) (S : Finset (Idx ((c : Thread nD τ).loc b))) (f : Buf (Elt F) ((c : Thread nD τ).loc b)) : sProp 𝕄 :=
  (c : Thread nD τ).loc b ↦[S]{fullShare} f

abbrev sl512 (k : ℕ) : Finset S8x8x64x512.Idx := slotAt S8x8x64x512 0 k
abbrev sl1024 (k : ℕ) : Finset S8x8x64x1024.Idx := slotAt S8x8x64x1024 0 k
abbrev slE (k : ℕ) : Finset S2x512x1024.Idx := slotAt S2x512x1024 0 k
abbrev slW (k : ℕ) : Finset S8x512x1024.Idx := slotAt S8x512x1024 0 k

/-- Slot `k` of the received rows, of the experts' results, of the received results, of the rows to send. -/
abbrev recvP (c : Dev nD) (k : Fin 8) (f : Vec F S8x8x64x512 .bf16) : sProp 𝕄 := pt c cc0_scratch1 (sl512 k.val) f
abbrev yP (c : Dev nD) (k : Fin 8) (f : Vec F S8x8x64x1024 .bf16) : sProp 𝕄 := pt c cc0_scratch2 (sl1024 k.val) f
abbrev resP (c : Dev nD) (k : Fin 8) (f : Vec F S8x8x64x1024 .bf16) : sProp 𝕄 := pt c cc0_scratch3 (sl1024 k.val) f
abbrev ewP (c : Dev nD) (b : Fin 2) (f : Vec F S2x512x1024 .f32) : sProp 𝕄 := pt c cc0_scratch4 (slE b.val) f
abbrev dP (c : Dev nD) (k : Fin 8) (f : Vec F S8x8x64x512 .bf16) : sProp 𝕄 := pt c cc0_scratch5 (sl512 k.val) f
abbrev wP (c : Dev nD) (k : Fin 8) (f : Vec F S8x512x1024 .f32) : sProp 𝕄 := pt c main_arg3 (slW k.val) f

/-- What a transfer of a slot of rows, of a slot of results, and of an expert's weights credits. -/
def ND : ℕ := (Memref.whole cc0_scratch1).view.ref.dmaCredit S8x64x512 .bf16
def NR : ℕ := (Memref.whole cc0_scratch3).view.ref.dmaCredit S8x64x1024 .bf16
def NE : ℕ := (Memref.whole cc0_scratch4).view.ref.dmaCredit S512x1024 .f32

theorem numel_pos_of {s : Shape} (h : ∀ a, 0 < s.size a) : 0 < s.numel := Shape.numel_pos h

theorem ND_pos : 0 < ND := sig.dmaCredit_pos _ _ _ _ _ (numel_pos_of (by decide))
theorem NR_pos : 0 < NR := sig.dmaCredit_pos _ _ _ _ _ (numel_pos_of (by decide))
theorem NE_pos : 0 < NE := sig.dmaCredit_pos _ _ _ _ _ (numel_pos_of (by decide))

variable (I : Inp F)

/-- The expert's weights as the copy's slot holds them. -/
def EW (c : Dev nD) (el : Fin 8) : Vec F S2x512x1024 .f32 := fun i => I.ew c (iW el (i 1) (i 2))

/-! ## The schedule -/

/-- What device `c + d` gives device `c` with its signal: the slots that `c` fills there, and that their cells are open. -/
def barPay (c : Dev nD) (d : Fin 8) : sProp 𝕄 :=
  iprop((∃ f, recvP (c + d : Fin 8) c f) ∗ (∃ f, resP (c + d : Fin 8) c f)
    ∗ reached ER (drC (c + d : Fin 8) d) 0 ∗ reached ER (rrC (c + d : Fin 8) d) 0)

/-- The expert copied in round `r` of the copies of slot `b`. -/
def elOf (b : Fin 2) (r : ℕ) : Fin 8 := Fin.ofNat 8 (2 * r + b.val)

/-- What comes with a cell's round. -/
def ckPay (c : Dev nD) (r : ℕ) : CK → sProp 𝕄
  | .inl (0, k) => iprop(∃ f, dP c k f)
  | .inl (1, k) => recvP c (c - k : Fin 8) (RECV I c)
  | .inl (2, k) => iprop(∃ f, yP c (c + k : Fin 8) f)
  | .inl (3, k) => resP c (c - k : Fin 8) (RES I c)
  | .inr b => iprop(ewP c b (EW I c (elOf b r)) ∗ wP c (elOf b r) (I.ew c))

/-- The cell that a transfer semaphore is. -/
def ckOf (s : DmaSem sig) : Option CK :=
  if s.val < 6 then none
  else if s.val < 38 then some (.inl (Fin.ofNat 4 ((s.val - 6) / 8), Fin.ofNat 8 ((s.val - 6) % 8)))
  else some (.inr (Fin.ofNat 2 (s.val - 38)))

theorem ckOf_dsem (i : CK) : ckOf (dsem i) = some i := by revert i; decide

/-- How many rounds a cell runs. -/
def roundsOf : CK → ℕ
  | .inl (_, k) => if k = 0 then 0 else 1
  | .inr _ => 4

/-- What one duty of a cell credits. -/
def amtOf : CK → ℕ
  | .inl (0, _) => ND
  | .inl (1, _) => ND
  | .inl (2, _) => NR
  | .inl (3, _) => NR
  | .inr _ => NE

theorem amtOf_pos (i : CK) : 0 < amtOf i := by
  rcases i with ⟨t, k⟩ | b
  · fin_cases t
    exacts [ND_pos, ND_pos, NR_pos, NR_pos]
  · exact NE_pos

def sched : Rounds.Schedule (GSem nD τ sig) (Fin 8) 𝕄 where
  duties g r := if g.1.2 = .tc then
      match g.2 with
      | .reg _ => if r = 0 then Finset.univ.erase 0 else ∅
      | .dma s => match ckOf s with
        | some i => if r < roundsOf i then {0} else ∅
        | none => ∅
    else ∅
  unitless _ := False
  amount g _ _ := match g.2 with
    | .reg _ => 1
    | .dma s => match ckOf s with
      | some i => amtOf i
      | none => 1
  payload g r d := match g.2 with
    | .reg _ => barPay g.1.1 d
    | .dma s => match ckOf s with
      | some i => ckPay I g.1.1 r i
      | none => iprop(emp)
  amount_pos g _ _ _ := by
    show 0 < (match g.2 with
      | .reg _ => 1
      | .dma s => match ckOf s with
        | some i => amtOf i
        | none => 1)
    rcases g.2 with s | s
    · exact Nat.one_pos
    · show 0 < (match ckOf s with | some i => amtOf i | none => 1)
      rcases ckOf s with _ | i
      · exact Nat.one_pos
      · exact amtOf_pos i

instance barPay_storable (c : Dev nD) (d : Fin 8) : BI.Storable (upEmb : UEmb _ 𝕄) (barPay (F := F) c d) := by
  unfold barPay; infer_instance

instance ckPay_storable (c : Dev nD) (r : ℕ) (i : CK) : BI.Storable (upEmb : UEmb _ 𝕄) (ckPay I c r i) := by
  rcases i with ⟨t, k⟩ | b
  · fin_cases t <;> dsimp only [ckPay] <;> infer_instance
  · dsimp only [ckPay]; infer_instance

instance sched_storable (g : GSem nD τ sig) (r : ℕ) (d : Fin 8) :
    BI.Storable (upEmb : UEmb _ 𝕄) ((sched I).payload g r d) := by
  show BI.Storable upEmb (match g.2 with
    | .reg _ => barPay g.1.1 d
    | .dma s => match ckOf s with
      | some i => ckPay I g.1.1 r i
      | none => iprop(emp))
  rcases g.2 with s | s
  · exact barPay_storable _ _
  · show BI.Storable upEmb (match ckOf s with
      | some i => ckPay I g.1.1 r i
      | none => iprop(emp))
    rcases ckOf s with _ | i
    · infer_instance
    · exact ckPay_storable I _ _ _

theorem duties_bar (c : Dev nD) : (sched I).duties (barC c) 0 = Finset.univ.erase 0 := rfl
theorem duties_bar_later (c : Dev nD) (r : ℕ) (h : 1 ≤ r) : (sched I).duties (barC c) r = ∅ := by
  show (if r = 0 then Finset.univ.erase 0 else ∅) = _
  rw [if_neg (by omega)]
theorem duties_ck (c : Dev nD) (i : CK) (r : ℕ) : (sched I).duties (cellC c i) r = if r < roundsOf i then {0} else ∅ := by
  show (match ckOf (dsem i) with
        | some i => if r < roundsOf i then {0} else ∅
        | none => ∅ : Finset (Fin 8)) = _
  rw [ckOf_dsem]
theorem amount_bar (c : Dev nD) (r : ℕ) (d : Fin 8) : (sched I).amount (barC c) r d = 1 := rfl
theorem amount_ck (c : Dev nD) (i : CK) (r : ℕ) (d : Fin 8) : (sched I).amount (cellC c i) r d = amtOf i := by
  show (match ckOf (dsem i) with
        | some i => amtOf i
        | none => 1) = _
  rw [ckOf_dsem]
theorem payload_bar (c : Dev nD) (r : ℕ) (d : Fin 8) : (sched I).payload (barC c) r d = barPay c d := rfl
theorem payload_ck (c : Dev nD) (i : CK) (r : ℕ) (d : Fin 8) : (sched I).payload (cellC c i) r d = ckPay I c r i := by
  show (match ckOf (dsem i) with
        | some i => ckPay I c r i
        | none => iprop(emp)) = _
  rw [ckOf_dsem]

theorem mem_duties_ck (c : Dev nD) (i : CK) (r : ℕ) (h : r < roundsOf i) : (0 : Fin 8) ∈ (sched I).duties (cellC c i) r := by
  rw [duties_ck, if_pos h]; exact Finset.mem_singleton_self _
theorem mem_duties_bar (c : Dev nD) (d : Fin 8) (h : d ≠ 0) : d ∈ (sched I).duties (barC c) 0 := by
  rw [duties_bar]; exact Finset.mem_erase.mpr ⟨h, Finset.mem_univ _⟩

theorem expect_bar (c : Dev nD) : (sched I).expect (barC c) 0 = 7 := by
  unfold Schedule.expect Schedule.amountOf
  rw [duties_bar]
  rfl
theorem expect_ck (c : Dev nD) (i : CK) (r : ℕ) (h : r < roundsOf i) : (sched I).expect (cellC c i) r = amtOf i := by
  unfold Schedule.expect Schedule.amountOf
  rw [duties_ck, if_pos h, Finset.sum_singleton, amount_ck]

theorem rest_bar (c : Dev nD) : bigSep ((sched I).duties (barC c) 0 \ ∅) (fun u => (sched I).payload (barC c) 0 u)
    = bigSep (Finset.univ.erase 0) (fun d => barPay (F := F) c d) := by
  rw [Finset.sdiff_empty, duties_bar]; rfl
theorem rest_ck (c : Dev nD) (i : CK) (r : ℕ) (h : r < roundsOf i) :
    bigSep ((sched I).duties (cellC c i) r \ ∅) (fun u => (sched I).payload (cellC c i) r u) = ckPay I c r i := by
  rw [Finset.sdiff_empty, duties_ck, if_pos h, bigSep_singleton, payload_ck]

/-! ## What is owed -/

/-- A list of amounts owed to cells. -/
def sumL : List (GSem nD τ sig × ℕ) → CellTallies nD τ sig Unit
  | [] => 0
  | p :: l => sumL l + tallyAt p.1 () p.2

theorem sumL_zero (g : GSem nD τ sig) (l : List (GSem nD τ sig × ℕ)) : sumL ((g, 0) :: l) = sumL l := by
  show sumL l + tallyAt g () 0 = _
  simp

/-- The device owes what the list says. -/
def ow (c : Dev nD) (l : List (GSem nD τ sig × ℕ)) : sProp 𝕄 := iprop(∃ W, owes (c : Thread nD τ) (sumL l) W)

/-- The signal that `c` owes `j`. -/
def sigO (c j : Dev nD) : GSem nD τ sig × ℕ := (barC j, if j = c then 0 else 1)
def dispO (c : Dev nD) (k : Fin 8) : GSem nD τ sig × ℕ := (drC (c + k : Fin 8) k, ND)
def retO (c : Dev nD) (k : Fin 8) : GSem nD τ sig × ℕ := (rrC (c + k : Fin 8) k, NR)

/-- What is owed from the `k`-th return on; from the `k`-th dispatch on; from the signal to `j` on. -/
def retL (c : Dev nD) (k : ℕ) : List (GSem nD τ sig × ℕ) := (([1, 2, 3, 4, 5, 6, 7] : List (Fin 8)).drop k).map (retO c)
def dispL (c : Dev nD) (k : ℕ) : List (GSem nD τ sig × ℕ) := (([1, 2, 3, 4, 5, 6, 7] : List (Fin 8)).drop k).map (dispO c) ++ retL c 0
def sigL (c : Dev nD) (k : ℕ) : List (GSem nD τ sig × ℕ) := (([0, 1, 2, 3, 4, 5, 6, 7] : List (Fin 8)).drop k).map (sigO c) ++ dispL c 0

/-! ## Levels -/

def L (g : GSem nD τ sig) : Finset Unit := if g.1.2 = .tc then {()} else ∅

/-- Staging at 0, local copies and senders at 1, barriers at 2, received rows at 3, received results at 4. -/
def lvS : SemLoc sig → ℕ
  | .reg _ => 2
  | .dma s => match ckOf s with
    | none => 0
    | some (.inl (1, _)) => 3
    | some (.inl (3, _)) => 4
    | some _ => 1

def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem sumL_pos {l : List (GSem nD τ sig × ℕ)} {g : GSem nD τ sig} {u : Unit} (h : 0 < sumL l g u) : ∃ p ∈ l, p.1 = g := by
  induction l with
  | nil => exact absurd h (Nat.lt_irrefl 0)
  | cons p l ih =>
    have h : 0 < (sumL l + tallyAt p.1 () p.2 : CellTallies nD τ sig Unit) g u := h
    rw [Pi.add_apply, Finsupp.add_apply] at h
    rcases Nat.add_pos_iff_pos_or_pos.mp h with h | h
    · obtain ⟨q, hq, e⟩ := ih h
      exact ⟨q, List.mem_cons_of_mem _ hq, e⟩
    · rw [tallyAt_apply] at h
      split at h
      · next hg => exact ⟨p, List.mem_cons_self, hg.1.symm⟩
      · exact absurd h (Nat.lt_irrefl 0)

/-- All that a list owes is owed to cells of the devices' cores at levels above `n`. -/
def Above (n : ℕ) (l : List (GSem nD τ sig × ℕ)) : Prop := ∀ p ∈ l, p.1.1.2 = .tc ∧ n < lvS p.1.2

theorem mayWait (c : Dev nD) (sm : SemLoc sig) (l : List (GSem nD τ sig × ℕ)) (h : Above (lvS sm) l) :
    (levAts L lv : sProp 𝕄) ⊢ MayWait (c : Thread nD τ) sm () (sumL l) :=
  MayOwe.of_cut (L := L) (lev := lv) (lvS sm) (fun p hp => by rw [Finset.mem_singleton.mp hp, L_tc]; exact Finset.mem_singleton_self _)
    (fun g u hg => by
      obtain ⟨p, hp, rfl⟩ := sumL_pos hg
      unfold L; rw [if_pos (h p hp).1]; exact Finset.mem_singleton_self _)
    (fun p hp => by rw [Finset.mem_singleton.mp hp]; exact le_refl _)
    (fun g u hg => by
      obtain ⟨p, hp, rfl⟩ := sumL_pos hg
      exact (h p hp).2)

theorem above_retL (c : Dev nD) (k : ℕ) (n : ℕ) (hn : n < 4) : Above n (retL c k) := by
  intro p hp
  obtain ⟨k', _, rfl⟩ := List.mem_map.mp hp
  refine ⟨rfl, ?_⟩
  show n < lvS (.dma (dsem (.inl (3, k'))))
  dsimp only [lvS]; rw [ckOf_dsem]; exact hn

theorem above_dispL (c : Dev nD) (k : ℕ) (n : ℕ) (hn : n < 3) : Above n (dispL c k) := by
  intro p hp
  rcases List.mem_append.mp hp with hp | hp
  · obtain ⟨k', _, rfl⟩ := List.mem_map.mp hp
    refine ⟨rfl, ?_⟩
    show n < lvS (.dma (dsem (.inl (1, k'))))
    dsimp only [lvS]; rw [ckOf_dsem]; exact hn
  · exact above_retL c 0 n (by omega) p hp

theorem above_sigL (c : Dev nD) (k : ℕ) (n : ℕ) (hn : n < 2) : Above n (sigL c k) := by
  intro p hp
  rcases List.mem_append.mp hp with hp | hp
  · obtain ⟨k', _, rfl⟩ := List.mem_map.mp hp
    exact ⟨rfl, hn⟩
  · exact above_dispL c 0 n (by omega) p hp

/-! ## The invariants -/

abbrev ckInvs (K : GSem nD τ sig → ℕ) (c : Dev nD) : sProp 𝕄 :=
  bigSep (Finset.univ : Finset CK) fun i => cellInv ER (sched I) (K (cellC c i)) (cellC c i)

/-- Every cell's invariant, and that round 0 of every barrier is reached. -/
def recs (K : GSem nD τ sig → ℕ) : sProp 𝕄 :=
  iprop((bigSep (Finset.univ : Finset (Dev nD)) fun c => ckInvs I K c)
    ∗ (bigSep (Finset.univ : Finset (Dev nD)) fun c => cellInv ER (sched I) (K (barC c)) (barC c))
    ∗ bigSep (Finset.univ : Finset (Dev nD)) fun c => reached ER (barC c) 0)

instance recs_persistent (K : GSem nD τ sig → ℕ) : BI.Persistent (recs I K) := by unfold recs; infer_instance

theorem recs_cell (K : GSem nD τ sig → ℕ) (c : Dev nD) (i : CK) : recs I K ⊢ cellInv ER (sched I) (K (cellC c i)) (cellC c i) := by
  refine (show recs I K ⊢ ckInvs I K c from ?_).trans (bigSep_elim (Finset.mem_univ i))
  refine (show recs I K ⊢ bigSep (Finset.univ : Finset (Dev nD)) fun c => ckInvs I K c from ?_).trans (bigSep_elim (Finset.mem_univ c))
  unfold recs
  iintro ⟨H, -, -⟩
  iexact H

theorem recs_bar (K : GSem nD τ sig → ℕ) (c : Dev nD) : recs I K ⊢ cellInv ER (sched I) (K (barC c)) (barC c) := by
  refine (show recs I K ⊢ bigSep (Finset.univ : Finset (Dev nD)) fun c => cellInv ER (sched I) (K (barC c)) (barC c) from ?_).trans
    (bigSep_elim (Finset.mem_univ c))
  unfold recs
  iintro ⟨-, H, -⟩
  iexact H

theorem recs_reached (K : GSem nD τ sig → ℕ) (c : Dev nD) : recs I K ⊢ reached ER (barC c) 0 := by
  refine (show recs I K ⊢ bigSep (Finset.univ : Finset (Dev nD)) fun c => reached ER (barC c) 0 from ?_).trans
    (bigSep_elim (Finset.mem_univ c))
  unfold recs
  iintro ⟨-, -, H⟩
  iexact H

end Cert.KernelIdeal.Moe
-- ==== Proof.Views.lean ====
/-
  What the kernel's rectangles read and write: the slots of the buffers of slots, the experts' columns, the blocks of rows.
-/
module

public import proofs.«01_k».proof.Proof.Data

@[expose] public section

set_option maxRecDepth 16384

noncomputable section

namespace Cert.KernelIdeal.Moe

open Idealize.ShloMosaic Idealize.ShloMosaic.TcCoe Idealize.ShloMosaic.Tactic
open Cert.KernelIdeal Cert.KernelIdeal.Gen

/-! ## Where a rectangle's elements lie -/

theorem emb_row512 {k : Fin 8} {off : Fin 4 → ℕ} (h : off = ![k.val, 0, 0, 0]) (inb) (p : S1x8x64x512.Idx) :
    (Rect.unit (s := S8x8x64x512) off S1x8x64x512.size inb).emb p = i8x512 k (p 1) (p 2) (p 3) := by
  refine Rect.emb_eq_of_coords _ _ _ fun a => ?_
  subst h
  have h0 : (p 0).val < 1 := (p 0).isLt
  fin_cases a
  · show k.val = k.val + 1 * (p 0).val; omega
  · show (p 1).val = 0 + 1 * (p 1).val; omega
  · show (p 2).val = 0 + 1 * (p 2).val; omega
  · show (p 3).val = 0 + 1 * (p 3).val; omega

theorem emb_col512 {k : Fin 8} {off : Fin 4 → ℕ} (h : off = ![0, k.val, 0, 0]) (inb) (p : S8x1x64x512.Idx) :
    (Rect.unit (s := S8x8x64x512) off S8x1x64x512.size inb).emb p = i8x512 (p 0) k (p 2) (p 3) := by
  refine Rect.emb_eq_of_coords _ _ _ fun a => ?_
  subst h
  have h0 : (p 1).val < 1 := (p 1).isLt
  fin_cases a
  · show (p 0).val = 0 + 1 * (p 0).val; omega
  · show k.val = k.val + 1 * (p 1).val; omega
  · show (p 2).val = 0 + 1 * (p 2).val; omega
  · show (p 3).val = 0 + 1 * (p 3).val; omega

theorem emb_row1024 {k : Fin 8} {off : Fin 4 → ℕ} (h : off = ![k.val, 0, 0, 0]) (inb) (p : S1x8x64x1024.Idx) :
    (Rect.unit (s := S8x8x64x1024) off S1x8x64x1024.size inb).emb p = i8x1024 k (p 1) (p 2) (p 3) := by
  refine Rect.emb_eq_of_coords _ _ _ fun a => ?_
  subst h
  have h0 : (p 0).val < 1 := (p 0).isLt
  fin_cases a
  · show k.val = k.val + 1 * (p 0).val; omega
  · show (p 1).val = 0 + 1 * (p 1).val; omega
  · show (p 2).val = 0 + 1 * (p 2).val; omega
  · show (p 3).val = 0 + 1 * (p 3).val; omega

theorem emb_col1024 {k : Fin 8} {off : Fin 4 → ℕ} (h : off = ![0, k.val, 0, 0]) (inb) (p : S8x1x64x1024.Idx) :
    (Rect.unit (s := S8x8x64x1024) off S8x1x64x1024.size inb).emb p = i8x1024 (p 0) k (p 2) (p 3) := by
  refine Rect.emb_eq_of_coords _ _ _ fun a => ?_
  subst h
  have h0 : (p 1).val < 1 := (p 1).isLt
  fin_cases a
  · show (p 0).val = 0 + 1 * (p 0).val; omega
  · show k.val = k.val + 1 * (p 1).val; omega
  · show (p 2).val = 0 + 1 * (p 2).val; omega
  · show (p 3).val = 0 + 1 * (p 3).val; omega

/-- An index of the buffer of the copies of the weights. -/
def iB (b : Fin 2) (i : Fin 512) (o : Fin 1024) : S2x512x1024.Idx := fun | 0 => b | 1 => i | 2 => o

theorem emb_ebuf {b : Fin 2} {off : Fin 3 → ℕ} (h : off = ![b.val, 0, 0]) (inb) (p : S1x512x1024.Idx) :
    (Rect.unit (s := S2x512x1024) off S1x512x1024.size inb).emb p = iB b (p 1) (p 2) := by
  refine Rect.emb_eq_of_coords _ _ _ fun a => ?_
  subst h
  have h0 : (p 0).val < 1 := (p 0).isLt
  fin_cases a
  · show b.val = b.val + 1 * (p 0).val; omega
  · show (p 1).val = 0 + 1 * (p 1).val; omega
  · show (p 2).val = 0 + 1 * (p 2).val; omega

theorem emb_ew {e : Fin 8} {off : Fin 3 → ℕ} (h : off = ![e.val, 0, 0]) (inb) (p : S1x512x1024.Idx) :
    (Rect.unit (s := S8x512x1024) off S1x512x1024.size inb).emb p = iW e (p 1) (p 2) := by
  refine Rect.emb_eq_of_coords _ _ _ fun a => ?_
  subst h
  have h0 : (p 0).val < 1 := (p 0).isLt
  fin_cases a
  · show e.val = e.val + 1 * (p 0).val; omega
  · show (p 1).val = 0 + 1 * (p 1).val; omega
  · show (p 2).val = 0 + 1 * (p 2).val; omega

/-- An index of the tokens, of the slots, of the output. -/
def iX (t : Fin 2048) (i : Fin 512) : S2048x512.Idx := fun | 0 => t | 1 => i
def iS (t : Fin 2048) (i : Fin 1) : S2048x1.Idx := fun | 0 => t | 1 => i
def iOut (t : Fin 2048) (o : Fin 1024) : S2048x1024.Idx := fun | 0 => t | 1 => o

theorem emb_xrow {b : Fin 4} {off : Fin 2 → ℕ} (h : off = ![512 * b.val, 0]) (inb) (p : S512x512.Idx) :
    (Rect.unit (s := S2048x512) off S512x512.size inb).emb p = iX ⟨512 * b.val + (p 0).val, row_lt b (p 0)⟩ (p 1) := by
  refine Rect.emb_eq_of_coords _ _ _ fun a => ?_
  subst h
  fin_cases a
  · show 512 * b.val + (p 0).val = 512 * b.val + 1 * (p 0).val; omega
  · show (p 1).val = 0 + 1 * (p 1).val; omega

theorem emb_slrow {b : Fin 4} {off : Fin 2 → ℕ} (h : off = ![512 * b.val, 0]) (inb) (p : S512x1.Idx) :
    (Rect.unit (s := S2048x1) off S512x1.size inb).emb p = iS ⟨512 * b.val + (p 0).val, row_lt b (p 0)⟩ (p 1) := by
  refine Rect.emb_eq_of_coords _ _ _ fun a => ?_
  subst h
  fin_cases a
  · show 512 * b.val + (p 0).val = 512 * b.val + 1 * (p 0).val; omega
  · show (p 1).val = 0 + 1 * (p 1).val; omega

theorem emb_orow {b : Fin 4} {off : Fin 2 → ℕ} (h : off = ![512 * b.val, 0]) (inb) (p : S512x1024.Idx) :
    (Rect.unit (s := S2048x1024) off S512x1024.size inb).emb p = iOut ⟨512 * b.val + (p 0).val, row_lt b (p 0)⟩ (p 1) := by
  refine Rect.emb_eq_of_coords _ _ _ fun a => ?_
  subst h
  fin_cases a
  · show 512 * b.val + (p 0).val = 512 * b.val + 1 * (p 0).val; omega
  · show (p 1).val = 0 + 1 * (p 1).val; omega

/-! ## Reading and writing through a rectangle of a whole buffer -/

variable {Val : EltTy → Type}

theorem read_rect (b : Ref sig .tc) (r : Rect b.ty.shape) (f : b.ty.Contents Val) :
    ((View.whole b).slice r).read Val f = fun p => f (r.emb p) := rfl

theorem write_rect (b : Ref sig .tc) (r : Rect b.ty.shape) (f : b.ty.Contents Val) (w : r.shape.Idx → Val b.ty.elt)
    {i : b.ty.shape.Idx} {p : r.shape.Idx} (h : r.emb p = i) :
    ((View.whole b).slice r).write Val f w Finset.univ i = w p := by
  subst h
  exact View.write_emb_of_mem (v := (View.whole b).slice r) f w (Finset.mem_univ p)

theorem write_rect_off (b : Ref sig .tc) (r : Rect b.ty.shape) (f : b.ty.Contents Val) (w : r.shape.Idx → Val b.ty.elt)
    {i : b.ty.shape.Idx} (h : i ∉ r.set) :
    ((View.whole b).slice r).write Val f w Finset.univ i = f i :=
  View.write_of_not_mem (v := (View.whole b).slice r) f w Finset.univ (by rwa [View.setOn_univ, View.set_slice_whole])

theorem emb_full {s : Shape} {off : Fin s.rank → ℕ} (inb : ∀ a, off a + s.size a ≤ s.size a) (p : s.Idx) :
    (Rect.unit off s.size inb).emb p = p := by
  refine Rect.emb_eq_of_coords _ _ _ fun a => ?_
  have h := inb a
  show (p a).val = off a + 1 * (p a).val
  omega

theorem read_full (b : Ref sig .tc) {off : Fin b.ty.shape.rank → ℕ} (inb) (f : b.ty.Contents Val) :
    ((View.whole b).slice (Rect.unit (s := b.ty.shape) off b.ty.shape.size inb)).read Val f = f := by
  rw [read_rect]
  funext p
  exact congrArg f (emb_full inb p)

theorem write_full (b : Ref sig .tc) {off : Fin b.ty.shape.rank → ℕ} (inb) (f w : b.ty.Contents Val) :
    ((View.whole b).slice (Rect.unit (s := b.ty.shape) off b.ty.shape.size inb)).write Val f w Finset.univ = w := by
  funext i
  exact write_rect b (Rect.unit (s := b.ty.shape) off b.ty.shape.size inb) f w (p := i) (emb_full inb i)

end Cert.KernelIdeal.Moe
-- ==== Proof.Ops.lean ====
/-
  One lemma for each kind of operation of the kernel: a load and a store through a rectangle, a signal and a wait on the
  barrier semaphore, the two remote copies and the local one, and the waits on the transfers' semaphores.
-/
module

public import proofs.«01_k».proof.Proof.Proto
public import proofs.«01_k».proof.Proof.Views

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

abbrev 𝒱₀ : Variants := Variants.none

/-- The weakest precondition of a program of device `c`'s core. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- The memory operands of the kernel. -/
abbrev a0 : Memref sig .tc .vmem S2048x512 .f32 := Memref.whole cc0_stg0_0
abbrev a1 : Memref sig .tc .vmem S512x64 .f32 := Memref.whole cc0_stg1_0
abbrev a2 : Memref sig .tc .vmem S2048x1 .i32 := Memref.whole cc0_stg2_0
abbrev a3 : Memref sig .tc .vmem S2048x1 .i32 := Memref.whole cc0_stg3_0
abbrev a4 : Memref sig .tc .vmem S512x1024 .f32 := Memref.whole cc0_stg4_0
abbrev a5 : Memref sig .tc .hbm S8x512x1024 .f32 := Memref.whole main_arg3
abbrev a6 : Memref sig .tc .vmem S2048x1024 .f32 := Memref.whole cc0_stg5_0
abbrev a7 : Memref sig .tc .vmem S2048x512 .bf16 := Memref.whole cc0_scratch0
abbrev a8 : Memref sig .tc .vmem S8x8x64x512 .bf16 := Memref.whole cc0_scratch1
abbrev a9 : Memref sig .tc .vmem S8x8x64x1024 .bf16 := Memref.whole cc0_scratch2
abbrev a10 : Memref sig .tc .vmem S8x8x64x1024 .bf16 := Memref.whole cc0_scratch3
abbrev a11 : Memref sig .tc .vmem S2x512x1024 .f32 := Memref.whole cc0_scratch4
abbrev a12 : Memref sig .tc .vmem S8x8x64x512 .bf16 := Memref.whole cc0_scratch5

abbrev g0 : a0.IsWhole := Memref.isWhole_whole _
abbrev g1 : a1.IsWhole := Memref.isWhole_whole _
abbrev g2 : a2.IsWhole := Memref.isWhole_whole _
abbrev g3 : a3.IsWhole := Memref.isWhole_whole _
abbrev g4 : a4.IsWhole := Memref.isWhole_whole _
abbrev g5 : a5.IsWhole := Memref.isWhole_whole _
abbrev g6 : a6.IsWhole := Memref.isWhole_whole _
abbrev g7 : a7.IsWhole := Memref.isWhole_whole _
abbrev g8 : a8.IsWhole := Memref.isWhole_whole _
abbrev g9 : a9.IsWhole := Memref.isWhole_whole _
abbrev g10 : a10.IsWhole := Memref.isWhole_whole _
abbrev g11 : a11.IsWhole := Memref.isWhole_whole _
abbrev g12 : a12.IsWhole := Memref.isWhole_whole _

variable (I : Inp F)

/-! ## Loads and stores -/

section LoadStore

abbrev nref {cs : CoreSpace} (i : Fin (sig.nNear .tc cs)) (hκ : sig.names .tc cs i = true) : Ref sig .tc := ⟨cs, i, hκ⟩

/-- A load through a rectangle of a whole buffer, of which the rectangle's elements are held. -/
theorem ld (c : Dev nD) {α : Type} {Q : α → sProp 𝕄} {cs : CoreSpace} {i : Fin (sig.nNear .tc cs)} {hκ : sig.names .tc cs i = true}
    {r : Rect (nref i hκ).ty.shape} {hl : (Memref.whole (nref i hκ)).view.LoadsAt r.toLoadRect}
    {k : (r.shape.Idx → Elt F (nref i hκ).ty.elt) → Prog (TpuEff nD τ sig (Elt F) Λ₀ .tc) α}
    {S : Finset (Idx ((c : Thread nD τ).loc (nref i hκ)))} {f : Buf (Elt F) ((c : Thread nD τ).loc (nref i hκ))}
    {v : r.shape.Idx → Elt F (nref i hκ).ty.elt}
    (hS : r.set ⊆ S) (hv : (fun p => f (r.emb p)) = v) :
    (((c : Thread nD τ).loc (nref i hκ) ↦[S]{fullShare} f : sProp 𝕄))
      ⊢ iprop((((c : Thread nD τ).loc (nref i hκ) ↦[S]{fullShare} f) -∗ wpc c (k v) Q)
        -∗ wpc c (.op (.load (Memref.whole (nref i hκ)) r.toLoadRect hl) k) Q) := by
  subst hv
  have hS' : ((Memref.whole (nref i hκ)).access r).set ⊆ S := by rw [View.set_slice_whole]; exact hS
  exact wp_load_rect (defs := defs₀ (F := F)) (Q := Q) (k := k) (hl := hl) (f := f) (q := fullShare) (Γ := []) 𝒱₀ (c : Thread nD τ) none Set.univ hS'

/-- A store through a rectangle of a whole buffer, of which the rectangle's elements are held. -/
theorem st (c : Dev nD) {α : Type} {Q : α → sProp 𝕄} {cs : CoreSpace} {i : Fin (sig.nNear .tc cs)} {hκ : sig.names .tc cs i = true}
    {r : Rect (nref i hκ).ty.shape} {w : r.shape.Idx → Elt F (nref i hκ).ty.elt}
    {hx : ((Memref.whole (nref i hκ)).access r).Stores Finset.univ} {hm : Finset.univ = Finset.univ ∨ ∀ a, r.stride a = 1}
    {k : PUnit → Prog (TpuEff nD τ sig (Elt F) Λ₀ .tc) α}
    {S : Finset (Idx ((c : Thread nD τ).loc (nref i hκ)))} {f g : Buf (Elt F) ((c : Thread nD τ).loc (nref i hκ))}
    (hS : r.set ⊆ S) (hin : ∀ p, g (r.emb p) = w p) (hout : ∀ x ∈ S, x ∉ r.set → g x = f x) :
    (((c : Thread nD τ).loc (nref i hκ) ↦[S]{fullShare} f : sProp 𝕄))
      ⊢ iprop((((c : Thread nD τ).loc (nref i hκ) ↦[S]{fullShare} g) -∗ wpc c (k ⟨⟩) Q)
        -∗ wpc c (.op (.store (Memref.whole (nref i hκ)) r w Finset.univ hx hm) k) Q) := by
  have hS' : ((Memref.whole (nref i hκ)).access r).setOn Finset.univ ⊆ S := by
    rw [View.setOn_univ, View.set_slice_whole]; exact hS
  have hw : ∀ x ∈ S, ((Memref.whole (nref i hκ)).access r).write (Elt F) f w Finset.univ x = g x := by
    intro x hx'
    by_cases hr : x ∈ r.set
    · rw [← Rect.map_emb_univ] at hr
      obtain ⟨p, -, rfl⟩ := Finset.mem_map.mp hr
      exact (write_rect _ r f w rfl).trans (hin p).symm
    · exact (write_rect_off _ r f w hr).trans (hout x hx' hr).symm
  have h := wp_store (defs := defs₀ (F := F)) (Q := Q) (k := k) (Γ := []) (w := w) (hx := hx) (hm := hm) (f := f) 𝒱₀ (c : Thread nD τ) none Set.univ hS'
  rw [pointsTo_congr hw] at h
  exact h

end LoadStore

/-! ## Signals and waits -/

section Sync

theorem fin_sub_ne (c j : Fin 8) (h : j ≠ c) : c - j ≠ 0 := by revert c j; decide
theorem fin_add_sub (c k : Fin 8) : c + k - k = c := by revert c k; decide
theorem fin_add_sub_left (c k : Fin 8) : c + k - c = k := by revert c k; decide
theorem fin_sub_add (c k : Fin 8) : c - k + k = c := by revert c k; decide
theorem fin_sub_sub (c k : Fin 8) : c - (c - k) = k := by revert c k; decide
theorem fin_add_sub' (c j : Fin 8) : j + (c - j) = c := by revert c j; decide

/-- What a signal to the barrier semaphore of device `j` takes: nothing if it's the own one. -/
def sigRes (c j : Dev nD) : sProp 𝕄 := if j = c then iprop(emp) else iprop(dutyTok ER (barC j) 0 (c - j : Fin 8) ∗ barPay j (c - j : Fin 8))

/-- A wait for the one duty of a round of a transfer's cell. -/
theorem wait_ck (K : GSem nD τ sig → ℕ) (c : Dev nD) {α : Type} {Q : α → sProp 𝕄} (i : CK) (r : ℕ) (hr : r < roundsOf i)
    (l : List (GSem nD τ sig × ℕ)) (hl : Above (lvS (osem i)) l)
    {sp sp' : Space} {s s' : Shape} {e e' : EltTy} {sem : DmaSem sig} {src : Memref sig .tc sp s e} {dst : Memref sig .tc sp' s' e'}
    {hsrc : src.view.WordExact} {hdst : dst.view.WordExact}
    {k : PUnit → Prog (TpuEff nD τ sig (Elt F) Λ₀ .tc) α}
    (hs : sem = dsem i) (hamt : dst.view.dmaCredit = amtOf i) :
    iprop(recs I K ∗ levAts L lv ∗ cred (tallyAt (cellC c i) () (amtOf i)) ∗ ow c l ∗ atPos ER (cellC c i) r ∅ 0)
      ⊢ iprop(((ow c l ∗ atPos ER (cellC c i) (r + 1) ∅ 0 ∗ reached ER (cellC c i) (r + 1) ∗ ckPay I c r i) -∗ wpc c (k ⟨⟩) Q)
        -∗ wpc c (.op (.waitDma2 sem src dst hsrc hdst) k) Q) := by
  subst hs
  unfold ow
  iintro ⟨#Hrec, #Hlev, Hc, ⟨%W, HO⟩, Hat⟩ Hk
  iapply (Rounds.wp_wait_rest_token 𝒱₀ ER (sched I) (c : Thread nD τ) none (κ := K (cellC c i)) (sm := osem i) (k' := amtOf i)
      (fun K' => (wpE_waitDma2_eq (src := src) (dst := dst) 𝒱₀ (c : Thread nD τ) none Set.univ K').trans (by rw [hamt]; rfl))
      (Set.mem_univ _) () (O := sumL l) (W := W) (R := r) (m := 0) (T := ∅)
      ((Nat.zero_add _).trans (expect_ck I c i r hr).symm)) $$ [Hc HO Hat]
  · isplitr; · iapply (recs_cell I K c i); iexact Hrec
    isplitl [Hc]; · iexact Hc
    isplitl [HO]; · iexact HO
    isplitr; · iapply (mayWait c (osem i) l hl); iexact Hlev
    iexact Hat
  iintro ⟨HO, Hat, Hr, Hpay⟩
  iapply Hk
  isplitl [HO]; · iexists _; iexact HO
  isplitl [Hat]; · iexact Hat
  isplitl [Hr]; · iexact Hr
  iapply (Entails.of_eq (rest_ck I c i r hr)); iexact Hpay

/-- The wait for the other devices' signals. -/
theorem wait_bar (K : GSem nD τ sig → ℕ) (c : Dev nD) {α : Type} {Q : α → sProp 𝕄} (l : List (GSem nD τ sig × ℕ)) (hl : Above 2 l)
    {k : PUnit → Prog (TpuEff nD τ sig (Elt F) Λ₀ .tc) α} :
    iprop(recs I K ∗ levAts L lv ∗ cred (tallyAt (barC c) () 7) ∗ ow c l ∗ atPos ER (barC c) 0 ∅ 0)
      ⊢ iprop(((ow c l ∗ atPos ER (barC c) 1 ∅ 0 ∗ bigSep (Finset.univ.erase 0) (fun d => barPay (F := F) c d)) -∗ wpc c (k ⟨⟩) Q)
        -∗ wpc c (.op (.semWait barS 7) k) Q) := by
  unfold ow
  iintro ⟨#Hrec, #Hlev, Hc, ⟨%W, HO⟩, Hat⟩ Hk
  iapply (Rounds.wp_wait_rest_token 𝒱₀ ER (sched I) (c : Thread nD τ) none (κ := K (barC c)) (sm := .reg barS) (k' := 7)
      (wpE_semWait_eq 𝒱₀ (c : Thread nD τ) none Set.univ)
      (Set.mem_univ _) () (O := sumL l) (W := W) (R := 0) (m := 0) (T := ∅)
      ((Nat.zero_add _).trans (expect_bar I c).symm)) $$ [Hc HO Hat]
  · isplitr; · iapply (recs_bar I K c); iexact Hrec
    isplitl [Hc]; · iexact Hc
    isplitl [HO]; · iexact HO
    isplitr; · iapply (mayWait c (.reg barS) l hl); iexact Hlev
    iexact Hat
  iintro ⟨HO, Hat, -, Hpay⟩
  iapply Hk
  isplitl [HO]; · iexists _; iexact HO
  isplitl [Hat]; · iexact Hat
  iapply (Entails.of_eq (rest_bar I c)); iexact Hpay

/-- The signal to device `j`, made unless `j` is the device itself. -/
theorem sig_step (K : GSem nD τ sig → ℕ) (c j : Dev nD) {α : Type} {Q : α → sProp 𝕄} (l : List (GSem nD τ sig × ℕ))
    {p : Prop} [Decidable p] (hp : p ↔ j ≠ c) {dev : p → Dev nD} (hdev : ∀ h, dev h = j)
    {A : p → Prog (TpuEff nD τ sig (Elt F) Λ₀ .tc) PUnit} (hA : ∀ h, A h = .op (.semSignal (Dev.tc (dev h)) barS 1) .ret)
    {k : PUnit → Prog (TpuEff nD τ sig (Elt F) Λ₀ .tc) α} :
    iprop(recs I K ∗ ow c (sigO c j :: l) ∗ sigRes (F := F) c j)
      ⊢ iprop((ow c l -∗ wpc c (k ⟨⟩) Q) -∗ wpc c ((dite p A (fun _ => .ret ⟨⟩)).bind k) Q) := by
  by_cases h : p
  · have hj := hp.mp h
    rw [dif_pos h, hA h, hdev h, sigRes, if_neg hj]
    show _ ⊢ iprop(_ -∗ wpc c (.op (.semSignal (Dev.tc j) barS 1) k) Q)
    unfold ow
    iintro ⟨#Hrec, ⟨%W, HO⟩, Ht, Hpay⟩ Hk
    iapply (Rounds.wp_signal 𝒱₀ ER (sched I) (c : Thread nD τ) none (dst := Dev.tc j) (sem := barS) (r := 0) (d := (c - j : Fin 8)) (κ := K (barC j))
        (mem_duties_bar I j (c - j : Fin 8) (fin_sub_ne c j hj)) (amount_bar I j 0 _) () (sumL l)
        (by show sumL l + tallyAt (barC j) () (if j = c then 0 else 1) = _; rw [if_neg hj])) $$ [HO Ht Hpay]
    · isplitr; · iapply (recs_bar I K j); iexact Hrec
      isplitl [HO]; · iexact HO
      isplitl [Ht]; · iexact Ht
      isplitl [Hpay]; · rw [payload_bar]; iexact Hpay
      iapply (recs_reached I K j); iexact Hrec
    iintro HO
    iapply Hk
    iexists W; iexact HO
  · have hj : j = c := by by_contra hne; exact h (hp.mpr hne)
    have e : sumL (sigO c j :: l) = sumL l := by
      show sumL l + tallyAt (barC j) () (if j = c then 0 else 1) = _
      rw [if_pos hj]; exact sumL_zero (barC j) l
    rw [dif_neg h]
    show _ ⊢ iprop(_ -∗ wpc c (k ⟨⟩) Q)
    unfold ow
    rw [e]
    iintro ⟨-, HO, -⟩ Hk
    iapply Hk
    iexact HO

end Sync

/-! ## Copies -/

section Copies

theorem sq_set {b : Ref sig .tc} {t : Shape} (r : Rect b.ty.shape) (hr : ∀ a, r.stride a = 1) (hq : r.shape.Squeezes t) :
    (((Memref.whole b).slice r hr).squeeze t hq).view.set = r.set := by
  show (((View.whole b).slice r).reshape _ _).set = _
  rw [View.set_reshape, View.set_slice_whole]

theorem set_row512 {k : Fin 8} {off : Fin 4 → ℕ} (h : off = ![k.val, 0, 0, 0]) (inb) :
    (Rect.unit (s := S8x8x64x512) off S1x8x64x512.size inb).set = sl512 k.val :=
  set_unit_slot 0 k.val _ _ _ (by rw [h]; rfl) rfl (by subst h; intro b hb; fin_cases b <;> first | exact absurd rfl hb | exact ⟨rfl, rfl⟩)
theorem set_row1024 {k : Fin 8} {off : Fin 4 → ℕ} (h : off = ![k.val, 0, 0, 0]) (inb) :
    (Rect.unit (s := S8x8x64x1024) off S1x8x64x1024.size inb).set = sl1024 k.val :=
  set_unit_slot 0 k.val _ _ _ (by rw [h]; rfl) rfl (by subst h; intro b hb; fin_cases b <;> first | exact absurd rfl hb | exact ⟨rfl, rfl⟩)
theorem set_ebuf {b : Fin 2} {off : Fin 3 → ℕ} (h : off = ![b.val, 0, 0]) (inb) :
    (Rect.unit (s := S2x512x1024) off S1x512x1024.size inb).set = slE b.val :=
  set_unit_slot 0 b.val _ _ _ (by rw [h]; rfl) rfl (by subst h; intro b hb; fin_cases b <;> first | exact absurd rfl hb | exact ⟨rfl, rfl⟩)
theorem set_ew {k : Fin 8} {off : Fin 3 → ℕ} (h : off = ![k.val, 0, 0]) (inb) :
    (Rect.unit (s := S8x512x1024) off S1x512x1024.size inb).set = slW k.val :=
  set_unit_slot 0 k.val _ _ _ (by rw [h]; rfl) rfl (by subst h; intro b hb; fin_cases b <;> first | exact absurd rfl hb | exact ⟨rfl, rfl⟩)

/-- The rows to send, by slot. -/
def DD (c : Dev nD) : Vec F S8x8x64x512 .bf16 := fun i => DISP I c (i 0) (i1x512 (i 1) (i 2) (i 3))

theorem i8x512_of (i : S8x8x64x512.Idx) {k : Fin 8} (h : (i 0).val = k.val) : i8x512 k (i 1) (i 2) (i 3) = i := by
  funext a
  fin_cases a
  · exact Fin.ext h.symm
  all_goals rfl
theorem i8x1024_of (i : S8x8x64x1024.Idx) {k : Fin 8} (h : (i 0).val = k.val) : i8x1024 k (i 1) (i 2) (i 3) = i := by
  funext a
  fin_cases a
  · exact Fin.ext h.symm
  all_goals rfl
theorem iB_of (i : S2x512x1024.Idx) {k : Fin 2} (h : (i 0).val = k.val) : iB k (i 1) (i 2) = i := by
  funext a
  fin_cases a
  · exact Fin.ext h.symm
  all_goals rfl

/-- The copy of the rows for the device `k` places on. -/
theorem send_rows (K : GSem nD τ sig → ℕ) (c : Dev nD) (k : Fin 8) (hk : k ≠ 0) {α : Type} {Q : α → sProp 𝕄} (l : List (GSem nD τ sig × ℕ))
    {dev : Dev nD} (hdev : dev = (c + k : Fin 8)) {off₁ off₂ : Fin 4 → ℕ} {inb₁ inb₂}
    (h₁ : off₁ = ![k.val, 0, 0, 0]) (h₂ : off₂ = ![c.val, 0, 0, 0]) {hr₁ hr₂ hq₁ hq₂}
    {sS sR : DmaSem sig} (hsS : sS = dsem (.inl (0, k))) (hsR : sR = dsem (.inl (1, k)))
    {hsc hsrc hdst hsem} {kk : PUnit → Prog (TpuEff nD τ sig (Elt F) Λ₀ .tc) α} :
    iprop(recs I K ∗ dP c k (DD I c) ∗ (∃ f, recvP (c + k : Fin 8) c f) ∗ ow c (dispO c k :: l)
        ∗ dutyTok ER (dsC c k) 0 0 ∗ reached ER (dsC c k) 0 ∗ dutyTok ER (drC (c + k : Fin 8) k) 0 0 ∗ reached ER (drC (c + k : Fin 8) k) 0)
      ⊢ iprop(((cred (tallyAt (dsC c k) () ND) ∗ ow c l) -∗ wpc c (kk ⟨⟩) Q)
        -∗ wpc c (.op (.enqueueDma (((Memref.whole cc0_scratch5).slice (Rect.unit (s := S8x8x64x512) off₁ S1x8x64x512.size inb₁) hr₁).squeeze S8x64x512 hq₁)
            (.remote (Dev.tc dev) (((Memref.whole cc0_scratch1).slice (Rect.unit (s := S8x8x64x512) off₂ S1x8x64x512.size inb₂) hr₂).squeeze S8x64x512 hq₂)
              (.dma sS) hsc) (.dma sR) hsrc hdst hsem) kk) Q) := by
  subst hdev hsS hsR
  unfold ow
  iintro ⟨#Hrec, Hs, ⟨%fd, Hd⟩, ⟨%W, HO⟩, Ht1, Hr1, Ht2, Hr2⟩ Hk
  iapply (Rounds.wp_send_pointsTo 𝒱₀ ER (sched I) (c : Thread nD τ) none (c' := Dev.tc (c + k : Fin 8))
      (sS := osem (.inl (0, k))) (sem := osem (.inl (1, k))) (q := fullShare) (fs := DD I c) (fd := fd)
      (κ₁ := K (dsC c k)) (κ₂ := K (drC (c + k : Fin 8) k)) (r₁ := 0) (r₂ := 0) (d₁ := 0) (d₂ := 0)
      (mem_duties_ck I c (.inl (0, k)) 0 (by show 0 < if k = 0 then 0 else 1; rw [if_neg hk]; exact Nat.one_pos))
      (mem_duties_ck I (c + k : Fin 8) (.inl (1, k)) 0 (by show 0 < if k = 0 then 0 else 1; rw [if_neg hk]; exact Nat.one_pos))
      () () ND rfl (amount_ck I c (.inl (0, k)) 0 0) (amount_ck I (c + k : Fin 8) (.inl (1, k)) 0 0) (sumL l) rfl (W := W)
      (by
        rw [payload_ck, sq_set, set_row512 h₁]
        show _ ⊢ iprop(∃ f, dP c k f)
        iintro H; iexists (DD I c); iexact H)
      (by
        rw [payload_ck, sq_set, set_row512 h₂]
        show _ ⊢ recvP (c + k : Fin 8) (c + k - k : Fin 8) (RECV I (c + k : Fin 8))
        have ec : (c + k - k : Fin 8) = c := fin_add_sub c k
        rw [ec]
        refine Entails.of_eq (pointsTo_congr fun i hi => ?_)
        have hi0 : (i 0).val = c.val := mem_slotAt.mp hi
        refine (congrFun (write_read_reshape _ _ _ _ _ _) i).trans ?_
        refine (write_rect cc0_scratch1 (Rect.unit (s := S8x8x64x512) off₂ S1x8x64x512.size inb₂) _ _ (p := i1x512 (i 1) (i 2) (i 3)) ((emb_row512 h₂ _ _).trans (i8x512_of i hi0))).trans ?_
        rw [read_rect]
        show DD I c ((Rect.unit (s := S8x8x64x512) off₁ S1x8x64x512.size inb₁).emb (i1x512 (i 1) (i 2) (i 3))) = _
        rw [emb_row512 h₁]
        have e : (i 0 : Fin 8) = c := Fin.ext hi0
        show DISP I c k (i1x512 (i 1) (i 2) (i 3)) = DISP I (i 0) ((fun d : Fin 8 => (c + k - d : Fin 8)) (i 0)) (i1x512 (i 1) (i 2) (i 3))
        have e2 : ((fun d : Fin 8 => (c + k - d : Fin 8)) (i 0)) = k := by rw [e]; exact fin_add_sub_left c k
        rw [e2, e]))
    $$ [Hs Hd HO Ht1 Hr1 Ht2 Hr2]
  · isplitr; · iapply (recs_cell I K c (.inl (0, k))); iexact Hrec
    isplitr; · iapply (recs_cell I K (c + k : Fin 8) (.inl (1, k))); iexact Hrec
    isplitl [Hs]; · rw [sq_set, set_row512 h₁]; iexact Hs
    isplitl [Hd]; · rw [sq_set, set_row512 h₂]; iexact Hd
    isplitl [HO]; · iexact HO
    isplitl [Ht1]; · iexact Ht1
    isplitl [Hr1]; · iexact Hr1
    isplitl [Ht2]; · iexact Ht2
    iexact Hr2
  iintro ⟨Hc, HO⟩
  iapply Hk
  isplitl [Hc]; · iexact Hc
  iexists W; iexact HO

/-- The copy of the results for the device `k` places on. -/
theorem send_res (K : GSem nD τ sig → ℕ) (c : Dev nD) (k : Fin 8) (hk : k ≠ 0) {α : Type} {Q : α → sProp 𝕄} (l : List (GSem nD τ sig × ℕ))
    {dev : Dev nD} (hdev : dev = (c + k : Fin 8)) {off₁ off₂ : Fin 4 → ℕ} {inb₁ inb₂}
    (h₁ : off₁ = ![(c + k : Fin 8).val, 0, 0, 0]) (h₂ : off₂ = ![c.val, 0, 0, 0]) {hr₁ hr₂ hq₁ hq₂}
    {sS sR : DmaSem sig} (hsS : sS = dsem (.inl (2, k))) (hsR : sR = dsem (.inl (3, k)))
    {hsc hsrc hdst hsem} {kk : PUnit → Prog (TpuEff nD τ sig (Elt F) Λ₀ .tc) α} :
    iprop(recs I K ∗ yP c (c + k : Fin 8) (YY I c) ∗ (∃ f, resP (c + k : Fin 8) c f) ∗ ow c (retO c k :: l)
        ∗ dutyTok ER (rsC c k) 0 0 ∗ reached ER (rsC c k) 0 ∗ dutyTok ER (rrC (c + k : Fin 8) k) 0 0 ∗ reached ER (rrC (c + k : Fin 8) k) 0)
      ⊢ iprop(((cred (tallyAt (rsC c k) () NR) ∗ ow c l) -∗ wpc c (kk ⟨⟩) Q)
        -∗ wpc c (.op (.enqueueDma (((Memref.whole cc0_scratch2).slice (Rect.unit (s := S8x8x64x1024) off₁ S1x8x64x1024.size inb₁) hr₁).squeeze S8x64x1024 hq₁)
            (.remote (Dev.tc dev) (((Memref.whole cc0_scratch3).slice (Rect.unit (s := S8x8x64x1024) off₂ S1x8x64x1024.size inb₂) hr₂).squeeze S8x64x1024 hq₂)
              (.dma sS) hsc) (.dma sR) hsrc hdst hsem) kk) Q) := by
  subst hdev hsS hsR
  unfold ow
  iintro ⟨#Hrec, Hs, ⟨%fd, Hd⟩, ⟨%W, HO⟩, Ht1, Hr1, Ht2, Hr2⟩ Hk
  iapply (Rounds.wp_send_pointsTo 𝒱₀ ER (sched I) (c : Thread nD τ) none (c' := Dev.tc (c + k : Fin 8))
      (sS := osem (.inl (2, k))) (sem := osem (.inl (3, k))) (q := fullShare) (fs := YY I c) (fd := fd)
      (κ₁ := K (rsC c k)) (κ₂ := K (rrC (c + k : Fin 8) k)) (r₁ := 0) (r₂ := 0) (d₁ := 0) (d₂ := 0)
      (mem_duties_ck I c (.inl (2, k)) 0 (by show 0 < if k = 0 then 0 else 1; rw [if_neg hk]; exact Nat.one_pos))
      (mem_duties_ck I (c + k : Fin 8) (.inl (3, k)) 0 (by show 0 < if k = 0 then 0 else 1; rw [if_neg hk]; exact Nat.one_pos))
      () () NR rfl (amount_ck I c (.inl (2, k)) 0 0) (amount_ck I (c + k : Fin 8) (.inl (3, k)) 0 0) (sumL l) rfl (W := W)
      (by
        rw [payload_ck, sq_set, set_row1024 h₁]
        show _ ⊢ iprop(∃ f, yP c (c + k : Fin 8) f)
        iintro H; iexists (YY I c); iexact H)
      (by
        rw [payload_ck, sq_set, set_row1024 h₂]
        show _ ⊢ resP (c + k : Fin 8) (c + k - k : Fin 8) (RES I (c + k : Fin 8))
        have ec : (c + k - k : Fin 8) = c := fin_add_sub c k
        rw [ec]
        refine Entails.of_eq (pointsTo_congr fun i hi => ?_)
        have hi0 : (i 0).val = c.val := mem_slotAt.mp hi
        refine (congrFun (write_read_reshape _ _ _ _ _ _) i).trans ?_
        refine (write_rect cc0_scratch3 (Rect.unit (s := S8x8x64x1024) off₂ S1x8x64x1024.size inb₂) _ _ (p := i1x1024 (i 1) (i 2) (i 3)) ((emb_row1024 h₂ _ _).trans (i8x1024_of i hi0))).trans ?_
        rw [read_rect]
        show YY I c ((Rect.unit (s := S8x8x64x1024) off₁ S1x8x64x1024.size inb₁).emb (i1x1024 (i 1) (i 2) (i 3))) = _
        rw [emb_row1024 h₁]
        have e : (i 0 : Fin 8) = c := Fin.ext hi0
        show YY I c (i8x1024 (c + k : Fin 8) (i 1) (i 2) (i 3)) = YY I (i 0) (i8x1024 (c + k : Fin 8) (i 1) (i 2) (i 3))
        rw [e]))
    $$ [Hs Hd HO Ht1 Hr1 Ht2 Hr2]
  · isplitr; · iapply (recs_cell I K c (.inl (2, k))); iexact Hrec
    isplitr; · iapply (recs_cell I K (c + k : Fin 8) (.inl (3, k))); iexact Hrec
    isplitl [Hs]; · rw [sq_set, set_row1024 h₁]; iexact Hs
    isplitl [Hd]; · rw [sq_set, set_row1024 h₂]; iexact Hd
    isplitl [HO]; · iexact HO
    isplitl [Ht1]; · iexact Ht1
    isplitl [Hr1]; · iexact Hr1
    isplitl [Ht2]; · iexact Ht2
    iexact Hr2
  iintro ⟨Hc, HO⟩
  iapply Hk
  isplitl [Hc]; · iexact Hc
  iexists W; iexact HO

/-- The local copy of an expert's weights into slot `b`, the `r`-th there. -/
theorem copy_ew (K : GSem nD τ sig → ℕ) (c : Dev nD) (b : Fin 2) (r : ℕ) (hr4 : r < 4) {α : Type} {Q : α → sProp 𝕄}
    {el : Fin 8} (hel : elOf b r = el) {off₁ off₂ : Fin 3 → ℕ} {inb₁ inb₂}
    (h₁ : off₁ = ![el.val, 0, 0]) (h₂ : off₂ = ![b.val, 0, 0]) {hr₁ hr₂ hq₁ hq₂}
    {sem : DmaSem sig} (hs : sem = dsem (.inr b))
    {hsrc hdst hsem} {kk : PUnit → Prog (TpuEff nD τ sig (Elt F) Λ₀ .tc) α} :
    iprop(recs I K ∗ wP c el (I.ew c) ∗ (∃ f, ewP c b f) ∗ dutyTok ER (ewC c b) r 0 ∗ reached ER (ewC c b) r)
      ⊢ iprop((cred (tallyAt (ewC c b) () NE) -∗ wpc c (kk ⟨⟩) Q)
        -∗ wpc c (.op (.enqueueDma (((Memref.whole main_arg3).slice (Rect.unit (s := S8x512x1024) off₁ S1x512x1024.size inb₁) hr₁).squeeze S512x1024 hq₁)
            (.here (((Memref.whole cc0_scratch4).slice (Rect.unit (s := S2x512x1024) off₂ S1x512x1024.size inb₂) hr₂).squeeze S512x1024 hq₂))
            (.dma sem) hsrc hdst hsem) kk) Q) := by
  subst hs hel
  iintro ⟨#Hrec, Hs, ⟨%fd, Hd⟩, Ht, Hr⟩ Hk
  iapply (Rounds.wp_copy_pointsTo 𝒱₀ ER (sched I) (c : Thread nD τ) none
      (sem := osem (.inr b)) (q := fullShare) (fs := I.ew c) (fd := fd)
      (κ := K (ewC c b)) (r := r) (d := 0)
      (mem_duties_ck I c (.inr b) r hr4) () NE rfl (amount_ck I c (.inr b) r 0)
      (by
        rw [payload_ck, sq_set, set_ebuf h₂, sq_set, set_ew h₁]
        show _ ⊢ iprop(ewP c b (EW I c (elOf b r)) ∗ wP c (elOf b r) (I.ew c))
        refine BI.sep_mono (Entails.of_eq (pointsTo_congr fun i hi => ?_)) (BI.Entails.refl _)
        have hi0 : (i 0).val = b.val := mem_slotAt.mp hi
        refine (congrFun (write_read_reshape _ _ _ _ _ _) i).trans ?_
        refine (write_rect cc0_scratch4 (Rect.unit (s := S2x512x1024) off₂ S1x512x1024.size inb₂) _ _
          (p := (fun | 0 => (0 : Fin 1) | 1 => i 1 | 2 => i 2 : S1x512x1024.Idx)) ((emb_ebuf h₂ _ _).trans (iB_of i hi0))).trans ?_
        rw [read_rect]
        exact congrArg (I.ew c) (emb_ew h₁ _ _)))
    $$ [Hs Hd Ht Hr]
  · isplitr; · iapply (recs_cell I K c (.inr b)); iexact Hrec
    isplitl [Hs]; · rw [sq_set, set_ew h₁]; iexact Hs
    isplitl [Hd]; · rw [sq_set, set_ebuf h₂]; iexact Hd
    isplitl [Ht]; · iexact Ht
    iexact Hr
  iintro Hc
  iapply Hk
  iexact Hc

end Copies

end Cert.KernelIdeal.Moe
-- ==== Proof.Wrap.lean ====
/-
  The operations at the kernel's own arguments: what each transfer takes and gives, by distance, and what each load reads.
-/
module

public import proofs.«01_k».proof.Proof.Ops

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (I : Inp F)

/-- What the sender of rows takes from its own tokens, and what the receiver's signal gave. -/
abbrev TD (c : Dev nD) (k : Fin 8) : sProp 𝕄 :=
  iprop(dutyTok ER (dsC c k) 0 0 ∗ reached ER (dsC c k) 0 ∗ dutyTok ER (drC (c + k : Fin 8) k) 0 0)
abbrev BD (c : Dev nD) (k : Fin 8) : sProp 𝕄 := iprop((∃ f, recvP (c + k : Fin 8) c f) ∗ reached ER (drC (c + k : Fin 8) k) 0)
/-- The same for results. -/
abbrev TR (c : Dev nD) (k : Fin 8) : sProp 𝕄 :=
  iprop(dutyTok ER (rsC c k) 0 0 ∗ reached ER (rsC c k) 0 ∗ dutyTok ER (rrC (c + k : Fin 8) k) 0 0)
abbrev BR (c : Dev nD) (k : Fin 8) : sProp 𝕄 := iprop((∃ f, resP (c + k : Fin 8) c f) ∗ reached ER (rrC (c + k : Fin 8) k) 0)
/-- A cell waiting for round `r`. -/
abbrev AT (c : Dev nD) (i : CK) (r : ℕ) : sProp 𝕄 := atPos ER (cellC c i) r ∅ 0
abbrev CR (c : Dev nD) (i : CK) : sProp 𝕄 := cred (tallyAt (cellC c i) () (amtOf i))

section Sends

theorem disp (K : GSem nD τ sig → ℕ) (c : Dev nD) (k : Fin 8) (hk : k ≠ 0) {α : Type} {Q : α → sProp 𝕄} {l₀ l : List (GSem nD τ sig × ℕ)}
    (hl : l₀ = dispO c k :: l)
    {dev : Dev nD} (hdev : dev = (c + k : Fin 8)) {off₁ off₂ : Fin 4 → ℕ} {inb₁ inb₂}
    (h₁ : off₁ = ![k.val, 0, 0, 0]) (h₂ : off₂ = ![c.val, 0, 0, 0]) {hr₁ hr₂ hq₁ hq₂}
    {sS sR : DmaSem sig} (hsS : sS = dsem (.inl (0, k))) (hsR : sR = dsem (.inl (1, k)))
    {hsc hsrc hdst hsem} {kk : PUnit → Prog (TpuEff nD τ sig (Elt F) Λ₀ .tc) α} :
    iprop(recs I K ∗ dP c k (DD I c) ∗ TD (F := F) c k ∗ BD (F := F) c k ∗ ow c l₀)
      ⊢ iprop(((CR (F := F) c (.inl (0, k)) ∗ ow c l) -∗ wpc c (kk ⟨⟩) Q)
        -∗ wpc c (.op (.enqueueDma (((Memref.whole cc0_scratch5).slice (Rect.unit (s := S8x8x64x512) off₁ S1x8x64x512.size inb₁) hr₁).squeeze S8x64x512 hq₁)
            (.remote (Dev.tc dev) (((Memref.whole cc0_scratch1).slice (Rect.unit (s := S8x8x64x512) off₂ S1x8x64x512.size inb₂) hr₂).squeeze S8x64x512 hq₂)
              (.dma sS) hsc) (.dma sR) hsrc hdst hsem) kk) Q) := by
  subst hl
  refine (show _ ⊢ _ from ?_).trans (send_rows I K c k hk l hdev h₁ h₂ hsS hsR)
  iintro ⟨#Hrec, Hs, ⟨Ht1, Hr1, Ht2⟩, ⟨Hd, Hr2⟩, HO⟩
  isplitr; · iexact Hrec
  isplitl [Hs]; · iexact Hs
  isplitl [Hd]; · iexact Hd
  isplitl [HO]; · iexact HO
  isplitl [Ht1]; · iexact Ht1
  isplitl [Hr1]; · iexact Hr1
  isplitl [Ht2]; · iexact Ht2
  iexact Hr2

theorem ret (K : GSem nD τ sig → ℕ) (c : Dev nD) (k : Fin 8) (hk : k ≠ 0) {α : Type} {Q : α → sProp 𝕄} {l₀ l : List (GSem nD τ sig × ℕ)}
    (hl : l₀ = retO c k :: l)
    {dev : Dev nD} (hdev : dev = (c + k : Fin 8)) {off₁ off₂ : Fin 4 → ℕ} {inb₁ inb₂}
    (h₁ : off₁ = ![(c + k : Fin 8).val, 0, 0, 0]) (h₂ : off₂ = ![c.val, 0, 0, 0]) {hr₁ hr₂ hq₁ hq₂}
    {sS sR : DmaSem sig} (hsS : sS = dsem (.inl (2, k))) (hsR : sR = dsem (.inl (3, k)))
    {hsc hsrc hdst hsem} {kk : PUnit → Prog (TpuEff nD τ sig (Elt F) Λ₀ .tc) α} :
    iprop(recs I K ∗ yP c (c + k : Fin 8) (YY I c) ∗ TR (F := F) c k ∗ BR (F := F) c k ∗ ow c l₀)
      ⊢ iprop(((CR (F := F) c (.inl (2, k)) ∗ ow c l) -∗ wpc c (kk ⟨⟩) Q)
        -∗ wpc c (.op (.enqueueDma (((Memref.whole cc0_scratch2).slice (Rect.unit (s := S8x8x64x1024) off₁ S1x8x64x1024.size inb₁) hr₁).squeeze S8x64x1024 hq₁)
            (.remote (Dev.tc dev) (((Memref.whole cc0_scratch3).slice (Rect.unit (s := S8x8x64x1024) off₂ S1x8x64x1024.size inb₂) hr₂).squeeze S8x64x1024 hq₂)
              (.dma sS) hsc) (.dma sR) hsrc hdst hsem) kk) Q) := by
  subst hl
  refine (show _ ⊢ _ from ?_).trans (send_res I K c k hk l hdev h₁ h₂ hsS hsR)
  iintro ⟨#Hrec, Hs, ⟨Ht1, Hr1, Ht2⟩, ⟨Hd, Hr2⟩, HO⟩
  isplitr; · iexact Hrec
  isplitl [Hs]; · iexact Hs
  isplitl [Hd]; · iexact Hd
  isplitl [HO]; · iexact HO
  isplitl [Ht1]; · iexact Ht1
  isplitl [Hr1]; · iexact Hr1
  isplitl [Ht2]; · iexact Ht2
  iexact Hr2

end Sends

section Waits

/-- The wait for the rows from the device `k` places back. -/
theorem wait_dr (K : GSem nD τ sig → ℕ) (c : Dev nD) {α : Type} {Q : α → sProp 𝕄} (k : Fin 8) (hk : k ≠ 0)
    {sp sp' : Space} {s s' : Shape} {e e' : EltTy} {sem : DmaSem sig} {src : Memref sig .tc sp s e} {dst : Memref sig .tc sp' s' e'}
    {hsrc : src.view.WordExact} {hdst : dst.view.WordExact}
    {k' : PUnit → Prog (TpuEff nD τ sig (Elt F) Λ₀ .tc) α}
    (hs : sem = dsem (.inl (1, k))) (hamt : dst.view.dmaCredit = amtOf (.inl (1, k))) :
    iprop(recs I K ∗ levAts L lv ∗ CR (F := F) c (.inl (1, k)) ∗ ow c (retL c 0) ∗ AT (F := F) c (.inl (1, k)) 0)
      ⊢ iprop(((ow c (retL c 0) ∗ AT (F := F) c (.inl (1, k)) (0 + 1) ∗ reached ER (cellC c (.inl (1, k))) (0 + 1) ∗ recvP c (c - k : Fin 8) (RECV I c)) -∗ wpc c (k' ⟨⟩) Q)
        -∗ wpc c (.op (.waitDma2 sem src dst hsrc hdst) k') Q) :=
  wait_ck I K c (.inl (1, k)) 0 (by show 0 < if k = 0 then 0 else 1; rw [if_neg hk]; exact Nat.one_pos) (retL c 0)
    (by show Above (match ckOf (dsem (.inl (1, k))) with
          | none => 0
          | some (.inl (1, _)) => 3
          | some (.inl (3, _)) => 4
          | some _ => 1) _
        rw [ckOf_dsem]; exact above_retL c 0 3 (by decide)) hs hamt

/-- The wait for the results from the device `k` places back. -/
theorem wait_rr (K : GSem nD τ sig → ℕ) (c : Dev nD) {α : Type} {Q : α → sProp 𝕄} (k : Fin 8) (hk : k ≠ 0)
    {sp sp' : Space} {s s' : Shape} {e e' : EltTy} {sem : DmaSem sig} {src : Memref sig .tc sp s e} {dst : Memref sig .tc sp' s' e'}
    {hsrc : src.view.WordExact} {hdst : dst.view.WordExact}
    {k' : PUnit → Prog (TpuEff nD τ sig (Elt F) Λ₀ .tc) α}
    (hs : sem = dsem (.inl (3, k))) (hamt : dst.view.dmaCredit = amtOf (.inl (3, k))) :
    iprop(recs I K ∗ levAts L lv ∗ CR (F := F) c (.inl (3, k)) ∗ ow c ([] : List (GSem nD τ sig × ℕ)) ∗ AT (F := F) c (.inl (3, k)) 0)
      ⊢ iprop(((ow c ([] : List (GSem nD τ sig × ℕ)) ∗ AT (F := F) c (.inl (3, k)) (0 + 1) ∗ reached ER (cellC c (.inl (3, k))) (0 + 1) ∗ resP c (c - k : Fin 8) (RES I c)) -∗ wpc c (k' ⟨⟩) Q)
        -∗ wpc c (.op (.waitDma2 sem src dst hsrc hdst) k') Q) :=
  wait_ck I K c (.inl (3, k)) 0 (by show 0 < if k = 0 then 0 else 1; rw [if_neg hk]; exact Nat.one_pos) ([] : List (GSem nD τ sig × ℕ))
    (by show Above (match ckOf (dsem (.inl (3, k))) with
          | none => 0
          | some (.inl (1, _)) => 3
          | some (.inl (3, _)) => 4
          | some _ => 1) _
        rw [ckOf_dsem]; exact (fun p hp => absurd hp List.not_mem_nil)) hs hamt

/-- The wait for a copy of rows to have been sent. -/
theorem wait_ds (K : GSem nD τ sig → ℕ) (c : Dev nD) {α : Type} {Q : α → sProp 𝕄} (k : Fin 8) (hk : k ≠ 0)
    {sp sp' : Space} {s s' : Shape} {e e' : EltTy} {sem : DmaSem sig} {src : Memref sig .tc sp s e} {dst : Memref sig .tc sp' s' e'}
    {hsrc : src.view.WordExact} {hdst : dst.view.WordExact}
    {k' : PUnit → Prog (TpuEff nD τ sig (Elt F) Λ₀ .tc) α}
    (hs : sem = dsem (.inl (0, k))) (hamt : dst.view.dmaCredit = amtOf (.inl (0, k))) :
    iprop(recs I K ∗ levAts L lv ∗ CR (F := F) c (.inl (0, k)) ∗ ow c ([] : List (GSem nD τ sig × ℕ)) ∗ AT (F := F) c (.inl (0, k)) 0)
      ⊢ iprop(((ow c ([] : List (GSem nD τ sig × ℕ)) ∗ AT (F := F) c (.inl (0, k)) (0 + 1) ∗ reached ER (cellC c (.inl (0, k))) (0 + 1) ∗ (∃ f, dP c k f)) -∗ wpc c (k' ⟨⟩) Q)
        -∗ wpc c (.op (.waitDma2 sem src dst hsrc hdst) k') Q) :=
  wait_ck I K c (.inl (0, k)) 0 (by show 0 < if k = 0 then 0 else 1; rw [if_neg hk]; exact Nat.one_pos) ([] : List (GSem nD τ sig × ℕ))
    (by show Above (match ckOf (dsem (.inl (0, k))) with
          | none => 0
          | some (.inl (1, _)) => 3
          | some (.inl (3, _)) => 4
          | some _ => 1) _
        rw [ckOf_dsem]; exact (fun p hp => absurd hp List.not_mem_nil)) hs hamt

/-- The wait for a copy of results to have been sent. -/
theorem wait_rs (K : GSem nD τ sig → ℕ) (c : Dev nD) {α : Type} {Q : α → sProp 𝕄} (k : Fin 8) (hk : k ≠ 0)
    {sp sp' : Space} {s s' : Shape} {e e' : EltTy} {sem : DmaSem sig} {src : Memref sig .tc sp s e} {dst : Memref sig .tc sp' s' e'}
    {hsrc : src.view.WordExact} {hdst : dst.view.WordExact}
    {k' : PUnit → Prog (TpuEff nD τ sig (Elt F) Λ₀ .tc) α}
    (hs : sem = dsem (.inl (2, k))) (hamt : dst.view.dmaCredit = amtOf (.inl (2, k))) :
    iprop(recs I K ∗ levAts L lv ∗ CR (F := F) c (.inl (2, k)) ∗ ow c ([] : List (GSem nD τ sig × ℕ)) ∗ AT (F := F) c (.inl (2, k)) 0)
      ⊢ iprop(((ow c ([] : List (GSem nD τ sig × ℕ)) ∗ AT (F := F) c (.inl (2, k)) (0 + 1) ∗ reached ER (cellC c (.inl (2, k))) (0 + 1) ∗ (∃ f, yP c (c + k : Fin 8) f)) -∗ wpc c (k' ⟨⟩) Q)
        -∗ wpc c (.op (.waitDma2 sem src dst hsrc hdst) k') Q) :=
  wait_ck I K c (.inl (2, k)) 0 (by show 0 < if k = 0 then 0 else 1; rw [if_neg hk]; exact Nat.one_pos) ([] : List (GSem nD τ sig × ℕ))
    (by show Above (match ckOf (dsem (.inl (2, k))) with
          | none => 0
          | some (.inl (1, _)) => 3
          | some (.inl (3, _)) => 4
          | some _ => 1) _
        rw [ckOf_dsem]; exact (fun p hp => absurd hp List.not_mem_nil)) hs hamt

/-- The wait for a copy of an expert's weights. -/
theorem wait_ew (K : GSem nD τ sig → ℕ) (c : Dev nD) {α : Type} {Q : α → sProp 𝕄} (b : Fin 2) (r : ℕ) (hr : r < 4)
    {sp sp' : Space} {s s' : Shape} {e e' : EltTy} {sem : DmaSem sig} {src : Memref sig .tc sp s e} {dst : Memref sig .tc sp' s' e'}
    {hsrc : src.view.WordExact} {hdst : dst.view.WordExact}
    {k' : PUnit → Prog (TpuEff nD τ sig (Elt F) Λ₀ .tc) α}
    (hs : sem = dsem (.inr b)) (hamt : dst.view.dmaCredit = amtOf (.inr b)) :
    iprop(recs I K ∗ levAts L lv ∗ CR (F := F) c (.inr b) ∗ ow c (retL c 0) ∗ AT (F := F) c (.inr b) r)
      ⊢ iprop(((ow c (retL c 0) ∗ AT (F := F) c (.inr b) (r + 1) ∗ reached ER (cellC c (.inr b)) (r + 1) ∗ (ewP c b (EW I c (elOf b r)) ∗ wP c (elOf b r) (I.ew c))) -∗ wpc c (k' ⟨⟩) Q)
        -∗ wpc c (.op (.waitDma2 sem src dst hsrc hdst) k') Q) :=
  wait_ck I K c (.inr b) r hr (retL c 0)
    (by show Above (match ckOf (dsem (.inr b)) with
          | none => 0
          | some (.inl (1, _)) => 3
          | some (.inl (3, _)) => 4
          | some _ => 1) _
        rw [ckOf_dsem]; exact above_retL c 0 1 (by decide)) hs hamt

end Waits

/-! ## What loads read and stores leave -/

section Reads

theorem rd_full {s : Shape} {α : Type} (f : s.Idx → α) {off : Fin s.rank → ℕ} (inb : ∀ a, off a + s.size a ≤ s.size a) :
    (fun p => f ((Rect.unit off s.size inb).emb p)) = f := funext fun p => congrArg f (emb_full inb p)

theorem in_full {s : Shape} {α : Type} (g : s.Idx → α) {w : s.Idx → α} (h : w = g) {off : Fin s.rank → ℕ} (inb : ∀ a, off a + s.size a ≤ s.size a)
    (p : s.Idx) : g ((Rect.unit off s.size inb).emb p) = w p := by rw [emb_full, h]

theorem out_full {s : Shape} {off : Fin s.rank → ℕ} (inb : ∀ a, off a + s.size a ≤ s.size a) (x : s.Idx) : x ∈ (Rect.unit off s.size inb).set := by
  rw [← Rect.map_emb_univ]
  exact Finset.mem_map.mpr ⟨x, Finset.mem_univ _, emb_full inb x⟩

theorem rd_sl (c : Dev nD) (b : Fin 4) {off : Fin 2 → ℕ} (h : off = ![512 * b.val, 0]) (inb) :
    (fun p => I.sl c ((Rect.unit (s := S2048x1) off S512x1.size inb).emb p)) = slRow I c b :=
  funext fun p => congrArg (I.sl c) (emb_slrow h inb p)
theorem rd_x (c : Dev nD) (b : Fin 4) {off : Fin 2 → ℕ} (h : off = ![512 * b.val, 0]) (inb) :
    (fun p => I.x c ((Rect.unit (s := S2048x512) off S512x512.size inb).emb p)) = xRow I c b :=
  funext fun p => congrArg (I.x c) (emb_xrow h inb p)

theorem glue_at (p : Fin 4 → Vec F S512x1024 .f32) (b : Fin 4) (q : S512x1024.Idx) :
    glue p (iOut ⟨512 * b.val + (q 0).val, row_lt b (q 0)⟩ (q 1)) = p b q := by
  have hq : (q 0).val < 512 := (q 0).isLt
  have e1 : (⟨(512 * b.val + (q 0).val) / 512, by omega⟩ : Fin 4) = b := Fin.ext (by show (512 * b.val + (q 0).val) / 512 = b.val; omega)
  have e2 : (⟨(512 * b.val + (q 0).val) % 512, Nat.mod_lt _ (by decide)⟩ : Fin 512) = q 0 := Fin.ext (by show (512 * b.val + (q 0).val) % 512 = (q 0).val; omega)
  show p (⟨(512 * b.val + (q 0).val) / 512, _⟩ : Fin 4) (iO (⟨(512 * b.val + (q 0).val) % 512, _⟩ : Fin 512) (q 1)) = _
  rw [e1, e2]
  congr 1
  funext a; fin_cases a <;> rfl

theorem rd_o (p : Fin 4 → Vec F S512x1024 .f32) (b : Fin 4) {off : Fin 2 → ℕ} (h : off = ![512 * b.val, 0]) (inb)
    {v : Vec F S512x1024 .f32} (hv : p b = v) :
    (fun q => glue p ((Rect.unit (s := S2048x1024) off S512x1024.size inb).emb q)) = v := by
  subst hv
  funext q
  rw [emb_orow h]
  exact glue_at p b q

theorem in_o (p : Fin 4 → Vec F S512x1024 .f32) (b : Fin 4) {off : Fin 2 → ℕ} (h : off = ![512 * b.val, 0]) (inb)
    {w : Vec F S512x1024 .f32} (hw : w = p b) (q : S512x1024.Idx) :
    glue p ((Rect.unit (s := S2048x1024) off S512x1024.size inb).emb q) = w q := by
  subst hw
  rw [emb_orow h]
  exact glue_at p b q

theorem out_o (p p' : Fin 4 → Vec F S512x1024 .f32) (b : Fin 4) (hp : ∀ b', b' ≠ b → p' b' = p b') {off : Fin 2 → ℕ} (h : off = ![512 * b.val, 0]) (inb)
    (x : S2048x1024.Idx) (hx : x ∉ (Rect.unit (s := S2048x1024) off S512x1024.size inb).set) : glue p' x = glue p x := by
  have hx0 : (x 0).val < 2048 := (x 0).isLt
  by_cases hb : (⟨(x 0).val / 512, by omega⟩ : Fin 4) = b
  · refine absurd ?_ hx
    rw [Rect.mem_set_unit]
    have hb' : (x 0).val / 512 = b.val := congrArg Fin.val hb
    have h1 : (x 1).val < 1024 := (x 1).isLt
    subst h
    intro a
    fin_cases a
    · show 512 * b.val ≤ (x 0).val ∧ (x 0).val < 512 * b.val + 512; omega
    · show 0 ≤ (x 1).val ∧ (x 1).val < 0 + 1024; omega
  · exact congrFun (hp _ hb) _

/-- Any contents of the output are four blocks of rows. -/
theorem glue_of (f : Vec F S2048x1024 .f32) :
    f = glue fun b p => f (iOut ⟨512 * b.val + (p 0).val, row_lt b (p 0)⟩ (p 1)) := by
  funext i
  refine congrArg f (funext fun a => ?_)
  have h := Nat.div_add_mod (i 0).val 512
  fin_cases a
  · exact Fin.ext h.symm
  · rfl

theorem in_slot512 {k : Fin 8} {off : Fin 4 → ℕ} (h : off = ![k.val, 0, 0, 0]) (inb) (g : Vec F S8x8x64x512 .bf16) {w : Vec F S1x8x64x512 .bf16}
    (hw : ∀ e r i, g (i8x512 k e r i) = w (i1x512 e r i)) (p : S1x8x64x512.Idx) :
    g ((Rect.unit (s := S8x8x64x512) off S1x8x64x512.size inb).emb p) = w p := by
  rw [emb_row512 h]
  refine (hw (p 1) (p 2) (p 3)).trans (congrArg w (funext fun a => ?_))
  fin_cases a
  · exact Fin.ext (by have : (p 0).val < 1 := (p 0).isLt; show 0 = (p 0).val; omega)
  all_goals rfl

theorem in_slot1024 {k : Fin 8} {off : Fin 4 → ℕ} (h : off = ![k.val, 0, 0, 0]) (inb) (g : Vec F S8x8x64x1024 .bf16) {w : Vec F S1x8x64x1024 .bf16}
    (hw : ∀ e r i, g (i8x1024 k e r i) = w (i1x1024 e r i)) (p : S1x8x64x1024.Idx) :
    g ((Rect.unit (s := S8x8x64x1024) off S1x8x64x1024.size inb).emb p) = w p := by
  rw [emb_row1024 h]
  refine (hw (p 1) (p 2) (p 3)).trans (congrArg w (funext fun a => ?_))
  fin_cases a
  · exact Fin.ext (by have : (p 0).val < 1 := (p 0).isLt; show 0 = (p 0).val; omega)
  all_goals rfl

theorem rd_y (c : Dev nD) {off : Fin 4 → ℕ} (h : off = ![c.val, 0, 0, 0]) (inb) :
    (fun p => YY I c ((Rect.unit (s := S8x8x64x1024) off S1x8x64x1024.size inb).emb p)) = resB I c c := by
  funext p
  rw [emb_row1024 (k := c) h]
  rfl

theorem rd_res (c d : Dev nD) {off : Fin 4 → ℕ} (h : off = ![d.val, 0, 0, 0]) (inb) :
    (fun p => RES I c ((Rect.unit (s := S8x8x64x1024) off S1x8x64x1024.size inb).emb p)) = resB I c d :=
  funext fun p => congrArg (RES I c) (emb_row1024 (k := d) h inb p)

theorem rd_rows (c : Dev nD) (el : Fin 8) {off : Fin 4 → ℕ} (h : off = ![0, el.val, 0, 0]) (inb) :
    (fun p => RECV I c ((Rect.unit (s := S8x8x64x512) off S8x1x64x512.size inb).emb p)) = rowsE I c el :=
  funext fun p => congrArg (RECV I c) (emb_col512 h inb p)

theorem rd_wts (c : Dev nD) (el : Fin 8) {b : Fin 2} {off : Fin 3 → ℕ} (h : off = ![b.val, 0, 0]) (inb) :
    (fun p => EW I c el ((Rect.unit (s := S2x512x1024) off S1x512x1024.size inb).emb p)) = wtsE I c el := by
  funext p
  rw [emb_ebuf h]
  rfl

/-- The results' buffer after the first `n` experts. -/
def YN (c : Dev nD) (f : Vec F S8x8x64x1024 .bf16) (n : ℕ) : Vec F S8x8x64x1024 .bf16 := fun i => if (i 1).val < n then YY I c i else f i

theorem YN_zero (c : Dev nD) (f : Vec F S8x8x64x1024 .bf16) : YN I c f 0 = f := funext fun i => if_neg (Nat.not_lt_zero _)
theorem YN_eight (c : Dev nD) (f : Vec F S8x8x64x1024 .bf16) : YN I c f 8 = YY I c := funext fun i => if_pos (i 1).isLt

theorem in_col (c : Dev nD) (f : Vec F S8x8x64x1024 .bf16) (el : Fin 8) {off : Fin 4 → ℕ} (h : off = ![0, el.val, 0, 0]) (inb)
    {w : Vec F S8x1x64x1024 .bf16} (hw : w = YE I c el) (p : S8x1x64x1024.Idx) :
    YN I c f (el.val + 1) ((Rect.unit (s := S8x8x64x1024) off S8x1x64x1024.size inb).emb p) = w p := by
  subst hw
  rw [emb_col1024 h]
  show (if el.val < el.val + 1 then YY I c (i8x1024 (p 0) el (p 2) (p 3)) else _) = _
  rw [if_pos (Nat.lt_succ_self _)]
  show YE I c el (iE (p 0) (p 2) (p 3)) = _
  congr 1
  funext a
  fin_cases a
  · rfl
  · exact Fin.ext (by have : (p 1).val < 1 := (p 1).isLt; show 0 = (p 1).val; omega)
  all_goals rfl

theorem out_col (c : Dev nD) (f : Vec F S8x8x64x1024 .bf16) (el : Fin 8) {off : Fin 4 → ℕ} (h : off = ![0, el.val, 0, 0]) (inb)
    (x : S8x8x64x1024.Idx) (hx : x ∉ (Rect.unit (s := S8x8x64x1024) off S8x1x64x1024.size inb).set) :
    YN I c f (el.val + 1) x = YN I c f el.val x := by
  have hne : (x 1).val ≠ el.val := by
    intro he
    refine hx ?_
    rw [Rect.mem_set_unit]
    subst h
    intro a
    have h0 : (x 0).val < 8 := (x 0).isLt
    have h2 : (x 2).val < 64 := (x 2).isLt
    have h3 : (x 3).val < 1024 := (x 3).isLt
    fin_cases a
    · show 0 ≤ (x 0).val ∧ (x 0).val < 0 + 8; omega
    · show el.val ≤ (x 1).val ∧ (x 1).val < el.val + 1; omega
    · show 0 ≤ (x 2).val ∧ (x 2).val < 0 + 64; omega
    · show 0 ≤ (x 3).val ∧ (x 3).val < 0 + 1024; omega
  unfold YN
  by_cases hl : (x 1).val < el.val
  · rw [if_pos hl, if_pos (by omega)]
  · rw [if_neg hl, if_neg (by omega)]

end Reads

end Cert.KernelIdeal.Moe
-- ==== Proof.Words.lean ====
/-
  The words that the kernel computes on a device: the places of its neighbours.
-/
module

public import proofs.«01_k».proof.Proof.Wrap

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

def W0 (c : Dev nD) : BitVec 32 := Dev.word c
def W1 (c : Dev nD) : BitVec 32 := Scalar.divsi (W0 c) 1#32
def W2 (c : Dev nD) : BitVec 32 := Scalar.remsi (W1 c) 8#32
def W28 (c : Dev nD) : BitVec 1 := Scalar.cmpi .ne (W2 c) 6#32
def W29 (c : Dev nD) : BitVec 32 := Scalar.extui (W28 c)
def W94 (c : Dev nD) : BitVec 32 := Scalar.addi (W2 c) 1#32
def W95 (c : Dev nD) : BitVec 1 := Scalar.cmpi .eq 8#32 0#32
def W96 (c : Dev nD) : BitVec 32 := Scalar.select (W95 c) 1#32 8#32
def W97 (c : Dev nD) : BitVec 32 := Scalar.remsi (W94 c) (W96 c)
def W98 (c : Dev nD) : BitVec 1 := Scalar.cmpi .ne (W97 c) 0#32
def W99 (c : Dev nD) : BitVec 1 := Scalar.cmpi .slt (W97 c) 0#32
def W100 (c : Dev nD) : BitVec 1 := Scalar.cmpi .slt (W96 c) 0#32
def W101 (c : Dev nD) : BitVec 1 := Scalar.xori (W99 c) (W100 c)
def W132 (c : Dev nD) : BitVec 32 := Scalar.addi (W2 c) 2#32
def W133 (c : Dev nD) : BitVec 1 := Scalar.cmpi .eq 8#32 0#32
def W134 (c : Dev nD) : BitVec 32 := Scalar.select (W133 c) 1#32 8#32
def W135 (c : Dev nD) : BitVec 32 := Scalar.remsi (W132 c) (W134 c)
def W170 (c : Dev nD) : BitVec 32 := Scalar.addi (W2 c) 3#32
def W284 (c : Dev nD) : BitVec 32 := Scalar.addi (W2 c) 6#32
def W285 (c : Dev nD) : BitVec 1 := Scalar.cmpi .eq 8#32 0#32
def W286 (c : Dev nD) : BitVec 32 := Scalar.select (W285 c) 1#32 8#32
def W287 (c : Dev nD) : BitVec 32 := Scalar.remsi (W284 c) (W286 c)
def W288 (c : Dev nD) : BitVec 1 := Scalar.cmpi .ne (W287 c) 0#32
def W289 (c : Dev nD) : BitVec 1 := Scalar.cmpi .slt (W287 c) 0#32
def W290 (c : Dev nD) : BitVec 1 := Scalar.cmpi .slt (W286 c) 0#32
def W291 (c : Dev nD) : BitVec 1 := Scalar.xori (W289 c) (W290 c)
def W292 (c : Dev nD) : BitVec 1 := Scalar.andi (W291 c) (W288 c)
def W293 (c : Dev nD) : BitVec 32 := Scalar.addi (W287 c) (W286 c)
def W294 (c : Dev nD) : BitVec 32 := Scalar.select (W292 c) (W293 c) (W287 c)
def W322 (c : Dev nD) : BitVec 32 := Scalar.addi (W2 c) 7#32
def W323 (c : Dev nD) : BitVec 1 := Scalar.cmpi .eq 8#32 0#32
def W324 (c : Dev nD) : BitVec 32 := Scalar.select (W323 c) 1#32 8#32
def W325 (c : Dev nD) : BitVec 32 := Scalar.remsi (W322 c) (W324 c)
def W326 (c : Dev nD) : BitVec 1 := Scalar.cmpi .ne (W325 c) 0#32
def W327 (c : Dev nD) : BitVec 1 := Scalar.cmpi .slt (W325 c) 0#32
def W328 (c : Dev nD) : BitVec 1 := Scalar.cmpi .slt (W324 c) 0#32
def W329 (c : Dev nD) : BitVec 1 := Scalar.xori (W327 c) (W328 c)
def W330 (c : Dev nD) : BitVec 1 := Scalar.andi (W329 c) (W326 c)
def W331 (c : Dev nD) : BitVec 32 := Scalar.addi (W325 c) (W324 c)
def W332 (c : Dev nD) : BitVec 32 := Scalar.select (W330 c) (W331 c) (W325 c)
def W422 (c : Dev nD) : BitVec 32 := Scalar.subi (W2 c) 3#32
def W423 (c : Dev nD) : BitVec 1 := Scalar.cmpi .eq 8#32 0#32
def W424 (c : Dev nD) : BitVec 32 := Scalar.select (W423 c) 1#32 8#32
def W425 (c : Dev nD) : BitVec 32 := Scalar.remsi (W422 c) (W424 c)
def W426 (c : Dev nD) : BitVec 1 := Scalar.cmpi .ne (W425 c) 0#32
def W427 (c : Dev nD) : BitVec 1 := Scalar.cmpi .slt (W425 c) 0#32
def W428 (c : Dev nD) : BitVec 1 := Scalar.cmpi .slt (W424 c) 0#32
def W429 (c : Dev nD) : BitVec 1 := Scalar.xori (W427 c) (W428 c)
def W430 (c : Dev nD) : BitVec 1 := Scalar.andi (W429 c) (W426 c)
def W431 (c : Dev nD) : BitVec 32 := Scalar.addi (W425 c) (W424 c)
def W432 (c : Dev nD) : BitVec 32 := Scalar.select (W430 c) (W431 c) (W425 c)
def W460 (c : Dev nD) : BitVec 32 := Scalar.subi (W2 c) 5#32
def W461 (c : Dev nD) : BitVec 1 := Scalar.cmpi .eq 8#32 0#32
def W709 (c : Dev nD) : BitVec 32 := Scalar.addi (W2 c) 1#32
def W710 (c : Dev nD) : BitVec 1 := Scalar.cmpi .eq 8#32 0#32
def W711 (c : Dev nD) : BitVec 32 := Scalar.select (W710 c) 1#32 8#32
def W712 (c : Dev nD) : BitVec 32 := Scalar.remsi (W709 c) (W711 c)
def W772 (c : Dev nD) : BitVec 32 := Scalar.addi (W2 c) 4#32
def W773 (c : Dev nD) : BitVec 1 := Scalar.cmpi .eq 8#32 0#32
def W774 (c : Dev nD) : BitVec 32 := Scalar.select (W773 c) 1#32 8#32
def W775 (c : Dev nD) : BitVec 32 := Scalar.remsi (W772 c) (W774 c)
def W776 (c : Dev nD) : BitVec 1 := Scalar.cmpi .ne (W775 c) 0#32
def W835 (c : Dev nD) : BitVec 32 := Scalar.addi (W2 c) 7#32
def W836 (c : Dev nD) : BitVec 1 := Scalar.cmpi .eq 8#32 0#32
def W837 (c : Dev nD) : BitVec 32 := Scalar.select (W836 c) 1#32 8#32
def W838 (c : Dev nD) : BitVec 32 := Scalar.remsi (W835 c) (W837 c)
def W839 (c : Dev nD) : BitVec 1 := Scalar.cmpi .ne (W838 c) 0#32
def W840 (c : Dev nD) : BitVec 1 := Scalar.cmpi .slt (W838 c) 0#32
def W841 (c : Dev nD) : BitVec 1 := Scalar.cmpi .slt (W837 c) 0#32
def W856 (c : Dev nD) : BitVec 32 := Scalar.subi (W2 c) 0#32
def W857 (c : Dev nD) : BitVec 1 := Scalar.cmpi .eq 8#32 0#32
def W858 (c : Dev nD) : BitVec 32 := Scalar.select (W857 c) 1#32 8#32
def W859 (c : Dev nD) : BitVec 32 := Scalar.remsi (W856 c) (W858 c)
def W860 (c : Dev nD) : BitVec 1 := Scalar.cmpi .ne (W859 c) 0#32
def W861 (c : Dev nD) : BitVec 1 := Scalar.cmpi .slt (W859 c) 0#32
def W862 (c : Dev nD) : BitVec 1 := Scalar.cmpi .slt (W858 c) 0#32
def W863 (c : Dev nD) : BitVec 1 := Scalar.xori (W861 c) (W862 c)
def W864 (c : Dev nD) : BitVec 1 := Scalar.andi (W863 c) (W860 c)
def W865 (c : Dev nD) : BitVec 32 := Scalar.addi (W859 c) (W858 c)
def W866 (c : Dev nD) : BitVec 32 := Scalar.select (W864 c) (W865 c) (W859 c)
def W934 (c : Dev nD) : BitVec 32 := Scalar.subi (W2 c) 1#32
def W935 (c : Dev nD) : BitVec 1 := Scalar.cmpi .eq 8#32 0#32
def W936 (c : Dev nD) : BitVec 32 := Scalar.select (W935 c) 1#32 8#32
def W937 (c : Dev nD) : BitVec 32 := Scalar.remsi (W934 c) (W936 c)
def W938 (c : Dev nD) : BitVec 1 := Scalar.cmpi .ne (W937 c) 0#32
def W939 (c : Dev nD) : BitVec 1 := Scalar.cmpi .slt (W937 c) 0#32
def W940 (c : Dev nD) : BitVec 1 := Scalar.cmpi .slt (W936 c) 0#32
def W941 (c : Dev nD) : BitVec 1 := Scalar.xori (W939 c) (W940 c)
def W942 (c : Dev nD) : BitVec 1 := Scalar.andi (W941 c) (W938 c)
def W943 (c : Dev nD) : BitVec 32 := Scalar.addi (W937 c) (W936 c)
def W944 (c : Dev nD) : BitVec 32 := Scalar.select (W942 c) (W943 c) (W937 c)
def W1020 (c : Dev nD) : BitVec 32 := Scalar.subi (W2 c) 2#32
def W1021 (c : Dev nD) : BitVec 1 := Scalar.cmpi .eq 8#32 0#32
def W1022 (c : Dev nD) : BitVec 32 := Scalar.select (W1021 c) 1#32 8#32
def W1023 (c : Dev nD) : BitVec 32 := Scalar.remsi (W1020 c) (W1022 c)
def W1024 (c : Dev nD) : BitVec 1 := Scalar.cmpi .ne (W1023 c) 0#32
def W1025 (c : Dev nD) : BitVec 1 := Scalar.cmpi .slt (W1023 c) 0#32
def W1026 (c : Dev nD) : BitVec 1 := Scalar.cmpi .slt (W1022 c) 0#32
def W1027 (c : Dev nD) : BitVec 1 := Scalar.xori (W1025 c) (W1026 c)
def W1028 (c : Dev nD) : BitVec 1 := Scalar.andi (W1027 c) (W1024 c)
def W1029 (c : Dev nD) : BitVec 32 := Scalar.addi (W1023 c) (W1022 c)
def W1030 (c : Dev nD) : BitVec 32 := Scalar.select (W1028 c) (W1029 c) (W1023 c)
def W1106 (c : Dev nD) : BitVec 32 := Scalar.subi (W2 c) 3#32
def W1107 (c : Dev nD) : BitVec 1 := Scalar.cmpi .eq 8#32 0#32
def W1108 (c : Dev nD) : BitVec 32 := Scalar.select (W1107 c) 1#32 8#32
def W1109 (c : Dev nD) : BitVec 32 := Scalar.remsi (W1106 c) (W1108 c)
def W1110 (c : Dev nD) : BitVec 1 := Scalar.cmpi .ne (W1109 c) 0#32
def W1111 (c : Dev nD) : BitVec 1 := Scalar.cmpi .slt (W1109 c) 0#32
def W1112 (c : Dev nD) : BitVec 1 := Scalar.cmpi .slt (W1108 c) 0#32
def W1113 (c : Dev nD) : BitVec 1 := Scalar.xori (W1111 c) (W1112 c)
def W1114 (c : Dev nD) : BitVec 1 := Scalar.andi (W1113 c) (W1110 c)
def W1115 (c : Dev nD) : BitVec 32 := Scalar.addi (W1109 c) (W1108 c)
def W1116 (c : Dev nD) : BitVec 32 := Scalar.select (W1114 c) (W1115 c) (W1109 c)
def W1128 (c : Dev nD) : BitVec 32 := Scalar.muli (W1116 c) 512#32
def W1192 (c : Dev nD) : BitVec 32 := Scalar.subi (W2 c) 4#32
def W1193 (c : Dev nD) : BitVec 1 := Scalar.cmpi .eq 8#32 0#32
def W1194 (c : Dev nD) : BitVec 32 := Scalar.select (W1193 c) 1#32 8#32
def W1195 (c : Dev nD) : BitVec 32 := Scalar.remsi (W1192 c) (W1194 c)
def W1196 (c : Dev nD) : BitVec 1 := Scalar.cmpi .ne (W1195 c) 0#32
def W1197 (c : Dev nD) : BitVec 1 := Scalar.cmpi .slt (W1195 c) 0#32
def W1198 (c : Dev nD) : BitVec 1 := Scalar.cmpi .slt (W1194 c) 0#32
def W1199 (c : Dev nD) : BitVec 1 := Scalar.xori (W1197 c) (W1198 c)
def W1200 (c : Dev nD) : BitVec 1 := Scalar.andi (W1199 c) (W1196 c)
def W1201 (c : Dev nD) : BitVec 32 := Scalar.addi (W1195 c) (W1194 c)
def W1202 (c : Dev nD) : BitVec 32 := Scalar.select (W1200 c) (W1201 c) (W1195 c)
def W1203 (c : Dev nD) : BitVec 32 := Scalar.muli (W1202 c) 1#32
def W1278 (c : Dev nD) : BitVec 32 := Scalar.subi (W2 c) 5#32
def W1279 (c : Dev nD) : BitVec 1 := Scalar.cmpi .eq 8#32 0#32
def W1280 (c : Dev nD) : BitVec 32 := Scalar.select (W1279 c) 1#32 8#32
def W1281 (c : Dev nD) : BitVec 32 := Scalar.remsi (W1278 c) (W1280 c)
def W1282 (c : Dev nD) : BitVec 1 := Scalar.cmpi .ne (W1281 c) 0#32
def W1283 (c : Dev nD) : BitVec 1 := Scalar.cmpi .slt (W1281 c) 0#32
def W1284 (c : Dev nD) : BitVec 1 := Scalar.cmpi .slt (W1280 c) 0#32
def W1285 (c : Dev nD) : BitVec 1 := Scalar.xori (W1283 c) (W1284 c)
def W1286 (c : Dev nD) : BitVec 1 := Scalar.andi (W1285 c) (W1282 c)
def W1287 (c : Dev nD) : BitVec 32 := Scalar.addi (W1281 c) (W1280 c)
def W1288 (c : Dev nD) : BitVec 32 := Scalar.select (W1286 c) (W1287 c) (W1281 c)
def W1364 (c : Dev nD) : BitVec 32 := Scalar.subi (W2 c) 6#32
def W1365 (c : Dev nD) : BitVec 1 := Scalar.cmpi .eq 8#32 0#32
def W1366 (c : Dev nD) : BitVec 32 := Scalar.select (W1365 c) 1#32 8#32
def W1367 (c : Dev nD) : BitVec 32 := Scalar.remsi (W1364 c) (W1366 c)
def W1368 (c : Dev nD) : BitVec 1 := Scalar.cmpi .ne (W1367 c) 0#32
def W1369 (c : Dev nD) : BitVec 1 := Scalar.cmpi .slt (W1367 c) 0#32
def W1370 (c : Dev nD) : BitVec 1 := Scalar.cmpi .slt (W1366 c) 0#32
def W1371 (c : Dev nD) : BitVec 1 := Scalar.xori (W1369 c) (W1370 c)
def W1372 (c : Dev nD) : BitVec 1 := Scalar.andi (W1371 c) (W1368 c)
def W1373 (c : Dev nD) : BitVec 32 := Scalar.addi (W1367 c) (W1366 c)
def W1374 (c : Dev nD) : BitVec 32 := Scalar.select (W1372 c) (W1373 c) (W1367 c)
def W1418 (c : Dev nD) : BitVec 32 := Scalar.muli (W1374 c) 512#32
def W1450 (c : Dev nD) : BitVec 32 := Scalar.subi (W2 c) 7#32
def W1451 (c : Dev nD) : BitVec 1 := Scalar.cmpi .eq 8#32 0#32
def W1452 (c : Dev nD) : BitVec 32 := Scalar.select (W1451 c) 1#32 8#32
def W1453 (c : Dev nD) : BitVec 32 := Scalar.remsi (W1450 c) (W1452 c)
def W1454 (c : Dev nD) : BitVec 1 := Scalar.cmpi .ne (W1453 c) 0#32
def W1455 (c : Dev nD) : BitVec 1 := Scalar.cmpi .slt (W1453 c) 0#32
def W1456 (c : Dev nD) : BitVec 1 := Scalar.cmpi .slt (W1452 c) 0#32
def W1457 (c : Dev nD) : BitVec 1 := Scalar.xori (W1455 c) (W1456 c)
def W1458 (c : Dev nD) : BitVec 1 := Scalar.andi (W1457 c) (W1454 c)
def W1459 (c : Dev nD) : BitVec 32 := Scalar.addi (W1453 c) (W1452 c)
def W1460 (c : Dev nD) : BitVec 32 := Scalar.select (W1458 c) (W1459 c) (W1453 c)
def W1488 (c : Dev nD) : BitVec 32 := Scalar.muli (W1460 c) 512#32
def W1553 (c : Dev nD) : BitVec 32 := Scalar.addi (W2 c) 1#32
def W1554 (c : Dev nD) : BitVec 1 := Scalar.cmpi .eq 8#32 0#32
def W1555 (c : Dev nD) : BitVec 32 := Scalar.select (W1554 c) 1#32 8#32
def W1556 (c : Dev nD) : BitVec 32 := Scalar.remsi (W1553 c) (W1555 c)
def W1557 (c : Dev nD) : BitVec 1 := Scalar.cmpi .ne (W1556 c) 0#32
def W1558 (c : Dev nD) : BitVec 1 := Scalar.cmpi .slt (W1556 c) 0#32
def W1559 (c : Dev nD) : BitVec 1 := Scalar.cmpi .slt (W1555 c) 0#32
def W1560 (c : Dev nD) : BitVec 1 := Scalar.xori (W1558 c) (W1559 c)
def W1654 (c : Dev nD) : BitVec 32 := Scalar.addi (W2 c) 3#32
def W1716 (c : Dev nD) : BitVec 32 := Scalar.addi (W2 c) 5#32
def W1744 (c : Dev nD) : BitVec 32 := Scalar.addi (W2 c) 5#32
def W1745 (c : Dev nD) : BitVec 1 := Scalar.cmpi .eq 8#32 0#32
def W1746 (c : Dev nD) : BitVec 32 := Scalar.select (W1745 c) 1#32 8#32
def W1747 (c : Dev nD) : BitVec 32 := Scalar.remsi (W1744 c) (W1746 c)
def W1806 (c : Dev nD) : BitVec 32 := Scalar.addi (W2 c) 7#32
def W1807 (c : Dev nD) : BitVec 1 := Scalar.cmpi .eq 8#32 0#32
def W1808 (c : Dev nD) : BitVec 32 := Scalar.select (W1807 c) 1#32 8#32
def W1809 (c : Dev nD) : BitVec 32 := Scalar.remsi (W1806 c) (W1808 c)
def W1834 (c : Dev nD) : BitVec 32 := Scalar.addi (W2 c) 7#32
def W1835 (c : Dev nD) : BitVec 1 := Scalar.cmpi .eq 8#32 0#32
def W1836 (c : Dev nD) : BitVec 32 := Scalar.select (W1835 c) 1#32 8#32
def W1837 (c : Dev nD) : BitVec 32 := Scalar.remsi (W1834 c) (W1836 c)
def W1838 (c : Dev nD) : BitVec 1 := Scalar.cmpi .ne (W1837 c) 0#32
def W1839 (c : Dev nD) : BitVec 1 := Scalar.cmpi .slt (W1837 c) 0#32
def W1840 (c : Dev nD) : BitVec 1 := Scalar.cmpi .slt (W1836 c) 0#32
def W1841 (c : Dev nD) : BitVec 1 := Scalar.xori (W1839 c) (W1840 c)

theorem cond_iff1 (c : Dev nD) : k0_cond1 c = 1#1 ↔ (0 : Fin 8) ≠ c := by revert c; decide
theorem cond_iff2 (c : Dev nD) : k0_cond2 c = 1#1 ↔ (1 : Fin 8) ≠ c := by revert c; decide
theorem cond_iff3 (c : Dev nD) : k0_cond3 c = 1#1 ↔ (2 : Fin 8) ≠ c := by revert c; decide
theorem cond_iff4 (c : Dev nD) : k0_cond4 c = 1#1 ↔ (3 : Fin 8) ≠ c := by revert c; decide
theorem cond_iff5 (c : Dev nD) : k0_cond5 c = 1#1 ↔ (4 : Fin 8) ≠ c := by revert c; decide
theorem cond_iff6 (c : Dev nD) : k0_cond6 c = 1#1 ↔ (5 : Fin 8) ≠ c := by revert c; decide
theorem cond_iff7 (c : Dev nD) : k0_cond7 c = 1#1 ↔ (6 : Fin 8) ≠ c := by revert c; decide
theorem cond_iff8 (c : Dev nD) : k0_cond8 c = 1#1 ↔ (7 : Fin 8) ≠ c := by revert c; decide
theorem off1_eq (c : Dev nD) : k0_off1 c = ![c.val, 0, 0, 0] := by revert c; decide
theorem off2_eq (c : Dev nD) : k0_off2 c = ![c.val, 0, 0, 0] := by revert c; decide
theorem off4_eq (c : Dev nD) : k0_off4 c = ![c.val, 0, 0, 0] := by revert c; decide
theorem off5_eq (c : Dev nD) : k0_off5 c = ![c.val, 0, 0, 0] := by revert c; decide
theorem off7_eq (c : Dev nD) : k0_off7 c 0#32 = ![c.val, 0, 0, 0] := by revert c; decide
theorem off7_eq0 (c : Dev nD) : k0_off7 c 0#32 = ![(c - 0 : Fin 8).val, 0, 0, 0] := by revert c; decide
theorem off7_eq1 (c : Dev nD) : k0_off7 c 1#32 = ![(c - 1 : Fin 8).val, 0, 0, 0] := by revert c; decide
theorem off7_eq2 (c : Dev nD) : k0_off7 c 2#32 = ![(c - 2 : Fin 8).val, 0, 0, 0] := by revert c; decide
theorem off7_eq3 (c : Dev nD) : k0_off7 c 3#32 = ![(c - 3 : Fin 8).val, 0, 0, 0] := by revert c; decide
theorem off7_eq4 (c : Dev nD) : k0_off7 c 4#32 = ![(c - 4 : Fin 8).val, 0, 0, 0] := by revert c; decide
theorem off7_eq5 (c : Dev nD) : k0_off7 c 5#32 = ![(c - 5 : Fin 8).val, 0, 0, 0] := by revert c; decide
theorem off7_eq6 (c : Dev nD) : k0_off7 c 6#32 = ![(c - 6 : Fin 8).val, 0, 0, 0] := by revert c; decide
theorem off7_eq7 (c : Dev nD) : k0_off7 c 7#32 = ![(c - 7 : Fin 8).val, 0, 0, 0] := by revert c; decide
theorem off6_eq1 (c : Dev nD) : k0_off6 c 1#32 = ![(c + 1 : Fin 8).val, 0, 0, 0] := by revert c; decide
theorem off6_eq2 (c : Dev nD) : k0_off6 c 2#32 = ![(c + 2 : Fin 8).val, 0, 0, 0] := by revert c; decide
theorem off6_eq3 (c : Dev nD) : k0_off6 c 3#32 = ![(c + 3 : Fin 8).val, 0, 0, 0] := by revert c; decide
theorem off6_eq4 (c : Dev nD) : k0_off6 c 4#32 = ![(c + 4 : Fin 8).val, 0, 0, 0] := by revert c; decide
theorem off6_eq5 (c : Dev nD) : k0_off6 c 5#32 = ![(c + 5 : Fin 8).val, 0, 0, 0] := by revert c; decide
theorem off6_eq6 (c : Dev nD) : k0_off6 c 6#32 = ![(c + 6 : Fin 8).val, 0, 0, 0] := by revert c; decide
theorem off6_eq7 (c : Dev nD) : k0_off6 c 7#32 = ![(c + 7 : Fin 8).val, 0, 0, 0] := by revert c; decide
theorem dev9_eq (c : Dev nD) : k0_dev9 c = (c + 1 : Fin 8).val := by revert c; decide
theorem dev16_eq (c : Dev nD) : k0_dev16 c = (c + 1 : Fin 8).val := by revert c; decide
theorem dev10_eq (c : Dev nD) : k0_dev10 c = (c + 2 : Fin 8).val := by revert c; decide
theorem dev17_eq (c : Dev nD) : k0_dev17 c = (c + 2 : Fin 8).val := by revert c; decide
theorem dev11_eq (c : Dev nD) : k0_dev11 c = (c + 3 : Fin 8).val := by revert c; decide
theorem dev18_eq (c : Dev nD) : k0_dev18 c = (c + 3 : Fin 8).val := by revert c; decide
theorem dev12_eq (c : Dev nD) : k0_dev12 c = (c + 4 : Fin 8).val := by revert c; decide
theorem dev19_eq (c : Dev nD) : k0_dev19 c = (c + 4 : Fin 8).val := by revert c; decide
theorem dev13_eq (c : Dev nD) : k0_dev13 c = (c + 5 : Fin 8).val := by revert c; decide
theorem dev20_eq (c : Dev nD) : k0_dev20 c = (c + 5 : Fin 8).val := by revert c; decide
theorem dev14_eq (c : Dev nD) : k0_dev14 c = (c + 6 : Fin 8).val := by revert c; decide
theorem dev21_eq (c : Dev nD) : k0_dev21 c = (c + 6 : Fin 8).val := by revert c; decide
theorem dev15_eq (c : Dev nD) : k0_dev15 c = (c + 7 : Fin 8).val := by revert c; decide
theorem dev22_eq (c : Dev nD) : k0_dev22 c = (c + 7 : Fin 8).val := by revert c; decide

variable (I : Inp F)

/-- What a device keeps for itself, in its place among the received rows. -/
theorem recv_own (c : Dev nD) {P : FVec F S1x8x64x512 .bf16} (h : P = DISP I c 0) (e : Fin 8) (r : Fin 64) (j : Fin 512) :
    RECV I c (i8x512 c e r j) = P (i1x512 e r j) := by
  subst h
  show DISP I c (c - c : Fin 8) _ = _
  rw [show (c - c : Fin 8) = 0 from by revert c; decide]
  rfl

end Cert.KernelIdeal.Moe
-- ==== Proof.Steps.lean ====
/-
  The loads and the stores of the kernel, buffer by buffer.
-/
module

public import Idealize.ShloMosaic.Lib.Pointwise.Reshape
public import proofs.«01_k».proof.Proof.Words

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (I : Inp F)

/-- A finished part hands its result on. -/
theorem wpc_ret (c : Dev nD) {α : Type} {Q : α → sProp 𝕄} {a : α} : Q a ⊢ wpc c (Prog.ret a) Q := le_wp_ret _ _ _ a Q

/-- The rows sent, before they are put in the form of slots. -/
def dispY (w : BitVec 32) (xs : Vec F S2048x512 .bf16) (sl : Vec F S2048x1 .i32) : FVec F S512x512 .bf16 :=
  truncf .bf16 (matmul dot_S2048x512_S2048x512_S512x512_0_0_1_1_n_n none
    (truncf .bf16 (sitofp .f32 (extui 32 (cmpi .eq
      (broadcastTo S2048x512 (shapeCast S2048x1 sl shapeCasts_S2048x1_S2048x1) broadcasts_S2048x1_S2048x512)
      (addi (iota .tc S2048x512 32 [1] iota_S2048x512_d1_w32) (broadcast S2048x512 (Scalar.muli w 512#32)))) natLt_1_32)) bitsLt_bf16_f32)
    xs (constant S512x512 .f32 0x00000000#32)) bitsLt_bf16_f32

theorem disp_once (w : BitVec 32) (xs : Vec F S2048x512 .bf16) (sl : Vec F S2048x1 .i32) :
    shapeCast S1x8x64x512 (shapeCast S1x8x64x512 (dispY w xs sl) shapeCasts_S512x512_S1x8x64x512) shapeCasts_S1x8x64x512_S1x8x64x512 = dispG w xs sl :=
  shapeCast_id _ _
theorem disp_twice (w : BitVec 32) (xs : Vec F S2048x512 .bf16) (sl : Vec F S2048x1 .i32) :
    shapeCast S1x8x64x512 (shapeCast S8x64x512 (dispY w xs sl) shapeCasts_S512x512_S8x64x512) shapeCasts_S8x64x512_S1x8x64x512 = dispG w xs sl :=
  shapeCast_comp _ _ _

/-- The end of a copy of an expert's weights. -/
theorem wait_ew' (K : GSem nD τ sig → ℕ) (c : Dev nD) {α : Type} {Q : α → sProp 𝕄} (b : Fin 2) (r : ℕ) (hr : r < 4) {el : Fin 8} (hel : elOf b r = el)
    {sp sp' : Space} {s s' : Shape} {e e' : EltTy} {sem : DmaSem sig} {src : Memref sig .tc sp s e} {dst : Memref sig .tc sp' s' e'}
    {hsrc : src.view.WordExact} {hdst : dst.view.WordExact}
    {k' : PUnit → Prog (TpuEff nD τ sig (Elt F) Λ₀ .tc) α}
    (hs : sem = dsem (.inr b)) (hamt : dst.view.dmaCredit = amtOf (.inr b)) :
    iprop(recs I K ∗ levAts L lv ∗ CR (F := F) c (.inr b) ∗ ow c (retL c 0) ∗ AT (F := F) c (.inr b) r)
      ⊢ iprop(((ow c (retL c 0) ∗ AT (F := F) c (.inr b) (r + 1) ∗ reached ER (cellC c (.inr b)) (r + 1) ∗ (ewP c b (EW I c el) ∗ wP c el (I.ew c))) -∗ wpc c (k' ⟨⟩) Q)
        -∗ wpc c (.op (.waitDma2 sem src dst hsrc hdst) k') Q) := by
  subst hel
  exact wait_ew I K c b r hr hs hamt

/-- A signal under its test: the test fails exactly on the device itself. -/
theorem sig_if (K : GSem nD τ sig → ℕ) (c j : Dev nD) {α : Type} {Q : α → sProp 𝕄} (l : List (GSem nD τ sig × ℕ))
    {p : Prop} [Decidable p] (hp : p ↔ j ≠ c) {dev : p → Dev nD} (hdev : ∀ h, dev h = j)
    {k : PUnit → Prog (TpuEff nD τ sig (Elt F) Λ₀ .tc) α} :
    iprop(recs I K ∗ ow c (sigO c j :: l) ∗ sigRes (F := F) c j)
      ⊢ iprop((ow c l -∗ wpc c (k ⟨⟩) Q) -∗ wpc c (dite p (fun h => .op (.semSignal (Dev.tc (dev h)) barS 1) k) (fun _ => k ⟨⟩)) Q) := by
  have h := sig_step I K c j (Q := Q) l hp hdev (A := fun h => .op (.semSignal (Dev.tc (dev h)) barS 1) .ret) (fun _ => rfl) (k := k)
  have e : (dite p (fun h => Prog.op (TpuEff.semSignal (Dev.tc (dev h)) barS 1) .ret) (fun _ => .ret ⟨⟩)).bind k
      = dite p (fun h => .op (.semSignal (Dev.tc (dev h)) barS 1) k) (fun _ => k ⟨⟩) := by
    by_cases hh : p
    · rw [dif_pos hh, dif_pos hh]; rfl
    · rw [dif_neg hh, dif_neg hh]; rfl
  rw [e] at h
  exact h

theorem wpc_ret' (c : Dev nD) {α : Type} {Q : α → sProp 𝕄} {a b : α} (h : a = b) : Q b ⊢ wpc c (Prog.ret a) Q := h ▸ wpc_ret c

theorem ld_all_x (c : Dev nD) {α : Type} {Q : α → sProp 𝕄}  {inb hl} {kk : Vec F S2048x512 .f32 → Prog (TpuEff nD τ sig (Elt F) Λ₀ .tc) α} :
    pt c cc0_stg0_0 Finset.univ (I.x c)
      ⊢ iprop((pt c cc0_stg0_0 Finset.univ (I.x c) -∗ wpc c (kk (I.x c)) Q)
        -∗ wpc c (.op (.load (Memref.whole cc0_stg0_0) (Rect.unit (s := S2048x512) ![0, 0] S2048x512.size inb).toLoadRect hl) kk) Q) :=
  ld (cs := .vmem) (i := 0) (hκ := rfl) (α := α) (Q := Q) (k := kk) c (r := Rect.unit (s := S2048x512) ![0, 0] S2048x512.size inb) (S := Finset.univ) (f := (I.x c)) (Finset.subset_univ _) (rd_full (s := S2048x512) _ _)

theorem ld_all_rw (c : Dev nD) {α : Type} {Q : α → sProp 𝕄}  {inb hl} {kk : Vec F S512x64 .f32 → Prog (TpuEff nD τ sig (Elt F) Λ₀ .tc) α} :
    pt c cc0_stg1_0 Finset.univ (I.rw c)
      ⊢ iprop((pt c cc0_stg1_0 Finset.univ (I.rw c) -∗ wpc c (kk (I.rw c)) Q)
        -∗ wpc c (.op (.load (Memref.whole cc0_stg1_0) (Rect.unit (s := S512x64) ![0, 0] S512x64.size inb).toLoadRect hl) kk) Q) :=
  ld (cs := .vmem) (i := 1) (hκ := rfl) (α := α) (Q := Q) (k := kk) c (r := Rect.unit (s := S512x64) ![0, 0] S512x64.size inb) (S := Finset.univ) (f := (I.rw c)) (Finset.subset_univ _) (rd_full (s := S512x64) _ _)

theorem ld_all_ri (c : Dev nD) {α : Type} {Q : α → sProp 𝕄}  {inb hl} {kk : Vec F S2048x1 .i32 → Prog (TpuEff nD τ sig (Elt F) Λ₀ .tc) α} :
    pt c cc0_stg2_0 Finset.univ (I.ri c)
      ⊢ iprop((pt c cc0_stg2_0 Finset.univ (I.ri c) -∗ wpc c (kk (I.ri c)) Q)
        -∗ wpc c (.op (.load (Memref.whole cc0_stg2_0) (Rect.unit (s := S2048x1) ![0, 0] S2048x1.size inb).toLoadRect hl) kk) Q) :=
  ld (cs := .vmem) (i := 2) (hκ := rfl) (α := α) (Q := Q) (k := kk) c (r := Rect.unit (s := S2048x1) ![0, 0] S2048x1.size inb) (S := Finset.univ) (f := (I.ri c)) (Finset.subset_univ _) (rd_full (s := S2048x1) _ _)

theorem ld_all_sl (c : Dev nD) {α : Type} {Q : α → sProp 𝕄}  {inb hl} {kk : Vec F S2048x1 .i32 → Prog (TpuEff nD τ sig (Elt F) Λ₀ .tc) α} :
    pt c cc0_stg3_0 Finset.univ (I.sl c)
      ⊢ iprop((pt c cc0_stg3_0 Finset.univ (I.sl c) -∗ wpc c (kk (I.sl c)) Q)
        -∗ wpc c (.op (.load (Memref.whole cc0_stg3_0) (Rect.unit (s := S2048x1) ![0, 0] S2048x1.size inb).toLoadRect hl) kk) Q) :=
  ld (cs := .vmem) (i := 3) (hκ := rfl) (α := α) (Q := Q) (k := kk) c (r := Rect.unit (s := S2048x1) ![0, 0] S2048x1.size inb) (S := Finset.univ) (f := (I.sl c)) (Finset.subset_univ _) (rd_full (s := S2048x1) _ _)

theorem ld_all_sw (c : Dev nD) {α : Type} {Q : α → sProp 𝕄}  {inb hl} {kk : Vec F S512x1024 .f32 → Prog (TpuEff nD τ sig (Elt F) Λ₀ .tc) α} :
    pt c cc0_stg4_0 Finset.univ (I.sw c)
      ⊢ iprop((pt c cc0_stg4_0 Finset.univ (I.sw c) -∗ wpc c (kk (I.sw c)) Q)
        -∗ wpc c (.op (.load (Memref.whole cc0_stg4_0) (Rect.unit (s := S512x1024) ![0, 0] S512x1024.size inb).toLoadRect hl) kk) Q) :=
  ld (cs := .vmem) (i := 4) (hκ := rfl) (α := α) (Q := Q) (k := kk) c (r := Rect.unit (s := S512x1024) ![0, 0] S512x1024.size inb) (S := Finset.univ) (f := (I.sw c)) (Finset.subset_univ _) (rd_full (s := S512x1024) _ _)

theorem ld_xs (c : Dev nD) {α : Type} {Q : α → sProp 𝕄} (f : Vec F S2048x512 .bf16) {inb hl} {kk : Vec F S2048x512 .bf16 → Prog (TpuEff nD τ sig (Elt F) Λ₀ .tc) α} :
    pt c cc0_scratch0 Finset.univ f
      ⊢ iprop((pt c cc0_scratch0 Finset.univ f -∗ wpc c (kk f) Q)
        -∗ wpc c (.op (.load (Memref.whole cc0_scratch0) (Rect.unit (s := S2048x512) ![0, 0] S2048x512.size inb).toLoadRect hl) kk) Q) :=
  ld (cs := .vmem) (i := 6) (hκ := rfl) (α := α) (Q := Q) (k := kk) c (r := Rect.unit (s := S2048x512) ![0, 0] S2048x512.size inb) (S := Finset.univ) (f := f) (Finset.subset_univ _) (rd_full (s := S2048x512) _ _)

theorem st_xs (c : Dev nD) {α : Type} {Q : α → sProp 𝕄} (f : Vec F S2048x512 .bf16) {w g : Vec F S2048x512 .bf16} (h : w = g) {inb hx hm} {kk : PUnit → Prog (TpuEff nD τ sig (Elt F) Λ₀ .tc) α} :
    pt c cc0_scratch0 Finset.univ f
      ⊢ iprop((pt c cc0_scratch0 Finset.univ g -∗ wpc c (kk ⟨⟩) Q)
        -∗ wpc c (.op (.store (Memref.whole cc0_scratch0) (Rect.unit (s := S2048x512) ![0, 0] S2048x512.size inb) w Finset.univ hx hm) kk) Q) :=
  st (cs := .vmem) (i := 6) (hκ := rfl) (α := α) (Q := Q) (k := kk) c (r := Rect.unit (s := S2048x512) ![0, 0] S2048x512.size inb) (w := w) (S := Finset.univ) (f := f) (g := g) (Finset.subset_univ _)
    (in_full (s := S2048x512) g h _)
    (fun x _ hx => absurd (out_full (s := S2048x512) _ x) hx)

theorem ld_recv (c : Dev nD) {α : Type} {Q : α → sProp 𝕄} (k : Fin 8) (f : Vec F S8x8x64x512 .bf16) {off : Fin 4 → ℕ} (h : off = ![k.val, 0, 0, 0]) {inb hl} {kk : Vec F S1x8x64x512 .bf16 → Prog (TpuEff nD τ sig (Elt F) Λ₀ .tc) α} :
    pt c cc0_scratch1 (sl512 k.val) f
      ⊢ iprop((pt c cc0_scratch1 (sl512 k.val) f -∗ wpc c (kk (fun p => f ((Rect.unit (s := S8x8x64x512) off S1x8x64x512.size inb).emb p))) Q)
        -∗ wpc c (.op (.load (Memref.whole cc0_scratch1) (Rect.unit (s := S8x8x64x512) off S1x8x64x512.size inb).toLoadRect hl) kk) Q) :=
  ld (cs := .vmem) (i := 7) (hκ := rfl) (α := α) (Q := Q) (k := kk) c (r := Rect.unit (s := S8x8x64x512) off S1x8x64x512.size inb) (S := (sl512 k.val)) (f := f) (le_of_eq (set_row512 h _)) rfl

theorem ld_d (c : Dev nD) {α : Type} {Q : α → sProp 𝕄} (k : Fin 8) (f : Vec F S8x8x64x512 .bf16) {off : Fin 4 → ℕ} (h : off = ![k.val, 0, 0, 0]) {inb hl} {kk : Vec F S1x8x64x512 .bf16 → Prog (TpuEff nD τ sig (Elt F) Λ₀ .tc) α} :
    pt c cc0_scratch5 (sl512 k.val) f
      ⊢ iprop((pt c cc0_scratch5 (sl512 k.val) f -∗ wpc c (kk (fun p => f ((Rect.unit (s := S8x8x64x512) off S1x8x64x512.size inb).emb p))) Q)
        -∗ wpc c (.op (.load (Memref.whole cc0_scratch5) (Rect.unit (s := S8x8x64x512) off S1x8x64x512.size inb).toLoadRect hl) kk) Q) :=
  ld (cs := .vmem) (i := 11) (hκ := rfl) (α := α) (Q := Q) (k := kk) c (r := Rect.unit (s := S8x8x64x512) off S1x8x64x512.size inb) (S := (sl512 k.val)) (f := f) (le_of_eq (set_row512 h _)) rfl

theorem st_recv (c : Dev nD) {α : Type} {Q : α → sProp 𝕄} (f : Vec F S8x8x64x512 .bf16) {w : Vec F S1x8x64x512 .bf16} {off : Fin 4 → ℕ} (h : off = ![c.val, 0, 0, 0]) (hw : w = DISP I c 0) {inb hx hm} {kk : PUnit → Prog (TpuEff nD τ sig (Elt F) Λ₀ .tc) α} :
    pt c cc0_scratch1 (sl512 c.val) f
      ⊢ iprop((pt c cc0_scratch1 (sl512 c.val) (RECV I c) -∗ wpc c (kk ⟨⟩) Q)
        -∗ wpc c (.op (.store (Memref.whole cc0_scratch1) (Rect.unit (s := S8x8x64x512) off S1x8x64x512.size inb) w Finset.univ hx hm) kk) Q) :=
  st (cs := .vmem) (i := 7) (hκ := rfl) (α := α) (Q := Q) (k := kk) c (r := Rect.unit (s := S8x8x64x512) off S1x8x64x512.size inb) (w := w) (S := (sl512 c.val)) (f := f) (g := (RECV I c)) (le_of_eq (set_row512 (k := c) h _))
    (in_slot512 (k := c) h _ _ (recv_own I c hw))
    (fun x hx hn => absurd ((set_row512 (k := c) h inb).symm ▸ hx) hn)

theorem st_d (c : Dev nD) {α : Type} {Q : α → sProp 𝕄} (k : Fin 8) (f : Vec F S8x8x64x512 .bf16) {w : Vec F S1x8x64x512 .bf16} {off : Fin 4 → ℕ} (h : off = ![k.val, 0, 0, 0]) (hw : w = DISP I c k) {inb hx hm} {kk : PUnit → Prog (TpuEff nD τ sig (Elt F) Λ₀ .tc) α} :
    pt c cc0_scratch5 (sl512 k.val) f
      ⊢ iprop((pt c cc0_scratch5 (sl512 k.val) (DD I c) -∗ wpc c (kk ⟨⟩) Q)
        -∗ wpc c (.op (.store (Memref.whole cc0_scratch5) (Rect.unit (s := S8x8x64x512) off S1x8x64x512.size inb) w Finset.univ hx hm) kk) Q) :=
  st (cs := .vmem) (i := 11) (hκ := rfl) (α := α) (Q := Q) (k := kk) c (r := Rect.unit (s := S8x8x64x512) off S1x8x64x512.size inb) (w := w) (S := (sl512 k.val)) (f := f) (g := (DD I c)) (le_of_eq (set_row512 (k := k) h _))
    (in_slot512 (k := k) h _ _ (fun e r j => by subst hw; rfl))
    (fun x hx hn => absurd ((set_row512 (k := k) h inb).symm ▸ hx) hn)

theorem ld_sl (c : Dev nD) {α : Type} {Q : α → sProp 𝕄} (b : Fin 4) {off : Fin 2 → ℕ} (h : off = ![512 * b.val, 0]) {inb hl} {kk : Vec F S512x1 .i32 → Prog (TpuEff nD τ sig (Elt F) Λ₀ .tc) α} :
    pt c cc0_stg3_0 Finset.univ (I.sl c)
      ⊢ iprop((pt c cc0_stg3_0 Finset.univ (I.sl c) -∗ wpc c (kk (slRow I c b)) Q)
        -∗ wpc c (.op (.load (Memref.whole cc0_stg3_0) (Rect.unit (s := S2048x1) off S512x1.size inb).toLoadRect hl) kk) Q) :=
  ld (cs := .vmem) (i := 3) (hκ := rfl) (α := α) (Q := Q) (k := kk) c (r := Rect.unit (s := S2048x1) off S512x1.size inb) (S := Finset.univ) (f := (I.sl c)) (Finset.subset_univ _) (rd_sl I c b h _)

theorem ld_x (c : Dev nD) {α : Type} {Q : α → sProp 𝕄} (b : Fin 4) {off : Fin 2 → ℕ} (h : off = ![512 * b.val, 0]) {inb hl} {kk : Vec F S512x512 .f32 → Prog (TpuEff nD τ sig (Elt F) Λ₀ .tc) α} :
    pt c cc0_stg0_0 Finset.univ (I.x c)
      ⊢ iprop((pt c cc0_stg0_0 Finset.univ (I.x c) -∗ wpc c (kk (xRow I c b)) Q)
        -∗ wpc c (.op (.load (Memref.whole cc0_stg0_0) (Rect.unit (s := S2048x512) off S512x512.size inb).toLoadRect hl) kk) Q) :=
  ld (cs := .vmem) (i := 0) (hκ := rfl) (α := α) (Q := Q) (k := kk) c (r := Rect.unit (s := S2048x512) off S512x512.size inb) (S := Finset.univ) (f := (I.x c)) (Finset.subset_univ _) (rd_x I c b h _)

theorem ld_o (c : Dev nD) {α : Type} {Q : α → sProp 𝕄} (p : Fin 4 → Vec F S512x1024 .f32) (b : Fin 4) {v : Vec F S512x1024 .f32} (hv : p b = v) {off : Fin 2 → ℕ} (h : off = ![512 * b.val, 0]) {inb hl} {kk : Vec F S512x1024 .f32 → Prog (TpuEff nD τ sig (Elt F) Λ₀ .tc) α} :
    pt c cc0_stg5_0 Finset.univ (glue p)
      ⊢ iprop((pt c cc0_stg5_0 Finset.univ (glue p) -∗ wpc c (kk v) Q)
        -∗ wpc c (.op (.load (Memref.whole cc0_stg5_0) (Rect.unit (s := S2048x1024) off S512x1024.size inb).toLoadRect hl) kk) Q) :=
  ld (cs := .vmem) (i := 5) (hκ := rfl) (α := α) (Q := Q) (k := kk) c (r := Rect.unit (s := S2048x1024) off S512x1024.size inb) (S := Finset.univ) (f := (glue p)) (Finset.subset_univ _) (rd_o p b h _ hv)

theorem st_o (c : Dev nD) {α : Type} {Q : α → sProp 𝕄} (p p' : Fin 4 → Vec F S512x1024 .f32) (b : Fin 4) {w : Vec F S512x1024 .f32} (hw : w = p' b) (hp : ∀ b', b' ≠ b → p' b' = p b') {off : Fin 2 → ℕ} (h : off = ![512 * b.val, 0]) {inb hx hm} {kk : PUnit → Prog (TpuEff nD τ sig (Elt F) Λ₀ .tc) α} :
    pt c cc0_stg5_0 Finset.univ (glue p)
      ⊢ iprop((pt c cc0_stg5_0 Finset.univ (glue p') -∗ wpc c (kk ⟨⟩) Q)
        -∗ wpc c (.op (.store (Memref.whole cc0_stg5_0) (Rect.unit (s := S2048x1024) off S512x1024.size inb) w Finset.univ hx hm) kk) Q) :=
  st (cs := .vmem) (i := 5) (hκ := rfl) (α := α) (Q := Q) (k := kk) c (r := Rect.unit (s := S2048x1024) off S512x1024.size inb) (w := w) (S := Finset.univ) (f := (glue p)) (g := (glue p')) (Finset.subset_univ _)
    (in_o p' b h _ hw)
    (fun x _ hx => out_o p p' b hp h inb x hx)

theorem ld_rows (c : Dev nD) {α : Type} {Q : α → sProp 𝕄} (el : Fin 8) {off : Fin 4 → ℕ} (h : off = ![0, el.val, 0, 0]) {inb hl} {kk : Vec F S8x1x64x512 .bf16 → Prog (TpuEff nD τ sig (Elt F) Λ₀ .tc) α} :
    pt c cc0_scratch1 Finset.univ (RECV I c)
      ⊢ iprop((pt c cc0_scratch1 Finset.univ (RECV I c) -∗ wpc c (kk (rowsE I c el)) Q)
        -∗ wpc c (.op (.load (Memref.whole cc0_scratch1) (Rect.unit (s := S8x8x64x512) off S8x1x64x512.size inb).toLoadRect hl) kk) Q) :=
  ld (cs := .vmem) (i := 7) (hκ := rfl) (α := α) (Q := Q) (k := kk) c (r := Rect.unit (s := S8x8x64x512) off S8x1x64x512.size inb) (S := Finset.univ) (f := (RECV I c)) (Finset.subset_univ _) (rd_rows I c el h _)

theorem ld_wts (c : Dev nD) {α : Type} {Q : α → sProp 𝕄} (el : Fin 8) (b : Fin 2) {off : Fin 3 → ℕ} (h : off = ![b.val, 0, 0]) {inb hl} {kk : Vec F S1x512x1024 .f32 → Prog (TpuEff nD τ sig (Elt F) Λ₀ .tc) α} :
    pt c cc0_scratch4 (slE b.val) (EW I c el)
      ⊢ iprop((pt c cc0_scratch4 (slE b.val) (EW I c el) -∗ wpc c (kk (wtsE I c el)) Q)
        -∗ wpc c (.op (.load (Memref.whole cc0_scratch4) (Rect.unit (s := S2x512x1024) off S1x512x1024.size inb).toLoadRect hl) kk) Q) :=
  ld (cs := .vmem) (i := 10) (hκ := rfl) (α := α) (Q := Q) (k := kk) c (r := Rect.unit (s := S2x512x1024) off S1x512x1024.size inb) (S := (slE b.val)) (f := (EW I c el)) (le_of_eq (set_ebuf (b := b) h _)) (rd_wts I c el (b := b) h _)

theorem ld_col (c : Dev nD) {α : Type} {Q : α → sProp 𝕄} (f : Vec F S8x8x64x1024 .bf16) {off : Fin 4 → ℕ} {inb hl} {kk : Vec F S8x1x64x1024 .bf16 → Prog (TpuEff nD τ sig (Elt F) Λ₀ .tc) α} :
    pt c cc0_scratch2 Finset.univ f
      ⊢ iprop((pt c cc0_scratch2 Finset.univ f -∗ wpc c (kk (fun p => f ((Rect.unit (s := S8x8x64x1024) off S8x1x64x1024.size inb).emb p))) Q)
        -∗ wpc c (.op (.load (Memref.whole cc0_scratch2) (Rect.unit (s := S8x8x64x1024) off S8x1x64x1024.size inb).toLoadRect hl) kk) Q) :=
  ld (cs := .vmem) (i := 8) (hκ := rfl) (α := α) (Q := Q) (k := kk) c (r := Rect.unit (s := S8x8x64x1024) off S8x1x64x1024.size inb) (S := Finset.univ) (f := f) (Finset.subset_univ _) rfl

theorem st_col0 (c : Dev nD) {α : Type} {Q : α → sProp 𝕄} (f : Vec F S8x8x64x1024 .bf16) (el : Fin 8) {w : Vec F S8x1x64x1024 .bf16} (hw : w = YE I c el) {off : Fin 4 → ℕ} (h : off = ![0, el.val, 0, 0]) {inb hx hm} {kk : PUnit → Prog (TpuEff nD τ sig (Elt F) Λ₀ .tc) α} :
    pt c cc0_scratch2 Finset.univ (YN I c f el.val)
      ⊢ iprop((pt c cc0_scratch2 Finset.univ (YN I c f (el.val + 1)) -∗ wpc c (kk ⟨⟩) Q)
        -∗ wpc c (.op (.store (Memref.whole cc0_scratch2) (Rect.unit (s := S8x8x64x1024) off S8x1x64x1024.size inb) w Finset.univ hx hm) kk) Q) :=
  st (cs := .vmem) (i := 8) (hκ := rfl) (α := α) (Q := Q) (k := kk) c (r := Rect.unit (s := S8x8x64x1024) off S8x1x64x1024.size inb) (w := w) (S := Finset.univ) (f := (YN I c f el.val)) (g := (YN I c f (el.val + 1))) (Finset.subset_univ _)
    (in_col I c f el h _ hw)
    (fun x _ hx => out_col I c f el h inb x hx)

theorem st_col (c : Dev nD) {α : Type} {Q : α → sProp 𝕄} (f : Vec F S8x8x64x1024 .bf16) (el : Fin 8) (n m : ℕ) (hn : el.val = n) (hm : el.val + 1 = m)
    {w : Vec F S8x1x64x1024 .bf16} (hw : w = YE I c el) {off : Fin 4 → ℕ} (h : off = ![0, el.val, 0, 0]) {inb hx hm'} {kk : PUnit → Prog (TpuEff nD τ sig (Elt F) Λ₀ .tc) α} :
    pt c cc0_scratch2 Finset.univ (YN I c f n)
      ⊢ iprop((pt c cc0_scratch2 Finset.univ (YN I c f m) -∗ wpc c (kk ⟨⟩) Q)
        -∗ wpc c (.op (.store (Memref.whole cc0_scratch2) (Rect.unit (s := S8x8x64x1024) off S8x1x64x1024.size inb) w Finset.univ hx hm') kk) Q) := by
  subst hn hm
  exact st_col0 I c f el hw h

theorem ld_y (c : Dev nD) {α : Type} {Q : α → sProp 𝕄} {off : Fin 4 → ℕ} (h : off = ![c.val, 0, 0, 0]) {inb hl} {kk : Vec F S1x8x64x1024 .bf16 → Prog (TpuEff nD τ sig (Elt F) Λ₀ .tc) α} :
    pt c cc0_scratch2 Finset.univ (YY I c)
      ⊢ iprop((pt c cc0_scratch2 Finset.univ (YY I c) -∗ wpc c (kk (resB I c c)) Q)
        -∗ wpc c (.op (.load (Memref.whole cc0_scratch2) (Rect.unit (s := S8x8x64x1024) off S1x8x64x1024.size inb).toLoadRect hl) kk) Q) :=
  ld (cs := .vmem) (i := 8) (hκ := rfl) (α := α) (Q := Q) (k := kk) c (r := Rect.unit (s := S8x8x64x1024) off S1x8x64x1024.size inb) (S := Finset.univ) (f := (YY I c)) (Finset.subset_univ _) (rd_y I c h _)

theorem ld_own (c : Dev nD) {α : Type} {Q : α → sProp 𝕄} (f : Vec F S8x8x64x1024 .bf16) {off : Fin 4 → ℕ} (h : off = ![c.val, 0, 0, 0]) {inb hl} {kk : Vec F S1x8x64x1024 .bf16 → Prog (TpuEff nD τ sig (Elt F) Λ₀ .tc) α} :
    pt c cc0_scratch3 (sl1024 c.val) f
      ⊢ iprop((pt c cc0_scratch3 (sl1024 c.val) f -∗ wpc c (kk (fun p => f ((Rect.unit (s := S8x8x64x1024) off S1x8x64x1024.size inb).emb p))) Q)
        -∗ wpc c (.op (.load (Memref.whole cc0_scratch3) (Rect.unit (s := S8x8x64x1024) off S1x8x64x1024.size inb).toLoadRect hl) kk) Q) :=
  ld (cs := .vmem) (i := 9) (hκ := rfl) (α := α) (Q := Q) (k := kk) c (r := Rect.unit (s := S8x8x64x1024) off S1x8x64x1024.size inb) (S := (sl1024 c.val)) (f := f) (le_of_eq (set_row1024 (k := c) h _)) rfl

theorem st_own (c : Dev nD) {α : Type} {Q : α → sProp 𝕄} (f : Vec F S8x8x64x1024 .bf16) {w : Vec F S1x8x64x1024 .bf16} {off : Fin 4 → ℕ} (h : off = ![c.val, 0, 0, 0]) (hw : w = resB I c c) {inb hx hm} {kk : PUnit → Prog (TpuEff nD τ sig (Elt F) Λ₀ .tc) α} :
    pt c cc0_scratch3 (sl1024 c.val) f
      ⊢ iprop((pt c cc0_scratch3 (sl1024 c.val) (RES I c) -∗ wpc c (kk ⟨⟩) Q)
        -∗ wpc c (.op (.store (Memref.whole cc0_scratch3) (Rect.unit (s := S8x8x64x1024) off S1x8x64x1024.size inb) w Finset.univ hx hm) kk) Q) :=
  st (cs := .vmem) (i := 9) (hκ := rfl) (α := α) (Q := Q) (k := kk) c (r := Rect.unit (s := S8x8x64x1024) off S1x8x64x1024.size inb) (w := w) (S := (sl1024 c.val)) (f := f) (g := (RES I c)) (le_of_eq (set_row1024 (k := c) h _))
    (in_slot1024 (k := c) h _ _ (fun e r j => by subst hw; rfl))
    (fun x hx hn => absurd ((set_row1024 (k := c) h inb).symm ▸ hx) hn)

theorem ld_res (c : Dev nD) {α : Type} {Q : α → sProp 𝕄} (d d' : Fin 8) {off : Fin 4 → ℕ} (h' : off = ![d'.val, 0, 0, 0]) (h : off = ![d.val, 0, 0, 0]) {inb hl} {kk : Vec F S1x8x64x1024 .bf16 → Prog (TpuEff nD τ sig (Elt F) Λ₀ .tc) α} :
    pt c cc0_scratch3 (sl1024 d'.val) (RES I c)
      ⊢ iprop((pt c cc0_scratch3 (sl1024 d'.val) (RES I c) -∗ wpc c (kk (resB I c d)) Q)
        -∗ wpc c (.op (.load (Memref.whole cc0_scratch3) (Rect.unit (s := S8x8x64x1024) off S1x8x64x1024.size inb).toLoadRect hl) kk) Q) :=
  ld (cs := .vmem) (i := 9) (hκ := rfl) (α := α) (Q := Q) (k := kk) c (r := Rect.unit (s := S8x8x64x1024) off S1x8x64x1024.size inb) (S := (sl1024 d'.val)) (f := (RES I c)) (le_of_eq (set_row1024 (k := d') h' _)) (rd_res I c d h _)

end Cert.KernelIdeal.Moe
-- ==== Proof.PartsA.lean ====
/-
  The first parts of the kernel: the handshake, the routing and the sending of the rows.
-/
module

public import proofs.«01_k».proof.Proof.Steps

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (I : Inp F)

theorem part1 (K : GSem nD τ sig → ℕ) (c : Dev nD) {Q : (Σ' (d0 : Dev nD) (v2 : BitVec 32) (v9 : Sems sig S_), BitVec 32) → sProp 𝕄} :
    iprop(recs I K ∗ levAts L lv ∗ wP c 0 (I.ew c) ∗ (∃ f, ewP (F := F) c 0 f) ∗ dutyTok ER (ewC c 0) 0 0 ∗ reached ER (ewC c 0) 0 ∗ ow (F := F) c (sigL c 0) ∗ sigRes (F := F) c (0 : Fin 8) ∗ sigRes (F := F) c (1 : Fin 8) ∗ sigRes (F := F) c (2 : Fin 8) ∗ sigRes (F := F) c (3 : Fin 8) ∗ sigRes (F := F) c (4 : Fin 8) ∗ sigRes (F := F) c (5 : Fin 8))
      ⊢ iprop(((CR (F := F) c (.inr 0) ∗ ow (F := F) c (sigL c 6)) -∗ Q ⟨c, (W2 c), (SemArray.scalar (sig.barrier 0 rfl)), (W29 c)⟩)
        -∗ wpc c (k0_part1 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 ) Q) := by
  simp only [k0_part1_eq_skeleton, k0_part1_skel, semSignalWord, semWaitWord, Prog.lift, Prog.bind_op, Prog.bind_ret, Prog.pure_eq_ret, Prog.bind_assoc, wp_deviceId]
  iintro ⟨#Hrec, #Hlev, W0, B0, TE00, RE0, HO, S0, S1, S2, S3, S4, S5⟩ Hk
  iapply (copy_ew I K c 0 0 (by decide) (el := 0) rfl rfl rfl rfl) $$ [W0 B0 TE00 RE0]
  · isplitr; · iexact Hrec
    isplitl [W0]; · iexact W0
    isplitl [B0]; · iexact B0
    isplitl [TE00]; · iexact TE00
    iexact RE0
  iintro CE0
  iapply (sig_if I K c (0 : Fin 8) (sigL c 1) (cond_iff1 c) (fun h => (rfl : (⟨k0_dev1, k0_dev1_lt c h⟩ : Dev nD) = (0 : Fin 8)))) $$ [HO S0]
  · isplitr; · iexact Hrec
    isplitl [HO]; · iexact HO
    iexact S0
  iintro HO
  iapply (sig_if I K c (1 : Fin 8) (sigL c 2) (cond_iff2 c) (fun h => (rfl : (⟨k0_dev2, k0_dev2_lt c h⟩ : Dev nD) = (1 : Fin 8)))) $$ [HO S1]
  · isplitr; · iexact Hrec
    isplitl [HO]; · iexact HO
    iexact S1
  iintro HO
  iapply (sig_if I K c (2 : Fin 8) (sigL c 3) (cond_iff3 c) (fun h => (rfl : (⟨k0_dev3, k0_dev3_lt c h⟩ : Dev nD) = (2 : Fin 8)))) $$ [HO S2]
  · isplitr; · iexact Hrec
    isplitl [HO]; · iexact HO
    iexact S2
  iintro HO
  iapply (sig_if I K c (3 : Fin 8) (sigL c 4) (cond_iff4 c) (fun h => (rfl : (⟨k0_dev4, k0_dev4_lt c h⟩ : Dev nD) = (3 : Fin 8)))) $$ [HO S3]
  · isplitr; · iexact Hrec
    isplitl [HO]; · iexact HO
    iexact S3
  iintro HO
  iapply (sig_if I K c (4 : Fin 8) (sigL c 5) (cond_iff5 c) (fun h => (rfl : (⟨k0_dev5, k0_dev5_lt c h⟩ : Dev nD) = (4 : Fin 8)))) $$ [HO S4]
  · isplitr; · iexact Hrec
    isplitl [HO]; · iexact HO
    iexact S4
  iintro HO
  iapply (sig_if I K c (5 : Fin 8) (sigL c 6) (cond_iff6 c) (fun h => (rfl : (⟨k0_dev6, k0_dev6_lt c h⟩ : Dev nD) = (5 : Fin 8)))) $$ [HO S5]
  · isplitr; · iexact Hrec
    isplitl [HO]; · iexact HO
    iexact S5
  iintro HO
  iapply (wpc_ret' c (α := (Σ' (d0 : Dev nD) (v2 : BitVec 32) (v9 : Sems sig S_), BitVec 32)) (b := ⟨c, (W2 c), (SemArray.scalar (sig.barrier 0 rfl)), (W29 c)⟩) rfl)
  iapply Hk
  isplitl [CE0]; · iexact CE0
  iexact HO

theorem part2 (K : GSem nD τ sig → ℕ) (c : Dev nD) {Q : (PUnit) → sProp 𝕄} :
    iprop(recs I K ∗ levAts L lv ∗ ow (F := F) c (sigL c 6) ∗ sigRes (F := F) c (6 : Fin 8) ∗ sigRes (F := F) c (7 : Fin 8) ∗ pt c cc0_stg0_0 Finset.univ (I.x c) ∗ pt c cc0_stg1_0 Finset.univ (I.rw c) ∗ pt c cc0_stg2_0 Finset.univ (I.ri c) ∗ (∃ f, pt c cc0_scratch0 Finset.univ f) ∗ cred (tallyAt (barC c) () 7) ∗ atPos ER (barC c) 0 ∅ 0)
      ⊢ iprop(((ow (F := F) c (dispL c 0) ∗ pt c cc0_stg0_0 Finset.univ (I.x c) ∗ pt c cc0_stg1_0 Finset.univ (I.rw c) ∗ pt c cc0_stg2_0 Finset.univ (I.ri c) ∗ pt c cc0_scratch0 Finset.univ (XS I c) ∗ atPos ER (barC c) 1 ∅ 0 ∗ (bigSep (Finset.univ.erase 0) (fun d => barPay (F := F) c d))) -∗ Q ⟨⟩)
        -∗ wpc c (k0_part2 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 c (W2 c) (SemArray.scalar (sig.barrier 0 rfl)) (W29 c)) Q) := by
  simp only [k0_part2_eq_skeleton, k0_part2_skel, semSignalWord, semWaitWord, Prog.lift, Prog.bind_op, Prog.bind_ret, Prog.pure_eq_ret, Prog.bind_assoc]
  iintro ⟨#Hrec, #Hlev, HO, S6, S7, H0, H1, H2, H7, Cbar, Abar⟩ Hk
  iapply (sig_if I K c (6 : Fin 8) (sigL c 7) (cond_iff7 c) (fun h => (rfl : (⟨k0_dev7, k0_dev7_lt c h⟩ : Dev nD) = (6 : Fin 8)))) $$ [HO S6]
  · isplitr; · iexact Hrec
    isplitl [HO]; · iexact HO
    iexact S6
  iintro HO
  iapply (sig_if I K c (7 : Fin 8) (dispL c 0) (cond_iff8 c) (fun h => (rfl : (⟨k0_dev8, k0_dev8_lt c h⟩ : Dev nD) = (7 : Fin 8)))) $$ [HO S7]
  · isplitr; · iexact Hrec
    isplitl [HO]; · iexact HO
    iexact S7
  iintro HO
  iapply (ld_all_x I c) $$ H0
  iintro H0
  iapply (ld_all_rw I c) $$ H1
  iintro H1
  iapply (ld_all_ri I c) $$ H2
  iintro H2
  iapply (ld_all_x I c) $$ H0
  iintro H0
  icases H7 with ⟨%f7, H7⟩
  iapply (ld_xs c f7) $$ H7
  iintro H7
  iapply (st_xs c f7 (g := XS I c) rfl) $$ H7
  iintro H7
  iapply (wait_bar I K c (dispL c 0) (above_dispL c 0 2 (by decide))) $$ [Cbar HO Abar]
  · isplitr; · iexact Hrec
    isplitr; · iexact Hlev
    isplitl [Cbar]; · iexact Cbar
    isplitl [HO]; · iexact HO
    iexact Abar
  iintro ⟨HO, Abar, Pbar⟩
  iapply (wpc_ret' c (α := (PUnit)) (b := ⟨⟩) rfl)
  iapply Hk
  isplitl [HO]; · iexact HO
  isplitl [H0]; · iexact H0
  isplitl [H1]; · iexact H1
  isplitl [H2]; · iexact H2
  isplitl [H7]; · iexact H7
  isplitl [Abar]; · iexact Abar
  iexact Pbar

theorem w_p3_3 (c : Dev nD) : (let v65 : BitVec 32 := Scalar.addi (W2 c) 0#32; let v66 : BitVec 1 := Scalar.cmpi .eq 8#32 0#32; let v67 : BitVec 32 := Scalar.select v66 1#32 8#32; let v68 : BitVec 32 := Scalar.remsi v65 v67; let v69 : BitVec 1 := Scalar.cmpi .ne v68 0#32; let v70 : BitVec 1 := Scalar.cmpi .slt v68 0#32; let v71 : BitVec 1 := Scalar.cmpi .slt v67 0#32; let v72 : BitVec 1 := Scalar.xori v70 v71; let v73 : BitVec 1 := Scalar.andi v72 v69; let v74 : BitVec 32 := Scalar.addi v68 v67; let v75 : BitVec 32 := Scalar.select v73 v74 v68; v75 : BitVec 32) = wUp c 0 := by revert c; decide

theorem p3_3 (c : Dev nD) : (k0_pay2 (W2 c) (XS I c) (I.sl c)) = DISP I c 0 := by
  rw [DISP, ← w_p3_3 c]
  exact disp_once _ _ _

theorem part3 (c : Dev nD) {Q : (Σ' (v64 : Vec F S2048x512 .bf16) (v96 : BitVec 32) (v97 : BitVec 32) (v98 : BitVec 1), BitVec 1) → sProp 𝕄} :
    iprop(pt c cc0_scratch0 Finset.univ (XS I c) ∗ pt c cc0_stg3_0 Finset.univ (I.sl c) ∗ (∃ f, recvP (F := F) c c f))
      ⊢ iprop(((pt c cc0_scratch0 Finset.univ (XS I c) ∗ pt c cc0_stg3_0 Finset.univ (I.sl c) ∗ recvP c c (RECV I c)) -∗ Q ⟨(XS I c), (W96 c), (W97 c), (W98 c), (W101 c)⟩)
        -∗ wpc c (k0_part3 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 c (W2 c)) Q) := by
  simp only [k0_part3_eq_skeleton, k0_part3_skel, semSignalWord, semWaitWord, Prog.lift, Prog.bind_op, Prog.bind_ret, Prog.pure_eq_ret, Prog.bind_assoc]
  iintro ⟨H7, H3, HoR⟩ Hk
  iapply (ld_xs c (XS I c)) $$ H7
  iintro H7
  iapply (ld_all_sl I c) $$ H3
  iintro H3
  icases HoR with ⟨%f8, HoR⟩
  iapply (ld_recv c c f8 (off1_eq c)) $$ HoR
  iintro HoR
  iapply (st_recv I c f8 (off1_eq c) (p3_3 I c)) $$ HoR
  iintro HoR
  iapply (wpc_ret' c (α := (Σ' (v64 : Vec F S2048x512 .bf16) (v96 : BitVec 32) (v97 : BitVec 32) (v98 : BitVec 1), BitVec 1)) (b := ⟨(XS I c), (W96 c), (W97 c), (W98 c), (W101 c)⟩) rfl)
  iapply Hk
  isplitl [H7]; · iexact H7
  isplitl [H3]; · iexact H3
  iexact HoR

theorem w_p4_2 (c : Dev nD) : (let v102 : BitVec 1 := Scalar.andi (W101 c) (W98 c); let v103 : BitVec 32 := Scalar.addi (W97 c) (W96 c); let v104 : BitVec 32 := Scalar.select v102 v103 (W97 c); v104 : BitVec 32) = wUp c 1 := by revert c; decide

theorem p4_2 (c : Dev nD) : (k0_pay3 (XS I c) (W96 c) (W97 c) (W98 c) (W101 c) (I.sl c)) = DISP I c 1 := by
  rw [DISP, ← w_p4_2 c]
  exact (Eq.trans (b := shapeCast S1x8x64x512 (shapeCast S8x64x512 (dispY (let v102 : BitVec 1 := Scalar.andi (W101 c) (W98 c); let v103 : BitVec 32 := Scalar.addi (W97 c) (W96 c); let v104 : BitVec 32 := Scalar.select v102 v103 (W97 c); v104 : BitVec 32) (XS I c) (I.sl c)) shapeCasts_S512x512_S8x64x512) shapeCasts_S8x64x512_S1x8x64x512) rfl (disp_twice _ _ _))

theorem part4 (K : GSem nD τ sig → ℕ) (c : Dev nD) {Q : (Σ' (v134 : BitVec 32) (v135 : BitVec 32), BitVec 32) → sProp 𝕄} :
    iprop(recs I K ∗ levAts L lv ∗ pt c cc0_stg3_0 Finset.univ (I.sl c) ∗ (∃ f, dP (F := F) c 1 f) ∗ TD (F := F) c 1 ∗ BD (F := F) c 1 ∗ ow (F := F) c (dispL c 0))
      ⊢ iprop(((pt c cc0_stg3_0 Finset.univ (I.sl c) ∗ ow (F := F) c (dispL c 1) ∗ CR (F := F) c (.inl (0, 1))) -∗ Q ⟨(W134 c), (W135 c), 0#32⟩)
        -∗ wpc c (k0_part4 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 c (W2 c) (XS I c) (W96 c) (W97 c) (W98 c) (W101 c)) Q) := by
  simp only [k0_part4_eq_skeleton, k0_part4_skel, semSignalWord, semWaitWord, Prog.lift, Prog.bind_op, Prog.bind_ret, Prog.pure_eq_ret, Prog.bind_assoc]
  iintro ⟨#Hrec, #Hlev, H3, D1, TD1, BD1, HO⟩ Hk
  iapply (ld_all_sl I c) $$ H3
  iintro H3
  icases D1 with ⟨%fd, D1⟩
  iapply (ld_d c 1 fd rfl) $$ D1
  iintro D1
  iapply (st_d I c 1 fd rfl (p4_2 I c)) $$ D1
  iintro D1
  iapply (disp I K c 1 (by decide) (l := (dispL c 1)) rfl (Fin.ext (dev9_eq c)) rfl (off2_eq c) rfl rfl) $$ [D1 TD1 BD1 HO]
  · isplitr; · iexact Hrec
    isplitl [D1]; · iexact D1
    isplitl [TD1]; · iexact TD1
    isplitl [BD1]; · iexact BD1
    iexact HO
  iintro ⟨C01, HO⟩
  iapply (wpc_ret' c (α := (Σ' (v134 : BitVec 32) (v135 : BitVec 32), BitVec 32)) (b := ⟨(W134 c), (W135 c), 0#32⟩) rfl)
  iapply Hk
  isplitl [H3]; · iexact H3
  isplitl [HO]; · iexact HO
  iexact C01

theorem w_p5_2 (c : Dev nD) : (let v136 : BitVec 1 := Scalar.cmpi .ne (W135 c) 0#32; let v137 : BitVec 1 := Scalar.cmpi .slt (W135 c) 0#32; let v138 : BitVec 1 := Scalar.cmpi .slt (W134 c) 0#32; let v139 : BitVec 1 := Scalar.xori v137 v138; let v140 : BitVec 1 := Scalar.andi v139 v136; let v141 : BitVec 32 := Scalar.addi (W135 c) (W134 c); let v142 : BitVec 32 := Scalar.select v140 v141 (W135 c); v142 : BitVec 32) = wUp c 2 := by revert c; decide

theorem p5_2 (c : Dev nD) : (k0_pay4 (XS I c) (W134 c) (W135 c) 0#32 (I.sl c)) = DISP I c 2 := by
  rw [DISP, ← w_p5_2 c]
  exact (Eq.trans (b := shapeCast S1x8x64x512 (shapeCast S8x64x512 (dispY (let v136 : BitVec 1 := Scalar.cmpi .ne (W135 c) 0#32; let v137 : BitVec 1 := Scalar.cmpi .slt (W135 c) 0#32; let v138 : BitVec 1 := Scalar.cmpi .slt (W134 c) 0#32; let v139 : BitVec 1 := Scalar.xori v137 v138; let v140 : BitVec 1 := Scalar.andi v139 v136; let v141 : BitVec 32 := Scalar.addi (W135 c) (W134 c); let v142 : BitVec 32 := Scalar.select v140 v141 (W135 c); v142 : BitVec 32) (XS I c) (I.sl c)) shapeCasts_S512x512_S8x64x512) shapeCasts_S8x64x512_S1x8x64x512) rfl (disp_twice _ _ _))

theorem part5 (K : GSem nD τ sig → ℕ) (c : Dev nD) {Q : (Σ' (v170 : BitVec 32), BitVec 32) → sProp 𝕄} :
    iprop(recs I K ∗ levAts L lv ∗ pt c cc0_stg3_0 Finset.univ (I.sl c) ∗ (∃ f, dP (F := F) c 2 f) ∗ TD (F := F) c 2 ∗ BD (F := F) c 2 ∗ ow (F := F) c (dispL c 1))
      ⊢ iprop(((pt c cc0_stg3_0 Finset.univ (I.sl c) ∗ ow (F := F) c (dispL c 2) ∗ CR (F := F) c (.inl (0, 2))) -∗ Q ⟨(W170 c), 8#32⟩)
        -∗ wpc c (k0_part5 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 c (W2 c) (XS I c) (W134 c) (W135 c) 0#32) Q) := by
  simp only [k0_part5_eq_skeleton, k0_part5_skel, semSignalWord, semWaitWord, Prog.lift, Prog.bind_op, Prog.bind_ret, Prog.pure_eq_ret, Prog.bind_assoc]
  iintro ⟨#Hrec, #Hlev, H3, D2, TD2, BD2, HO⟩ Hk
  iapply (ld_all_sl I c) $$ H3
  iintro H3
  icases D2 with ⟨%fd, D2⟩
  iapply (ld_d c 2 fd rfl) $$ D2
  iintro D2
  iapply (st_d I c 2 fd rfl (p5_2 I c)) $$ D2
  iintro D2
  iapply (disp I K c 2 (by decide) (l := (dispL c 2)) rfl (Fin.ext (dev10_eq c)) rfl (off2_eq c) rfl rfl) $$ [D2 TD2 BD2 HO]
  · isplitr; · iexact Hrec
    isplitl [D2]; · iexact D2
    isplitl [TD2]; · iexact TD2
    isplitl [BD2]; · iexact BD2
    iexact HO
  iintro ⟨C02, HO⟩
  iapply (wpc_ret' c (α := (Σ' (v170 : BitVec 32), BitVec 32)) (b := ⟨(W170 c), 8#32⟩) rfl)
  iapply Hk
  isplitl [H3]; · iexact H3
  isplitl [HO]; · iexact HO
  iexact C02

theorem w_p6_2 (c : Dev nD) : (let v171 : BitVec 1 := Scalar.cmpi .eq 8#32 0#32; let v172 : BitVec 32 := Scalar.select v171 1#32 8#32; let v173 : BitVec 32 := Scalar.remsi (W170 c) v172; let v174 : BitVec 1 := Scalar.cmpi .ne v173 0#32; let v175 : BitVec 1 := Scalar.cmpi .slt v173 0#32; let v176 : BitVec 1 := Scalar.cmpi .slt v172 0#32; let v177 : BitVec 1 := Scalar.xori v175 v176; let v178 : BitVec 1 := Scalar.andi v177 v174; let v179 : BitVec 32 := Scalar.addi v173 v172; let v180 : BitVec 32 := Scalar.select v178 v179 v173; v180 : BitVec 32) = wUp c 3 := by revert c; decide

theorem p6_2 (c : Dev nD) : (k0_pay5 (XS I c) (W170 c) 8#32 (I.sl c)) = DISP I c 3 := by
  rw [DISP, ← w_p6_2 c]
  exact (Eq.trans (b := shapeCast S1x8x64x512 (shapeCast S8x64x512 (dispY (let v171 : BitVec 1 := Scalar.cmpi .eq 8#32 0#32; let v172 : BitVec 32 := Scalar.select v171 1#32 8#32; let v173 : BitVec 32 := Scalar.remsi (W170 c) v172; let v174 : BitVec 1 := Scalar.cmpi .ne v173 0#32; let v175 : BitVec 1 := Scalar.cmpi .slt v173 0#32; let v176 : BitVec 1 := Scalar.cmpi .slt v172 0#32; let v177 : BitVec 1 := Scalar.xori v175 v176; let v178 : BitVec 1 := Scalar.andi v177 v174; let v179 : BitVec 32 := Scalar.addi v173 v172; let v180 : BitVec 32 := Scalar.select v178 v179 v173; v180 : BitVec 32) (XS I c) (I.sl c)) shapeCasts_S512x512_S8x64x512) shapeCasts_S8x64x512_S1x8x64x512) rfl (disp_twice _ _ _))

theorem part6 (c : Dev nD) {Q : (PUnit) → sProp 𝕄} :
    iprop(pt c cc0_stg3_0 Finset.univ (I.sl c) ∗ (∃ f, dP (F := F) c 3 f))
      ⊢ iprop(((pt c cc0_stg3_0 Finset.univ (I.sl c) ∗ dP c 3 (DD I c)) -∗ Q ⟨⟩)
        -∗ wpc c (k0_part6 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 c (XS I c) (W170 c) 8#32) Q) := by
  simp only [k0_part6_eq_skeleton, k0_part6_skel, semSignalWord, semWaitWord, Prog.lift, Prog.bind_op, Prog.bind_ret, Prog.pure_eq_ret, Prog.bind_assoc]
  iintro ⟨H3, D3⟩ Hk
  iapply (ld_all_sl I c) $$ H3
  iintro H3
  icases D3 with ⟨%fd, D3⟩
  iapply (ld_d c 3 fd rfl) $$ D3
  iintro D3
  iapply (st_d I c 3 fd rfl (p6_2 I c)) $$ D3
  iintro D3
  iapply (wpc_ret' c (α := (PUnit)) (b := ⟨⟩) rfl)
  iapply Hk
  isplitl [H3]; · iexact H3
  iexact D3

theorem w_p7_11 (c : Dev nD) : (let v208 : BitVec 32 := Scalar.addi (W2 c) 4#32; let v209 : BitVec 1 := Scalar.cmpi .eq 8#32 0#32; let v210 : BitVec 32 := Scalar.select v209 1#32 8#32; let v211 : BitVec 32 := Scalar.remsi v208 v210; let v212 : BitVec 1 := Scalar.cmpi .ne v211 0#32; let v213 : BitVec 1 := Scalar.cmpi .slt v211 0#32; let v214 : BitVec 1 := Scalar.cmpi .slt v210 0#32; let v215 : BitVec 1 := Scalar.xori v213 v214; let v216 : BitVec 1 := Scalar.andi v215 v212; let v217 : BitVec 32 := Scalar.addi v211 v210; let v218 : BitVec 32 := Scalar.select v216 v217 v211; v218 : BitVec 32) = wUp c 4 := by revert c; decide

theorem p7_11 (c : Dev nD) : (k0_pay6 (W2 c) (XS I c) (I.sl c)) = DISP I c 4 := by
  rw [DISP, ← w_p7_11 c]
  exact (Eq.trans (b := shapeCast S1x8x64x512 (shapeCast S8x64x512 (dispY (let v208 : BitVec 32 := Scalar.addi (W2 c) 4#32; let v209 : BitVec 1 := Scalar.cmpi .eq 8#32 0#32; let v210 : BitVec 32 := Scalar.select v209 1#32 8#32; let v211 : BitVec 32 := Scalar.remsi v208 v210; let v212 : BitVec 1 := Scalar.cmpi .ne v211 0#32; let v213 : BitVec 1 := Scalar.cmpi .slt v211 0#32; let v214 : BitVec 1 := Scalar.cmpi .slt v210 0#32; let v215 : BitVec 1 := Scalar.xori v213 v214; let v216 : BitVec 1 := Scalar.andi v215 v212; let v217 : BitVec 32 := Scalar.addi v211 v210; let v218 : BitVec 32 := Scalar.select v216 v217 v211; v218 : BitVec 32) (XS I c) (I.sl c)) shapeCasts_S512x512_S8x64x512) shapeCasts_S8x64x512_S1x8x64x512) rfl (disp_twice _ _ _))

theorem part7 (K : GSem nD τ sig → ℕ) (c : Dev nD) {Q : (PUnit) → sProp 𝕄} :
    iprop(recs I K ∗ levAts L lv ∗ dP c 3 (DD I c) ∗ TD (F := F) c 3 ∗ BD (F := F) c 3 ∗ ow (F := F) c (dispL c 2) ∗ pt c cc0_stg3_0 Finset.univ (I.sl c) ∗ (∃ f, dP (F := F) c 4 f))
      ⊢ iprop(((ow (F := F) c (dispL c 3) ∗ CR (F := F) c (.inl (0, 3)) ∗ pt c cc0_stg3_0 Finset.univ (I.sl c) ∗ dP c 4 (DD I c)) -∗ Q ⟨⟩)
        -∗ wpc c (k0_part7 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 c (W2 c) (XS I c)) Q) := by
  simp only [k0_part7_eq_skeleton, k0_part7_skel, semSignalWord, semWaitWord, Prog.lift, Prog.bind_op, Prog.bind_ret, Prog.pure_eq_ret, Prog.bind_assoc]
  iintro ⟨#Hrec, #Hlev, D3, TD3, BD3, HO, H3, D4⟩ Hk
  iapply (disp I K c 3 (by decide) (l := (dispL c 3)) rfl (Fin.ext (dev11_eq c)) rfl (off2_eq c) rfl rfl) $$ [D3 TD3 BD3 HO]
  · isplitr; · iexact Hrec
    isplitl [D3]; · iexact D3
    isplitl [TD3]; · iexact TD3
    isplitl [BD3]; · iexact BD3
    iexact HO
  iintro ⟨C03, HO⟩
  iapply (ld_all_sl I c) $$ H3
  iintro H3
  icases D4 with ⟨%fd, D4⟩
  iapply (ld_d c 4 fd rfl) $$ D4
  iintro D4
  iapply (st_d I c 4 fd rfl (p7_11 I c)) $$ D4
  iintro D4
  iapply (wpc_ret' c (α := (PUnit)) (b := ⟨⟩) rfl)
  iapply Hk
  isplitl [HO]; · iexact HO
  isplitl [C03]; · iexact C03
  isplitl [H3]; · iexact H3
  iexact D4

theorem w_p8_11 (c : Dev nD) : (let v246 : BitVec 32 := Scalar.addi (W2 c) 5#32; let v247 : BitVec 1 := Scalar.cmpi .eq 8#32 0#32; let v248 : BitVec 32 := Scalar.select v247 1#32 8#32; let v249 : BitVec 32 := Scalar.remsi v246 v248; let v250 : BitVec 1 := Scalar.cmpi .ne v249 0#32; let v251 : BitVec 1 := Scalar.cmpi .slt v249 0#32; let v252 : BitVec 1 := Scalar.cmpi .slt v248 0#32; let v253 : BitVec 1 := Scalar.xori v251 v252; let v254 : BitVec 1 := Scalar.andi v253 v250; let v255 : BitVec 32 := Scalar.addi v249 v248; let v256 : BitVec 32 := Scalar.select v254 v255 v249; v256 : BitVec 32) = wUp c 5 := by revert c; decide

theorem p8_11 (c : Dev nD) : (k0_pay7 (W2 c) (XS I c) (I.sl c)) = DISP I c 5 := by
  rw [DISP, ← w_p8_11 c]
  exact (Eq.trans (b := shapeCast S1x8x64x512 (shapeCast S8x64x512 (dispY (let v246 : BitVec 32 := Scalar.addi (W2 c) 5#32; let v247 : BitVec 1 := Scalar.cmpi .eq 8#32 0#32; let v248 : BitVec 32 := Scalar.select v247 1#32 8#32; let v249 : BitVec 32 := Scalar.remsi v246 v248; let v250 : BitVec 1 := Scalar.cmpi .ne v249 0#32; let v251 : BitVec 1 := Scalar.cmpi .slt v249 0#32; let v252 : BitVec 1 := Scalar.cmpi .slt v248 0#32; let v253 : BitVec 1 := Scalar.xori v251 v252; let v254 : BitVec 1 := Scalar.andi v253 v250; let v255 : BitVec 32 := Scalar.addi v249 v248; let v256 : BitVec 32 := Scalar.select v254 v255 v249; v256 : BitVec 32) (XS I c) (I.sl c)) shapeCasts_S512x512_S8x64x512) shapeCasts_S8x64x512_S1x8x64x512) rfl (disp_twice _ _ _))

theorem part8 (K : GSem nD τ sig → ℕ) (c : Dev nD) {Q : (PUnit) → sProp 𝕄} :
    iprop(recs I K ∗ levAts L lv ∗ dP c 4 (DD I c) ∗ TD (F := F) c 4 ∗ BD (F := F) c 4 ∗ ow (F := F) c (dispL c 3) ∗ pt c cc0_stg3_0 Finset.univ (I.sl c) ∗ (∃ f, dP (F := F) c 5 f))
      ⊢ iprop(((ow (F := F) c (dispL c 4) ∗ CR (F := F) c (.inl (0, 4)) ∗ pt c cc0_stg3_0 Finset.univ (I.sl c) ∗ dP c 5 (DD I c)) -∗ Q ⟨⟩)
        -∗ wpc c (k0_part8 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 c (W2 c) (XS I c)) Q) := by
  simp only [k0_part8_eq_skeleton, k0_part8_skel, semSignalWord, semWaitWord, Prog.lift, Prog.bind_op, Prog.bind_ret, Prog.pure_eq_ret, Prog.bind_assoc]
  iintro ⟨#Hrec, #Hlev, D4, TD4, BD4, HO, H3, D5⟩ Hk
  iapply (disp I K c 4 (by decide) (l := (dispL c 4)) rfl (Fin.ext (dev12_eq c)) rfl (off2_eq c) rfl rfl) $$ [D4 TD4 BD4 HO]
  · isplitr; · iexact Hrec
    isplitl [D4]; · iexact D4
    isplitl [TD4]; · iexact TD4
    isplitl [BD4]; · iexact BD4
    iexact HO
  iintro ⟨C04, HO⟩
  iapply (ld_all_sl I c) $$ H3
  iintro H3
  icases D5 with ⟨%fd, D5⟩
  iapply (ld_d c 5 fd rfl) $$ D5
  iintro D5
  iapply (st_d I c 5 fd rfl (p8_11 I c)) $$ D5
  iintro D5
  iapply (wpc_ret' c (α := (PUnit)) (b := ⟨⟩) rfl)
  iapply Hk
  isplitl [HO]; · iexact HO
  isplitl [C04]; · iexact C04
  isplitl [H3]; · iexact H3
  iexact D5

theorem w_p9_22 (c : Dev nD) : (let v284 : BitVec 32 := Scalar.addi (W2 c) 6#32; let v285 : BitVec 1 := Scalar.cmpi .eq 8#32 0#32; let v286 : BitVec 32 := Scalar.select v285 1#32 8#32; let v287 : BitVec 32 := Scalar.remsi v284 v286; let v288 : BitVec 1 := Scalar.cmpi .ne v287 0#32; let v289 : BitVec 1 := Scalar.cmpi .slt v287 0#32; let v290 : BitVec 1 := Scalar.cmpi .slt v286 0#32; let v291 : BitVec 1 := Scalar.xori v289 v290; let v292 : BitVec 1 := Scalar.andi v291 v288; let v293 : BitVec 32 := Scalar.addi v287 v286; let v294 : BitVec 32 := Scalar.select v292 v293 v287; v294 : BitVec 32) = wUp c 6 := by revert c; decide

theorem p9_22 (c : Dev nD) : (k0_pay8 (W2 c) (XS I c) (I.sl c)) = DISP I c 6 := by
  rw [DISP, ← w_p9_22 c]
  exact (Eq.trans (b := shapeCast S1x8x64x512 (shapeCast S8x64x512 (dispY (let v284 : BitVec 32 := Scalar.addi (W2 c) 6#32; let v285 : BitVec 1 := Scalar.cmpi .eq 8#32 0#32; let v286 : BitVec 32 := Scalar.select v285 1#32 8#32; let v287 : BitVec 32 := Scalar.remsi v284 v286; let v288 : BitVec 1 := Scalar.cmpi .ne v287 0#32; let v289 : BitVec 1 := Scalar.cmpi .slt v287 0#32; let v290 : BitVec 1 := Scalar.cmpi .slt v286 0#32; let v291 : BitVec 1 := Scalar.xori v289 v290; let v292 : BitVec 1 := Scalar.andi v291 v288; let v293 : BitVec 32 := Scalar.addi v287 v286; let v294 : BitVec 32 := Scalar.select v292 v293 v287; v294 : BitVec 32) (XS I c) (I.sl c)) shapeCasts_S512x512_S8x64x512) shapeCasts_S8x64x512_S1x8x64x512) rfl (disp_twice _ _ _))

theorem part9 (K : GSem nD τ sig → ℕ) (c : Dev nD) {Q : (BitVec 32) → sProp 𝕄} :
    iprop(recs I K ∗ levAts L lv ∗ dP c 5 (DD I c) ∗ TD (F := F) c 5 ∗ BD (F := F) c 5 ∗ ow (F := F) c (dispL c 4) ∗ pt c cc0_stg3_0 Finset.univ (I.sl c) ∗ (∃ f, dP (F := F) c 6 f))
      ⊢ iprop(((ow (F := F) c (dispL c 5) ∗ CR (F := F) c (.inl (0, 5)) ∗ pt c cc0_stg3_0 Finset.univ (I.sl c) ∗ dP c 6 (DD I c)) -∗ Q (W294 c))
        -∗ wpc c (k0_part9 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 c (W2 c) (XS I c)) Q) := by
  simp only [k0_part9_eq_skeleton, k0_part9_skel, semSignalWord, semWaitWord, Prog.lift, Prog.bind_op, Prog.bind_ret, Prog.pure_eq_ret, Prog.bind_assoc]
  iintro ⟨#Hrec, #Hlev, D5, TD5, BD5, HO, H3, D6⟩ Hk
  iapply (disp I K c 5 (by decide) (l := (dispL c 5)) rfl (Fin.ext (dev13_eq c)) rfl (off2_eq c) rfl rfl) $$ [D5 TD5 BD5 HO]
  · isplitr; · iexact Hrec
    isplitl [D5]; · iexact D5
    isplitl [TD5]; · iexact TD5
    isplitl [BD5]; · iexact BD5
    iexact HO
  iintro ⟨C05, HO⟩
  iapply (ld_all_sl I c) $$ H3
  iintro H3
  icases D6 with ⟨%fd, D6⟩
  iapply (ld_d c 6 fd rfl) $$ D6
  iintro D6
  iapply (st_d I c 6 fd rfl (p9_22 I c)) $$ D6
  iintro D6
  iapply (wpc_ret' c (α := (BitVec 32)) (b := (W294 c)) rfl)
  iapply Hk
  isplitl [HO]; · iexact HO
  isplitl [C05]; · iexact C05
  isplitl [H3]; · iexact H3
  iexact D6

theorem part10 (K : GSem nD τ sig → ℕ) (c : Dev nD) {Q : (Σ' (v332 : BitVec 32), FVec F S8x64x512 .bf16) → sProp 𝕄} :
    iprop(recs I K ∗ levAts L lv ∗ dP c 6 (DD I c) ∗ TD (F := F) c 6 ∗ BD (F := F) c 6 ∗ ow (F := F) c (dispL c 5) ∗ pt c cc0_stg3_0 Finset.univ (I.sl c))
      ⊢ iprop(((ow (F := F) c (dispL c 6) ∗ CR (F := F) c (.inl (0, 6)) ∗ pt c cc0_stg3_0 Finset.univ (I.sl c)) -∗ Q ⟨(W332 c), (k0_pay9 (W2 c) (XS I c) (I.sl c))⟩)
        -∗ wpc c (k0_part10 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 c (W2 c) (XS I c) (W294 c)) Q) := by
  simp only [k0_part10_eq_skeleton, k0_part10_skel, semSignalWord, semWaitWord, Prog.lift, Prog.bind_op, Prog.bind_ret, Prog.pure_eq_ret, Prog.bind_assoc]
  iintro ⟨#Hrec, #Hlev, D6, TD6, BD6, HO, H3⟩ Hk
  iapply (disp I K c 6 (by decide) (l := (dispL c 6)) rfl (Fin.ext (dev14_eq c)) rfl (off2_eq c) rfl rfl) $$ [D6 TD6 BD6 HO]
  · isplitr; · iexact Hrec
    isplitl [D6]; · iexact D6
    isplitl [TD6]; · iexact TD6
    isplitl [BD6]; · iexact BD6
    iexact HO
  iintro ⟨C06, HO⟩
  iapply (ld_all_sl I c) $$ H3
  iintro H3
  iapply (wpc_ret' c (α := (Σ' (v332 : BitVec 32), FVec F S8x64x512 .bf16)) (b := ⟨(W332 c), (k0_pay9 (W2 c) (XS I c) (I.sl c))⟩) rfl)
  iapply Hk
  isplitl [HO]; · iexact HO
  isplitl [C06]; · iexact C06
  iexact H3

theorem w_p11_1 (c : Dev nD) : (let v322 : BitVec 32 := Scalar.addi (W2 c) 7#32; let v323 : BitVec 1 := Scalar.cmpi .eq 8#32 0#32; let v324 : BitVec 32 := Scalar.select v323 1#32 8#32; let v325 : BitVec 32 := Scalar.remsi v322 v324; let v326 : BitVec 1 := Scalar.cmpi .ne v325 0#32; let v327 : BitVec 1 := Scalar.cmpi .slt v325 0#32; let v328 : BitVec 1 := Scalar.cmpi .slt v324 0#32; let v329 : BitVec 1 := Scalar.xori v327 v328; let v330 : BitVec 1 := Scalar.andi v329 v326; let v331 : BitVec 32 := Scalar.addi v325 v324; let v332 : BitVec 32 := Scalar.select v330 v331 v325; v332 : BitVec 32) = wUp c 7 := by revert c; decide

theorem p11_1 (c : Dev nD) : (k0_pay10 (k0_pay9 (W2 c) (XS I c) (I.sl c))) = DISP I c 7 := by
  rw [DISP, ← w_p11_1 c]
  exact (Eq.trans (b := shapeCast S1x8x64x512 (shapeCast S8x64x512 (dispY (let v322 : BitVec 32 := Scalar.addi (W2 c) 7#32; let v323 : BitVec 1 := Scalar.cmpi .eq 8#32 0#32; let v324 : BitVec 32 := Scalar.select v323 1#32 8#32; let v325 : BitVec 32 := Scalar.remsi v322 v324; let v326 : BitVec 1 := Scalar.cmpi .ne v325 0#32; let v327 : BitVec 1 := Scalar.cmpi .slt v325 0#32; let v328 : BitVec 1 := Scalar.cmpi .slt v324 0#32; let v329 : BitVec 1 := Scalar.xori v327 v328; let v330 : BitVec 1 := Scalar.andi v329 v326; let v331 : BitVec 32 := Scalar.addi v325 v324; let v332 : BitVec 32 := Scalar.select v330 v331 v325; v332 : BitVec 32) (XS I c) (I.sl c)) shapeCasts_S512x512_S8x64x512) shapeCasts_S8x64x512_S1x8x64x512) rfl (disp_twice _ _ _))

theorem p11_14 (c : Dev nD) : (k0_pay11 (xRow I c 0) (I.sw c)) = PP I c 0 0 := rfl

theorem p11_18 (c : Dev nD) : (k0_pay12 (xRow I c 1) (I.sw c)) = PP I c 1 0 := rfl

theorem part11 (K : GSem nD τ sig → ℕ) (c : Dev nD) (q₀ : Fin 4 → Vec F S512x1024 .f32) {Q : (FVec F S512x512 .f32) → sProp 𝕄} :
    iprop(recs I K ∗ levAts L lv ∗ (∃ f, dP (F := F) c 7 f) ∗ TD (F := F) c 7 ∗ BD (F := F) c 7 ∗ ow (F := F) c (dispL c 6) ∗ pt c cc0_stg0_0 Finset.univ (I.x c) ∗ pt c cc0_stg4_0 Finset.univ (I.sw c) ∗ pt c cc0_stg5_0 Finset.univ (glue ![(q₀ 0), (q₀ 1), (q₀ 2), (q₀ 3)]))
      ⊢ iprop(((ow (F := F) c (retL c 0) ∗ CR (F := F) c (.inl (0, 7)) ∗ pt c cc0_stg0_0 Finset.univ (I.x c) ∗ pt c cc0_stg4_0 Finset.univ (I.sw c) ∗ pt c cc0_stg5_0 Finset.univ (glue ![(PP I c 0 0), (PP I c 1 0), (q₀ 2), (q₀ 3)])) -∗ Q (k0_pay13 (xRow I c 2)))
        -∗ wpc c (k0_part11 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 c (W332 c) (k0_pay9 (W2 c) (XS I c) (I.sl c))) Q) := by
  simp only [k0_part11_eq_skeleton, k0_part11_skel, semSignalWord, semWaitWord, Prog.lift, Prog.bind_op, Prog.bind_ret, Prog.pure_eq_ret, Prog.bind_assoc]
  iintro ⟨#Hrec, #Hlev, D7, TD7, BD7, HO, H0, H4, H6⟩ Hk
  icases D7 with ⟨%fd, D7⟩
  iapply (ld_d c 7 fd rfl) $$ D7
  iintro D7
  iapply (st_d I c 7 fd rfl (p11_1 I c)) $$ D7
  iintro D7
  iapply (disp I K c 7 (by decide) (l := (retL c 0)) rfl (Fin.ext (dev15_eq c)) rfl (off2_eq c) rfl rfl) $$ [D7 TD7 BD7 HO]
  · isplitr; · iexact Hrec
    isplitl [D7]; · iexact D7
    isplitl [TD7]; · iexact TD7
    isplitl [BD7]; · iexact BD7
    iexact HO
  iintro ⟨C07, HO⟩
  iapply (ld_x I c 0 rfl) $$ H0
  iintro H0
  iapply (ld_all_sw I c) $$ H4
  iintro H4
  iapply (ld_o c ![(q₀ 0), (q₀ 1), (q₀ 2), (q₀ 3)] 0 (v := (q₀ 0)) rfl rfl) $$ H6
  iintro H6
  iapply (st_o c ![(q₀ 0), (q₀ 1), (q₀ 2), (q₀ 3)] ![(PP I c 0 0), (q₀ 1), (q₀ 2), (q₀ 3)] 0 (p11_14 I c) (by intro b' h; fin_cases b' <;> first | rfl | exact absurd rfl h) rfl) $$ H6
  iintro H6
  iapply (ld_x I c 1 rfl) $$ H0
  iintro H0
  iapply (ld_all_sw I c) $$ H4
  iintro H4
  iapply (ld_o c ![(PP I c 0 0), (q₀ 1), (q₀ 2), (q₀ 3)] 1 (v := (q₀ 1)) rfl rfl) $$ H6
  iintro H6
  iapply (st_o c ![(PP I c 0 0), (q₀ 1), (q₀ 2), (q₀ 3)] ![(PP I c 0 0), (PP I c 1 0), (q₀ 2), (q₀ 3)] 1 (p11_18 I c) (by intro b' h; fin_cases b' <;> first | rfl | exact absurd rfl h) rfl) $$ H6
  iintro H6
  iapply (ld_x I c 2 rfl) $$ H0
  iintro H0
  iapply (wpc_ret' c (α := (FVec F S512x512 .f32)) (b := (k0_pay13 (xRow I c 2))) rfl)
  iapply Hk
  isplitl [HO]; · iexact HO
  isplitl [C07]; · iexact C07
  isplitl [H0]; · iexact H0
  isplitl [H4]; · iexact H4
  iexact H6

theorem p12_2 (c : Dev nD) : (k0_pay14 (k0_pay13 (xRow I c 2)) (I.sw c)) = PP I c 2 0 := rfl

theorem p12_6 (c : Dev nD) : (k0_pay15 (xRow I c 3) (I.sw c)) = PP I c 3 0 := rfl

theorem part12 (c : Dev nD) (q₀ : Fin 4 → Vec F S512x1024 .f32) {Q : (PUnit) → sProp 𝕄} :
    iprop(pt c cc0_stg4_0 Finset.univ (I.sw c) ∗ pt c cc0_stg5_0 Finset.univ (glue ![(PP I c 0 0), (PP I c 1 0), (q₀ 2), (q₀ 3)]) ∗ pt c cc0_stg0_0 Finset.univ (I.x c))
      ⊢ iprop(((pt c cc0_stg4_0 Finset.univ (I.sw c) ∗ pt c cc0_stg5_0 Finset.univ (glue ![(PP I c 0 0), (PP I c 1 0), (PP I c 2 0), (PP I c 3 0)]) ∗ pt c cc0_stg0_0 Finset.univ (I.x c)) -∗ Q ⟨⟩)
        -∗ wpc c (k0_part12 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 c (W2 c) (k0_pay13 (xRow I c 2))) Q) := by
  simp only [k0_part12_eq_skeleton, k0_part12_skel, semSignalWord, semWaitWord, Prog.lift, Prog.bind_op, Prog.bind_ret, Prog.pure_eq_ret, Prog.bind_assoc]
  iintro ⟨H4, H6, H0⟩ Hk
  iapply (ld_all_sw I c) $$ H4
  iintro H4
  iapply (ld_o c ![(PP I c 0 0), (PP I c 1 0), (q₀ 2), (q₀ 3)] 2 (v := (q₀ 2)) rfl rfl) $$ H6
  iintro H6
  iapply (st_o c ![(PP I c 0 0), (PP I c 1 0), (q₀ 2), (q₀ 3)] ![(PP I c 0 0), (PP I c 1 0), (PP I c 2 0), (q₀ 3)] 2 (p12_2 I c) (by intro b' h; fin_cases b' <;> first | rfl | exact absurd rfl h) rfl) $$ H6
  iintro H6
  iapply (ld_x I c 3 rfl) $$ H0
  iintro H0
  iapply (ld_all_sw I c) $$ H4
  iintro H4
  iapply (ld_o c ![(PP I c 0 0), (PP I c 1 0), (PP I c 2 0), (q₀ 3)] 3 (v := (q₀ 3)) rfl rfl) $$ H6
  iintro H6
  iapply (st_o c ![(PP I c 0 0), (PP I c 1 0), (PP I c 2 0), (q₀ 3)] ![(PP I c 0 0), (PP I c 1 0), (PP I c 2 0), (PP I c 3 0)] 3 (p12_6 I c) (by intro b' h; fin_cases b' <;> first | rfl | exact absurd rfl h) rfl) $$ H6
  iintro H6
  iapply (wpc_ret' c (α := (PUnit)) (b := ⟨⟩) rfl)
  iapply Hk
  isplitl [H4]; · iexact H4
  isplitl [H6]; · iexact H6
  iexact H0

end Cert.KernelIdeal.Moe
-- ==== Proof.PartsB.lean ====
/-
  The middle parts of the kernel: the rows that arrive, the experts, and the sending of the results.
-/
module

public import proofs.«01_k».proof.Proof.Steps

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (I : Inp F)

theorem part13 (K : GSem nD τ sig → ℕ) (c : Dev nD) {Q : (BitVec 32) → sProp 𝕄} :
    iprop(recs I K ∗ levAts L lv ∗ CR (F := F) c (.inl (1, 1)) ∗ ow (F := F) c (retL c 0) ∗ AT (F := F) c (.inl (1, 1)) 0 ∗ CR (F := F) c (.inl (1, 2)) ∗ AT (F := F) c (.inl (1, 2)) 0)
      ⊢ iprop(((ow (F := F) c (retL c 0) ∗ AT (F := F) c (.inl (1, 1)) 1 ∗ recvP c (c - 1 : Fin 8) (RECV I c) ∗ AT (F := F) c (.inl (1, 2)) 1 ∗ recvP c (c - 2 : Fin 8) (RECV I c)) -∗ Q (W432 c))
        -∗ wpc c (k0_part13 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 c (W2 c)) Q) := by
  simp only [k0_part13_eq_skeleton, k0_part13_skel, semSignalWord, semWaitWord, Prog.lift, Prog.bind_op, Prog.bind_ret, Prog.pure_eq_ret, Prog.bind_assoc]
  iintro ⟨#Hrec, #Hlev, C11, HO, A11, C12, A12⟩ Hk
  iapply (wait_dr I K c 1 (by decide) rfl rfl) $$ [C11 HO A11]
  · isplitr; · iexact Hrec
    isplitr; · iexact Hlev
    isplitl [C11]; · iexact C11
    isplitl [HO]; · iexact HO
    iexact A11
  iintro ⟨HO, A11, -, L1⟩
  iapply (wait_dr I K c 2 (by decide) rfl rfl) $$ [C12 HO A12]
  · isplitr; · iexact Hrec
    isplitr; · iexact Hlev
    isplitl [C12]; · iexact C12
    isplitl [HO]; · iexact HO
    iexact A12
  iintro ⟨HO, A12, -, L2⟩
  iapply (wpc_ret' c (α := (BitVec 32)) (b := (W432 c)) rfl)
  iapply Hk
  isplitl [HO]; · iexact HO
  isplitl [A11]; · iexact A11
  isplitl [L1]; · iexact L1
  isplitl [A12]; · iexact A12
  iexact L2

theorem part14 (K : GSem nD τ sig → ℕ) (c : Dev nD) {Q : (Σ' (v460 : BitVec 32) (c8_i32_318 : BitVec 32), BitVec 1) → sProp 𝕄} :
    iprop(recs I K ∗ levAts L lv ∗ CR (F := F) c (.inl (1, 3)) ∗ ow (F := F) c (retL c 0) ∗ AT (F := F) c (.inl (1, 3)) 0 ∗ CR (F := F) c (.inl (1, 4)) ∗ AT (F := F) c (.inl (1, 4)) 0)
      ⊢ iprop(((ow (F := F) c (retL c 0) ∗ AT (F := F) c (.inl (1, 3)) 1 ∗ recvP c (c - 3 : Fin 8) (RECV I c) ∗ AT (F := F) c (.inl (1, 4)) 1 ∗ recvP c (c - 4 : Fin 8) (RECV I c)) -∗ Q ⟨(W460 c), 8#32, (W461 c)⟩)
        -∗ wpc c (k0_part14 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 c (W2 c) (W432 c)) Q) := by
  simp only [k0_part14_eq_skeleton, k0_part14_skel, semSignalWord, semWaitWord, Prog.lift, Prog.bind_op, Prog.bind_ret, Prog.pure_eq_ret, Prog.bind_assoc]
  iintro ⟨#Hrec, #Hlev, C13, HO, A13, C14, A14⟩ Hk
  iapply (wait_dr I K c 3 (by decide) rfl rfl) $$ [C13 HO A13]
  · isplitr; · iexact Hrec
    isplitr; · iexact Hlev
    isplitl [C13]; · iexact C13
    isplitl [HO]; · iexact HO
    iexact A13
  iintro ⟨HO, A13, -, L3⟩
  iapply (wait_dr I K c 4 (by decide) rfl rfl) $$ [C14 HO A14]
  · isplitr; · iexact Hrec
    isplitr; · iexact Hlev
    isplitl [C14]; · iexact C14
    isplitl [HO]; · iexact HO
    iexact A14
  iintro ⟨HO, A14, -, L4⟩
  iapply (wpc_ret' c (α := (Σ' (v460 : BitVec 32) (c8_i32_318 : BitVec 32), BitVec 1)) (b := ⟨(W460 c), 8#32, (W461 c)⟩) rfl)
  iapply Hk
  isplitl [HO]; · iexact HO
  isplitl [A13]; · iexact A13
  isplitl [L3]; · iexact L3
  isplitl [A14]; · iexact A14
  iexact L4

theorem part15 (K : GSem nD τ sig → ℕ) (c : Dev nD) {Q : (PUnit) → sProp 𝕄} :
    iprop(recs I K ∗ levAts L lv ∗ CR (F := F) c (.inl (1, 5)) ∗ ow (F := F) c (retL c 0) ∗ AT (F := F) c (.inl (1, 5)) 0)
      ⊢ iprop(((ow (F := F) c (retL c 0) ∗ AT (F := F) c (.inl (1, 5)) 1 ∗ recvP c (c - 5 : Fin 8) (RECV I c)) -∗ Q ⟨⟩)
        -∗ wpc c (k0_part15 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 c (W2 c) (W460 c) 8#32 (W461 c)) Q) := by
  simp only [k0_part15_eq_skeleton, k0_part15_skel, semSignalWord, semWaitWord, Prog.lift, Prog.bind_op, Prog.bind_ret, Prog.pure_eq_ret, Prog.bind_assoc]
  iintro ⟨#Hrec, #Hlev, C15, HO, A15⟩ Hk
  iapply (wait_dr I K c 5 (by decide) rfl rfl) $$ [C15 HO A15]
  · isplitr; · iexact Hrec
    isplitr; · iexact Hlev
    isplitl [C15]; · iexact C15
    isplitl [HO]; · iexact HO
    iexact A15
  iintro ⟨HO, A15, -, L5⟩
  iapply (wpc_ret' c (α := (PUnit)) (b := ⟨⟩) rfl)
  iapply Hk
  isplitl [HO]; · iexact HO
  isplitl [A15]; · iexact A15
  iexact L5

theorem part16 (K : GSem nD τ sig → ℕ) (c : Dev nD) {Q : (PUnit) → sProp 𝕄} :
    iprop(recs I K ∗ levAts L lv ∗ CR (F := F) c (.inl (1, 6)) ∗ ow (F := F) c (retL c 0) ∗ AT (F := F) c (.inl (1, 6)) 0 ∗ CR (F := F) c (.inl (1, 7)) ∗ AT (F := F) c (.inl (1, 7)) 0)
      ⊢ iprop(((ow (F := F) c (retL c 0) ∗ AT (F := F) c (.inl (1, 6)) 1 ∗ recvP c (c - 6 : Fin 8) (RECV I c) ∗ AT (F := F) c (.inl (1, 7)) 1 ∗ recvP c (c - 7 : Fin 8) (RECV I c)) -∗ Q ⟨⟩)
        -∗ wpc c (k0_part16 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 c (W2 c)) Q) := by
  simp only [k0_part16_eq_skeleton, k0_part16_skel, semSignalWord, semWaitWord, Prog.lift, Prog.bind_op, Prog.bind_ret, Prog.pure_eq_ret, Prog.bind_assoc]
  iintro ⟨#Hrec, #Hlev, C16, HO, A16, C17, A17⟩ Hk
  iapply (wait_dr I K c 6 (by decide) rfl rfl) $$ [C16 HO A16]
  · isplitr; · iexact Hrec
    isplitr; · iexact Hlev
    isplitl [C16]; · iexact C16
    isplitl [HO]; · iexact HO
    iexact A16
  iintro ⟨HO, A16, -, L6⟩
  iapply (wait_dr I K c 7 (by decide) rfl rfl) $$ [C17 HO A17]
  · isplitr; · iexact Hrec
    isplitr; · iexact Hlev
    isplitl [C17]; · iexact C17
    isplitl [HO]; · iexact HO
    iexact A17
  iintro ⟨HO, A17, -, L7⟩
  iapply (wpc_ret' c (α := (PUnit)) (b := ⟨⟩) rfl)
  iapply Hk
  isplitl [HO]; · iexact HO
  isplitl [A16]; · iexact A16
  isplitl [L6]; · iexact L6
  isplitl [A17]; · iexact A17
  iexact L7

theorem p17_17 (c : Dev nD) : (k0_pay16 (rowsE I c 0) (wtsE I c 0)) = YE I c 0 := rfl

theorem part17 (K : GSem nD τ sig → ℕ) (c : Dev nD) (f9 : Vec F S8x8x64x1024 .bf16) {Q : (PUnit) → sProp 𝕄} :
    iprop(recs I K ∗ levAts L lv ∗ CR (F := F) c (.inr 0) ∗ ow (F := F) c (retL c 0) ∗ AT (F := F) c (.inr 0) 0 ∗ wP c 1 (I.ew c) ∗ (∃ f, ewP (F := F) c 1 f) ∗ dutyTok ER (ewC c 1) 0 0 ∗ reached ER (ewC c 1) 0 ∗ pt c cc0_scratch1 Finset.univ (RECV I c) ∗ pt c cc0_scratch2 Finset.univ (YN I c f9 0) ∗ AT (F := F) c (.inr 1) 0)
      ⊢ iprop(((ow (F := F) c (retL c 0) ∗ AT (F := F) c (.inr 0) 1 ∗ reached ER (ewC c 0) 1 ∗ ewP c 0 (EW I c 0) ∗ wP c 0 (I.ew c) ∗ wP c 1 (I.ew c) ∗ ewP c 1 (EW I c 1) ∗ reached ER (ewC c 1) 1 ∗ pt c cc0_scratch1 Finset.univ (RECV I c) ∗ pt c cc0_scratch2 Finset.univ (YN I c f9 1) ∗ AT (F := F) c (.inr 1) 1) -∗ Q ⟨⟩)
        -∗ wpc c (k0_part17 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 ) Q) := by
  simp only [k0_part17_eq_skeleton, k0_part17_skel, semSignalWord, semWaitWord, Prog.lift, Prog.bind_op, Prog.bind_ret, Prog.pure_eq_ret, Prog.bind_assoc]
  iintro ⟨#Hrec, #Hlev, CE0, HO, AE0, W1, B1, TE10, RE1, H8, H9, AE1⟩ Hk
  iapply (wait_ew' I K c 0 0 (by decide) (el := 0) rfl rfl rfl) $$ [CE0 HO AE0]
  · isplitr; · iexact Hrec
    isplitr; · iexact Hlev
    isplitl [CE0]; · iexact CE0
    isplitl [HO]; · iexact HO
    iexact AE0
  iintro ⟨HO, AE0, RE0, B0, W0⟩
  iapply (copy_ew I K c 1 0 (by decide) (el := 1) rfl rfl rfl rfl) $$ [W1 B1 TE10 RE1]
  · isplitr; · iexact Hrec
    isplitl [W1]; · iexact W1
    isplitl [B1]; · iexact B1
    isplitl [TE10]; · iexact TE10
    iexact RE1
  iintro CE1
  iapply (ld_rows I c 0 rfl) $$ H8
  iintro H8
  iapply (ld_wts I c 0 0 rfl) $$ B0
  iintro B0
  iapply (ld_col c (YN I c f9 0)) $$ H9
  iintro H9
  iapply (st_col I c f9 0 0 1 rfl rfl (p17_17 I c) rfl) $$ H9
  iintro H9
  iapply (wait_ew' I K c 1 0 (by decide) (el := 1) rfl rfl rfl) $$ [CE1 HO AE1]
  · isplitr; · iexact Hrec
    isplitr; · iexact Hlev
    isplitl [CE1]; · iexact CE1
    isplitl [HO]; · iexact HO
    iexact AE1
  iintro ⟨HO, AE1, RE1, B1, W1⟩
  iapply (wpc_ret' c (α := (PUnit)) (b := ⟨⟩) rfl)
  iapply Hk
  isplitl [HO]; · iexact HO
  isplitl [AE0]; · iexact AE0
  isplitl [RE0]; · iexact RE0
  isplitl [B0]; · iexact B0
  isplitl [W0]; · iexact W0
  isplitl [W1]; · iexact W1
  isplitl [B1]; · iexact B1
  isplitl [RE1]; · iexact RE1
  isplitl [H8]; · iexact H8
  isplitl [H9]; · iexact H9
  iexact AE1

theorem p18_10 (c : Dev nD) : (k0_pay17 (rowsE I c 1) (wtsE I c 1)) = YE I c 1 := rfl

theorem part18 (K : GSem nD τ sig → ℕ) (c : Dev nD) (f9 : Vec F S8x8x64x1024 .bf16) {Q : (PUnit) → sProp 𝕄} :
    iprop(recs I K ∗ levAts L lv ∗ wP c 2 (I.ew c) ∗ ewP c 0 (EW I c 0) ∗ dutyTok ER (ewC c 0) 1 0 ∗ reached ER (ewC c 0) 1 ∗ pt c cc0_scratch1 Finset.univ (RECV I c) ∗ ewP c 1 (EW I c 1) ∗ pt c cc0_scratch2 Finset.univ (YN I c f9 1) ∗ ow (F := F) c (retL c 0) ∗ AT (F := F) c (.inr 0) 1)
      ⊢ iprop(((wP c 2 (I.ew c) ∗ ewP c 0 (EW I c 2) ∗ reached ER (ewC c 0) 2 ∗ pt c cc0_scratch1 Finset.univ (RECV I c) ∗ ewP c 1 (EW I c 1) ∗ pt c cc0_scratch2 Finset.univ (YN I c f9 2) ∗ ow (F := F) c (retL c 0) ∗ AT (F := F) c (.inr 0) 2) -∗ Q ⟨⟩)
        -∗ wpc c (k0_part18 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 ) Q) := by
  simp only [k0_part18_eq_skeleton, k0_part18_skel, semSignalWord, semWaitWord, Prog.lift, Prog.bind_op, Prog.bind_ret, Prog.pure_eq_ret, Prog.bind_assoc]
  iintro ⟨#Hrec, #Hlev, W2, B0, TE01, RE0, H8, B1, H9, HO, AE0⟩ Hk
  iapply (copy_ew I K c 0 1 (by decide) (el := 2) rfl rfl rfl rfl) $$ [W2 B0 TE01 RE0]
  · isplitr; · iexact Hrec
    isplitl [W2]; · iexact W2
    isplitl [B0]; · iexists _; iexact B0
    isplitl [TE01]; · iexact TE01
    iexact RE0
  iintro CE0
  iapply (ld_rows I c 1 rfl) $$ H8
  iintro H8
  iapply (ld_wts I c 1 1 rfl) $$ B1
  iintro B1
  iapply (ld_col c (YN I c f9 1)) $$ H9
  iintro H9
  iapply (st_col I c f9 1 1 2 rfl rfl (p18_10 I c) rfl) $$ H9
  iintro H9
  iapply (wait_ew' I K c 0 1 (by decide) (el := 2) rfl rfl rfl) $$ [CE0 HO AE0]
  · isplitr; · iexact Hrec
    isplitr; · iexact Hlev
    isplitl [CE0]; · iexact CE0
    isplitl [HO]; · iexact HO
    iexact AE0
  iintro ⟨HO, AE0, RE0, B0, W2⟩
  iapply (wpc_ret' c (α := (PUnit)) (b := ⟨⟩) rfl)
  iapply Hk
  isplitl [W2]; · iexact W2
  isplitl [B0]; · iexact B0
  isplitl [RE0]; · iexact RE0
  isplitl [H8]; · iexact H8
  isplitl [B1]; · iexact B1
  isplitl [H9]; · iexact H9
  isplitl [HO]; · iexact HO
  iexact AE0

theorem p19_10 (c : Dev nD) : (k0_pay18 (rowsE I c 2) (wtsE I c 2)) = YE I c 2 := rfl

theorem part19 (K : GSem nD τ sig → ℕ) (c : Dev nD) (f9 : Vec F S8x8x64x1024 .bf16) {Q : (PUnit) → sProp 𝕄} :
    iprop(recs I K ∗ levAts L lv ∗ wP c 3 (I.ew c) ∗ ewP c 1 (EW I c 1) ∗ dutyTok ER (ewC c 1) 1 0 ∗ reached ER (ewC c 1) 1 ∗ pt c cc0_scratch1 Finset.univ (RECV I c) ∗ ewP c 0 (EW I c 2) ∗ pt c cc0_scratch2 Finset.univ (YN I c f9 2) ∗ ow (F := F) c (retL c 0) ∗ AT (F := F) c (.inr 1) 1 ∗ wP c 4 (I.ew c) ∗ dutyTok ER (ewC c 0) 2 0 ∗ reached ER (ewC c 0) 2)
      ⊢ iprop(((wP c 3 (I.ew c) ∗ ewP c 1 (EW I c 3) ∗ reached ER (ewC c 1) 2 ∗ pt c cc0_scratch1 Finset.univ (RECV I c) ∗ pt c cc0_scratch2 Finset.univ (YN I c f9 3) ∗ ow (F := F) c (retL c 0) ∗ AT (F := F) c (.inr 1) 2 ∗ CR (F := F) c (.inr 0)) -∗ Q ⟨⟩)
        -∗ wpc c (k0_part19 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 ) Q) := by
  simp only [k0_part19_eq_skeleton, k0_part19_skel, semSignalWord, semWaitWord, Prog.lift, Prog.bind_op, Prog.bind_ret, Prog.pure_eq_ret, Prog.bind_assoc]
  iintro ⟨#Hrec, #Hlev, W3, B1, TE11, RE1, H8, B0, H9, HO, AE1, W4, TE02, RE0⟩ Hk
  iapply (copy_ew I K c 1 1 (by decide) (el := 3) rfl rfl rfl rfl) $$ [W3 B1 TE11 RE1]
  · isplitr; · iexact Hrec
    isplitl [W3]; · iexact W3
    isplitl [B1]; · iexists _; iexact B1
    isplitl [TE11]; · iexact TE11
    iexact RE1
  iintro CE1
  iapply (ld_rows I c 2 rfl) $$ H8
  iintro H8
  iapply (ld_wts I c 2 0 rfl) $$ B0
  iintro B0
  iapply (ld_col c (YN I c f9 2)) $$ H9
  iintro H9
  iapply (st_col I c f9 2 2 3 rfl rfl (p19_10 I c) rfl) $$ H9
  iintro H9
  iapply (wait_ew' I K c 1 1 (by decide) (el := 3) rfl rfl rfl) $$ [CE1 HO AE1]
  · isplitr; · iexact Hrec
    isplitr; · iexact Hlev
    isplitl [CE1]; · iexact CE1
    isplitl [HO]; · iexact HO
    iexact AE1
  iintro ⟨HO, AE1, RE1, B1, W3⟩
  iapply (copy_ew I K c 0 2 (by decide) (el := 4) rfl rfl rfl rfl) $$ [W4 B0 TE02 RE0]
  · isplitr; · iexact Hrec
    isplitl [W4]; · iexact W4
    isplitl [B0]; · iexists _; iexact B0
    isplitl [TE02]; · iexact TE02
    iexact RE0
  iintro CE0
  iapply (wpc_ret' c (α := (PUnit)) (b := ⟨⟩) rfl)
  iapply Hk
  isplitl [W3]; · iexact W3
  isplitl [B1]; · iexact B1
  isplitl [RE1]; · iexact RE1
  isplitl [H8]; · iexact H8
  isplitl [H9]; · iexact H9
  isplitl [HO]; · iexact HO
  isplitl [AE1]; · iexact AE1
  iexact CE0

theorem p20_3 (c : Dev nD) : (k0_pay19 (rowsE I c 3) (wtsE I c 3)) = YE I c 3 := rfl

theorem part20 (K : GSem nD τ sig → ℕ) (c : Dev nD) (f9 : Vec F S8x8x64x1024 .bf16) {Q : (FVec F S512x512 .f32) → sProp 𝕄} :
    iprop(recs I K ∗ levAts L lv ∗ pt c cc0_scratch1 Finset.univ (RECV I c) ∗ ewP c 1 (EW I c 3) ∗ pt c cc0_scratch2 Finset.univ (YN I c f9 3) ∗ CR (F := F) c (.inr 0) ∗ ow (F := F) c (retL c 0) ∗ AT (F := F) c (.inr 0) 2 ∗ wP c 5 (I.ew c) ∗ dutyTok ER (ewC c 1) 2 0 ∗ reached ER (ewC c 1) 2)
      ⊢ iprop(((pt c cc0_scratch1 Finset.univ (RECV I c) ∗ pt c cc0_scratch2 Finset.univ (YN I c f9 4) ∗ ow (F := F) c (retL c 0) ∗ AT (F := F) c (.inr 0) 3 ∗ reached ER (ewC c 0) 3 ∗ ewP c 0 (EW I c 4) ∗ wP c 4 (I.ew c) ∗ CR (F := F) c (.inr 1)) -∗ Q (k0_pay20 (rowsE I c 4)))
        -∗ wpc c (k0_part20 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 ) Q) := by
  simp only [k0_part20_eq_skeleton, k0_part20_skel, semSignalWord, semWaitWord, Prog.lift, Prog.bind_op, Prog.bind_ret, Prog.pure_eq_ret, Prog.bind_assoc]
  iintro ⟨#Hrec, #Hlev, H8, B1, H9, CE0, HO, AE0, W5, TE12, RE1⟩ Hk
  iapply (ld_rows I c 3 rfl) $$ H8
  iintro H8
  iapply (ld_wts I c 3 1 rfl) $$ B1
  iintro B1
  iapply (ld_col c (YN I c f9 3)) $$ H9
  iintro H9
  iapply (st_col I c f9 3 3 4 rfl rfl (p20_3 I c) rfl) $$ H9
  iintro H9
  iapply (wait_ew' I K c 0 2 (by decide) (el := 4) rfl rfl rfl) $$ [CE0 HO AE0]
  · isplitr; · iexact Hrec
    isplitr; · iexact Hlev
    isplitl [CE0]; · iexact CE0
    isplitl [HO]; · iexact HO
    iexact AE0
  iintro ⟨HO, AE0, RE0, B0, W4⟩
  iapply (copy_ew I K c 1 2 (by decide) (el := 5) rfl rfl rfl rfl) $$ [W5 B1 TE12 RE1]
  · isplitr; · iexact Hrec
    isplitl [W5]; · iexact W5
    isplitl [B1]; · iexists _; iexact B1
    isplitl [TE12]; · iexact TE12
    iexact RE1
  iintro CE1
  iapply (ld_rows I c 4 rfl) $$ H8
  iintro H8
  iapply (wpc_ret' c (α := (FVec F S512x512 .f32)) (b := (k0_pay20 (rowsE I c 4))) rfl)
  iapply Hk
  isplitl [H8]; · iexact H8
  isplitl [H9]; · iexact H9
  isplitl [HO]; · iexact HO
  isplitl [AE0]; · iexact AE0
  isplitl [RE0]; · iexact RE0
  isplitl [B0]; · iexact B0
  isplitl [W4]; · iexact W4
  iexact CE1

theorem p21_2 (c : Dev nD) : (k0_pay21 (k0_pay20 (rowsE I c 4)) (wtsE I c 4)) = YE I c 4 := rfl

theorem part21 (K : GSem nD τ sig → ℕ) (c : Dev nD) (f9 : Vec F S8x8x64x1024 .bf16) {Q : (FVec F S8x64x1024 .bf16) → sProp 𝕄} :
    iprop(recs I K ∗ levAts L lv ∗ ewP c 0 (EW I c 4) ∗ pt c cc0_scratch2 Finset.univ (YN I c f9 4) ∗ CR (F := F) c (.inr 1) ∗ ow (F := F) c (retL c 0) ∗ AT (F := F) c (.inr 1) 2 ∗ wP c 6 (I.ew c) ∗ dutyTok ER (ewC c 0) 3 0 ∗ reached ER (ewC c 0) 3 ∗ pt c cc0_scratch1 Finset.univ (RECV I c))
      ⊢ iprop(((pt c cc0_scratch2 Finset.univ (YN I c f9 5) ∗ ow (F := F) c (retL c 0) ∗ AT (F := F) c (.inr 1) 3 ∗ reached ER (ewC c 1) 3 ∗ ewP c 1 (EW I c 5) ∗ wP c 5 (I.ew c) ∗ CR (F := F) c (.inr 0) ∗ pt c cc0_scratch1 Finset.univ (RECV I c)) -∗ Q (k0_pay22 (rowsE I c 5) (wtsE I c 5)))
        -∗ wpc c (k0_part21 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 (k0_pay20 (rowsE I c 4))) Q) := by
  simp only [k0_part21_eq_skeleton, k0_part21_skel, semSignalWord, semWaitWord, Prog.lift, Prog.bind_op, Prog.bind_ret, Prog.pure_eq_ret, Prog.bind_assoc]
  iintro ⟨#Hrec, #Hlev, B0, H9, CE1, HO, AE1, W6, TE03, RE0, H8⟩ Hk
  iapply (ld_wts I c 4 0 rfl) $$ B0
  iintro B0
  iapply (ld_col c (YN I c f9 4)) $$ H9
  iintro H9
  iapply (st_col I c f9 4 4 5 rfl rfl (p21_2 I c) rfl) $$ H9
  iintro H9
  iapply (wait_ew' I K c 1 2 (by decide) (el := 5) rfl rfl rfl) $$ [CE1 HO AE1]
  · isplitr; · iexact Hrec
    isplitr; · iexact Hlev
    isplitl [CE1]; · iexact CE1
    isplitl [HO]; · iexact HO
    iexact AE1
  iintro ⟨HO, AE1, RE1, B1, W5⟩
  iapply (copy_ew I K c 0 3 (by decide) (el := 6) rfl rfl rfl rfl) $$ [W6 B0 TE03 RE0]
  · isplitr; · iexact Hrec
    isplitl [W6]; · iexact W6
    isplitl [B0]; · iexists _; iexact B0
    isplitl [TE03]; · iexact TE03
    iexact RE0
  iintro CE0
  iapply (ld_rows I c 5 rfl) $$ H8
  iintro H8
  iapply (ld_wts I c 5 1 rfl) $$ B1
  iintro B1
  iapply (wpc_ret' c (α := (FVec F S8x64x1024 .bf16)) (b := (k0_pay22 (rowsE I c 5) (wtsE I c 5))) rfl)
  iapply Hk
  isplitl [H9]; · iexact H9
  isplitl [HO]; · iexact HO
  isplitl [AE1]; · iexact AE1
  isplitl [RE1]; · iexact RE1
  isplitl [B1]; · iexact B1
  isplitl [W5]; · iexact W5
  isplitl [CE0]; · iexact CE0
  iexact H8

theorem p22_1 (c : Dev nD) : (k0_pay23 (k0_pay22 (rowsE I c 5) (wtsE I c 5))) = YE I c 5 := rfl

theorem p22_19 (c : Dev nD) : (k0_pay24 (rowsE I c 6) (wtsE I c 6)) = YE I c 6 := rfl

theorem part22 (K : GSem nD τ sig → ℕ) (c : Dev nD) (f9 : Vec F S8x8x64x1024 .bf16) {Q : (PUnit) → sProp 𝕄} :
    iprop(recs I K ∗ levAts L lv ∗ pt c cc0_scratch2 Finset.univ (YN I c f9 5) ∗ CR (F := F) c (.inr 0) ∗ ow (F := F) c (retL c 0) ∗ AT (F := F) c (.inr 0) 3 ∗ wP c 7 (I.ew c) ∗ ewP c 1 (EW I c 5) ∗ dutyTok ER (ewC c 1) 3 0 ∗ reached ER (ewC c 1) 3 ∗ pt c cc0_scratch1 Finset.univ (RECV I c))
      ⊢ iprop(((pt c cc0_scratch2 Finset.univ (YN I c f9 7) ∗ ow (F := F) c (retL c 0) ∗ AT (F := F) c (.inr 0) 4 ∗ reached ER (ewC c 0) 4 ∗ ewP c 0 (EW I c 6) ∗ wP c 6 (I.ew c) ∗ CR (F := F) c (.inr 1) ∗ pt c cc0_scratch1 Finset.univ (RECV I c)) -∗ Q ⟨⟩)
        -∗ wpc c (k0_part22 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 (k0_pay22 (rowsE I c 5) (wtsE I c 5))) Q) := by
  simp only [k0_part22_eq_skeleton, k0_part22_skel, semSignalWord, semWaitWord, Prog.lift, Prog.bind_op, Prog.bind_ret, Prog.pure_eq_ret, Prog.bind_assoc]
  iintro ⟨#Hrec, #Hlev, H9, CE0, HO, AE0, W7, B1, TE13, RE1, H8⟩ Hk
  iapply (ld_col c (YN I c f9 5)) $$ H9
  iintro H9
  iapply (st_col I c f9 5 5 6 rfl rfl (p22_1 I c) rfl) $$ H9
  iintro H9
  iapply (wait_ew' I K c 0 3 (by decide) (el := 6) rfl rfl rfl) $$ [CE0 HO AE0]
  · isplitr; · iexact Hrec
    isplitr; · iexact Hlev
    isplitl [CE0]; · iexact CE0
    isplitl [HO]; · iexact HO
    iexact AE0
  iintro ⟨HO, AE0, RE0, B0, W6⟩
  iapply (copy_ew I K c 1 3 (by decide) (el := 7) rfl rfl rfl rfl) $$ [W7 B1 TE13 RE1]
  · isplitr; · iexact Hrec
    isplitl [W7]; · iexact W7
    isplitl [B1]; · iexists _; iexact B1
    isplitl [TE13]; · iexact TE13
    iexact RE1
  iintro CE1
  iapply (ld_rows I c 6 rfl) $$ H8
  iintro H8
  iapply (ld_wts I c 6 0 rfl) $$ B0
  iintro B0
  iapply (ld_col c (YN I c f9 6)) $$ H9
  iintro H9
  iapply (st_col I c f9 6 6 7 rfl rfl (p22_19 I c) rfl) $$ H9
  iintro H9
  iapply (wpc_ret' c (α := (PUnit)) (b := ⟨⟩) rfl)
  iapply Hk
  isplitl [H9]; · iexact H9
  isplitl [HO]; · iexact HO
  isplitl [AE0]; · iexact AE0
  isplitl [RE0]; · iexact RE0
  isplitl [B0]; · iexact B0
  isplitl [W6]; · iexact W6
  isplitl [CE1]; · iexact CE1
  iexact H8

theorem p23_10 (c : Dev nD) : (k0_pay25 (rowsE I c 7) (wtsE I c 7)) = YE I c 7 := rfl

theorem p23_13 (c : Dev nD) : (k0_pay26 (resB I c c)) = resB I c c := shapeCast_id _ _

theorem part23 (K : GSem nD τ sig → ℕ) (c : Dev nD) (f9 : Vec F S8x8x64x1024 .bf16) {Q : (Σ' (v711 : BitVec 32), BitVec 32) → sProp 𝕄} :
    iprop(recs I K ∗ levAts L lv ∗ CR (F := F) c (.inr 1) ∗ ow (F := F) c (retL c 0) ∗ AT (F := F) c (.inr 1) 3 ∗ pt c cc0_scratch1 Finset.univ (RECV I c) ∗ pt c cc0_scratch2 Finset.univ (YN I c f9 7) ∗ (∃ f, resP (F := F) c c f))
      ⊢ iprop(((ow (F := F) c (retL c 0) ∗ AT (F := F) c (.inr 1) 4 ∗ reached ER (ewC c 1) 4 ∗ ewP c 1 (EW I c 7) ∗ wP c 7 (I.ew c) ∗ pt c cc0_scratch1 Finset.univ (RECV I c) ∗ pt c cc0_scratch2 Finset.univ (YY I c) ∗ resP c c (RES I c)) -∗ Q ⟨(W711 c), (W712 c)⟩)
        -∗ wpc c (k0_part23 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 c (W2 c)) Q) := by
  simp only [k0_part23_eq_skeleton, k0_part23_skel, semSignalWord, semWaitWord, Prog.lift, Prog.bind_op, Prog.bind_ret, Prog.pure_eq_ret, Prog.bind_assoc]
  iintro ⟨#Hrec, #Hlev, CE1, HO, AE1, H8, H9, HoS⟩ Hk
  iapply (wait_ew' I K c 1 3 (by decide) (el := 7) rfl rfl rfl) $$ [CE1 HO AE1]
  · isplitr; · iexact Hrec
    isplitr; · iexact Hlev
    isplitl [CE1]; · iexact CE1
    isplitl [HO]; · iexact HO
    iexact AE1
  iintro ⟨HO, AE1, RE1, B1, W7⟩
  iapply (ld_rows I c 7 rfl) $$ H8
  iintro H8
  iapply (ld_wts I c 7 1 rfl) $$ B1
  iintro B1
  iapply (ld_col c (YN I c f9 7)) $$ H9
  iintro H9
  iapply (st_col I c f9 7 7 8 rfl rfl (p23_10 I c) rfl) $$ H9
  iintro H9
  rw [YN_eight]
  iapply (ld_y I c (off4_eq c)) $$ H9
  iintro H9
  icases HoS with ⟨%f10, HoS⟩
  iapply (ld_own c f10 (off4_eq c)) $$ HoS
  iintro HoS
  iapply (st_own I c f10 (off4_eq c) (p23_13 I c)) $$ HoS
  iintro HoS
  iapply (wpc_ret' c (α := (Σ' (v711 : BitVec 32), BitVec 32)) (b := ⟨(W711 c), (W712 c)⟩) rfl)
  iapply Hk
  isplitl [HO]; · iexact HO
  isplitl [AE1]; · iexact AE1
  isplitl [RE1]; · iexact RE1
  isplitl [B1]; · iexact B1
  isplitl [W7]; · iexact W7
  isplitl [H8]; · iexact H8
  isplitl [H9]; · iexact H9
  iexact HoS

theorem part24 (K : GSem nD τ sig → ℕ) (c : Dev nD) {Q : (PUnit) → sProp 𝕄} :
    iprop(recs I K ∗ levAts L lv ∗ yP c (c + 1 : Fin 8) (YY I c) ∗ TR (F := F) c 1 ∗ BR (F := F) c 1 ∗ ow (F := F) c (retL c 0))
      ⊢ iprop(((ow (F := F) c (retL c 1) ∗ CR (F := F) c (.inl (2, 1))) -∗ Q ⟨⟩)
        -∗ wpc c (k0_part24 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 c (W2 c) (W711 c) (W712 c)) Q) := by
  simp only [k0_part24_eq_skeleton, k0_part24_skel, semSignalWord, semWaitWord, Prog.lift, Prog.bind_op, Prog.bind_ret, Prog.pure_eq_ret, Prog.bind_assoc]
  iintro ⟨#Hrec, #Hlev, Y1, TR1, BR1, HO⟩ Hk
  iapply (ret I K c 1 (by decide) (l := (retL c 1)) rfl (Fin.ext (dev16_eq c)) (off6_eq1 c) (off5_eq c) rfl rfl) $$ [Y1 TR1 BR1 HO]
  · isplitr; · iexact Hrec
    isplitl [Y1]; · iexact Y1
    isplitl [TR1]; · iexact TR1
    isplitl [BR1]; · iexact BR1
    iexact HO
  iintro ⟨C21, HO⟩
  iapply (wpc_ret' c (α := (PUnit)) (b := ⟨⟩) rfl)
  iapply Hk
  isplitl [HO]; · iexact HO
  iexact C21

theorem part25 (K : GSem nD τ sig → ℕ) (c : Dev nD) {Q : (Σ' (v774 : BitVec 32) (v775 : BitVec 32) (v776 : BitVec 1), BitVec 32) → sProp 𝕄} :
    iprop(recs I K ∗ levAts L lv ∗ yP c (c + 2 : Fin 8) (YY I c) ∗ TR (F := F) c 2 ∗ BR (F := F) c 2 ∗ ow (F := F) c (retL c 1) ∗ yP c (c + 3 : Fin 8) (YY I c) ∗ TR (F := F) c 3 ∗ BR (F := F) c 3)
      ⊢ iprop(((ow (F := F) c (retL c 3) ∗ CR (F := F) c (.inl (2, 2)) ∗ CR (F := F) c (.inl (2, 3))) -∗ Q ⟨(W774 c), (W775 c), (W776 c), 0#32⟩)
        -∗ wpc c (k0_part25 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 c (W2 c)) Q) := by
  simp only [k0_part25_eq_skeleton, k0_part25_skel, semSignalWord, semWaitWord, Prog.lift, Prog.bind_op, Prog.bind_ret, Prog.pure_eq_ret, Prog.bind_assoc]
  iintro ⟨#Hrec, #Hlev, Y2, TR2, BR2, HO, Y3, TR3, BR3⟩ Hk
  iapply (ret I K c 2 (by decide) (l := (retL c 2)) rfl (Fin.ext (dev17_eq c)) (off6_eq2 c) (off5_eq c) rfl rfl) $$ [Y2 TR2 BR2 HO]
  · isplitr; · iexact Hrec
    isplitl [Y2]; · iexact Y2
    isplitl [TR2]; · iexact TR2
    isplitl [BR2]; · iexact BR2
    iexact HO
  iintro ⟨C22, HO⟩
  iapply (ret I K c 3 (by decide) (l := (retL c 3)) rfl (Fin.ext (dev18_eq c)) (off6_eq3 c) (off5_eq c) rfl rfl) $$ [Y3 TR3 BR3 HO]
  · isplitr; · iexact Hrec
    isplitl [Y3]; · iexact Y3
    isplitl [TR3]; · iexact TR3
    isplitl [BR3]; · iexact BR3
    iexact HO
  iintro ⟨C23, HO⟩
  iapply (wpc_ret' c (α := (Σ' (v774 : BitVec 32) (v775 : BitVec 32) (v776 : BitVec 1), BitVec 32)) (b := ⟨(W774 c), (W775 c), (W776 c), 0#32⟩) rfl)
  iapply Hk
  isplitl [HO]; · iexact HO
  isplitl [C22]; · iexact C22
  iexact C23

theorem part26 (K : GSem nD τ sig → ℕ) (c : Dev nD) {Q : (PUnit) → sProp 𝕄} :
    iprop(recs I K ∗ levAts L lv ∗ yP c (c + 4 : Fin 8) (YY I c) ∗ TR (F := F) c 4 ∗ BR (F := F) c 4 ∗ ow (F := F) c (retL c 3))
      ⊢ iprop(((ow (F := F) c (retL c 4) ∗ CR (F := F) c (.inl (2, 4))) -∗ Q ⟨⟩)
        -∗ wpc c (k0_part26 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 c (W2 c) (W774 c) (W775 c) (W776 c) 0#32) Q) := by
  simp only [k0_part26_eq_skeleton, k0_part26_skel, semSignalWord, semWaitWord, Prog.lift, Prog.bind_op, Prog.bind_ret, Prog.pure_eq_ret, Prog.bind_assoc]
  iintro ⟨#Hrec, #Hlev, Y4, TR4, BR4, HO⟩ Hk
  iapply (ret I K c 4 (by decide) (l := (retL c 4)) rfl (Fin.ext (dev19_eq c)) (off6_eq4 c) (off5_eq c) rfl rfl) $$ [Y4 TR4 BR4 HO]
  · isplitr; · iexact Hrec
    isplitl [Y4]; · iexact Y4
    isplitl [TR4]; · iexact TR4
    isplitl [BR4]; · iexact BR4
    iexact HO
  iintro ⟨C24, HO⟩
  iapply (wpc_ret' c (α := (PUnit)) (b := ⟨⟩) rfl)
  iapply Hk
  isplitl [HO]; · iexact HO
  iexact C24

theorem part27 (K : GSem nD τ sig → ℕ) (c : Dev nD) {Q : (Σ' (v837 : BitVec 32) (v838 : BitVec 32) (v839 : BitVec 1) (v840 : BitVec 1), BitVec 1) → sProp 𝕄} :
    iprop(recs I K ∗ levAts L lv ∗ yP c (c + 5 : Fin 8) (YY I c) ∗ TR (F := F) c 5 ∗ BR (F := F) c 5 ∗ ow (F := F) c (retL c 4) ∗ yP c (c + 6 : Fin 8) (YY I c) ∗ TR (F := F) c 6 ∗ BR (F := F) c 6)
      ⊢ iprop(((ow (F := F) c (retL c 6) ∗ CR (F := F) c (.inl (2, 5)) ∗ CR (F := F) c (.inl (2, 6))) -∗ Q ⟨(W837 c), (W838 c), (W839 c), (W840 c), (W841 c)⟩)
        -∗ wpc c (k0_part27 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 c (W2 c)) Q) := by
  simp only [k0_part27_eq_skeleton, k0_part27_skel, semSignalWord, semWaitWord, Prog.lift, Prog.bind_op, Prog.bind_ret, Prog.pure_eq_ret, Prog.bind_assoc]
  iintro ⟨#Hrec, #Hlev, Y5, TR5, BR5, HO, Y6, TR6, BR6⟩ Hk
  iapply (ret I K c 5 (by decide) (l := (retL c 5)) rfl (Fin.ext (dev20_eq c)) (off6_eq5 c) (off5_eq c) rfl rfl) $$ [Y5 TR5 BR5 HO]
  · isplitr; · iexact Hrec
    isplitl [Y5]; · iexact Y5
    isplitl [TR5]; · iexact TR5
    isplitl [BR5]; · iexact BR5
    iexact HO
  iintro ⟨C25, HO⟩
  iapply (ret I K c 6 (by decide) (l := (retL c 6)) rfl (Fin.ext (dev21_eq c)) (off6_eq6 c) (off5_eq c) rfl rfl) $$ [Y6 TR6 BR6 HO]
  · isplitr; · iexact Hrec
    isplitl [Y6]; · iexact Y6
    isplitl [TR6]; · iexact TR6
    isplitl [BR6]; · iexact BR6
    iexact HO
  iintro ⟨C26, HO⟩
  iapply (wpc_ret' c (α := (Σ' (v837 : BitVec 32) (v838 : BitVec 32) (v839 : BitVec 1) (v840 : BitVec 1), BitVec 1)) (b := ⟨(W837 c), (W838 c), (W839 c), (W840 c), (W841 c)⟩) rfl)
  iapply Hk
  isplitl [HO]; · iexact HO
  isplitl [C25]; · iexact C25
  iexact C26

theorem part28 (K : GSem nD τ sig → ℕ) (c : Dev nD) {Q : (Σ' (v866 : BitVec 32) (v869 : FVec F S512x1024 .bf16), IVec S512x512 1) → sProp 𝕄} :
    iprop(recs I K ∗ levAts L lv ∗ yP c (c + 7 : Fin 8) (YY I c) ∗ TR (F := F) c 7 ∗ BR (F := F) c 7 ∗ ow (F := F) c (retL c 6) ∗ resP c c (RES I c) ∗ pt c cc0_stg3_0 Finset.univ (I.sl c))
      ⊢ iprop(((ow (F := F) c ([] : List (GSem nD τ sig × ℕ)) ∗ CR (F := F) c (.inl (2, 7)) ∗ resP c c (RES I c) ∗ pt c cc0_stg3_0 Finset.univ (I.sl c)) -∗ Q ⟨(W866 c), (k0_pay27 (resB I c (c - 0 : Fin 8))), (k0_pay28 (W2 c) (slRow I c 0))⟩)
        -∗ wpc c (k0_part28 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 c (W2 c) (W837 c) (W838 c) (W839 c) (W840 c) (W841 c)) Q) := by
  simp only [k0_part28_eq_skeleton, k0_part28_skel, semSignalWord, semWaitWord, Prog.lift, Prog.bind_op, Prog.bind_ret, Prog.pure_eq_ret, Prog.bind_assoc]
  iintro ⟨#Hrec, #Hlev, Y7, TR7, BR7, HO, HoS, H3⟩ Hk
  iapply (ret I K c 7 (by decide) (l := ([] : List (GSem nD τ sig × ℕ))) rfl (Fin.ext (dev22_eq c)) (off6_eq7 c) (off5_eq c) rfl rfl) $$ [Y7 TR7 BR7 HO]
  · isplitr; · iexact Hrec
    isplitl [Y7]; · iexact Y7
    isplitl [TR7]; · iexact TR7
    isplitl [BR7]; · iexact BR7
    iexact HO
  iintro ⟨C27, HO⟩
  iapply (ld_res I c (c - 0 : Fin 8) c (off7_eq c) (off7_eq0 c)) $$ HoS
  iintro HoS
  iapply (ld_sl I c 0 rfl) $$ H3
  iintro H3
  iapply (wpc_ret' c (α := (Σ' (v866 : BitVec 32) (v869 : FVec F S512x1024 .bf16), IVec S512x512 1)) (b := ⟨(W866 c), (k0_pay27 (resB I c (c - 0 : Fin 8))), (k0_pay28 (W2 c) (slRow I c 0))⟩) rfl)
  iapply Hk
  isplitl [HO]; · iexact HO
  isplitl [C27]; · iexact C27
  isplitl [HoS]; · iexact HoS
  iexact H3

end Cert.KernelIdeal.Moe
-- ==== Proof.PartsC.lean ====
/-
  The parts of the kernel that put the results together.
-/
module

public import proofs.«01_k».proof.Proof.Steps

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (I : Inp F)

theorem w_p29_2 (c : Dev nD) : (let v856 : BitVec 32 := Scalar.subi (W2 c) 0#32; let v857 : BitVec 1 := Scalar.cmpi .eq 8#32 0#32; let v858 : BitVec 32 := Scalar.select v857 1#32 8#32; let v859 : BitVec 32 := Scalar.remsi v856 v858; let v860 : BitVec 1 := Scalar.cmpi .ne v859 0#32; let v861 : BitVec 1 := Scalar.cmpi .slt v859 0#32; let v862 : BitVec 1 := Scalar.cmpi .slt v858 0#32; let v863 : BitVec 1 := Scalar.xori v861 v862; let v864 : BitVec 1 := Scalar.andi v863 v860; let v865 : BitVec 32 := Scalar.addi v859 v858; let v866 : BitVec 32 := Scalar.select v864 v865 v859; v866 : BitVec 32) = wDn c 0 := by revert c; decide

theorem p29_2 (c : Dev nD) : (k0_pay29 (k0_pay27 (resB I c (c - 0 : Fin 8))) (k0_pay28 (W2 c) (slRow I c 0)) (PP I c 0 0)) = PP I c 0 1 :=
  congrArg (fun w => combG w (resB I c (c - 0 : Fin 8)) (slRow I c 0) (PP I c 0 0)) (w_p29_2 c)

theorem w_p29_6 (c : Dev nD) : ((W866 c) : BitVec 32) = wDn c 0 := by revert c; decide

theorem p29_6 (c : Dev nD) : (k0_pay30 (W866 c) (k0_pay27 (resB I c (c - 0 : Fin 8))) (slRow I c 1) (PP I c 1 0)) = PP I c 1 1 :=
  congrArg (fun w => combG w (resB I c (c - 0 : Fin 8)) (slRow I c 1) (PP I c 1 0)) (w_p29_6 c)

theorem part29_of (c : Dev nD) (u00 u01 u10 u11 u20 u30 : Vec F S512x1024 .f32) (h_p29_2 : (k0_pay29 (k0_pay27 (resB I c (c - 0 : Fin 8))) (k0_pay28 (W2 c) (slRow I c 0)) u00) = u01) (h_p29_6 : (k0_pay30 (W866 c) (k0_pay27 (resB I c (c - 0 : Fin 8))) (slRow I c 1) u10) = u11) {Q : (FVec F S512x1024 .f32) → sProp 𝕄} :
    iprop(pt c cc0_stg5_0 Finset.univ (glue ![u00, u10, u20, u30]) ∗ pt c cc0_stg3_0 Finset.univ (I.sl c))
      ⊢ iprop(((pt c cc0_stg5_0 Finset.univ (glue ![u01, u11, u20, u30]) ∗ pt c cc0_stg3_0 Finset.univ (I.sl c)) -∗ Q (k0_pay31 (W866 c) (k0_pay27 (resB I c (c - 0 : Fin 8))) (slRow I c 2) u20))
        -∗ wpc c (k0_part29 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 (W866 c) (k0_pay27 (resB I c (c - 0 : Fin 8))) (k0_pay28 (W2 c) (slRow I c 0))) Q) := by
  simp only [k0_part29_eq_skeleton, k0_part29_skel, semSignalWord, semWaitWord, Prog.lift, Prog.bind_op, Prog.bind_ret, Prog.pure_eq_ret, Prog.bind_assoc]
  iintro ⟨H6, H3⟩ Hk
  iapply (ld_o c ![u00, u10, u20, u30] 0 (v := u00) rfl rfl) $$ H6
  iintro H6
  iapply (ld_o c ![u00, u10, u20, u30] 0 (v := u00) rfl rfl) $$ H6
  iintro H6
  iapply (st_o c ![u00, u10, u20, u30] ![u01, u10, u20, u30] 0 h_p29_2 (by intro b' h; fin_cases b' <;> first | rfl | exact absurd rfl h) rfl) $$ H6
  iintro H6
  iapply (ld_sl I c 1 rfl) $$ H3
  iintro H3
  iapply (ld_o c ![u01, u10, u20, u30] 1 (v := u10) rfl rfl) $$ H6
  iintro H6
  iapply (ld_o c ![u01, u10, u20, u30] 1 (v := u10) rfl rfl) $$ H6
  iintro H6
  iapply (st_o c ![u01, u10, u20, u30] ![u01, u11, u20, u30] 1 h_p29_6 (by intro b' h; fin_cases b' <;> first | rfl | exact absurd rfl h) rfl) $$ H6
  iintro H6
  iapply (ld_sl I c 2 rfl) $$ H3
  iintro H3
  iapply (ld_o c ![u01, u11, u20, u30] 2 (v := u20) rfl rfl) $$ H6
  iintro H6
  iapply (wpc_ret' c (α := (FVec F S512x1024 .f32)) (b := (k0_pay31 (W866 c) (k0_pay27 (resB I c (c - 0 : Fin 8))) (slRow I c 2) u20)) rfl)
  iapply Hk
  isplitl [H6]; · iexact H6
  iexact H3

theorem part29 (c : Dev nD) {Q : (FVec F S512x1024 .f32) → sProp 𝕄} :
    iprop(pt c cc0_stg5_0 Finset.univ (glue ![(PP I c 0 0), (PP I c 1 0), (PP I c 2 0), (PP I c 3 0)]) ∗ pt c cc0_stg3_0 Finset.univ (I.sl c))
      ⊢ iprop(((pt c cc0_stg5_0 Finset.univ (glue ![(PP I c 0 1), (PP I c 1 1), (PP I c 2 0), (PP I c 3 0)]) ∗ pt c cc0_stg3_0 Finset.univ (I.sl c)) -∗ Q (k0_pay31 (W866 c) (k0_pay27 (resB I c (c - 0 : Fin 8))) (slRow I c 2) (PP I c 2 0)))
        -∗ wpc c (k0_part29 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 (W866 c) (k0_pay27 (resB I c (c - 0 : Fin 8))) (k0_pay28 (W2 c) (slRow I c 0))) Q) :=
  part29_of I c (PP I c 0 0) (PP I c 0 1) (PP I c 1 0) (PP I c 1 1) (PP I c 2 0) (PP I c 3 0) (p29_2 I c) (p29_6 I c)

theorem w_p30_1 (c : Dev nD) : ((W866 c) : BitVec 32) = wDn c 0 := by revert c; decide

theorem p30_1 (c : Dev nD) : (k0_pay31 (W866 c) (k0_pay27 (resB I c (c - 0 : Fin 8))) (slRow I c 2) (PP I c 2 0)) = PP I c 2 1 :=
  congrArg (fun w => combG w (resB I c (c - 0 : Fin 8)) (slRow I c 2) (PP I c 2 0)) (w_p30_1 c)

theorem w_p30_5 (c : Dev nD) : ((W866 c) : BitVec 32) = wDn c 0 := by revert c; decide

theorem p30_5 (c : Dev nD) : (k0_pay32 (W866 c) (k0_pay27 (resB I c (c - 0 : Fin 8))) (slRow I c 3) (PP I c 3 0)) = PP I c 3 1 :=
  congrArg (fun w => combG w (resB I c (c - 0 : Fin 8)) (slRow I c 3) (PP I c 3 0)) (w_p30_5 c)

theorem part30_of (c : Dev nD) (u01 u11 u20 u21 u30 u31 : Vec F S512x1024 .f32) (h_p30_1 : (k0_pay31 (W866 c) (k0_pay27 (resB I c (c - 0 : Fin 8))) (slRow I c 2) u20) = u21) (h_p30_5 : (k0_pay32 (W866 c) (k0_pay27 (resB I c (c - 0 : Fin 8))) (slRow I c 3) u30) = u31) {Q : (BitVec 32) → sProp 𝕄} :
    iprop(pt c cc0_stg5_0 Finset.univ (glue ![u01, u11, u20, u30]) ∗ pt c cc0_stg3_0 Finset.univ (I.sl c))
      ⊢ iprop(((pt c cc0_stg5_0 Finset.univ (glue ![u01, u11, u21, u31]) ∗ pt c cc0_stg3_0 Finset.univ (I.sl c)) -∗ Q (W944 c))
        -∗ wpc c (k0_part30 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 c (W2 c) (W866 c) (k0_pay27 (resB I c (c - 0 : Fin 8))) (k0_pay31 (W866 c) (k0_pay27 (resB I c (c - 0 : Fin 8))) (slRow I c 2) u20)) Q) := by
  simp only [k0_part30_eq_skeleton, k0_part30_skel, semSignalWord, semWaitWord, Prog.lift, Prog.bind_op, Prog.bind_ret, Prog.pure_eq_ret, Prog.bind_assoc]
  iintro ⟨H6, H3⟩ Hk
  iapply (ld_o c ![u01, u11, u20, u30] 2 (v := u20) rfl rfl) $$ H6
  iintro H6
  iapply (st_o c ![u01, u11, u20, u30] ![u01, u11, u21, u30] 2 h_p30_1 (by intro b' h; fin_cases b' <;> first | rfl | exact absurd rfl h) rfl) $$ H6
  iintro H6
  iapply (ld_sl I c 3 rfl) $$ H3
  iintro H3
  iapply (ld_o c ![u01, u11, u21, u30] 3 (v := u30) rfl rfl) $$ H6
  iintro H6
  iapply (ld_o c ![u01, u11, u21, u30] 3 (v := u30) rfl rfl) $$ H6
  iintro H6
  iapply (st_o c ![u01, u11, u21, u30] ![u01, u11, u21, u31] 3 h_p30_5 (by intro b' h; fin_cases b' <;> first | rfl | exact absurd rfl h) rfl) $$ H6
  iintro H6
  iapply (wpc_ret' c (α := (BitVec 32)) (b := (W944 c)) rfl)
  iapply Hk
  isplitl [H6]; · iexact H6
  iexact H3

theorem part30 (c : Dev nD) {Q : (BitVec 32) → sProp 𝕄} :
    iprop(pt c cc0_stg5_0 Finset.univ (glue ![(PP I c 0 1), (PP I c 1 1), (PP I c 2 0), (PP I c 3 0)]) ∗ pt c cc0_stg3_0 Finset.univ (I.sl c))
      ⊢ iprop(((pt c cc0_stg5_0 Finset.univ (glue ![(PP I c 0 1), (PP I c 1 1), (PP I c 2 1), (PP I c 3 1)]) ∗ pt c cc0_stg3_0 Finset.univ (I.sl c)) -∗ Q (W944 c))
        -∗ wpc c (k0_part30 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 c (W2 c) (W866 c) (k0_pay27 (resB I c (c - 0 : Fin 8))) (k0_pay31 (W866 c) (k0_pay27 (resB I c (c - 0 : Fin 8))) (slRow I c 2) (PP I c 2 0))) Q) :=
  part30_of I c (PP I c 0 1) (PP I c 1 1) (PP I c 2 0) (PP I c 2 1) (PP I c 3 0) (PP I c 3 1) (p30_1 I c) (p30_5 I c)

theorem w_p31_11 (c : Dev nD) : ((W944 c) : BitVec 32) = wDn c 1 := by revert c; decide

theorem p31_11 (c : Dev nD) : (k0_pay34 (W944 c) (resB I c (c - 1 : Fin 8)) (slRow I c 0) (PP I c 0 1)) = PP I c 0 2 :=
  congrArg (fun w => combG w (resB I c (c - 1 : Fin 8)) (slRow I c 0) (PP I c 0 1)) (w_p31_11 c)

theorem part31_of (K : GSem nD τ sig → ℕ) (c : Dev nD) (u01 u02 u11 u21 u31 : Vec F S512x1024 .f32) (h_p31_11 : (k0_pay34 (W944 c) (resB I c (c - 1 : Fin 8)) (slRow I c 0) u01) = u02) {Q : (Σ' (v955 : FVec F S512x1024 .bf16), FVec F S512x1024 .f32) → sProp 𝕄} :
    iprop(recs I K ∗ levAts L lv ∗ CR (F := F) c (.inl (3, 1)) ∗ ow (F := F) c ([] : List (GSem nD τ sig × ℕ)) ∗ AT (F := F) c (.inl (3, 1)) 0 ∗ pt c cc0_stg3_0 Finset.univ (I.sl c) ∗ pt c cc0_stg5_0 Finset.univ (glue ![u01, u11, u21, u31]))
      ⊢ iprop(((ow (F := F) c ([] : List (GSem nD τ sig × ℕ)) ∗ AT (F := F) c (.inl (3, 1)) 1 ∗ resP c (c - 1 : Fin 8) (RES I c) ∗ pt c cc0_stg3_0 Finset.univ (I.sl c) ∗ pt c cc0_stg5_0 Finset.univ (glue ![u02, u11, u21, u31])) -∗ Q ⟨(k0_pay33 (resB I c (c - 1 : Fin 8))), (k0_pay35 (W944 c) (resB I c (c - 1 : Fin 8)) (slRow I c 1) u11)⟩)
        -∗ wpc c (k0_part31 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 c (W944 c)) Q) := by
  simp only [k0_part31_eq_skeleton, k0_part31_skel, semSignalWord, semWaitWord, Prog.lift, Prog.bind_op, Prog.bind_ret, Prog.pure_eq_ret, Prog.bind_assoc]
  iintro ⟨#Hrec, #Hlev, C31, HO, A31, H3, H6⟩ Hk
  iapply (wait_rr I K c 1 (by decide) rfl rfl) $$ [C31 HO A31]
  · isplitr; · iexact Hrec
    isplitr; · iexact Hlev
    isplitl [C31]; · iexact C31
    isplitl [HO]; · iexact HO
    iexact A31
  iintro ⟨HO, A31, -, R1⟩
  iapply (ld_res I c (c - 1 : Fin 8) (c - 1 : Fin 8) (off7_eq1 c) (off7_eq1 c)) $$ R1
  iintro R1
  iapply (ld_sl I c 0 rfl) $$ H3
  iintro H3
  iapply (ld_o c ![u01, u11, u21, u31] 0 (v := u01) rfl rfl) $$ H6
  iintro H6
  iapply (ld_o c ![u01, u11, u21, u31] 0 (v := u01) rfl rfl) $$ H6
  iintro H6
  iapply (st_o c ![u01, u11, u21, u31] ![u02, u11, u21, u31] 0 h_p31_11 (by intro b' h; fin_cases b' <;> first | rfl | exact absurd rfl h) rfl) $$ H6
  iintro H6
  iapply (ld_sl I c 1 rfl) $$ H3
  iintro H3
  iapply (ld_o c ![u02, u11, u21, u31] 1 (v := u11) rfl rfl) $$ H6
  iintro H6
  iapply (wpc_ret' c (α := (Σ' (v955 : FVec F S512x1024 .bf16), FVec F S512x1024 .f32)) (b := ⟨(k0_pay33 (resB I c (c - 1 : Fin 8))), (k0_pay35 (W944 c) (resB I c (c - 1 : Fin 8)) (slRow I c 1) u11)⟩) rfl)
  iapply Hk
  isplitl [HO]; · iexact HO
  isplitl [A31]; · iexact A31
  isplitl [R1]; · iexact R1
  isplitl [H3]; · iexact H3
  iexact H6

theorem part31 (K : GSem nD τ sig → ℕ) (c : Dev nD) {Q : (Σ' (v955 : FVec F S512x1024 .bf16), FVec F S512x1024 .f32) → sProp 𝕄} :
    iprop(recs I K ∗ levAts L lv ∗ CR (F := F) c (.inl (3, 1)) ∗ ow (F := F) c ([] : List (GSem nD τ sig × ℕ)) ∗ AT (F := F) c (.inl (3, 1)) 0 ∗ pt c cc0_stg3_0 Finset.univ (I.sl c) ∗ pt c cc0_stg5_0 Finset.univ (glue ![(PP I c 0 1), (PP I c 1 1), (PP I c 2 1), (PP I c 3 1)]))
      ⊢ iprop(((ow (F := F) c ([] : List (GSem nD τ sig × ℕ)) ∗ AT (F := F) c (.inl (3, 1)) 1 ∗ resP c (c - 1 : Fin 8) (RES I c) ∗ pt c cc0_stg3_0 Finset.univ (I.sl c) ∗ pt c cc0_stg5_0 Finset.univ (glue ![(PP I c 0 2), (PP I c 1 1), (PP I c 2 1), (PP I c 3 1)])) -∗ Q ⟨(k0_pay33 (resB I c (c - 1 : Fin 8))), (k0_pay35 (W944 c) (resB I c (c - 1 : Fin 8)) (slRow I c 1) (PP I c 1 1))⟩)
        -∗ wpc c (k0_part31 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 c (W944 c)) Q) :=
  part31_of I K c (PP I c 0 1) (PP I c 0 2) (PP I c 1 1) (PP I c 2 1) (PP I c 3 1) (p31_11 I c)

theorem w_p32_1 (c : Dev nD) : ((W944 c) : BitVec 32) = wDn c 1 := by revert c; decide

theorem p32_1 (c : Dev nD) : (k0_pay35 (W944 c) (resB I c (c - 1 : Fin 8)) (slRow I c 1) (PP I c 1 1)) = PP I c 1 2 :=
  congrArg (fun w => combG w (resB I c (c - 1 : Fin 8)) (slRow I c 1) (PP I c 1 1)) (w_p32_1 c)

theorem w_p32_5 (c : Dev nD) : ((W944 c) : BitVec 32) = wDn c 1 := by revert c; decide

theorem p32_5 (c : Dev nD) : (k0_pay36 (W944 c) (k0_pay33 (resB I c (c - 1 : Fin 8))) (slRow I c 2) (PP I c 2 1)) = PP I c 2 2 :=
  congrArg (fun w => combG w (resB I c (c - 1 : Fin 8)) (slRow I c 2) (PP I c 2 1)) (w_p32_5 c)

theorem w_p32_9 (c : Dev nD) : ((W944 c) : BitVec 32) = wDn c 1 := by revert c; decide

theorem p32_9 (c : Dev nD) : (k0_pay37 (W944 c) (k0_pay33 (resB I c (c - 1 : Fin 8))) (slRow I c 3) (PP I c 3 1)) = PP I c 3 2 :=
  congrArg (fun w => combG w (resB I c (c - 1 : Fin 8)) (slRow I c 3) (PP I c 3 1)) (w_p32_9 c)

theorem part32_of (c : Dev nD) (u02 u11 u12 u21 u22 u31 u32 : Vec F S512x1024 .f32) (h_p32_1 : (k0_pay35 (W944 c) (resB I c (c - 1 : Fin 8)) (slRow I c 1) u11) = u12) (h_p32_5 : (k0_pay36 (W944 c) (k0_pay33 (resB I c (c - 1 : Fin 8))) (slRow I c 2) u21) = u22) (h_p32_9 : (k0_pay37 (W944 c) (k0_pay33 (resB I c (c - 1 : Fin 8))) (slRow I c 3) u31) = u32) {Q : (Σ' (v1022 : BitVec 32), BitVec 32) → sProp 𝕄} :
    iprop(pt c cc0_stg5_0 Finset.univ (glue ![u02, u11, u21, u31]) ∗ pt c cc0_stg3_0 Finset.univ (I.sl c))
      ⊢ iprop(((pt c cc0_stg5_0 Finset.univ (glue ![u02, u12, u22, u32]) ∗ pt c cc0_stg3_0 Finset.univ (I.sl c)) -∗ Q ⟨(W1022 c), (W1023 c)⟩)
        -∗ wpc c (k0_part32 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 (W2 c) (W944 c) (k0_pay33 (resB I c (c - 1 : Fin 8))) (k0_pay35 (W944 c) (resB I c (c - 1 : Fin 8)) (slRow I c 1) u11)) Q) := by
  simp only [k0_part32_eq_skeleton, k0_part32_skel, semSignalWord, semWaitWord, Prog.lift, Prog.bind_op, Prog.bind_ret, Prog.pure_eq_ret, Prog.bind_assoc]
  iintro ⟨H6, H3⟩ Hk
  iapply (ld_o c ![u02, u11, u21, u31] 1 (v := u11) rfl rfl) $$ H6
  iintro H6
  iapply (st_o c ![u02, u11, u21, u31] ![u02, u12, u21, u31] 1 h_p32_1 (by intro b' h; fin_cases b' <;> first | rfl | exact absurd rfl h) rfl) $$ H6
  iintro H6
  iapply (ld_sl I c 2 rfl) $$ H3
  iintro H3
  iapply (ld_o c ![u02, u12, u21, u31] 2 (v := u21) rfl rfl) $$ H6
  iintro H6
  iapply (ld_o c ![u02, u12, u21, u31] 2 (v := u21) rfl rfl) $$ H6
  iintro H6
  iapply (st_o c ![u02, u12, u21, u31] ![u02, u12, u22, u31] 2 h_p32_5 (by intro b' h; fin_cases b' <;> first | rfl | exact absurd rfl h) rfl) $$ H6
  iintro H6
  iapply (ld_sl I c 3 rfl) $$ H3
  iintro H3
  iapply (ld_o c ![u02, u12, u22, u31] 3 (v := u31) rfl rfl) $$ H6
  iintro H6
  iapply (ld_o c ![u02, u12, u22, u31] 3 (v := u31) rfl rfl) $$ H6
  iintro H6
  iapply (st_o c ![u02, u12, u22, u31] ![u02, u12, u22, u32] 3 h_p32_9 (by intro b' h; fin_cases b' <;> first | rfl | exact absurd rfl h) rfl) $$ H6
  iintro H6
  iapply (wpc_ret' c (α := (Σ' (v1022 : BitVec 32), BitVec 32)) (b := ⟨(W1022 c), (W1023 c)⟩) rfl)
  iapply Hk
  isplitl [H6]; · iexact H6
  iexact H3

theorem part32 (c : Dev nD) {Q : (Σ' (v1022 : BitVec 32), BitVec 32) → sProp 𝕄} :
    iprop(pt c cc0_stg5_0 Finset.univ (glue ![(PP I c 0 2), (PP I c 1 1), (PP I c 2 1), (PP I c 3 1)]) ∗ pt c cc0_stg3_0 Finset.univ (I.sl c))
      ⊢ iprop(((pt c cc0_stg5_0 Finset.univ (glue ![(PP I c 0 2), (PP I c 1 2), (PP I c 2 2), (PP I c 3 2)]) ∗ pt c cc0_stg3_0 Finset.univ (I.sl c)) -∗ Q ⟨(W1022 c), (W1023 c)⟩)
        -∗ wpc c (k0_part32 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 (W2 c) (W944 c) (k0_pay33 (resB I c (c - 1 : Fin 8))) (k0_pay35 (W944 c) (resB I c (c - 1 : Fin 8)) (slRow I c 1) (PP I c 1 1))) Q) :=
  part32_of I c (PP I c 0 2) (PP I c 1 1) (PP I c 1 2) (PP I c 2 1) (PP I c 2 2) (PP I c 3 1) (PP I c 3 2) (p32_1 I c) (p32_5 I c) (p32_9 I c)

theorem w_p33_18 (c : Dev nD) : (let v1024 : BitVec 1 := Scalar.cmpi .ne (W1023 c) 0#32; let v1025 : BitVec 1 := Scalar.cmpi .slt (W1023 c) 0#32; let v1026 : BitVec 1 := Scalar.cmpi .slt (W1022 c) 0#32; let v1027 : BitVec 1 := Scalar.xori v1025 v1026; let v1028 : BitVec 1 := Scalar.andi v1027 v1024; let v1029 : BitVec 32 := Scalar.addi (W1023 c) (W1022 c); let v1030 : BitVec 32 := Scalar.select v1028 v1029 (W1023 c); v1030 : BitVec 32) = wDn c 2 := by revert c; decide

theorem p33_18 (c : Dev nD) : (k0_pay39 (W1022 c) (W1023 c) (resB I c (c - 2 : Fin 8)) (slRow I c 0) (PP I c 0 2)) = PP I c 0 3 :=
  congrArg (fun w => combG w (resB I c (c - 2 : Fin 8)) (slRow I c 0) (PP I c 0 2)) (w_p33_18 c)

theorem part33_of (K : GSem nD τ sig → ℕ) (c : Dev nD) (u02 u03 u12 u22 u32 : Vec F S512x1024 .f32) (h_p33_18 : (k0_pay39 (W1022 c) (W1023 c) (resB I c (c - 2 : Fin 8)) (slRow I c 0) u02) = u03) {Q : (Σ' (v1030 : BitVec 32), FVec F S512x1024 .bf16) → sProp 𝕄} :
    iprop(recs I K ∗ levAts L lv ∗ CR (F := F) c (.inl (3, 2)) ∗ ow (F := F) c ([] : List (GSem nD τ sig × ℕ)) ∗ AT (F := F) c (.inl (3, 2)) 0 ∗ pt c cc0_stg3_0 Finset.univ (I.sl c) ∗ pt c cc0_stg5_0 Finset.univ (glue ![u02, u12, u22, u32]))
      ⊢ iprop(((ow (F := F) c ([] : List (GSem nD τ sig × ℕ)) ∗ AT (F := F) c (.inl (3, 2)) 1 ∗ resP c (c - 2 : Fin 8) (RES I c) ∗ pt c cc0_stg3_0 Finset.univ (I.sl c) ∗ pt c cc0_stg5_0 Finset.univ (glue ![u03, u12, u22, u32])) -∗ Q ⟨(W1030 c), (k0_pay38 (resB I c (c - 2 : Fin 8)))⟩)
        -∗ wpc c (k0_part33 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 c (W1022 c) (W1023 c)) Q) := by
  simp only [k0_part33_eq_skeleton, k0_part33_skel, semSignalWord, semWaitWord, Prog.lift, Prog.bind_op, Prog.bind_ret, Prog.pure_eq_ret, Prog.bind_assoc]
  iintro ⟨#Hrec, #Hlev, C32, HO, A32, H3, H6⟩ Hk
  iapply (wait_rr I K c 2 (by decide) rfl rfl) $$ [C32 HO A32]
  · isplitr; · iexact Hrec
    isplitr; · iexact Hlev
    isplitl [C32]; · iexact C32
    isplitl [HO]; · iexact HO
    iexact A32
  iintro ⟨HO, A32, -, R2⟩
  iapply (ld_res I c (c - 2 : Fin 8) (c - 2 : Fin 8) (off7_eq2 c) (off7_eq2 c)) $$ R2
  iintro R2
  iapply (ld_sl I c 0 rfl) $$ H3
  iintro H3
  iapply (ld_o c ![u02, u12, u22, u32] 0 (v := u02) rfl rfl) $$ H6
  iintro H6
  iapply (ld_o c ![u02, u12, u22, u32] 0 (v := u02) rfl rfl) $$ H6
  iintro H6
  iapply (st_o c ![u02, u12, u22, u32] ![u03, u12, u22, u32] 0 h_p33_18 (by intro b' h; fin_cases b' <;> first | rfl | exact absurd rfl h) rfl) $$ H6
  iintro H6
  iapply (wpc_ret' c (α := (Σ' (v1030 : BitVec 32), FVec F S512x1024 .bf16)) (b := ⟨(W1030 c), (k0_pay38 (resB I c (c - 2 : Fin 8)))⟩) rfl)
  iapply Hk
  isplitl [HO]; · iexact HO
  isplitl [A32]; · iexact A32
  isplitl [R2]; · iexact R2
  isplitl [H3]; · iexact H3
  iexact H6

theorem part33 (K : GSem nD τ sig → ℕ) (c : Dev nD) {Q : (Σ' (v1030 : BitVec 32), FVec F S512x1024 .bf16) → sProp 𝕄} :
    iprop(recs I K ∗ levAts L lv ∗ CR (F := F) c (.inl (3, 2)) ∗ ow (F := F) c ([] : List (GSem nD τ sig × ℕ)) ∗ AT (F := F) c (.inl (3, 2)) 0 ∗ pt c cc0_stg3_0 Finset.univ (I.sl c) ∗ pt c cc0_stg5_0 Finset.univ (glue ![(PP I c 0 2), (PP I c 1 2), (PP I c 2 2), (PP I c 3 2)]))
      ⊢ iprop(((ow (F := F) c ([] : List (GSem nD τ sig × ℕ)) ∗ AT (F := F) c (.inl (3, 2)) 1 ∗ resP c (c - 2 : Fin 8) (RES I c) ∗ pt c cc0_stg3_0 Finset.univ (I.sl c) ∗ pt c cc0_stg5_0 Finset.univ (glue ![(PP I c 0 3), (PP I c 1 2), (PP I c 2 2), (PP I c 3 2)])) -∗ Q ⟨(W1030 c), (k0_pay38 (resB I c (c - 2 : Fin 8)))⟩)
        -∗ wpc c (k0_part33 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 c (W1022 c) (W1023 c)) Q) :=
  part33_of I K c (PP I c 0 2) (PP I c 0 3) (PP I c 1 2) (PP I c 2 2) (PP I c 3 2) (p33_18 I c)

theorem w_p34_3 (c : Dev nD) : ((W1030 c) : BitVec 32) = wDn c 2 := by revert c; decide

theorem p34_3 (c : Dev nD) : (k0_pay40 (W1030 c) (k0_pay38 (resB I c (c - 2 : Fin 8))) (slRow I c 1) (PP I c 1 2)) = PP I c 1 3 :=
  congrArg (fun w => combG w (resB I c (c - 2 : Fin 8)) (slRow I c 1) (PP I c 1 2)) (w_p34_3 c)

theorem w_p34_7 (c : Dev nD) : ((W1030 c) : BitVec 32) = wDn c 2 := by revert c; decide

theorem p34_7 (c : Dev nD) : (k0_pay41 (W1030 c) (k0_pay38 (resB I c (c - 2 : Fin 8))) (slRow I c 2) (PP I c 2 2)) = PP I c 2 3 :=
  congrArg (fun w => combG w (resB I c (c - 2 : Fin 8)) (slRow I c 2) (PP I c 2 2)) (w_p34_7 c)

theorem part34_of (c : Dev nD) (u03 u12 u13 u22 u23 u32 : Vec F S512x1024 .f32) (h_p34_3 : (k0_pay40 (W1030 c) (k0_pay38 (resB I c (c - 2 : Fin 8))) (slRow I c 1) u12) = u13) (h_p34_7 : (k0_pay41 (W1030 c) (k0_pay38 (resB I c (c - 2 : Fin 8))) (slRow I c 2) u22) = u23) {Q : (Σ' (v1095 : IVec S512x512 32), IVec S512x512 32) → sProp 𝕄} :
    iprop(pt c cc0_stg3_0 Finset.univ (I.sl c) ∗ pt c cc0_stg5_0 Finset.univ (glue ![u03, u12, u22, u32]))
      ⊢ iprop(((pt c cc0_stg3_0 Finset.univ (I.sl c) ∗ pt c cc0_stg5_0 Finset.univ (glue ![u03, u13, u23, u32])) -∗ Q ⟨(k0_pay42 (W1030 c)), (k0_pay43 (slRow I c 3))⟩)
        -∗ wpc c (k0_part34 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 (W1030 c) (k0_pay38 (resB I c (c - 2 : Fin 8)))) Q) := by
  simp only [k0_part34_eq_skeleton, k0_part34_skel, semSignalWord, semWaitWord, Prog.lift, Prog.bind_op, Prog.bind_ret, Prog.pure_eq_ret, Prog.bind_assoc]
  iintro ⟨H3, H6⟩ Hk
  iapply (ld_sl I c 1 rfl) $$ H3
  iintro H3
  iapply (ld_o c ![u03, u12, u22, u32] 1 (v := u12) rfl rfl) $$ H6
  iintro H6
  iapply (ld_o c ![u03, u12, u22, u32] 1 (v := u12) rfl rfl) $$ H6
  iintro H6
  iapply (st_o c ![u03, u12, u22, u32] ![u03, u13, u22, u32] 1 h_p34_3 (by intro b' h; fin_cases b' <;> first | rfl | exact absurd rfl h) rfl) $$ H6
  iintro H6
  iapply (ld_sl I c 2 rfl) $$ H3
  iintro H3
  iapply (ld_o c ![u03, u13, u22, u32] 2 (v := u22) rfl rfl) $$ H6
  iintro H6
  iapply (ld_o c ![u03, u13, u22, u32] 2 (v := u22) rfl rfl) $$ H6
  iintro H6
  iapply (st_o c ![u03, u13, u22, u32] ![u03, u13, u23, u32] 2 h_p34_7 (by intro b' h; fin_cases b' <;> first | rfl | exact absurd rfl h) rfl) $$ H6
  iintro H6
  iapply (ld_sl I c 3 rfl) $$ H3
  iintro H3
  iapply (wpc_ret' c (α := (Σ' (v1095 : IVec S512x512 32), IVec S512x512 32)) (b := ⟨(k0_pay42 (W1030 c)), (k0_pay43 (slRow I c 3))⟩) rfl)
  iapply Hk
  isplitl [H3]; · iexact H3
  iexact H6

theorem part34 (c : Dev nD) {Q : (Σ' (v1095 : IVec S512x512 32), IVec S512x512 32) → sProp 𝕄} :
    iprop(pt c cc0_stg3_0 Finset.univ (I.sl c) ∗ pt c cc0_stg5_0 Finset.univ (glue ![(PP I c 0 3), (PP I c 1 2), (PP I c 2 2), (PP I c 3 2)]))
      ⊢ iprop(((pt c cc0_stg3_0 Finset.univ (I.sl c) ∗ pt c cc0_stg5_0 Finset.univ (glue ![(PP I c 0 3), (PP I c 1 3), (PP I c 2 3), (PP I c 3 2)])) -∗ Q ⟨(k0_pay42 (W1030 c)), (k0_pay43 (slRow I c 3))⟩)
        -∗ wpc c (k0_part34 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 (W1030 c) (k0_pay38 (resB I c (c - 2 : Fin 8)))) Q) :=
  part34_of I c (PP I c 0 3) (PP I c 1 2) (PP I c 1 3) (PP I c 2 2) (PP I c 2 3) (PP I c 3 2) (p34_3 I c) (p34_7 I c)

theorem w_p35_2 (c : Dev nD) : ((W1030 c) : BitVec 32) = wDn c 2 := by revert c; decide

theorem p35_2 (c : Dev nD) : (k0_pay44 (k0_pay38 (resB I c (c - 2 : Fin 8))) (k0_pay42 (W1030 c)) (k0_pay43 (slRow I c 3)) (PP I c 3 2)) = PP I c 3 3 :=
  congrArg (fun w => combG w (resB I c (c - 2 : Fin 8)) (slRow I c 3) (PP I c 3 2)) (w_p35_2 c)

theorem part35_of (K : GSem nD τ sig → ℕ) (c : Dev nD) (u03 u13 u23 u32 u33 : Vec F S512x1024 .f32) (h_p35_2 : (k0_pay44 (k0_pay38 (resB I c (c - 2 : Fin 8))) (k0_pay42 (W1030 c)) (k0_pay43 (slRow I c 3)) u32) = u33) {Q : (Σ' (v1116 : BitVec 32) (v1127 : FVec F S512x1024 .bf16), BitVec 32) → sProp 𝕄} :
    iprop(recs I K ∗ levAts L lv ∗ pt c cc0_stg5_0 Finset.univ (glue ![u03, u13, u23, u32]) ∗ CR (F := F) c (.inl (3, 3)) ∗ ow (F := F) c ([] : List (GSem nD τ sig × ℕ)) ∗ AT (F := F) c (.inl (3, 3)) 0)
      ⊢ iprop(((pt c cc0_stg5_0 Finset.univ (glue ![u03, u13, u23, u33]) ∗ ow (F := F) c ([] : List (GSem nD τ sig × ℕ)) ∗ AT (F := F) c (.inl (3, 3)) 1 ∗ resP c (c - 3 : Fin 8) (RES I c)) -∗ Q ⟨(W1116 c), (k0_pay45 (resB I c (c - 3 : Fin 8))), (W1128 c)⟩)
        -∗ wpc c (k0_part35 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 c (W2 c) (k0_pay38 (resB I c (c - 2 : Fin 8))) (k0_pay42 (W1030 c)) (k0_pay43 (slRow I c 3))) Q) := by
  simp only [k0_part35_eq_skeleton, k0_part35_skel, semSignalWord, semWaitWord, Prog.lift, Prog.bind_op, Prog.bind_ret, Prog.pure_eq_ret, Prog.bind_assoc]
  iintro ⟨#Hrec, #Hlev, H6, C33, HO, A33⟩ Hk
  iapply (ld_o c ![u03, u13, u23, u32] 3 (v := u32) rfl rfl) $$ H6
  iintro H6
  iapply (ld_o c ![u03, u13, u23, u32] 3 (v := u32) rfl rfl) $$ H6
  iintro H6
  iapply (st_o c ![u03, u13, u23, u32] ![u03, u13, u23, u33] 3 h_p35_2 (by intro b' h; fin_cases b' <;> first | rfl | exact absurd rfl h) rfl) $$ H6
  iintro H6
  iapply (wait_rr I K c 3 (by decide) rfl rfl) $$ [C33 HO A33]
  · isplitr; · iexact Hrec
    isplitr; · iexact Hlev
    isplitl [C33]; · iexact C33
    isplitl [HO]; · iexact HO
    iexact A33
  iintro ⟨HO, A33, -, R3⟩
  iapply (ld_res I c (c - 3 : Fin 8) (c - 3 : Fin 8) (off7_eq3 c) (off7_eq3 c)) $$ R3
  iintro R3
  iapply (wpc_ret' c (α := (Σ' (v1116 : BitVec 32) (v1127 : FVec F S512x1024 .bf16), BitVec 32)) (b := ⟨(W1116 c), (k0_pay45 (resB I c (c - 3 : Fin 8))), (W1128 c)⟩) rfl)
  iapply Hk
  isplitl [H6]; · iexact H6
  isplitl [HO]; · iexact HO
  isplitl [A33]; · iexact A33
  iexact R3

theorem part35 (K : GSem nD τ sig → ℕ) (c : Dev nD) {Q : (Σ' (v1116 : BitVec 32) (v1127 : FVec F S512x1024 .bf16), BitVec 32) → sProp 𝕄} :
    iprop(recs I K ∗ levAts L lv ∗ pt c cc0_stg5_0 Finset.univ (glue ![(PP I c 0 3), (PP I c 1 3), (PP I c 2 3), (PP I c 3 2)]) ∗ CR (F := F) c (.inl (3, 3)) ∗ ow (F := F) c ([] : List (GSem nD τ sig × ℕ)) ∗ AT (F := F) c (.inl (3, 3)) 0)
      ⊢ iprop(((pt c cc0_stg5_0 Finset.univ (glue ![(PP I c 0 3), (PP I c 1 3), (PP I c 2 3), (PP I c 3 3)]) ∗ ow (F := F) c ([] : List (GSem nD τ sig × ℕ)) ∗ AT (F := F) c (.inl (3, 3)) 1 ∗ resP c (c - 3 : Fin 8) (RES I c)) -∗ Q ⟨(W1116 c), (k0_pay45 (resB I c (c - 3 : Fin 8))), (W1128 c)⟩)
        -∗ wpc c (k0_part35 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 c (W2 c) (k0_pay38 (resB I c (c - 2 : Fin 8))) (k0_pay42 (W1030 c)) (k0_pay43 (slRow I c 3))) Q) :=
  part35_of I K c (PP I c 0 3) (PP I c 1 3) (PP I c 2 3) (PP I c 3 2) (PP I c 3 3) (p35_2 I c)

theorem w_p36_3 (c : Dev nD) : (W1116 c) = wDn c 3 := by revert c; decide

theorem p36_3 (c : Dev nD) : (k0_pay46 (k0_pay45 (resB I c (c - 3 : Fin 8))) (W1128 c) (slRow I c 0) (PP I c 0 3)) = PP I c 0 4 :=
  congrArg (fun w => combG w (resB I c (c - 3 : Fin 8)) (slRow I c 0) (PP I c 0 3)) (w_p36_3 c)

theorem w_p36_7 (c : Dev nD) : ((W1116 c) : BitVec 32) = wDn c 3 := by revert c; decide

theorem p36_7 (c : Dev nD) : (k0_pay47 (W1116 c) (k0_pay45 (resB I c (c - 3 : Fin 8))) (slRow I c 1) (PP I c 1 3)) = PP I c 1 4 :=
  congrArg (fun w => combG w (resB I c (c - 3 : Fin 8)) (slRow I c 1) (PP I c 1 3)) (w_p36_7 c)

theorem part36_of (c : Dev nD) (u03 u04 u13 u14 u23 u33 : Vec F S512x1024 .f32) (h_p36_3 : (k0_pay46 (k0_pay45 (resB I c (c - 3 : Fin 8))) (W1128 c) (slRow I c 0) u03) = u04) (h_p36_7 : (k0_pay47 (W1116 c) (k0_pay45 (resB I c (c - 3 : Fin 8))) (slRow I c 1) u13) = u14) {Q : (IVec S512x512 32) → sProp 𝕄} :
    iprop(pt c cc0_stg3_0 Finset.univ (I.sl c) ∗ pt c cc0_stg5_0 Finset.univ (glue ![u03, u13, u23, u33]))
      ⊢ iprop(((pt c cc0_stg3_0 Finset.univ (I.sl c) ∗ pt c cc0_stg5_0 Finset.univ (glue ![u04, u14, u23, u33])) -∗ Q (k0_pay48 (W1116 c) (slRow I c 2)))
        -∗ wpc c (k0_part36 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 (W1116 c) (k0_pay45 (resB I c (c - 3 : Fin 8))) (W1128 c)) Q) := by
  simp only [k0_part36_eq_skeleton, k0_part36_skel, semSignalWord, semWaitWord, Prog.lift, Prog.bind_op, Prog.bind_ret, Prog.pure_eq_ret, Prog.bind_assoc]
  iintro ⟨H3, H6⟩ Hk
  iapply (ld_sl I c 0 rfl) $$ H3
  iintro H3
  iapply (ld_o c ![u03, u13, u23, u33] 0 (v := u03) rfl rfl) $$ H6
  iintro H6
  iapply (ld_o c ![u03, u13, u23, u33] 0 (v := u03) rfl rfl) $$ H6
  iintro H6
  iapply (st_o c ![u03, u13, u23, u33] ![u04, u13, u23, u33] 0 h_p36_3 (by intro b' h; fin_cases b' <;> first | rfl | exact absurd rfl h) rfl) $$ H6
  iintro H6
  iapply (ld_sl I c 1 rfl) $$ H3
  iintro H3
  iapply (ld_o c ![u04, u13, u23, u33] 1 (v := u13) rfl rfl) $$ H6
  iintro H6
  iapply (ld_o c ![u04, u13, u23, u33] 1 (v := u13) rfl rfl) $$ H6
  iintro H6
  iapply (st_o c ![u04, u13, u23, u33] ![u04, u14, u23, u33] 1 h_p36_7 (by intro b' h; fin_cases b' <;> first | rfl | exact absurd rfl h) rfl) $$ H6
  iintro H6
  iapply (ld_sl I c 2 rfl) $$ H3
  iintro H3
  iapply (wpc_ret' c (α := (IVec S512x512 32)) (b := (k0_pay48 (W1116 c) (slRow I c 2))) rfl)
  iapply Hk
  isplitl [H3]; · iexact H3
  iexact H6

theorem part36 (c : Dev nD) {Q : (IVec S512x512 32) → sProp 𝕄} :
    iprop(pt c cc0_stg3_0 Finset.univ (I.sl c) ∗ pt c cc0_stg5_0 Finset.univ (glue ![(PP I c 0 3), (PP I c 1 3), (PP I c 2 3), (PP I c 3 3)]))
      ⊢ iprop(((pt c cc0_stg3_0 Finset.univ (I.sl c) ∗ pt c cc0_stg5_0 Finset.univ (glue ![(PP I c 0 4), (PP I c 1 4), (PP I c 2 3), (PP I c 3 3)])) -∗ Q (k0_pay48 (W1116 c) (slRow I c 2)))
        -∗ wpc c (k0_part36 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 (W1116 c) (k0_pay45 (resB I c (c - 3 : Fin 8))) (W1128 c)) Q) :=
  part36_of I c (PP I c 0 3) (PP I c 0 4) (PP I c 1 3) (PP I c 1 4) (PP I c 2 3) (PP I c 3 3) (p36_3 I c) (p36_7 I c)

theorem w_p37_2 (c : Dev nD) : ((W1116 c) : BitVec 32) = wDn c 3 := by revert c; decide

theorem p37_2 (c : Dev nD) : (k0_pay49 (k0_pay45 (resB I c (c - 3 : Fin 8))) (k0_pay48 (W1116 c) (slRow I c 2)) (PP I c 2 3)) = PP I c 2 4 :=
  congrArg (fun w => combG w (resB I c (c - 3 : Fin 8)) (slRow I c 2) (PP I c 2 3)) (w_p37_2 c)

theorem w_p37_6 (c : Dev nD) : ((W1116 c) : BitVec 32) = wDn c 3 := by revert c; decide

theorem p37_6 (c : Dev nD) : (k0_pay50 (W1116 c) (k0_pay45 (resB I c (c - 3 : Fin 8))) (slRow I c 3) (PP I c 3 3)) = PP I c 3 4 :=
  congrArg (fun w => combG w (resB I c (c - 3 : Fin 8)) (slRow I c 3) (PP I c 3 3)) (w_p37_6 c)

theorem part37_of (c : Dev nD) (u04 u14 u23 u24 u33 u34 : Vec F S512x1024 .f32) (h_p37_2 : (k0_pay49 (k0_pay45 (resB I c (c - 3 : Fin 8))) (k0_pay48 (W1116 c) (slRow I c 2)) u23) = u24) (h_p37_6 : (k0_pay50 (W1116 c) (k0_pay45 (resB I c (c - 3 : Fin 8))) (slRow I c 3) u33) = u34) {Q : (Σ' (v1202 : BitVec 32), BitVec 32) → sProp 𝕄} :
    iprop(pt c cc0_stg5_0 Finset.univ (glue ![u04, u14, u23, u33]) ∗ pt c cc0_stg3_0 Finset.univ (I.sl c))
      ⊢ iprop(((pt c cc0_stg5_0 Finset.univ (glue ![u04, u14, u24, u34]) ∗ pt c cc0_stg3_0 Finset.univ (I.sl c)) -∗ Q ⟨(W1202 c), (W1203 c)⟩)
        -∗ wpc c (k0_part37 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 (W2 c) (W1116 c) (k0_pay45 (resB I c (c - 3 : Fin 8))) (k0_pay48 (W1116 c) (slRow I c 2))) Q) := by
  simp only [k0_part37_eq_skeleton, k0_part37_skel, semSignalWord, semWaitWord, Prog.lift, Prog.bind_op, Prog.bind_ret, Prog.pure_eq_ret, Prog.bind_assoc]
  iintro ⟨H6, H3⟩ Hk
  iapply (ld_o c ![u04, u14, u23, u33] 2 (v := u23) rfl rfl) $$ H6
  iintro H6
  iapply (ld_o c ![u04, u14, u23, u33] 2 (v := u23) rfl rfl) $$ H6
  iintro H6
  iapply (st_o c ![u04, u14, u23, u33] ![u04, u14, u24, u33] 2 h_p37_2 (by intro b' h; fin_cases b' <;> first | rfl | exact absurd rfl h) rfl) $$ H6
  iintro H6
  iapply (ld_sl I c 3 rfl) $$ H3
  iintro H3
  iapply (ld_o c ![u04, u14, u24, u33] 3 (v := u33) rfl rfl) $$ H6
  iintro H6
  iapply (ld_o c ![u04, u14, u24, u33] 3 (v := u33) rfl rfl) $$ H6
  iintro H6
  iapply (st_o c ![u04, u14, u24, u33] ![u04, u14, u24, u34] 3 h_p37_6 (by intro b' h; fin_cases b' <;> first | rfl | exact absurd rfl h) rfl) $$ H6
  iintro H6
  iapply (wpc_ret' c (α := (Σ' (v1202 : BitVec 32), BitVec 32)) (b := ⟨(W1202 c), (W1203 c)⟩) rfl)
  iapply Hk
  isplitl [H6]; · iexact H6
  iexact H3

theorem part37 (c : Dev nD) {Q : (Σ' (v1202 : BitVec 32), BitVec 32) → sProp 𝕄} :
    iprop(pt c cc0_stg5_0 Finset.univ (glue ![(PP I c 0 4), (PP I c 1 4), (PP I c 2 3), (PP I c 3 3)]) ∗ pt c cc0_stg3_0 Finset.univ (I.sl c))
      ⊢ iprop(((pt c cc0_stg5_0 Finset.univ (glue ![(PP I c 0 4), (PP I c 1 4), (PP I c 2 4), (PP I c 3 4)]) ∗ pt c cc0_stg3_0 Finset.univ (I.sl c)) -∗ Q ⟨(W1202 c), (W1203 c)⟩)
        -∗ wpc c (k0_part37 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 (W2 c) (W1116 c) (k0_pay45 (resB I c (c - 3 : Fin 8))) (k0_pay48 (W1116 c) (slRow I c 2))) Q) :=
  part37_of I c (PP I c 0 4) (PP I c 1 4) (PP I c 2 3) (PP I c 2 4) (PP I c 3 3) (PP I c 3 4) (p37_2 I c) (p37_6 I c)

theorem w_p38_11 (c : Dev nD) : ((W1202 c) : BitVec 32) = wDn c 4 := by revert c; decide

theorem p38_11 (c : Dev nD) : (k0_pay52 (W1202 c) (resB I c (c - 4 : Fin 8)) (slRow I c 0) (PP I c 0 4)) = PP I c 0 5 :=
  congrArg (fun w => combG w (resB I c (c - 4 : Fin 8)) (slRow I c 0) (PP I c 0 4)) (w_p38_11 c)

theorem part38_of (K : GSem nD τ sig → ℕ) (c : Dev nD) (u04 u05 u14 u24 u34 : Vec F S512x1024 .f32) (h_p38_11 : (k0_pay52 (W1202 c) (resB I c (c - 4 : Fin 8)) (slRow I c 0) u04) = u05) {Q : (Σ' (v1213 : FVec F S512x1024 .bf16), FVec F S512x512 .bf16) → sProp 𝕄} :
    iprop(recs I K ∗ levAts L lv ∗ CR (F := F) c (.inl (3, 4)) ∗ ow (F := F) c ([] : List (GSem nD τ sig × ℕ)) ∗ AT (F := F) c (.inl (3, 4)) 0 ∗ pt c cc0_stg3_0 Finset.univ (I.sl c) ∗ pt c cc0_stg5_0 Finset.univ (glue ![u04, u14, u24, u34]))
      ⊢ iprop(((ow (F := F) c ([] : List (GSem nD τ sig × ℕ)) ∗ AT (F := F) c (.inl (3, 4)) 1 ∗ resP c (c - 4 : Fin 8) (RES I c) ∗ pt c cc0_stg3_0 Finset.univ (I.sl c) ∗ pt c cc0_stg5_0 Finset.univ (glue ![u05, u14, u24, u34])) -∗ Q ⟨(k0_pay51 (resB I c (c - 4 : Fin 8))), (k0_pay53 (W1202 c) (slRow I c 1))⟩)
        -∗ wpc c (k0_part38 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 c (W1202 c) (W1203 c)) Q) := by
  simp only [k0_part38_eq_skeleton, k0_part38_skel, semSignalWord, semWaitWord, Prog.lift, Prog.bind_op, Prog.bind_ret, Prog.pure_eq_ret, Prog.bind_assoc]
  iintro ⟨#Hrec, #Hlev, C34, HO, A34, H3, H6⟩ Hk
  iapply (wait_rr I K c 4 (by decide) rfl rfl) $$ [C34 HO A34]
  · isplitr; · iexact Hrec
    isplitr; · iexact Hlev
    isplitl [C34]; · iexact C34
    isplitl [HO]; · iexact HO
    iexact A34
  iintro ⟨HO, A34, -, R4⟩
  iapply (ld_res I c (c - 4 : Fin 8) (c - 4 : Fin 8) (off7_eq4 c) (off7_eq4 c)) $$ R4
  iintro R4
  iapply (ld_sl I c 0 rfl) $$ H3
  iintro H3
  iapply (ld_o c ![u04, u14, u24, u34] 0 (v := u04) rfl rfl) $$ H6
  iintro H6
  iapply (ld_o c ![u04, u14, u24, u34] 0 (v := u04) rfl rfl) $$ H6
  iintro H6
  iapply (st_o c ![u04, u14, u24, u34] ![u05, u14, u24, u34] 0 h_p38_11 (by intro b' h; fin_cases b' <;> first | rfl | exact absurd rfl h) rfl) $$ H6
  iintro H6
  iapply (ld_sl I c 1 rfl) $$ H3
  iintro H3
  iapply (wpc_ret' c (α := (Σ' (v1213 : FVec F S512x1024 .bf16), FVec F S512x512 .bf16)) (b := ⟨(k0_pay51 (resB I c (c - 4 : Fin 8))), (k0_pay53 (W1202 c) (slRow I c 1))⟩) rfl)
  iapply Hk
  isplitl [HO]; · iexact HO
  isplitl [A34]; · iexact A34
  isplitl [R4]; · iexact R4
  isplitl [H3]; · iexact H3
  iexact H6

theorem part38 (K : GSem nD τ sig → ℕ) (c : Dev nD) {Q : (Σ' (v1213 : FVec F S512x1024 .bf16), FVec F S512x512 .bf16) → sProp 𝕄} :
    iprop(recs I K ∗ levAts L lv ∗ CR (F := F) c (.inl (3, 4)) ∗ ow (F := F) c ([] : List (GSem nD τ sig × ℕ)) ∗ AT (F := F) c (.inl (3, 4)) 0 ∗ pt c cc0_stg3_0 Finset.univ (I.sl c) ∗ pt c cc0_stg5_0 Finset.univ (glue ![(PP I c 0 4), (PP I c 1 4), (PP I c 2 4), (PP I c 3 4)]))
      ⊢ iprop(((ow (F := F) c ([] : List (GSem nD τ sig × ℕ)) ∗ AT (F := F) c (.inl (3, 4)) 1 ∗ resP c (c - 4 : Fin 8) (RES I c) ∗ pt c cc0_stg3_0 Finset.univ (I.sl c) ∗ pt c cc0_stg5_0 Finset.univ (glue ![(PP I c 0 5), (PP I c 1 4), (PP I c 2 4), (PP I c 3 4)])) -∗ Q ⟨(k0_pay51 (resB I c (c - 4 : Fin 8))), (k0_pay53 (W1202 c) (slRow I c 1))⟩)
        -∗ wpc c (k0_part38 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 c (W1202 c) (W1203 c)) Q) :=
  part38_of I K c (PP I c 0 4) (PP I c 0 5) (PP I c 1 4) (PP I c 2 4) (PP I c 3 4) (p38_11 I c)

theorem w_p39_2 (c : Dev nD) : ((W1202 c) : BitVec 32) = wDn c 4 := by revert c; decide

theorem p39_2 (c : Dev nD) : (k0_pay54 (k0_pay51 (resB I c (c - 4 : Fin 8))) (k0_pay53 (W1202 c) (slRow I c 1)) (PP I c 1 4)) = PP I c 1 5 :=
  congrArg (fun w => combG w (resB I c (c - 4 : Fin 8)) (slRow I c 1) (PP I c 1 4)) (w_p39_2 c)

theorem w_p39_6 (c : Dev nD) : ((W1202 c) : BitVec 32) = wDn c 4 := by revert c; decide

theorem p39_6 (c : Dev nD) : (k0_pay55 (W1202 c) (k0_pay51 (resB I c (c - 4 : Fin 8))) (slRow I c 2) (PP I c 2 4)) = PP I c 2 5 :=
  congrArg (fun w => combG w (resB I c (c - 4 : Fin 8)) (slRow I c 2) (PP I c 2 4)) (w_p39_6 c)

theorem part39_of (c : Dev nD) (u05 u14 u15 u24 u25 u34 : Vec F S512x1024 .f32) (h_p39_2 : (k0_pay54 (k0_pay51 (resB I c (c - 4 : Fin 8))) (k0_pay53 (W1202 c) (slRow I c 1)) u14) = u15) (h_p39_6 : (k0_pay55 (W1202 c) (k0_pay51 (resB I c (c - 4 : Fin 8))) (slRow I c 2) u24) = u25) {Q : (FVec F S512x1024 .f32) → sProp 𝕄} :
    iprop(pt c cc0_stg5_0 Finset.univ (glue ![u05, u14, u24, u34]) ∗ pt c cc0_stg3_0 Finset.univ (I.sl c))
      ⊢ iprop(((pt c cc0_stg5_0 Finset.univ (glue ![u05, u15, u25, u34]) ∗ pt c cc0_stg3_0 Finset.univ (I.sl c)) -∗ Q (k0_pay56 (W1202 c) (k0_pay51 (resB I c (c - 4 : Fin 8))) (slRow I c 3) u34))
        -∗ wpc c (k0_part39 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 (W1202 c) (k0_pay51 (resB I c (c - 4 : Fin 8))) (k0_pay53 (W1202 c) (slRow I c 1))) Q) := by
  simp only [k0_part39_eq_skeleton, k0_part39_skel, semSignalWord, semWaitWord, Prog.lift, Prog.bind_op, Prog.bind_ret, Prog.pure_eq_ret, Prog.bind_assoc]
  iintro ⟨H6, H3⟩ Hk
  iapply (ld_o c ![u05, u14, u24, u34] 1 (v := u14) rfl rfl) $$ H6
  iintro H6
  iapply (ld_o c ![u05, u14, u24, u34] 1 (v := u14) rfl rfl) $$ H6
  iintro H6
  iapply (st_o c ![u05, u14, u24, u34] ![u05, u15, u24, u34] 1 h_p39_2 (by intro b' h; fin_cases b' <;> first | rfl | exact absurd rfl h) rfl) $$ H6
  iintro H6
  iapply (ld_sl I c 2 rfl) $$ H3
  iintro H3
  iapply (ld_o c ![u05, u15, u24, u34] 2 (v := u24) rfl rfl) $$ H6
  iintro H6
  iapply (ld_o c ![u05, u15, u24, u34] 2 (v := u24) rfl rfl) $$ H6
  iintro H6
  iapply (st_o c ![u05, u15, u24, u34] ![u05, u15, u25, u34] 2 h_p39_6 (by intro b' h; fin_cases b' <;> first | rfl | exact absurd rfl h) rfl) $$ H6
  iintro H6
  iapply (ld_sl I c 3 rfl) $$ H3
  iintro H3
  iapply (ld_o c ![u05, u15, u25, u34] 3 (v := u34) rfl rfl) $$ H6
  iintro H6
  iapply (ld_o c ![u05, u15, u25, u34] 3 (v := u34) rfl rfl) $$ H6
  iintro H6
  iapply (wpc_ret' c (α := (FVec F S512x1024 .f32)) (b := (k0_pay56 (W1202 c) (k0_pay51 (resB I c (c - 4 : Fin 8))) (slRow I c 3) u34)) rfl)
  iapply Hk
  isplitl [H6]; · iexact H6
  iexact H3

theorem part39 (c : Dev nD) {Q : (FVec F S512x1024 .f32) → sProp 𝕄} :
    iprop(pt c cc0_stg5_0 Finset.univ (glue ![(PP I c 0 5), (PP I c 1 4), (PP I c 2 4), (PP I c 3 4)]) ∗ pt c cc0_stg3_0 Finset.univ (I.sl c))
      ⊢ iprop(((pt c cc0_stg5_0 Finset.univ (glue ![(PP I c 0 5), (PP I c 1 5), (PP I c 2 5), (PP I c 3 4)]) ∗ pt c cc0_stg3_0 Finset.univ (I.sl c)) -∗ Q (k0_pay56 (W1202 c) (k0_pay51 (resB I c (c - 4 : Fin 8))) (slRow I c 3) (PP I c 3 4)))
        -∗ wpc c (k0_part39 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 (W1202 c) (k0_pay51 (resB I c (c - 4 : Fin 8))) (k0_pay53 (W1202 c) (slRow I c 1))) Q) :=
  part39_of I c (PP I c 0 5) (PP I c 1 4) (PP I c 1 5) (PP I c 2 4) (PP I c 2 5) (PP I c 3 4) (p39_2 I c) (p39_6 I c)

theorem w_p40_0 (c : Dev nD) : ((W1202 c) : BitVec 32) = wDn c 4 := by revert c; decide

theorem p40_0 (c : Dev nD) : (k0_pay56 (W1202 c) (k0_pay51 (resB I c (c - 4 : Fin 8))) (slRow I c 3) (PP I c 3 4)) = PP I c 3 5 :=
  congrArg (fun w => combG w (resB I c (c - 4 : Fin 8)) (slRow I c 3) (PP I c 3 4)) (w_p40_0 c)

theorem part40_of (K : GSem nD τ sig → ℕ) (c : Dev nD) (u05 u15 u25 u34 u35 : Vec F S512x1024 .f32) (h_p40_0 : (k0_pay56 (W1202 c) (k0_pay51 (resB I c (c - 4 : Fin 8))) (slRow I c 3) u34) = u35) {Q : (Σ' (v1288 : BitVec 32) (v1299 : FVec F S512x1024 .bf16), FVec F S512x512 .bf16) → sProp 𝕄} :
    iprop(recs I K ∗ levAts L lv ∗ pt c cc0_stg5_0 Finset.univ (glue ![u05, u15, u25, u34]) ∗ CR (F := F) c (.inl (3, 5)) ∗ ow (F := F) c ([] : List (GSem nD τ sig × ℕ)) ∗ AT (F := F) c (.inl (3, 5)) 0 ∗ pt c cc0_stg3_0 Finset.univ (I.sl c))
      ⊢ iprop(((pt c cc0_stg5_0 Finset.univ (glue ![u05, u15, u25, u35]) ∗ ow (F := F) c ([] : List (GSem nD τ sig × ℕ)) ∗ AT (F := F) c (.inl (3, 5)) 1 ∗ resP c (c - 5 : Fin 8) (RES I c) ∗ pt c cc0_stg3_0 Finset.univ (I.sl c)) -∗ Q ⟨(W1288 c), (k0_pay57 (resB I c (c - 5 : Fin 8))), (k0_pay58 (W2 c) (slRow I c 0))⟩)
        -∗ wpc c (k0_part40 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 c (W2 c) (k0_pay56 (W1202 c) (k0_pay51 (resB I c (c - 4 : Fin 8))) (slRow I c 3) u34)) Q) := by
  simp only [k0_part40_eq_skeleton, k0_part40_skel, semSignalWord, semWaitWord, Prog.lift, Prog.bind_op, Prog.bind_ret, Prog.pure_eq_ret, Prog.bind_assoc]
  iintro ⟨#Hrec, #Hlev, H6, C35, HO, A35, H3⟩ Hk
  iapply (st_o c ![u05, u15, u25, u34] ![u05, u15, u25, u35] 3 h_p40_0 (by intro b' h; fin_cases b' <;> first | rfl | exact absurd rfl h) rfl) $$ H6
  iintro H6
  iapply (wait_rr I K c 5 (by decide) rfl rfl) $$ [C35 HO A35]
  · isplitr; · iexact Hrec
    isplitr; · iexact Hlev
    isplitl [C35]; · iexact C35
    isplitl [HO]; · iexact HO
    iexact A35
  iintro ⟨HO, A35, -, R5⟩
  iapply (ld_res I c (c - 5 : Fin 8) (c - 5 : Fin 8) (off7_eq5 c) (off7_eq5 c)) $$ R5
  iintro R5
  iapply (ld_sl I c 0 rfl) $$ H3
  iintro H3
  iapply (wpc_ret' c (α := (Σ' (v1288 : BitVec 32) (v1299 : FVec F S512x1024 .bf16), FVec F S512x512 .bf16)) (b := ⟨(W1288 c), (k0_pay57 (resB I c (c - 5 : Fin 8))), (k0_pay58 (W2 c) (slRow I c 0))⟩) rfl)
  iapply Hk
  isplitl [H6]; · iexact H6
  isplitl [HO]; · iexact HO
  isplitl [A35]; · iexact A35
  isplitl [R5]; · iexact R5
  iexact H3

theorem part40 (K : GSem nD τ sig → ℕ) (c : Dev nD) {Q : (Σ' (v1288 : BitVec 32) (v1299 : FVec F S512x1024 .bf16), FVec F S512x512 .bf16) → sProp 𝕄} :
    iprop(recs I K ∗ levAts L lv ∗ pt c cc0_stg5_0 Finset.univ (glue ![(PP I c 0 5), (PP I c 1 5), (PP I c 2 5), (PP I c 3 4)]) ∗ CR (F := F) c (.inl (3, 5)) ∗ ow (F := F) c ([] : List (GSem nD τ sig × ℕ)) ∗ AT (F := F) c (.inl (3, 5)) 0 ∗ pt c cc0_stg3_0 Finset.univ (I.sl c))
      ⊢ iprop(((pt c cc0_stg5_0 Finset.univ (glue ![(PP I c 0 5), (PP I c 1 5), (PP I c 2 5), (PP I c 3 5)]) ∗ ow (F := F) c ([] : List (GSem nD τ sig × ℕ)) ∗ AT (F := F) c (.inl (3, 5)) 1 ∗ resP c (c - 5 : Fin 8) (RES I c) ∗ pt c cc0_stg3_0 Finset.univ (I.sl c)) -∗ Q ⟨(W1288 c), (k0_pay57 (resB I c (c - 5 : Fin 8))), (k0_pay58 (W2 c) (slRow I c 0))⟩)
        -∗ wpc c (k0_part40 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 c (W2 c) (k0_pay56 (W1202 c) (k0_pay51 (resB I c (c - 4 : Fin 8))) (slRow I c 3) (PP I c 3 4))) Q) :=
  part40_of I K c (PP I c 0 5) (PP I c 1 5) (PP I c 2 5) (PP I c 3 4) (PP I c 3 5) (p40_0 I c)

theorem w_p41_2 (c : Dev nD) : (let v1278 : BitVec 32 := Scalar.subi (W2 c) 5#32; let v1279 : BitVec 1 := Scalar.cmpi .eq 8#32 0#32; let v1280 : BitVec 32 := Scalar.select v1279 1#32 8#32; let v1281 : BitVec 32 := Scalar.remsi v1278 v1280; let v1282 : BitVec 1 := Scalar.cmpi .ne v1281 0#32; let v1283 : BitVec 1 := Scalar.cmpi .slt v1281 0#32; let v1284 : BitVec 1 := Scalar.cmpi .slt v1280 0#32; let v1285 : BitVec 1 := Scalar.xori v1283 v1284; let v1286 : BitVec 1 := Scalar.andi v1285 v1282; let v1287 : BitVec 32 := Scalar.addi v1281 v1280; let v1288 : BitVec 32 := Scalar.select v1286 v1287 v1281; v1288 : BitVec 32) = wDn c 5 := by revert c; decide

theorem p41_2 (c : Dev nD) : (k0_pay59 (k0_pay57 (resB I c (c - 5 : Fin 8))) (k0_pay58 (W2 c) (slRow I c 0)) (PP I c 0 5)) = PP I c 0 6 :=
  congrArg (fun w => combG w (resB I c (c - 5 : Fin 8)) (slRow I c 0) (PP I c 0 5)) (w_p41_2 c)

theorem w_p41_6 (c : Dev nD) : ((W1288 c) : BitVec 32) = wDn c 5 := by revert c; decide

theorem p41_6 (c : Dev nD) : (k0_pay60 (W1288 c) (k0_pay57 (resB I c (c - 5 : Fin 8))) (slRow I c 1) (PP I c 1 5)) = PP I c 1 6 :=
  congrArg (fun w => combG w (resB I c (c - 5 : Fin 8)) (slRow I c 1) (PP I c 1 5)) (w_p41_6 c)

theorem w_p41_10 (c : Dev nD) : ((W1288 c) : BitVec 32) = wDn c 5 := by revert c; decide

theorem p41_10 (c : Dev nD) : (k0_pay61 (W1288 c) (k0_pay57 (resB I c (c - 5 : Fin 8))) (slRow I c 2) (PP I c 2 5)) = PP I c 2 6 :=
  congrArg (fun w => combG w (resB I c (c - 5 : Fin 8)) (slRow I c 2) (PP I c 2 5)) (w_p41_10 c)

theorem part41_of (c : Dev nD) (u05 u06 u15 u16 u25 u26 u35 : Vec F S512x1024 .f32) (h_p41_2 : (k0_pay59 (k0_pay57 (resB I c (c - 5 : Fin 8))) (k0_pay58 (W2 c) (slRow I c 0)) u05) = u06) (h_p41_6 : (k0_pay60 (W1288 c) (k0_pay57 (resB I c (c - 5 : Fin 8))) (slRow I c 1) u15) = u16) (h_p41_10 : (k0_pay61 (W1288 c) (k0_pay57 (resB I c (c - 5 : Fin 8))) (slRow I c 2) u25) = u26) {Q : (BitVec 32) → sProp 𝕄} :
    iprop(pt c cc0_stg5_0 Finset.univ (glue ![u05, u15, u25, u35]) ∗ pt c cc0_stg3_0 Finset.univ (I.sl c))
      ⊢ iprop(((pt c cc0_stg5_0 Finset.univ (glue ![u06, u16, u26, u35]) ∗ pt c cc0_stg3_0 Finset.univ (I.sl c)) -∗ Q 512#32)
        -∗ wpc c (k0_part41 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 (W1288 c) (k0_pay57 (resB I c (c - 5 : Fin 8))) (k0_pay58 (W2 c) (slRow I c 0))) Q) := by
  simp only [k0_part41_eq_skeleton, k0_part41_skel, semSignalWord, semWaitWord, Prog.lift, Prog.bind_op, Prog.bind_ret, Prog.pure_eq_ret, Prog.bind_assoc]
  iintro ⟨H6, H3⟩ Hk
  iapply (ld_o c ![u05, u15, u25, u35] 0 (v := u05) rfl rfl) $$ H6
  iintro H6
  iapply (ld_o c ![u05, u15, u25, u35] 0 (v := u05) rfl rfl) $$ H6
  iintro H6
  iapply (st_o c ![u05, u15, u25, u35] ![u06, u15, u25, u35] 0 h_p41_2 (by intro b' h; fin_cases b' <;> first | rfl | exact absurd rfl h) rfl) $$ H6
  iintro H6
  iapply (ld_sl I c 1 rfl) $$ H3
  iintro H3
  iapply (ld_o c ![u06, u15, u25, u35] 1 (v := u15) rfl rfl) $$ H6
  iintro H6
  iapply (ld_o c ![u06, u15, u25, u35] 1 (v := u15) rfl rfl) $$ H6
  iintro H6
  iapply (st_o c ![u06, u15, u25, u35] ![u06, u16, u25, u35] 1 h_p41_6 (by intro b' h; fin_cases b' <;> first | rfl | exact absurd rfl h) rfl) $$ H6
  iintro H6
  iapply (ld_sl I c 2 rfl) $$ H3
  iintro H3
  iapply (ld_o c ![u06, u16, u25, u35] 2 (v := u25) rfl rfl) $$ H6
  iintro H6
  iapply (ld_o c ![u06, u16, u25, u35] 2 (v := u25) rfl rfl) $$ H6
  iintro H6
  iapply (st_o c ![u06, u16, u25, u35] ![u06, u16, u26, u35] 2 h_p41_10 (by intro b' h; fin_cases b' <;> first | rfl | exact absurd rfl h) rfl) $$ H6
  iintro H6
  iapply (wpc_ret' c (α := (BitVec 32)) (b := 512#32) rfl)
  iapply Hk
  isplitl [H6]; · iexact H6
  iexact H3

theorem part41 (c : Dev nD) {Q : (BitVec 32) → sProp 𝕄} :
    iprop(pt c cc0_stg5_0 Finset.univ (glue ![(PP I c 0 5), (PP I c 1 5), (PP I c 2 5), (PP I c 3 5)]) ∗ pt c cc0_stg3_0 Finset.univ (I.sl c))
      ⊢ iprop(((pt c cc0_stg5_0 Finset.univ (glue ![(PP I c 0 6), (PP I c 1 6), (PP I c 2 6), (PP I c 3 5)]) ∗ pt c cc0_stg3_0 Finset.univ (I.sl c)) -∗ Q 512#32)
        -∗ wpc c (k0_part41 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 (W1288 c) (k0_pay57 (resB I c (c - 5 : Fin 8))) (k0_pay58 (W2 c) (slRow I c 0))) Q) :=
  part41_of I c (PP I c 0 5) (PP I c 0 6) (PP I c 1 5) (PP I c 1 6) (PP I c 2 5) (PP I c 2 6) (PP I c 3 5) (p41_2 I c) (p41_6 I c) (p41_10 I c)

theorem w_p42_3 (c : Dev nD) : ((W1288 c) : BitVec 32) = wDn c 5 := by revert c; decide

theorem p42_3 (c : Dev nD) : (k0_pay62 (W1288 c) (k0_pay57 (resB I c (c - 5 : Fin 8))) 512#32 (slRow I c 3) (PP I c 3 5)) = PP I c 3 6 :=
  congrArg (fun w => combG w (resB I c (c - 5 : Fin 8)) (slRow I c 3) (PP I c 3 5)) (w_p42_3 c)

theorem part42_of (c : Dev nD) (u06 u16 u26 u35 u36 : Vec F S512x1024 .f32) (h_p42_3 : (k0_pay62 (W1288 c) (k0_pay57 (resB I c (c - 5 : Fin 8))) 512#32 (slRow I c 3) u35) = u36) {Q : (BitVec 32) → sProp 𝕄} :
    iprop(pt c cc0_stg3_0 Finset.univ (I.sl c) ∗ pt c cc0_stg5_0 Finset.univ (glue ![u06, u16, u26, u35]))
      ⊢ iprop(((pt c cc0_stg3_0 Finset.univ (I.sl c) ∗ pt c cc0_stg5_0 Finset.univ (glue ![u06, u16, u26, u36])) -∗ Q (W1374 c))
        -∗ wpc c (k0_part42 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 c (W2 c) (W1288 c) (k0_pay57 (resB I c (c - 5 : Fin 8))) 512#32) Q) := by
  simp only [k0_part42_eq_skeleton, k0_part42_skel, semSignalWord, semWaitWord, Prog.lift, Prog.bind_op, Prog.bind_ret, Prog.pure_eq_ret, Prog.bind_assoc]
  iintro ⟨H3, H6⟩ Hk
  iapply (ld_sl I c 3 rfl) $$ H3
  iintro H3
  iapply (ld_o c ![u06, u16, u26, u35] 3 (v := u35) rfl rfl) $$ H6
  iintro H6
  iapply (ld_o c ![u06, u16, u26, u35] 3 (v := u35) rfl rfl) $$ H6
  iintro H6
  iapply (st_o c ![u06, u16, u26, u35] ![u06, u16, u26, u36] 3 h_p42_3 (by intro b' h; fin_cases b' <;> first | rfl | exact absurd rfl h) rfl) $$ H6
  iintro H6
  iapply (wpc_ret' c (α := (BitVec 32)) (b := (W1374 c)) rfl)
  iapply Hk
  isplitl [H3]; · iexact H3
  iexact H6

theorem part42 (c : Dev nD) {Q : (BitVec 32) → sProp 𝕄} :
    iprop(pt c cc0_stg3_0 Finset.univ (I.sl c) ∗ pt c cc0_stg5_0 Finset.univ (glue ![(PP I c 0 6), (PP I c 1 6), (PP I c 2 6), (PP I c 3 5)]))
      ⊢ iprop(((pt c cc0_stg3_0 Finset.univ (I.sl c) ∗ pt c cc0_stg5_0 Finset.univ (glue ![(PP I c 0 6), (PP I c 1 6), (PP I c 2 6), (PP I c 3 6)])) -∗ Q (W1374 c))
        -∗ wpc c (k0_part42 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 c (W2 c) (W1288 c) (k0_pay57 (resB I c (c - 5 : Fin 8))) 512#32) Q) :=
  part42_of I c (PP I c 0 6) (PP I c 1 6) (PP I c 2 6) (PP I c 3 5) (PP I c 3 6) (p42_3 I c)

theorem w_p43_11 (c : Dev nD) : ((W1374 c) : BitVec 32) = wDn c 6 := by revert c; decide

theorem p43_11 (c : Dev nD) : (k0_pay64 (W1374 c) (resB I c (c - 6 : Fin 8)) (slRow I c 0) (PP I c 0 6)) = PP I c 0 7 :=
  congrArg (fun w => combG w (resB I c (c - 6 : Fin 8)) (slRow I c 0) (PP I c 0 6)) (w_p43_11 c)

theorem w_p43_15 (c : Dev nD) : ((W1374 c) : BitVec 32) = wDn c 6 := by revert c; decide

theorem p43_15 (c : Dev nD) : (k0_pay65 (W1374 c) (resB I c (c - 6 : Fin 8)) (slRow I c 1) (PP I c 1 6)) = PP I c 1 7 :=
  congrArg (fun w => combG w (resB I c (c - 6 : Fin 8)) (slRow I c 1) (PP I c 1 6)) (w_p43_15 c)

theorem part43_of (K : GSem nD τ sig → ℕ) (c : Dev nD) (u06 u07 u16 u17 u26 u36 : Vec F S512x1024 .f32) (h_p43_11 : (k0_pay64 (W1374 c) (resB I c (c - 6 : Fin 8)) (slRow I c 0) u06) = u07) (h_p43_15 : (k0_pay65 (W1374 c) (resB I c (c - 6 : Fin 8)) (slRow I c 1) u16) = u17) {Q : (Σ' (v1385 : FVec F S512x1024 .bf16), BitVec 32) → sProp 𝕄} :
    iprop(recs I K ∗ levAts L lv ∗ CR (F := F) c (.inl (3, 6)) ∗ ow (F := F) c ([] : List (GSem nD τ sig × ℕ)) ∗ AT (F := F) c (.inl (3, 6)) 0 ∗ pt c cc0_stg3_0 Finset.univ (I.sl c) ∗ pt c cc0_stg5_0 Finset.univ (glue ![u06, u16, u26, u36]))
      ⊢ iprop(((ow (F := F) c ([] : List (GSem nD τ sig × ℕ)) ∗ AT (F := F) c (.inl (3, 6)) 1 ∗ resP c (c - 6 : Fin 8) (RES I c) ∗ pt c cc0_stg3_0 Finset.univ (I.sl c) ∗ pt c cc0_stg5_0 Finset.univ (glue ![u07, u17, u26, u36])) -∗ Q ⟨(k0_pay63 (resB I c (c - 6 : Fin 8))), (W1418 c)⟩)
        -∗ wpc c (k0_part43 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 c (W1374 c)) Q) := by
  simp only [k0_part43_eq_skeleton, k0_part43_skel, semSignalWord, semWaitWord, Prog.lift, Prog.bind_op, Prog.bind_ret, Prog.pure_eq_ret, Prog.bind_assoc]
  iintro ⟨#Hrec, #Hlev, C36, HO, A36, H3, H6⟩ Hk
  iapply (wait_rr I K c 6 (by decide) rfl rfl) $$ [C36 HO A36]
  · isplitr; · iexact Hrec
    isplitr; · iexact Hlev
    isplitl [C36]; · iexact C36
    isplitl [HO]; · iexact HO
    iexact A36
  iintro ⟨HO, A36, -, R6⟩
  iapply (ld_res I c (c - 6 : Fin 8) (c - 6 : Fin 8) (off7_eq6 c) (off7_eq6 c)) $$ R6
  iintro R6
  iapply (ld_sl I c 0 rfl) $$ H3
  iintro H3
  iapply (ld_o c ![u06, u16, u26, u36] 0 (v := u06) rfl rfl) $$ H6
  iintro H6
  iapply (ld_o c ![u06, u16, u26, u36] 0 (v := u06) rfl rfl) $$ H6
  iintro H6
  iapply (st_o c ![u06, u16, u26, u36] ![u07, u16, u26, u36] 0 h_p43_11 (by intro b' h; fin_cases b' <;> first | rfl | exact absurd rfl h) rfl) $$ H6
  iintro H6
  iapply (ld_sl I c 1 rfl) $$ H3
  iintro H3
  iapply (ld_o c ![u07, u16, u26, u36] 1 (v := u16) rfl rfl) $$ H6
  iintro H6
  iapply (ld_o c ![u07, u16, u26, u36] 1 (v := u16) rfl rfl) $$ H6
  iintro H6
  iapply (st_o c ![u07, u16, u26, u36] ![u07, u17, u26, u36] 1 h_p43_15 (by intro b' h; fin_cases b' <;> first | rfl | exact absurd rfl h) rfl) $$ H6
  iintro H6
  iapply (wpc_ret' c (α := (Σ' (v1385 : FVec F S512x1024 .bf16), BitVec 32)) (b := ⟨(k0_pay63 (resB I c (c - 6 : Fin 8))), (W1418 c)⟩) rfl)
  iapply Hk
  isplitl [HO]; · iexact HO
  isplitl [A36]; · iexact A36
  isplitl [R6]; · iexact R6
  isplitl [H3]; · iexact H3
  iexact H6

theorem part43 (K : GSem nD τ sig → ℕ) (c : Dev nD) {Q : (Σ' (v1385 : FVec F S512x1024 .bf16), BitVec 32) → sProp 𝕄} :
    iprop(recs I K ∗ levAts L lv ∗ CR (F := F) c (.inl (3, 6)) ∗ ow (F := F) c ([] : List (GSem nD τ sig × ℕ)) ∗ AT (F := F) c (.inl (3, 6)) 0 ∗ pt c cc0_stg3_0 Finset.univ (I.sl c) ∗ pt c cc0_stg5_0 Finset.univ (glue ![(PP I c 0 6), (PP I c 1 6), (PP I c 2 6), (PP I c 3 6)]))
      ⊢ iprop(((ow (F := F) c ([] : List (GSem nD τ sig × ℕ)) ∗ AT (F := F) c (.inl (3, 6)) 1 ∗ resP c (c - 6 : Fin 8) (RES I c) ∗ pt c cc0_stg3_0 Finset.univ (I.sl c) ∗ pt c cc0_stg5_0 Finset.univ (glue ![(PP I c 0 7), (PP I c 1 7), (PP I c 2 6), (PP I c 3 6)])) -∗ Q ⟨(k0_pay63 (resB I c (c - 6 : Fin 8))), (W1418 c)⟩)
        -∗ wpc c (k0_part43 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 c (W1374 c)) Q) :=
  part43_of I K c (PP I c 0 6) (PP I c 0 7) (PP I c 1 6) (PP I c 1 7) (PP I c 2 6) (PP I c 3 6) (p43_11 I c) (p43_15 I c)

theorem w_p44_3 (c : Dev nD) : (W1374 c) = wDn c 6 := by revert c; decide

theorem p44_3 (c : Dev nD) : (k0_pay66 (k0_pay63 (resB I c (c - 6 : Fin 8))) (W1418 c) (slRow I c 2) (PP I c 2 6)) = PP I c 2 7 :=
  congrArg (fun w => combG w (resB I c (c - 6 : Fin 8)) (slRow I c 2) (PP I c 2 6)) (w_p44_3 c)

theorem w_p44_7 (c : Dev nD) : ((W1374 c) : BitVec 32) = wDn c 6 := by revert c; decide

theorem p44_7 (c : Dev nD) : (k0_pay67 (W1374 c) (k0_pay63 (resB I c (c - 6 : Fin 8))) (slRow I c 3) (PP I c 3 6)) = PP I c 3 7 :=
  congrArg (fun w => combG w (resB I c (c - 6 : Fin 8)) (slRow I c 3) (PP I c 3 6)) (w_p44_7 c)

theorem part44_of (c : Dev nD) (u07 u17 u26 u27 u36 u37 : Vec F S512x1024 .f32) (h_p44_3 : (k0_pay66 (k0_pay63 (resB I c (c - 6 : Fin 8))) (W1418 c) (slRow I c 2) u26) = u27) (h_p44_7 : (k0_pay67 (W1374 c) (k0_pay63 (resB I c (c - 6 : Fin 8))) (slRow I c 3) u36) = u37) {Q : (Σ' (v1452 : BitVec 32) (v1453 : BitVec 32) (v1454 : BitVec 1) (v1455 : BitVec 1), BitVec 32) → sProp 𝕄} :
    iprop(pt c cc0_stg3_0 Finset.univ (I.sl c) ∗ pt c cc0_stg5_0 Finset.univ (glue ![u07, u17, u26, u36]))
      ⊢ iprop(((pt c cc0_stg3_0 Finset.univ (I.sl c) ∗ pt c cc0_stg5_0 Finset.univ (glue ![u07, u17, u27, u37])) -∗ Q ⟨(W1452 c), (W1453 c), (W1454 c), (W1455 c), 0#32⟩)
        -∗ wpc c (k0_part44 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 (W2 c) (W1374 c) (k0_pay63 (resB I c (c - 6 : Fin 8))) (W1418 c)) Q) := by
  simp only [k0_part44_eq_skeleton, k0_part44_skel, semSignalWord, semWaitWord, Prog.lift, Prog.bind_op, Prog.bind_ret, Prog.pure_eq_ret, Prog.bind_assoc]
  iintro ⟨H3, H6⟩ Hk
  iapply (ld_sl I c 2 rfl) $$ H3
  iintro H3
  iapply (ld_o c ![u07, u17, u26, u36] 2 (v := u26) rfl rfl) $$ H6
  iintro H6
  iapply (ld_o c ![u07, u17, u26, u36] 2 (v := u26) rfl rfl) $$ H6
  iintro H6
  iapply (st_o c ![u07, u17, u26, u36] ![u07, u17, u27, u36] 2 h_p44_3 (by intro b' h; fin_cases b' <;> first | rfl | exact absurd rfl h) rfl) $$ H6
  iintro H6
  iapply (ld_sl I c 3 rfl) $$ H3
  iintro H3
  iapply (ld_o c ![u07, u17, u27, u36] 3 (v := u36) rfl rfl) $$ H6
  iintro H6
  iapply (ld_o c ![u07, u17, u27, u36] 3 (v := u36) rfl rfl) $$ H6
  iintro H6
  iapply (st_o c ![u07, u17, u27, u36] ![u07, u17, u27, u37] 3 h_p44_7 (by intro b' h; fin_cases b' <;> first | rfl | exact absurd rfl h) rfl) $$ H6
  iintro H6
  iapply (wpc_ret' c (α := (Σ' (v1452 : BitVec 32) (v1453 : BitVec 32) (v1454 : BitVec 1) (v1455 : BitVec 1), BitVec 32)) (b := ⟨(W1452 c), (W1453 c), (W1454 c), (W1455 c), 0#32⟩) rfl)
  iapply Hk
  isplitl [H3]; · iexact H3
  iexact H6

theorem part44 (c : Dev nD) {Q : (Σ' (v1452 : BitVec 32) (v1453 : BitVec 32) (v1454 : BitVec 1) (v1455 : BitVec 1), BitVec 32) → sProp 𝕄} :
    iprop(pt c cc0_stg3_0 Finset.univ (I.sl c) ∗ pt c cc0_stg5_0 Finset.univ (glue ![(PP I c 0 7), (PP I c 1 7), (PP I c 2 6), (PP I c 3 6)]))
      ⊢ iprop(((pt c cc0_stg3_0 Finset.univ (I.sl c) ∗ pt c cc0_stg5_0 Finset.univ (glue ![(PP I c 0 7), (PP I c 1 7), (PP I c 2 7), (PP I c 3 7)])) -∗ Q ⟨(W1452 c), (W1453 c), (W1454 c), (W1455 c), 0#32⟩)
        -∗ wpc c (k0_part44 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 (W2 c) (W1374 c) (k0_pay63 (resB I c (c - 6 : Fin 8))) (W1418 c)) Q) :=
  part44_of I c (PP I c 0 7) (PP I c 1 7) (PP I c 2 6) (PP I c 2 7) (PP I c 3 6) (PP I c 3 7) (p44_3 I c) (p44_7 I c)

theorem w_p45_16 (c : Dev nD) : (let v1456 : BitVec 1 := Scalar.cmpi .slt (W1452 c) 0#32; let v1457 : BitVec 1 := Scalar.xori (W1455 c) v1456; let v1458 : BitVec 1 := Scalar.andi v1457 (W1454 c); let v1459 : BitVec 32 := Scalar.addi (W1453 c) (W1452 c); let v1460 : BitVec 32 := Scalar.select v1458 v1459 (W1453 c); v1460 : BitVec 32) = wDn c 7 := by revert c; decide

theorem p45_16 (c : Dev nD) : (k0_pay69 (W1452 c) (W1453 c) (W1454 c) (W1455 c) 0#32 (resB I c (c - 7 : Fin 8)) (slRow I c 0) (PP I c 0 7)) = PP I c 0 8 :=
  congrArg (fun w => combG w (resB I c (c - 7 : Fin 8)) (slRow I c 0) (PP I c 0 7)) (w_p45_16 c)

theorem part45_of (K : GSem nD τ sig → ℕ) (c : Dev nD) (u07 u08 u17 u27 u37 : Vec F S512x1024 .f32) (h_p45_16 : (k0_pay69 (W1452 c) (W1453 c) (W1454 c) (W1455 c) 0#32 (resB I c (c - 7 : Fin 8)) (slRow I c 0) u07) = u08) {Q : (Σ' (v1460 : BitVec 32) (v1471 : FVec F S512x1024 .bf16) (v1488 : BitVec 32), Vec F S512x1 .i32) → sProp 𝕄} :
    iprop(recs I K ∗ levAts L lv ∗ CR (F := F) c (.inl (3, 7)) ∗ ow (F := F) c ([] : List (GSem nD τ sig × ℕ)) ∗ AT (F := F) c (.inl (3, 7)) 0 ∗ pt c cc0_stg3_0 Finset.univ (I.sl c) ∗ pt c cc0_stg5_0 Finset.univ (glue ![u07, u17, u27, u37]))
      ⊢ iprop(((ow (F := F) c ([] : List (GSem nD τ sig × ℕ)) ∗ AT (F := F) c (.inl (3, 7)) 1 ∗ resP c (c - 7 : Fin 8) (RES I c) ∗ pt c cc0_stg3_0 Finset.univ (I.sl c) ∗ pt c cc0_stg5_0 Finset.univ (glue ![u08, u17, u27, u37])) -∗ Q ⟨(W1460 c), (k0_pay68 (resB I c (c - 7 : Fin 8))), (W1488 c), (slRow I c 1)⟩)
        -∗ wpc c (k0_part45 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 c (W1452 c) (W1453 c) (W1454 c) (W1455 c) 0#32) Q) := by
  simp only [k0_part45_eq_skeleton, k0_part45_skel, semSignalWord, semWaitWord, Prog.lift, Prog.bind_op, Prog.bind_ret, Prog.pure_eq_ret, Prog.bind_assoc]
  iintro ⟨#Hrec, #Hlev, C37, HO, A37, H3, H6⟩ Hk
  iapply (wait_rr I K c 7 (by decide) rfl rfl) $$ [C37 HO A37]
  · isplitr; · iexact Hrec
    isplitr; · iexact Hlev
    isplitl [C37]; · iexact C37
    isplitl [HO]; · iexact HO
    iexact A37
  iintro ⟨HO, A37, -, R7⟩
  iapply (ld_res I c (c - 7 : Fin 8) (c - 7 : Fin 8) (off7_eq7 c) (off7_eq7 c)) $$ R7
  iintro R7
  iapply (ld_sl I c 0 rfl) $$ H3
  iintro H3
  iapply (ld_o c ![u07, u17, u27, u37] 0 (v := u07) rfl rfl) $$ H6
  iintro H6
  iapply (ld_o c ![u07, u17, u27, u37] 0 (v := u07) rfl rfl) $$ H6
  iintro H6
  iapply (st_o c ![u07, u17, u27, u37] ![u08, u17, u27, u37] 0 h_p45_16 (by intro b' h; fin_cases b' <;> first | rfl | exact absurd rfl h) rfl) $$ H6
  iintro H6
  iapply (ld_sl I c 1 rfl) $$ H3
  iintro H3
  iapply (wpc_ret' c (α := (Σ' (v1460 : BitVec 32) (v1471 : FVec F S512x1024 .bf16) (v1488 : BitVec 32), Vec F S512x1 .i32)) (b := ⟨(W1460 c), (k0_pay68 (resB I c (c - 7 : Fin 8))), (W1488 c), (slRow I c 1)⟩) rfl)
  iapply Hk
  isplitl [HO]; · iexact HO
  isplitl [A37]; · iexact A37
  isplitl [R7]; · iexact R7
  isplitl [H3]; · iexact H3
  iexact H6

theorem part45 (K : GSem nD τ sig → ℕ) (c : Dev nD) {Q : (Σ' (v1460 : BitVec 32) (v1471 : FVec F S512x1024 .bf16) (v1488 : BitVec 32), Vec F S512x1 .i32) → sProp 𝕄} :
    iprop(recs I K ∗ levAts L lv ∗ CR (F := F) c (.inl (3, 7)) ∗ ow (F := F) c ([] : List (GSem nD τ sig × ℕ)) ∗ AT (F := F) c (.inl (3, 7)) 0 ∗ pt c cc0_stg3_0 Finset.univ (I.sl c) ∗ pt c cc0_stg5_0 Finset.univ (glue ![(PP I c 0 7), (PP I c 1 7), (PP I c 2 7), (PP I c 3 7)]))
      ⊢ iprop(((ow (F := F) c ([] : List (GSem nD τ sig × ℕ)) ∗ AT (F := F) c (.inl (3, 7)) 1 ∗ resP c (c - 7 : Fin 8) (RES I c) ∗ pt c cc0_stg3_0 Finset.univ (I.sl c) ∗ pt c cc0_stg5_0 Finset.univ (glue ![(PP I c 0 8), (PP I c 1 7), (PP I c 2 7), (PP I c 3 7)])) -∗ Q ⟨(W1460 c), (k0_pay68 (resB I c (c - 7 : Fin 8))), (W1488 c), (slRow I c 1)⟩)
        -∗ wpc c (k0_part45 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 c (W1452 c) (W1453 c) (W1454 c) (W1455 c) 0#32) Q) :=
  part45_of I K c (PP I c 0 7) (PP I c 0 8) (PP I c 1 7) (PP I c 2 7) (PP I c 3 7) (p45_16 I c)

theorem w_p46_2 (c : Dev nD) : (W1460 c) = wDn c 7 := by revert c; decide

theorem p46_2 (c : Dev nD) : (k0_pay70 (k0_pay68 (resB I c (c - 7 : Fin 8))) (W1488 c) (slRow I c 1) (PP I c 1 7)) = PP I c 1 8 :=
  congrArg (fun w => combG w (resB I c (c - 7 : Fin 8)) (slRow I c 1) (PP I c 1 7)) (w_p46_2 c)

theorem w_p46_6 (c : Dev nD) : ((W1460 c) : BitVec 32) = wDn c 7 := by revert c; decide

theorem p46_6 (c : Dev nD) : (k0_pay71 (W1460 c) (k0_pay68 (resB I c (c - 7 : Fin 8))) (slRow I c 2) (PP I c 2 7)) = PP I c 2 8 :=
  congrArg (fun w => combG w (resB I c (c - 7 : Fin 8)) (slRow I c 2) (PP I c 2 7)) (w_p46_6 c)

theorem part46_of (c : Dev nD) (u08 u17 u18 u27 u28 u37 : Vec F S512x1024 .f32) (h_p46_2 : (k0_pay70 (k0_pay68 (resB I c (c - 7 : Fin 8))) (W1488 c) (slRow I c 1) u17) = u18) (h_p46_6 : (k0_pay71 (W1460 c) (k0_pay68 (resB I c (c - 7 : Fin 8))) (slRow I c 2) u27) = u28) {Q : (FVec F S512x512 .bf16) → sProp 𝕄} :
    iprop(pt c cc0_stg5_0 Finset.univ (glue ![u08, u17, u27, u37]) ∗ pt c cc0_stg3_0 Finset.univ (I.sl c))
      ⊢ iprop(((pt c cc0_stg5_0 Finset.univ (glue ![u08, u18, u28, u37]) ∗ pt c cc0_stg3_0 Finset.univ (I.sl c)) -∗ Q (k0_pay72 (W1460 c) (slRow I c 3)))
        -∗ wpc c (k0_part46 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 (W1460 c) (k0_pay68 (resB I c (c - 7 : Fin 8))) (W1488 c) (slRow I c 1)) Q) := by
  simp only [k0_part46_eq_skeleton, k0_part46_skel, semSignalWord, semWaitWord, Prog.lift, Prog.bind_op, Prog.bind_ret, Prog.pure_eq_ret, Prog.bind_assoc]
  iintro ⟨H6, H3⟩ Hk
  iapply (ld_o c ![u08, u17, u27, u37] 1 (v := u17) rfl rfl) $$ H6
  iintro H6
  iapply (ld_o c ![u08, u17, u27, u37] 1 (v := u17) rfl rfl) $$ H6
  iintro H6
  iapply (st_o c ![u08, u17, u27, u37] ![u08, u18, u27, u37] 1 h_p46_2 (by intro b' h; fin_cases b' <;> first | rfl | exact absurd rfl h) rfl) $$ H6
  iintro H6
  iapply (ld_sl I c 2 rfl) $$ H3
  iintro H3
  iapply (ld_o c ![u08, u18, u27, u37] 2 (v := u27) rfl rfl) $$ H6
  iintro H6
  iapply (ld_o c ![u08, u18, u27, u37] 2 (v := u27) rfl rfl) $$ H6
  iintro H6
  iapply (st_o c ![u08, u18, u27, u37] ![u08, u18, u28, u37] 2 h_p46_6 (by intro b' h; fin_cases b' <;> first | rfl | exact absurd rfl h) rfl) $$ H6
  iintro H6
  iapply (ld_sl I c 3 rfl) $$ H3
  iintro H3
  iapply (wpc_ret' c (α := (FVec F S512x512 .bf16)) (b := (k0_pay72 (W1460 c) (slRow I c 3))) rfl)
  iapply Hk
  isplitl [H6]; · iexact H6
  iexact H3

theorem part46 (c : Dev nD) {Q : (FVec F S512x512 .bf16) → sProp 𝕄} :
    iprop(pt c cc0_stg5_0 Finset.univ (glue ![(PP I c 0 8), (PP I c 1 7), (PP I c 2 7), (PP I c 3 7)]) ∗ pt c cc0_stg3_0 Finset.univ (I.sl c))
      ⊢ iprop(((pt c cc0_stg5_0 Finset.univ (glue ![(PP I c 0 8), (PP I c 1 8), (PP I c 2 8), (PP I c 3 7)]) ∗ pt c cc0_stg3_0 Finset.univ (I.sl c)) -∗ Q (k0_pay72 (W1460 c) (slRow I c 3)))
        -∗ wpc c (k0_part46 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 (W1460 c) (k0_pay68 (resB I c (c - 7 : Fin 8))) (W1488 c) (slRow I c 1)) Q) :=
  part46_of I c (PP I c 0 8) (PP I c 1 7) (PP I c 1 8) (PP I c 2 7) (PP I c 2 8) (PP I c 3 7) (p46_2 I c) (p46_6 I c)

theorem w_p47_2 (c : Dev nD) : ((W1460 c) : BitVec 32) = wDn c 7 := by revert c; decide

theorem p47_2 (c : Dev nD) : (k0_pay73 (k0_pay68 (resB I c (c - 7 : Fin 8))) (k0_pay72 (W1460 c) (slRow I c 3)) (PP I c 3 7)) = PP I c 3 8 :=
  congrArg (fun w => combG w (resB I c (c - 7 : Fin 8)) (slRow I c 3) (PP I c 3 7)) (w_p47_2 c)

theorem part47_of (K : GSem nD τ sig → ℕ) (c : Dev nD) (u08 u18 u28 u37 u38 : Vec F S512x1024 .f32) (h_p47_2 : (k0_pay73 (k0_pay68 (resB I c (c - 7 : Fin 8))) (k0_pay72 (W1460 c) (slRow I c 3)) u37) = u38) {Q : (Σ' (v1555 : BitVec 32) (v1556 : BitVec 32) (v1557 : BitVec 1), BitVec 1) → sProp 𝕄} :
    iprop(recs I K ∗ levAts L lv ∗ pt c cc0_stg5_0 Finset.univ (glue ![u08, u18, u28, u37]) ∗ CR (F := F) c (.inl (0, 1)) ∗ ow (F := F) c ([] : List (GSem nD τ sig × ℕ)) ∗ AT (F := F) c (.inl (0, 1)) 0)
      ⊢ iprop(((pt c cc0_stg5_0 Finset.univ (glue ![u08, u18, u28, u38]) ∗ ow (F := F) c ([] : List (GSem nD τ sig × ℕ)) ∗ AT (F := F) c (.inl (0, 1)) 1 ∗ (∃ f, dP (F := F) c 1 f)) -∗ Q ⟨(W1555 c), (W1556 c), (W1557 c), (W1560 c)⟩)
        -∗ wpc c (k0_part47 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 c (W2 c) (k0_pay68 (resB I c (c - 7 : Fin 8))) (k0_pay72 (W1460 c) (slRow I c 3))) Q) := by
  simp only [k0_part47_eq_skeleton, k0_part47_skel, semSignalWord, semWaitWord, Prog.lift, Prog.bind_op, Prog.bind_ret, Prog.pure_eq_ret, Prog.bind_assoc]
  iintro ⟨#Hrec, #Hlev, H6, C01, HO, A01⟩ Hk
  iapply (ld_o c ![u08, u18, u28, u37] 3 (v := u37) rfl rfl) $$ H6
  iintro H6
  iapply (ld_o c ![u08, u18, u28, u37] 3 (v := u37) rfl rfl) $$ H6
  iintro H6
  iapply (st_o c ![u08, u18, u28, u37] ![u08, u18, u28, u38] 3 h_p47_2 (by intro b' h; fin_cases b' <;> first | rfl | exact absurd rfl h) rfl) $$ H6
  iintro H6
  iapply (wait_ds I K c 1 (by decide) rfl rfl) $$ [C01 HO A01]
  · isplitr; · iexact Hrec
    isplitr; · iexact Hlev
    isplitl [C01]; · iexact C01
    isplitl [HO]; · iexact HO
    iexact A01
  iintro ⟨HO, A01, -, D1⟩
  iapply (wpc_ret' c (α := (Σ' (v1555 : BitVec 32) (v1556 : BitVec 32) (v1557 : BitVec 1), BitVec 1)) (b := ⟨(W1555 c), (W1556 c), (W1557 c), (W1560 c)⟩) rfl)
  iapply Hk
  isplitl [H6]; · iexact H6
  isplitl [HO]; · iexact HO
  isplitl [A01]; · iexact A01
  iexact D1

theorem part47 (K : GSem nD τ sig → ℕ) (c : Dev nD) {Q : (Σ' (v1555 : BitVec 32) (v1556 : BitVec 32) (v1557 : BitVec 1), BitVec 1) → sProp 𝕄} :
    iprop(recs I K ∗ levAts L lv ∗ pt c cc0_stg5_0 Finset.univ (glue ![(PP I c 0 8), (PP I c 1 8), (PP I c 2 8), (PP I c 3 7)]) ∗ CR (F := F) c (.inl (0, 1)) ∗ ow (F := F) c ([] : List (GSem nD τ sig × ℕ)) ∗ AT (F := F) c (.inl (0, 1)) 0)
      ⊢ iprop(((pt c cc0_stg5_0 Finset.univ (glue ![(PP I c 0 8), (PP I c 1 8), (PP I c 2 8), (PP I c 3 8)]) ∗ ow (F := F) c ([] : List (GSem nD τ sig × ℕ)) ∗ AT (F := F) c (.inl (0, 1)) 1 ∗ (∃ f, dP (F := F) c 1 f)) -∗ Q ⟨(W1555 c), (W1556 c), (W1557 c), (W1560 c)⟩)
        -∗ wpc c (k0_part47 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 c (W2 c) (k0_pay68 (resB I c (c - 7 : Fin 8))) (k0_pay72 (W1460 c) (slRow I c 3))) Q) :=
  part47_of I K c (PP I c 0 8) (PP I c 1 8) (PP I c 2 8) (PP I c 3 7) (PP I c 3 8) (p47_2 I c)

end Cert.KernelIdeal.Moe
-- ==== Proof.PartsD.lean ====
/-
  The last parts of the kernel: it waits for what it sent.
-/
module

public import proofs.«01_k».proof.Proof.Steps

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (I : Inp F)

theorem part48 (K : GSem nD τ sig → ℕ) (c : Dev nD) {Q : (PUnit) → sProp 𝕄} :
    iprop(recs I K ∗ levAts L lv ∗ CR (F := F) c (.inl (2, 1)) ∗ ow (F := F) c ([] : List (GSem nD τ sig × ℕ)) ∗ AT (F := F) c (.inl (2, 1)) 0)
      ⊢ iprop(((ow (F := F) c ([] : List (GSem nD τ sig × ℕ)) ∗ AT (F := F) c (.inl (2, 1)) 1 ∗ (∃ f, yP (F := F) c (c + 1 : Fin 8) f)) -∗ Q ⟨⟩)
        -∗ wpc c (k0_part48 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 c (W2 c) (W1555 c) (W1556 c) (W1557 c) (W1560 c)) Q) := by
  simp only [k0_part48_eq_skeleton, k0_part48_skel, semSignalWord, semWaitWord, Prog.lift, Prog.bind_op, Prog.bind_ret, Prog.pure_eq_ret, Prog.bind_assoc]
  iintro ⟨#Hrec, #Hlev, C21, HO, A21⟩ Hk
  iapply (wait_rs I K c 1 (by decide) rfl rfl) $$ [C21 HO A21]
  · isplitr; · iexact Hrec
    isplitr; · iexact Hlev
    isplitl [C21]; · iexact C21
    isplitl [HO]; · iexact HO
    iexact A21
  iintro ⟨HO, A21, -, Y1⟩
  iapply (wpc_ret' c (α := (PUnit)) (b := ⟨⟩) rfl)
  iapply Hk
  isplitl [HO]; · iexact HO
  isplitl [A21]; · iexact A21
  iexact Y1

theorem part49 (K : GSem nD τ sig → ℕ) (c : Dev nD) {Q : (PUnit) → sProp 𝕄} :
    iprop(recs I K ∗ levAts L lv ∗ CR (F := F) c (.inl (0, 2)) ∗ ow (F := F) c ([] : List (GSem nD τ sig × ℕ)) ∗ AT (F := F) c (.inl (0, 2)) 0)
      ⊢ iprop(((ow (F := F) c ([] : List (GSem nD τ sig × ℕ)) ∗ AT (F := F) c (.inl (0, 2)) 1 ∗ (∃ f, dP (F := F) c 2 f)) -∗ Q ⟨⟩)
        -∗ wpc c (k0_part49 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 c (W2 c)) Q) := by
  simp only [k0_part49_eq_skeleton, k0_part49_skel, semSignalWord, semWaitWord, Prog.lift, Prog.bind_op, Prog.bind_ret, Prog.pure_eq_ret, Prog.bind_assoc]
  iintro ⟨#Hrec, #Hlev, C02, HO, A02⟩ Hk
  iapply (wait_ds I K c 2 (by decide) rfl rfl) $$ [C02 HO A02]
  · isplitr; · iexact Hrec
    isplitr; · iexact Hlev
    isplitl [C02]; · iexact C02
    isplitl [HO]; · iexact HO
    iexact A02
  iintro ⟨HO, A02, -, D2⟩
  iapply (wpc_ret' c (α := (PUnit)) (b := ⟨⟩) rfl)
  iapply Hk
  isplitl [HO]; · iexact HO
  isplitl [A02]; · iexact A02
  iexact D2

theorem part50 (K : GSem nD τ sig → ℕ) (c : Dev nD) {Q : (Σ' (v1654 : BitVec 32), BitVec 32) → sProp 𝕄} :
    iprop(recs I K ∗ levAts L lv ∗ CR (F := F) c (.inl (2, 2)) ∗ ow (F := F) c ([] : List (GSem nD τ sig × ℕ)) ∗ AT (F := F) c (.inl (2, 2)) 0 ∗ CR (F := F) c (.inl (0, 3)) ∗ AT (F := F) c (.inl (0, 3)) 0)
      ⊢ iprop(((ow (F := F) c ([] : List (GSem nD τ sig × ℕ)) ∗ AT (F := F) c (.inl (2, 2)) 1 ∗ (∃ f, yP (F := F) c (c + 2 : Fin 8) f) ∗ AT (F := F) c (.inl (0, 3)) 1 ∗ (∃ f, dP (F := F) c 3 f)) -∗ Q ⟨(W1654 c), 8#32⟩)
        -∗ wpc c (k0_part50 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 c (W2 c)) Q) := by
  simp only [k0_part50_eq_skeleton, k0_part50_skel, semSignalWord, semWaitWord, Prog.lift, Prog.bind_op, Prog.bind_ret, Prog.pure_eq_ret, Prog.bind_assoc]
  iintro ⟨#Hrec, #Hlev, C22, HO, A22, C03, A03⟩ Hk
  iapply (wait_rs I K c 2 (by decide) rfl rfl) $$ [C22 HO A22]
  · isplitr; · iexact Hrec
    isplitr; · iexact Hlev
    isplitl [C22]; · iexact C22
    isplitl [HO]; · iexact HO
    iexact A22
  iintro ⟨HO, A22, -, Y2⟩
  iapply (wait_ds I K c 3 (by decide) rfl rfl) $$ [C03 HO A03]
  · isplitr; · iexact Hrec
    isplitr; · iexact Hlev
    isplitl [C03]; · iexact C03
    isplitl [HO]; · iexact HO
    iexact A03
  iintro ⟨HO, A03, -, D3⟩
  iapply (wpc_ret' c (α := (Σ' (v1654 : BitVec 32), BitVec 32)) (b := ⟨(W1654 c), 8#32⟩) rfl)
  iapply Hk
  isplitl [HO]; · iexact HO
  isplitl [A22]; · iexact A22
  isplitl [Y2]; · iexact Y2
  isplitl [A03]; · iexact A03
  iexact D3

theorem part51 (K : GSem nD τ sig → ℕ) (c : Dev nD) {Q : (PUnit) → sProp 𝕄} :
    iprop(recs I K ∗ levAts L lv ∗ CR (F := F) c (.inl (2, 3)) ∗ ow (F := F) c ([] : List (GSem nD τ sig × ℕ)) ∗ AT (F := F) c (.inl (2, 3)) 0)
      ⊢ iprop(((ow (F := F) c ([] : List (GSem nD τ sig × ℕ)) ∗ AT (F := F) c (.inl (2, 3)) 1 ∗ (∃ f, yP (F := F) c (c + 3 : Fin 8) f)) -∗ Q ⟨⟩)
        -∗ wpc c (k0_part51 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 c (W2 c) (W1654 c) 8#32) Q) := by
  simp only [k0_part51_eq_skeleton, k0_part51_skel, semSignalWord, semWaitWord, Prog.lift, Prog.bind_op, Prog.bind_ret, Prog.pure_eq_ret, Prog.bind_assoc]
  iintro ⟨#Hrec, #Hlev, C23, HO, A23⟩ Hk
  iapply (wait_rs I K c 3 (by decide) rfl rfl) $$ [C23 HO A23]
  · isplitr; · iexact Hrec
    isplitr; · iexact Hlev
    isplitl [C23]; · iexact C23
    isplitl [HO]; · iexact HO
    iexact A23
  iintro ⟨HO, A23, -, Y3⟩
  iapply (wpc_ret' c (α := (PUnit)) (b := ⟨⟩) rfl)
  iapply Hk
  isplitl [HO]; · iexact HO
  isplitl [A23]; · iexact A23
  iexact Y3

theorem part52 (K : GSem nD τ sig → ℕ) (c : Dev nD) {Q : (BitVec 32) → sProp 𝕄} :
    iprop(recs I K ∗ levAts L lv ∗ CR (F := F) c (.inl (0, 4)) ∗ ow (F := F) c ([] : List (GSem nD τ sig × ℕ)) ∗ AT (F := F) c (.inl (0, 4)) 0 ∗ CR (F := F) c (.inl (2, 4)) ∗ AT (F := F) c (.inl (2, 4)) 0)
      ⊢ iprop(((ow (F := F) c ([] : List (GSem nD τ sig × ℕ)) ∗ AT (F := F) c (.inl (0, 4)) 1 ∗ (∃ f, dP (F := F) c 4 f) ∗ AT (F := F) c (.inl (2, 4)) 1 ∗ (∃ f, yP (F := F) c (c + 4 : Fin 8) f)) -∗ Q (W1716 c))
        -∗ wpc c (k0_part52 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 c (W2 c)) Q) := by
  simp only [k0_part52_eq_skeleton, k0_part52_skel, semSignalWord, semWaitWord, Prog.lift, Prog.bind_op, Prog.bind_ret, Prog.pure_eq_ret, Prog.bind_assoc]
  iintro ⟨#Hrec, #Hlev, C04, HO, A04, C24, A24⟩ Hk
  iapply (wait_ds I K c 4 (by decide) rfl rfl) $$ [C04 HO A04]
  · isplitr; · iexact Hrec
    isplitr; · iexact Hlev
    isplitl [C04]; · iexact C04
    isplitl [HO]; · iexact HO
    iexact A04
  iintro ⟨HO, A04, -, D4⟩
  iapply (wait_rs I K c 4 (by decide) rfl rfl) $$ [C24 HO A24]
  · isplitr; · iexact Hrec
    isplitr; · iexact Hlev
    isplitl [C24]; · iexact C24
    isplitl [HO]; · iexact HO
    iexact A24
  iintro ⟨HO, A24, -, Y4⟩
  iapply (wpc_ret' c (α := (BitVec 32)) (b := (W1716 c)) rfl)
  iapply Hk
  isplitl [HO]; · iexact HO
  isplitl [A04]; · iexact A04
  isplitl [D4]; · iexact D4
  isplitl [A24]; · iexact A24
  iexact Y4

theorem part53 (K : GSem nD τ sig → ℕ) (c : Dev nD) {Q : (Σ' (v1746 : BitVec 32) (v1747 : BitVec 32), BitVec 32) → sProp 𝕄} :
    iprop(recs I K ∗ levAts L lv ∗ CR (F := F) c (.inl (0, 5)) ∗ ow (F := F) c ([] : List (GSem nD τ sig × ℕ)) ∗ AT (F := F) c (.inl (0, 5)) 0)
      ⊢ iprop(((ow (F := F) c ([] : List (GSem nD τ sig × ℕ)) ∗ AT (F := F) c (.inl (0, 5)) 1 ∗ (∃ f, dP (F := F) c 5 f)) -∗ Q ⟨(W1746 c), (W1747 c), 0#32⟩)
        -∗ wpc c (k0_part53 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 c (W2 c) (W1716 c)) Q) := by
  simp only [k0_part53_eq_skeleton, k0_part53_skel, semSignalWord, semWaitWord, Prog.lift, Prog.bind_op, Prog.bind_ret, Prog.pure_eq_ret, Prog.bind_assoc]
  iintro ⟨#Hrec, #Hlev, C05, HO, A05⟩ Hk
  iapply (wait_ds I K c 5 (by decide) rfl rfl) $$ [C05 HO A05]
  · isplitr; · iexact Hrec
    isplitr; · iexact Hlev
    isplitl [C05]; · iexact C05
    isplitl [HO]; · iexact HO
    iexact A05
  iintro ⟨HO, A05, -, D5⟩
  iapply (wpc_ret' c (α := (Σ' (v1746 : BitVec 32) (v1747 : BitVec 32), BitVec 32)) (b := ⟨(W1746 c), (W1747 c), 0#32⟩) rfl)
  iapply Hk
  isplitl [HO]; · iexact HO
  isplitl [A05]; · iexact A05
  iexact D5

theorem part54 (K : GSem nD τ sig → ℕ) (c : Dev nD) {Q : (PUnit) → sProp 𝕄} :
    iprop(recs I K ∗ levAts L lv ∗ CR (F := F) c (.inl (2, 5)) ∗ ow (F := F) c ([] : List (GSem nD τ sig × ℕ)) ∗ AT (F := F) c (.inl (2, 5)) 0 ∗ CR (F := F) c (.inl (0, 6)) ∗ AT (F := F) c (.inl (0, 6)) 0)
      ⊢ iprop(((ow (F := F) c ([] : List (GSem nD τ sig × ℕ)) ∗ AT (F := F) c (.inl (2, 5)) 1 ∗ (∃ f, yP (F := F) c (c + 5 : Fin 8) f) ∗ AT (F := F) c (.inl (0, 6)) 1 ∗ (∃ f, dP (F := F) c 6 f)) -∗ Q ⟨⟩)
        -∗ wpc c (k0_part54 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 c (W2 c) (W1746 c) (W1747 c) 0#32) Q) := by
  simp only [k0_part54_eq_skeleton, k0_part54_skel, semSignalWord, semWaitWord, Prog.lift, Prog.bind_op, Prog.bind_ret, Prog.pure_eq_ret, Prog.bind_assoc]
  iintro ⟨#Hrec, #Hlev, C25, HO, A25, C06, A06⟩ Hk
  iapply (wait_rs I K c 5 (by decide) rfl rfl) $$ [C25 HO A25]
  · isplitr; · iexact Hrec
    isplitr; · iexact Hlev
    isplitl [C25]; · iexact C25
    isplitl [HO]; · iexact HO
    iexact A25
  iintro ⟨HO, A25, -, Y5⟩
  iapply (wait_ds I K c 6 (by decide) rfl rfl) $$ [C06 HO A06]
  · isplitr; · iexact Hrec
    isplitr; · iexact Hlev
    isplitl [C06]; · iexact C06
    isplitl [HO]; · iexact HO
    iexact A06
  iintro ⟨HO, A06, -, D6⟩
  iapply (wpc_ret' c (α := (PUnit)) (b := ⟨⟩) rfl)
  iapply Hk
  isplitl [HO]; · iexact HO
  isplitl [A25]; · iexact A25
  isplitl [Y5]; · iexact Y5
  isplitl [A06]; · iexact A06
  iexact D6

theorem part55 (K : GSem nD τ sig → ℕ) (c : Dev nD) {Q : (Σ' (v1808 : BitVec 32), BitVec 32) → sProp 𝕄} :
    iprop(recs I K ∗ levAts L lv ∗ CR (F := F) c (.inl (2, 6)) ∗ ow (F := F) c ([] : List (GSem nD τ sig × ℕ)) ∗ AT (F := F) c (.inl (2, 6)) 0)
      ⊢ iprop(((ow (F := F) c ([] : List (GSem nD τ sig × ℕ)) ∗ AT (F := F) c (.inl (2, 6)) 1 ∗ (∃ f, yP (F := F) c (c + 6 : Fin 8) f)) -∗ Q ⟨(W1808 c), (W1809 c)⟩)
        -∗ wpc c (k0_part55 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 c (W2 c)) Q) := by
  simp only [k0_part55_eq_skeleton, k0_part55_skel, semSignalWord, semWaitWord, Prog.lift, Prog.bind_op, Prog.bind_ret, Prog.pure_eq_ret, Prog.bind_assoc]
  iintro ⟨#Hrec, #Hlev, C26, HO, A26⟩ Hk
  iapply (wait_rs I K c 6 (by decide) rfl rfl) $$ [C26 HO A26]
  · isplitr; · iexact Hrec
    isplitr; · iexact Hlev
    isplitl [C26]; · iexact C26
    isplitl [HO]; · iexact HO
    iexact A26
  iintro ⟨HO, A26, -, Y6⟩
  iapply (wpc_ret' c (α := (Σ' (v1808 : BitVec 32), BitVec 32)) (b := ⟨(W1808 c), (W1809 c)⟩) rfl)
  iapply Hk
  isplitl [HO]; · iexact HO
  isplitl [A26]; · iexact A26
  iexact Y6

theorem part56 (K : GSem nD τ sig → ℕ) (c : Dev nD) {Q : (Σ' (v1836 : BitVec 32) (v1837 : BitVec 32) (v1838 : BitVec 1), BitVec 1) → sProp 𝕄} :
    iprop(recs I K ∗ levAts L lv ∗ CR (F := F) c (.inl (0, 7)) ∗ ow (F := F) c ([] : List (GSem nD τ sig × ℕ)) ∗ AT (F := F) c (.inl (0, 7)) 0)
      ⊢ iprop(((ow (F := F) c ([] : List (GSem nD τ sig × ℕ)) ∗ AT (F := F) c (.inl (0, 7)) 1 ∗ (∃ f, dP (F := F) c 7 f)) -∗ Q ⟨(W1836 c), (W1837 c), (W1838 c), (W1841 c)⟩)
        -∗ wpc c (k0_part56 (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10 c (W2 c) (W1808 c) (W1809 c)) Q) := by
  simp only [k0_part56_eq_skeleton, k0_part56_skel, semSignalWord, semWaitWord, Prog.lift, Prog.bind_op, Prog.bind_ret, Prog.pure_eq_ret, Prog.bind_assoc]
  iintro ⟨#Hrec, #Hlev, C07, HO, A07⟩ Hk
  iapply (wait_ds I K c 7 (by decide) rfl rfl) $$ [C07 HO A07]
  · isplitr; · iexact Hrec
    isplitr; · iexact Hlev
    isplitl [C07]; · iexact C07
    isplitl [HO]; · iexact HO
    iexact A07
  iintro ⟨HO, A07, -, D7⟩
  iapply (wpc_ret' c (α := (Σ' (v1836 : BitVec 32) (v1837 : BitVec 32) (v1838 : BitVec 1), BitVec 1)) (b := ⟨(W1836 c), (W1837 c), (W1838 c), (W1841 c)⟩) rfl)
  iapply Hk
  isplitl [HO]; · iexact HO
  isplitl [A07]; · iexact A07
  iexact D7

end Cert.KernelIdeal.Moe
-- ==== Proof.Joins.lean ====
/-
  Buffers put together from their slots, and what a barrier and a device's tokens are slot by slot.
-/
module

public import proofs.«01_k».proof.Proof.Wrap

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (I : Inp F)

theorem bs8 (Φ : Fin 8 → sProp 𝕄) : bigSep Finset.univ Φ = iprop(Φ 0 ∗ Φ 1 ∗ Φ 2 ∗ Φ 3 ∗ Φ 4 ∗ Φ 5 ∗ Φ 6 ∗ Φ 7) := by
  rw [show (Finset.univ : Finset (Fin 8)) = insert 0 (insert 1 (insert 2 (insert 3 (insert 4 (insert 5 (insert 6 {7})))))) from by decide]
  rw [bigSep_insert (by decide), bigSep_insert (by decide), bigSep_insert (by decide), bigSep_insert (by decide), bigSep_insert (by decide),
    bigSep_insert (by decide), bigSep_insert (by decide), bigSep_singleton]
  rfl
theorem bs7 (Φ : Fin 8 → sProp 𝕄) : bigSep (Finset.univ.erase 0) Φ = iprop(Φ 1 ∗ Φ 2 ∗ Φ 3 ∗ Φ 4 ∗ Φ 5 ∗ Φ 6 ∗ Φ 7) := by
  rw [show (Finset.univ.erase 0 : Finset (Fin 8)) = insert 1 (insert 2 (insert 3 (insert 4 (insert 5 (insert 6 {7}))))) from by decide]
  rw [bigSep_insert (by decide), bigSep_insert (by decide), bigSep_insert (by decide), bigSep_insert (by decide),
    bigSep_insert (by decide), bigSep_insert (by decide), bigSep_singleton]
  rfl

/-- The places counted back from `c`, and the places counted on from it. -/
def dnE (c : Fin 8) : Fin 8 ≃ Fin 8 := ⟨fun k => (c - k : Fin 8), fun k => (c - k : Fin 8), by revert c; decide, by revert c; decide⟩
def upE (c : Fin 8) : Fin 8 ≃ Fin 8 := ⟨fun k => (c + k : Fin 8), fun k => (k - c : Fin 8), by revert c; decide, by revert c; decide⟩

theorem recv_slots (c : Dev nD) (f : Vec F S8x8x64x512 .bf16) :
    (pt c cc0_scratch1 Finset.univ f : sProp 𝕄) = bigSep Finset.univ fun k : Fin 8 => recvP c k f :=
  pts_slots (ℓ := (c : Thread nD τ).loc cc0_scratch1) (fun k => sl512 k) 8 (fun _ _ h => slotAt_disjoint h) (slotAt_cover 0 rfl) f
theorem d_slots (c : Dev nD) (f : Vec F S8x8x64x512 .bf16) :
    (pt c cc0_scratch5 Finset.univ f : sProp 𝕄) = bigSep Finset.univ fun k : Fin 8 => dP c k f :=
  pts_slots (ℓ := (c : Thread nD τ).loc cc0_scratch5) (fun k => sl512 k) 8 (fun _ _ h => slotAt_disjoint h) (slotAt_cover 0 rfl) f
theorem y_slots (c : Dev nD) (f : Vec F S8x8x64x1024 .bf16) :
    (pt c cc0_scratch2 Finset.univ f : sProp 𝕄) = bigSep Finset.univ fun k : Fin 8 => yP c k f :=
  pts_slots (ℓ := (c : Thread nD τ).loc cc0_scratch2) (fun k => sl1024 k) 8 (fun _ _ h => slotAt_disjoint h) (slotAt_cover 0 rfl) f
theorem res_slots (c : Dev nD) (f : Vec F S8x8x64x1024 .bf16) :
    (pt c cc0_scratch3 Finset.univ f : sProp 𝕄) = bigSep Finset.univ fun k : Fin 8 => resP c k f :=
  pts_slots (ℓ := (c : Thread nD τ).loc cc0_scratch3) (fun k => sl1024 k) 8 (fun _ _ h => slotAt_disjoint h) (slotAt_cover 0 rfl) f
theorem w_slots (c : Dev nD) (f : Vec F S8x512x1024 .f32) :
    (pt c main_arg3 Finset.univ f : sProp 𝕄) = bigSep Finset.univ fun k : Fin 8 => wP c k f :=
  pts_slots (ℓ := (c : Thread nD τ).loc main_arg3) (fun k => slW k) 8 (fun _ _ h => slotAt_disjoint h) (slotAt_cover 0 rfl) f
theorem ew_slots (c : Dev nD) (f : Vec F S2x512x1024 .f32) :
    (pt c cc0_scratch4 Finset.univ f : sProp 𝕄) = bigSep Finset.univ fun k : Fin 2 => ewP c k f :=
  pts_slots (ℓ := (c : Thread nD τ).loc cc0_scratch4) (fun k => slE k) 2 (fun _ _ h => slotAt_disjoint h) (slotAt_cover 0 rfl) f

theorem d_join (c : Dev nD) : (bigSep Finset.univ fun k : Fin 8 => iprop(∃ f, dP (F := F) c k f) : sProp 𝕄) ⊢ iprop(∃ g, pt (F := F) c cc0_scratch5 Finset.univ g) :=
  pts_slots_join (ℓ := (c : Thread nD τ).loc cc0_scratch5) (fun k => sl512 k) 8 (fun _ _ h => slotAt_disjoint h) (slotAt_cover 0 rfl) (fun _ => default)
theorem y_join (c : Dev nD) : (bigSep Finset.univ fun k : Fin 8 => iprop(∃ f, yP (F := F) c k f) : sProp 𝕄) ⊢ iprop(∃ g, pt (F := F) c cc0_scratch2 Finset.univ g) :=
  pts_slots_join (ℓ := (c : Thread nD τ).loc cc0_scratch2) (fun k => sl1024 k) 8 (fun _ _ h => slotAt_disjoint h) (slotAt_cover 0 rfl) (fun _ => default)
theorem ew_join (c : Dev nD) : (bigSep Finset.univ fun k : Fin 2 => iprop(∃ f, ewP (F := F) c k f) : sProp 𝕄) ⊢ iprop(∃ g, pt (F := F) c cc0_scratch4 Finset.univ g) :=
  pts_slots_join (ℓ := (c : Thread nD τ).loc cc0_scratch4) (fun k => slE k) 2 (fun _ _ h => slotAt_disjoint h) (slotAt_cover 0 rfl) (fun _ => default)

theorem c_sub_zero (c : Fin 8) : (c - 0 : Fin 8) = c := by revert c; decide
theorem c_add_zero (c : Fin 8) : (c + 0 : Fin 8) = c := by revert c; decide

/-- The received rows are in place: the own first, then by distance. -/
theorem recv_all (c : Dev nD) (f : Vec F S8x8x64x512 .bf16) :
    iprop(recvP c c f ∗ recvP c (c - 1 : Fin 8) f ∗ recvP c (c - 2 : Fin 8) f ∗ recvP c (c - 3 : Fin 8) f ∗ recvP c (c - 4 : Fin 8) f
      ∗ recvP c (c - 5 : Fin 8) f ∗ recvP c (c - 6 : Fin 8) f ∗ recvP c (c - 7 : Fin 8) f) = (pt c cc0_scratch1 Finset.univ f : sProp 𝕄) := by
  rw [recv_slots, bigSep_univ_equiv (dnE c) (fun k : Fin 8 => recvP c k f), bs8]
  show _ = iprop(recvP c (c - 0 : Fin 8) f ∗ _)
  rw [c_sub_zero]
  rfl
theorem res_all (c : Dev nD) (f : Vec F S8x8x64x1024 .bf16) :
    iprop(resP c c f ∗ resP c (c - 1 : Fin 8) f ∗ resP c (c - 2 : Fin 8) f ∗ resP c (c - 3 : Fin 8) f ∗ resP c (c - 4 : Fin 8) f
      ∗ resP c (c - 5 : Fin 8) f ∗ resP c (c - 6 : Fin 8) f ∗ resP c (c - 7 : Fin 8) f) = (pt c cc0_scratch3 Finset.univ f : sProp 𝕄) := by
  rw [res_slots, bigSep_univ_equiv (dnE c) (fun k : Fin 8 => resP c k f), bs8]
  show _ = iprop(resP c (c - 0 : Fin 8) f ∗ _)
  rw [c_sub_zero]
  rfl
theorem y_all (c : Dev nD) (f : Vec F S8x8x64x1024 .bf16) :
    (pt c cc0_scratch2 Finset.univ f : sProp 𝕄) = iprop(yP c c f ∗ yP c (c + 1 : Fin 8) f ∗ yP c (c + 2 : Fin 8) f ∗ yP c (c + 3 : Fin 8) f ∗ yP c (c + 4 : Fin 8) f
      ∗ yP c (c + 5 : Fin 8) f ∗ yP c (c + 6 : Fin 8) f ∗ yP c (c + 7 : Fin 8) f) := by
  rw [y_slots, bigSep_univ_equiv (upE c) (fun k : Fin 8 => yP c k f), bs8]
  show iprop(yP c (c + 0 : Fin 8) f ∗ _) = _
  rw [c_add_zero]
  rfl
theorem y_back (c : Dev nD) :
    iprop((∃ f, yP (F := F) c c f) ∗ (∃ f, yP (F := F) c (c + 1 : Fin 8) f) ∗ (∃ f, yP (F := F) c (c + 2 : Fin 8) f) ∗ (∃ f, yP (F := F) c (c + 3 : Fin 8) f)
      ∗ (∃ f, yP (F := F) c (c + 4 : Fin 8) f) ∗ (∃ f, yP (F := F) c (c + 5 : Fin 8) f) ∗ (∃ f, yP (F := F) c (c + 6 : Fin 8) f) ∗ (∃ f, yP (F := F) c (c + 7 : Fin 8) f))
      ⊢ iprop(∃ g, pt (F := F) c cc0_scratch2 Finset.univ g) := by
  refine (show _ ⊢ _ from ?_).trans (y_join c)
  rw [bigSep_univ_equiv (upE c) (fun k : Fin 8 => iprop(∃ f, yP (F := F) c k f)), bs8]
  show _ ⊢ iprop((∃ f, yP (F := F) c (c + 0 : Fin 8) f) ∗ _)
  rw [c_add_zero]
  exact BI.Entails.refl _

/-- What the signals of the other devices brought. -/
theorem bar_got (c : Dev nD) :
    bigSep (Finset.univ.erase 0) (fun d => barPay (F := F) c d)
      ⊢ iprop((BD (F := F) c 1 ∗ BR (F := F) c 1) ∗ (BD (F := F) c 2 ∗ BR (F := F) c 2) ∗ (BD (F := F) c 3 ∗ BR (F := F) c 3) ∗ (BD (F := F) c 4 ∗ BR (F := F) c 4)
        ∗ (BD (F := F) c 5 ∗ BR (F := F) c 5) ∗ (BD (F := F) c 6 ∗ BR (F := F) c 6) ∗ (BD (F := F) c 7 ∗ BR (F := F) c 7)) := by
  have h : ∀ k : Fin 8, barPay (F := F) c k ⊢ iprop(BD (F := F) c k ∗ BR (F := F) c k) := by
    intro k
    unfold barPay
    iintro ⟨H1, H2, H3, H4⟩
    isplitl [H1 H3]
    · isplitl [H1]; · iexact H1
      iexact H3
    · isplitl [H2]; · iexact H2
      iexact H4
  refine (bigSep_mono fun k _ => h k).trans ?_
  rw [bs7]
  exact BI.Entails.refl _

end Cert.KernelIdeal.Moe
-- ==== Proof.Body.lean ====
/-
  The kernel's body, part after part.
-/
module

public import proofs.«01_k».proof.Proof.PartsA
public import proofs.«01_k».proof.Proof.PartsB
public import proofs.«01_k».proof.Proof.PartsC
public import proofs.«01_k».proof.Proof.PartsD
public import proofs.«01_k».proof.Proof.Joins

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (I : Inp F)

theorem wpc_bind (c : Dev nD) {α β : Type} {Q : β → sProp 𝕄} {p : Prog (TpuEff nD τ sig (Elt F) Λ₀ .tc) α} {k : α → Prog (TpuEff nD τ sig (Elt F) Λ₀ .tc) β} :
    wpc c p (fun x => wpc c (k x) Q) ⊢ wpc c (p >>= k) Q := le_of_eq (wp_bind _ _ _ _ _ _).symm

theorem tail_end (K : GSem nD τ sig → ℕ) (c : Dev nD) {Q : PUnit → sProp 𝕄} :
    iprop(recs I K ∗ levAts L lv ∗ CR (F := F) c (.inl (2, 7)) ∗ ow (F := F) c [] ∗ AT (F := F) c (.inl (2, 7)) 0)
      ⊢ iprop(((ow (F := F) c [] ∗ AT (F := F) c (.inl (2, 7)) 1 ∗ (∃ f, yP (F := F) c (c + 7 : Fin 8) f)) -∗ Q ⟨⟩)
        -∗ wpc c (do
            let v1845 : DmaSems sig S1 := cc0_scratch8.slice (Rect.unit (s := S8) ![7] S1.size inb_S8_S1_7)
            let v1846 : DmaSems sig S_ := v1845.squeeze S_ squeezes_S1_S_
            let v1847 : Memref sig .tc .vmem S1x8x64x1024 .bf16 := a9.slice (Rect.unit (s := S8x8x64x1024) (k0_off6 c 7#32) S1x8x64x1024.size (k0_off6_inb c 6)) (fun _ => rfl)
            let v1848 : Memref sig .tc .vmem S8x64x1024 .bf16 := v1847.squeeze S8x64x1024 squeezes_S1x8x64x1024_S8x64x1024
            let v1849 : Memref sig .tc .vmem S1x8x64x1024 .bf16 := a10.slice (Rect.unit (s := S8x8x64x1024) (k0_off5 c) S1x8x64x1024.size (k0_off5_inb c)) (fun _ => rfl)
            let v1850 : Memref sig .tc .vmem S8x64x1024 .bf16 := v1849.squeeze S8x64x1024 squeezes_S1x8x64x1024_S8x64x1024
            Prog.lift (.waitDma2 v1846.sem v1850 v1848 ((g10.wordExact_slice rfl _ (k0_off5_wordsbf16 c)).reshape _ _) ((g9.wordExact_slice rfl _ (k0_off6_wordsbf16 c 6)).reshape _ _))
            pure ⟨⟩) Q) := by
  simp only [Prog.lift, Prog.bind_op, Prog.bind_ret, Prog.pure_eq_ret]
  iintro ⟨#Hrec, #Hlev, C27, HO, A27⟩ Hk
  iapply (wait_rs I K c 7 (by decide) rfl rfl) $$ [C27 HO A27]
  · isplitr; · iexact Hrec
    isplitr; · iexact Hlev
    isplitl [C27]; · iexact C27
    isplitl [HO]; · iexact HO
    iexact A27
  iintro ⟨HO, A27, -, Y7⟩
  iapply (wpc_ret c)
  iapply Hk
  isplitl [HO]; · iexact HO
  isplitl [A27]; · iexact A27
  iexact Y7

/-- What device `c` holds when the body starts. -/
abbrev preB (I : Inp F) (c : Dev nD) (q₀ : Fin 4 → Vec F S512x1024 .f32) (f9 : Vec F S8x8x64x1024 .bf16) : sProp 𝕄 :=
  iprop(wP c 0 (I.ew c) ∗ (∃ f, ewP (F := F) c 0 f) ∗ dutyTok ER (ewC c 0) 0 0 ∗ reached ER (ewC c 0) 0 ∗ ow (F := F) c (sigL c 0) ∗ sigRes (F := F) c (0 : Fin 8) ∗ sigRes (F := F) c (1 : Fin 8) ∗ sigRes (F := F) c (2 : Fin 8) ∗ sigRes (F := F) c (3 : Fin 8) ∗ sigRes (F := F) c (4 : Fin 8) ∗ sigRes (F := F) c (5 : Fin 8) ∗ sigRes (F := F) c (6 : Fin 8) ∗ sigRes (F := F) c (7 : Fin 8) ∗ pt c cc0_stg0_0 Finset.univ (I.x c) ∗ pt c cc0_stg1_0 Finset.univ (I.rw c) ∗ pt c cc0_stg2_0 Finset.univ (I.ri c) ∗ (∃ f, pt c cc0_scratch0 Finset.univ f) ∗ cred (tallyAt (barC c) () 7) ∗ atPos ER (barC c) 0 ∅ 0 ∗ pt c cc0_stg3_0 Finset.univ (I.sl c) ∗ (∃ f, recvP (F := F) c c f) ∗ (∃ f, dP (F := F) c 1 f) ∗ TD (F := F) c 1 ∗ (∃ f, dP (F := F) c 2 f) ∗ TD (F := F) c 2 ∗ (∃ f, dP (F := F) c 3 f) ∗ TD (F := F) c 3 ∗ (∃ f, dP (F := F) c 4 f) ∗ TD (F := F) c 4 ∗ (∃ f, dP (F := F) c 5 f) ∗ TD (F := F) c 5 ∗ (∃ f, dP (F := F) c 6 f) ∗ TD (F := F) c 6 ∗ (∃ f, dP (F := F) c 7 f) ∗ TD (F := F) c 7 ∗ pt c cc0_stg4_0 Finset.univ (I.sw c) ∗ pt c cc0_stg5_0 Finset.univ (glue ![(q₀ 0), (q₀ 1), (q₀ 2), (q₀ 3)]) ∗ CR (F := F) c (.inl (1, 1)) ∗ AT (F := F) c (.inl (1, 1)) 0 ∗ CR (F := F) c (.inl (1, 2)) ∗ AT (F := F) c (.inl (1, 2)) 0 ∗ CR (F := F) c (.inl (1, 3)) ∗ AT (F := F) c (.inl (1, 3)) 0 ∗ CR (F := F) c (.inl (1, 4)) ∗ AT (F := F) c (.inl (1, 4)) 0 ∗ CR (F := F) c (.inl (1, 5)) ∗ AT (F := F) c (.inl (1, 5)) 0 ∗ CR (F := F) c (.inl (1, 6)) ∗ AT (F := F) c (.inl (1, 6)) 0 ∗ CR (F := F) c (.inl (1, 7)) ∗ AT (F := F) c (.inl (1, 7)) 0 ∗ AT (F := F) c (.inr 0) 0 ∗ wP c 1 (I.ew c) ∗ (∃ f, ewP (F := F) c 1 f) ∗ dutyTok ER (ewC c 1) 0 0 ∗ reached ER (ewC c 1) 0 ∗ pt c cc0_scratch2 Finset.univ (YN I c f9 0) ∗ AT (F := F) c (.inr 1) 0 ∗ wP c 2 (I.ew c) ∗ dutyTok ER (ewC c 0) 1 0 ∗ wP c 3 (I.ew c) ∗ dutyTok ER (ewC c 1) 1 0 ∗ wP c 4 (I.ew c) ∗ dutyTok ER (ewC c 0) 2 0 ∗ wP c 5 (I.ew c) ∗ dutyTok ER (ewC c 1) 2 0 ∗ wP c 6 (I.ew c) ∗ dutyTok ER (ewC c 0) 3 0 ∗ wP c 7 (I.ew c) ∗ dutyTok ER (ewC c 1) 3 0 ∗ (∃ f, resP (F := F) c c f) ∗ TR (F := F) c 1 ∗ TR (F := F) c 2 ∗ TR (F := F) c 3 ∗ TR (F := F) c 4 ∗ TR (F := F) c 5 ∗ TR (F := F) c 6 ∗ TR (F := F) c 7 ∗ CR (F := F) c (.inl (3, 1)) ∗ AT (F := F) c (.inl (3, 1)) 0 ∗ CR (F := F) c (.inl (3, 2)) ∗ AT (F := F) c (.inl (3, 2)) 0 ∗ CR (F := F) c (.inl (3, 3)) ∗ AT (F := F) c (.inl (3, 3)) 0 ∗ CR (F := F) c (.inl (3, 4)) ∗ AT (F := F) c (.inl (3, 4)) 0 ∗ CR (F := F) c (.inl (3, 5)) ∗ AT (F := F) c (.inl (3, 5)) 0 ∗ CR (F := F) c (.inl (3, 6)) ∗ AT (F := F) c (.inl (3, 6)) 0 ∗ CR (F := F) c (.inl (3, 7)) ∗ AT (F := F) c (.inl (3, 7)) 0 ∗ AT (F := F) c (.inl (0, 1)) 0 ∗ AT (F := F) c (.inl (2, 1)) 0 ∗ AT (F := F) c (.inl (0, 2)) 0 ∗ AT (F := F) c (.inl (2, 2)) 0 ∗ AT (F := F) c (.inl (0, 3)) 0 ∗ AT (F := F) c (.inl (2, 3)) 0 ∗ AT (F := F) c (.inl (0, 4)) 0 ∗ AT (F := F) c (.inl (2, 4)) 0 ∗ AT (F := F) c (.inl (0, 5)) 0 ∗ AT (F := F) c (.inl (2, 5)) 0 ∗ AT (F := F) c (.inl (0, 6)) 0 ∗ AT (F := F) c (.inl (2, 6)) 0 ∗ AT (F := F) c (.inl (0, 7)) 0 ∗ AT (F := F) c (.inl (2, 7)) 0)
/-- What device `c` holds when the body ends. -/
abbrev postB (I : Inp F) (c : Dev nD) : sProp 𝕄 :=
  iprop(pt c cc0_stg1_0 Finset.univ (I.rw c) ∗ pt c cc0_stg2_0 Finset.univ (I.ri c) ∗ atPos ER (barC c) 1 ∅ 0 ∗ pt c cc0_scratch0 Finset.univ (XS I c) ∗ pt c cc0_stg4_0 Finset.univ (I.sw c) ∗ pt c cc0_stg0_0 Finset.univ (I.x c) ∗ AT (F := F) c (.inl (1, 1)) 1 ∗ AT (F := F) c (.inl (1, 2)) 1 ∗ AT (F := F) c (.inl (1, 3)) 1 ∗ AT (F := F) c (.inl (1, 4)) 1 ∗ AT (F := F) c (.inl (1, 5)) 1 ∗ AT (F := F) c (.inl (1, 6)) 1 ∗ AT (F := F) c (.inl (1, 7)) 1 ∗ wP c 0 (I.ew c) ∗ wP c 1 (I.ew c) ∗ wP c 2 (I.ew c) ∗ wP c 3 (I.ew c) ∗ wP c 4 (I.ew c) ∗ wP c 5 (I.ew c) ∗ AT (F := F) c (.inr 0) 4 ∗ ewP c 0 (EW I c 6) ∗ wP c 6 (I.ew c) ∗ AT (F := F) c (.inr 1) 4 ∗ ewP c 1 (EW I c 7) ∗ wP c 7 (I.ew c) ∗ pt c cc0_scratch1 Finset.univ (RECV I c) ∗ resP c c (RES I c) ∗ AT (F := F) c (.inl (3, 1)) 1 ∗ resP c (c - 1 : Fin 8) (RES I c) ∗ AT (F := F) c (.inl (3, 2)) 1 ∗ resP c (c - 2 : Fin 8) (RES I c) ∗ AT (F := F) c (.inl (3, 3)) 1 ∗ resP c (c - 3 : Fin 8) (RES I c) ∗ AT (F := F) c (.inl (3, 4)) 1 ∗ resP c (c - 4 : Fin 8) (RES I c) ∗ AT (F := F) c (.inl (3, 5)) 1 ∗ resP c (c - 5 : Fin 8) (RES I c) ∗ AT (F := F) c (.inl (3, 6)) 1 ∗ resP c (c - 6 : Fin 8) (RES I c) ∗ AT (F := F) c (.inl (3, 7)) 1 ∗ resP c (c - 7 : Fin 8) (RES I c) ∗ pt c cc0_stg3_0 Finset.univ (I.sl c) ∗ pt c cc0_stg5_0 Finset.univ (glue ![(PP I c 0 8), (PP I c 1 8), (PP I c 2 8), (PP I c 3 8)]) ∗ AT (F := F) c (.inl (0, 1)) 1 ∗ (∃ f, dP (F := F) c 1 f) ∗ AT (F := F) c (.inl (2, 1)) 1 ∗ (∃ f, yP (F := F) c (c + 1 : Fin 8) f) ∗ AT (F := F) c (.inl (0, 2)) 1 ∗ (∃ f, dP (F := F) c 2 f) ∗ AT (F := F) c (.inl (2, 2)) 1 ∗ (∃ f, yP (F := F) c (c + 2 : Fin 8) f) ∗ AT (F := F) c (.inl (0, 3)) 1 ∗ (∃ f, dP (F := F) c 3 f) ∗ AT (F := F) c (.inl (2, 3)) 1 ∗ (∃ f, yP (F := F) c (c + 3 : Fin 8) f) ∗ AT (F := F) c (.inl (0, 4)) 1 ∗ (∃ f, dP (F := F) c 4 f) ∗ AT (F := F) c (.inl (2, 4)) 1 ∗ (∃ f, yP (F := F) c (c + 4 : Fin 8) f) ∗ AT (F := F) c (.inl (0, 5)) 1 ∗ (∃ f, dP (F := F) c 5 f) ∗ AT (F := F) c (.inl (2, 5)) 1 ∗ (∃ f, yP (F := F) c (c + 5 : Fin 8) f) ∗ AT (F := F) c (.inl (0, 6)) 1 ∗ (∃ f, dP (F := F) c 6 f) ∗ AT (F := F) c (.inl (2, 6)) 1 ∗ (∃ f, yP (F := F) c (c + 6 : Fin 8) f) ∗ AT (F := F) c (.inl (0, 7)) 1 ∗ (∃ f, dP (F := F) c 7 f) ∗ ow (F := F) c ([] : List (GSem nD τ sig × ℕ)) ∗ AT (F := F) c (.inl (2, 7)) 1 ∗ (∃ f, yP (F := F) c (c + 7 : Fin 8) f) ∗ yP c c (YY I c))

theorem body_split (K : GSem nD τ sig → ℕ) (c : Dev nD) (q₀ : Fin 4 → Vec F S512x1024 .f32) (f9 : Vec F S8x8x64x1024 .bf16) {Q : PUnit → sProp 𝕄} :
    iprop(recs I K ∗ levAts L lv ∗ preB I c q₀ f9)
      ⊢ iprop((postB I c -∗ Q ⟨⟩) -∗ wpc c (cc0__body (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10) Q) := by
  rw [cc0__body_eq_skeleton]
  unfold cc0__body_skel
  rw [k0_part57_eq_skeleton]
  unfold k0_part57_skel
  iintro ⟨#Hrec, #Hlev, W0, B0, TE00, RE0, HO, S0, S1, S2, S3, S4, S5, S6, S7, H0, H1, H2, H7, Cbar, Abar, H3, HoR, D1, TD1, D2, TD2, D3, TD3, D4, TD4, D5, TD5, D6, TD6, D7, TD7, H4, H6, C11, A11, C12, A12, C13, A13, C14, A14, C15, A15, C16, A16, C17, A17, AE0, W1, B1, TE10, RE1, H9, AE1, W2, TE01, W3, TE11, W4, TE02, W5, TE12, W6, TE03, W7, TE13, HoS, TR1, TR2, TR3, TR4, TR5, TR6, TR7, C31, A31, C32, A32, C33, A33, C34, A34, C35, A35, C36, A36, C37, A37, A01, A21, A02, A22, A03, A23, A04, A24, A05, A25, A06, A26, A07, A27⟩ Hk
  iapply (wpc_bind c)
  iapply (wpc_bind c)
  iapply (part1 I K c) $$ [W0 B0 TE00 RE0 HO S0 S1 S2 S3 S4 S5]
  · isplitr; · iexact Hrec
    isplitr; · iexact Hlev
    isplitl [W0]; · iexact W0
    isplitl [B0]; · iexact B0
    isplitl [TE00]; · iexact TE00
    isplitl [RE0]; · iexact RE0
    isplitl [HO]; · iexact HO
    isplitl [S0]; · iexact S0
    isplitl [S1]; · iexact S1
    isplitl [S2]; · iexact S2
    isplitl [S3]; · iexact S3
    isplitl [S4]; · iexact S4
    iexact S5
  iintro ⟨CE0, HO⟩
  iapply (wpc_bind c)
  iapply (part2 I K c) $$ [HO S6 S7 H0 H1 H2 H7 Cbar Abar]
  · isplitr; · iexact Hrec
    isplitr; · iexact Hlev
    isplitl [HO]; · iexact HO
    isplitl [S6]; · iexact S6
    isplitl [S7]; · iexact S7
    isplitl [H0]; · iexact H0
    isplitl [H1]; · iexact H1
    isplitl [H2]; · iexact H2
    isplitl [H7]; · iexact H7
    isplitl [Cbar]; · iexact Cbar
    iexact Abar
  iintro ⟨HO, H0, H1, H2, H7, Abar, Pbar⟩
  ihave Hgot := (bar_got c) $$ Pbar
  icases Hgot with ⟨⟨BD1, BR1⟩, ⟨BD2, BR2⟩, ⟨BD3, BR3⟩, ⟨BD4, BR4⟩, ⟨BD5, BR5⟩, ⟨BD6, BR6⟩, ⟨BD7, BR7⟩⟩
  iapply (wpc_bind c)
  iapply (part3 I c) $$ [H7 H3 HoR]
  · isplitl [H7]; · iexact H7
    isplitl [H3]; · iexact H3
    iexact HoR
  iintro ⟨H7, H3, HoR⟩
  iapply (wpc_bind c)
  iapply (part4 I K c) $$ [H3 D1 TD1 BD1 HO]
  · isplitr; · iexact Hrec
    isplitr; · iexact Hlev
    isplitl [H3]; · iexact H3
    isplitl [D1]; · iexact D1
    isplitl [TD1]; · iexact TD1
    isplitl [BD1]; · iexact BD1
    iexact HO
  iintro ⟨H3, HO, C01⟩
  iapply (wpc_bind c)
  iapply (part5 I K c) $$ [H3 D2 TD2 BD2 HO]
  · isplitr; · iexact Hrec
    isplitr; · iexact Hlev
    isplitl [H3]; · iexact H3
    isplitl [D2]; · iexact D2
    isplitl [TD2]; · iexact TD2
    isplitl [BD2]; · iexact BD2
    iexact HO
  iintro ⟨H3, HO, C02⟩
  iapply (wpc_bind c)
  iapply (part6 I c) $$ [H3 D3]
  · isplitl [H3]; · iexact H3
    iexact D3
  iintro ⟨H3, D3⟩
  iapply (wpc_bind c)
  iapply (part7 I K c) $$ [D3 TD3 BD3 HO H3 D4]
  · isplitr; · iexact Hrec
    isplitr; · iexact Hlev
    isplitl [D3]; · iexact D3
    isplitl [TD3]; · iexact TD3
    isplitl [BD3]; · iexact BD3
    isplitl [HO]; · iexact HO
    isplitl [H3]; · iexact H3
    iexact D4
  iintro ⟨HO, C03, H3, D4⟩
  iapply (wpc_bind c)
  iapply (part8 I K c) $$ [D4 TD4 BD4 HO H3 D5]
  · isplitr; · iexact Hrec
    isplitr; · iexact Hlev
    isplitl [D4]; · iexact D4
    isplitl [TD4]; · iexact TD4
    isplitl [BD4]; · iexact BD4
    isplitl [HO]; · iexact HO
    isplitl [H3]; · iexact H3
    iexact D5
  iintro ⟨HO, C04, H3, D5⟩
  iapply (wpc_bind c)
  iapply (part9 I K c) $$ [D5 TD5 BD5 HO H3 D6]
  · isplitr; · iexact Hrec
    isplitr; · iexact Hlev
    isplitl [D5]; · iexact D5
    isplitl [TD5]; · iexact TD5
    isplitl [BD5]; · iexact BD5
    isplitl [HO]; · iexact HO
    isplitl [H3]; · iexact H3
    iexact D6
  iintro ⟨HO, C05, H3, D6⟩
  iapply (wpc_bind c)
  iapply (part10 I K c) $$ [D6 TD6 BD6 HO H3]
  · isplitr; · iexact Hrec
    isplitr; · iexact Hlev
    isplitl [D6]; · iexact D6
    isplitl [TD6]; · iexact TD6
    isplitl [BD6]; · iexact BD6
    isplitl [HO]; · iexact HO
    iexact H3
  iintro ⟨HO, C06, H3⟩
  iapply (wpc_bind c)
  iapply (part11 I K c q₀) $$ [D7 TD7 BD7 HO H0 H4 H6]
  · isplitr; · iexact Hrec
    isplitr; · iexact Hlev
    isplitl [D7]; · iexact D7
    isplitl [TD7]; · iexact TD7
    isplitl [BD7]; · iexact BD7
    isplitl [HO]; · iexact HO
    isplitl [H0]; · iexact H0
    isplitl [H4]; · iexact H4
    iexact H6
  iintro ⟨HO, C07, H0, H4, H6⟩
  iapply (wpc_bind c)
  iapply (part12 I c q₀) $$ [H4 H6 H0]
  · isplitl [H4]; · iexact H4
    isplitl [H6]; · iexact H6
    iexact H0
  iintro ⟨H4, H6, H0⟩
  iapply (wpc_bind c)
  iapply (part13 I K c) $$ [C11 HO A11 C12 A12]
  · isplitr; · iexact Hrec
    isplitr; · iexact Hlev
    isplitl [C11]; · iexact C11
    isplitl [HO]; · iexact HO
    isplitl [A11]; · iexact A11
    isplitl [C12]; · iexact C12
    iexact A12
  iintro ⟨HO, A11, L1, A12, L2⟩
  iapply (wpc_bind c)
  iapply (part14 I K c) $$ [C13 HO A13 C14 A14]
  · isplitr; · iexact Hrec
    isplitr; · iexact Hlev
    isplitl [C13]; · iexact C13
    isplitl [HO]; · iexact HO
    isplitl [A13]; · iexact A13
    isplitl [C14]; · iexact C14
    iexact A14
  iintro ⟨HO, A13, L3, A14, L4⟩
  iapply (wpc_bind c)
  iapply (part15 I K c) $$ [C15 HO A15]
  · isplitr; · iexact Hrec
    isplitr; · iexact Hlev
    isplitl [C15]; · iexact C15
    isplitl [HO]; · iexact HO
    iexact A15
  iintro ⟨HO, A15, L5⟩
  iapply (wpc_bind c)
  iapply (part16 I K c) $$ [C16 HO A16 C17 A17]
  · isplitr; · iexact Hrec
    isplitr; · iexact Hlev
    isplitl [C16]; · iexact C16
    isplitl [HO]; · iexact HO
    isplitl [A16]; · iexact A16
    isplitl [C17]; · iexact C17
    iexact A17
  iintro ⟨HO, A16, L6, A17, L7⟩
  ihave H8 := (show _ ⊢ _ from le_of_eq (recv_all c (RECV I c))) $$ [HoR L1 L2 L3 L4 L5 L6 L7]
  · isplitl [HoR]; · iexact HoR
    isplitl [L1]; · iexact L1
    isplitl [L2]; · iexact L2
    isplitl [L3]; · iexact L3
    isplitl [L4]; · iexact L4
    isplitl [L5]; · iexact L5
    isplitl [L6]; · iexact L6
    iexact L7
  iapply (wpc_bind c)
  iapply (part17 I K c f9) $$ [CE0 HO AE0 W1 B1 TE10 RE1 H8 H9 AE1]
  · isplitr; · iexact Hrec
    isplitr; · iexact Hlev
    isplitl [CE0]; · iexact CE0
    isplitl [HO]; · iexact HO
    isplitl [AE0]; · iexact AE0
    isplitl [W1]; · iexact W1
    isplitl [B1]; · iexact B1
    isplitl [TE10]; · iexact TE10
    isplitl [RE1]; · iexact RE1
    isplitl [H8]; · iexact H8
    isplitl [H9]; · iexact H9
    iexact AE1
  iintro ⟨HO, AE0, RE0, B0, W0, W1, B1, RE1, H8, H9, AE1⟩
  iapply (wpc_bind c)
  iapply (part18 I K c f9) $$ [W2 B0 TE01 RE0 H8 B1 H9 HO AE0]
  · isplitr; · iexact Hrec
    isplitr; · iexact Hlev
    isplitl [W2]; · iexact W2
    isplitl [B0]; · iexact B0
    isplitl [TE01]; · iexact TE01
    isplitl [RE0]; · iexact RE0
    isplitl [H8]; · iexact H8
    isplitl [B1]; · iexact B1
    isplitl [H9]; · iexact H9
    isplitl [HO]; · iexact HO
    iexact AE0
  iintro ⟨W2, B0, RE0, H8, B1, H9, HO, AE0⟩
  iapply (wpc_bind c)
  iapply (part19 I K c f9) $$ [W3 B1 TE11 RE1 H8 B0 H9 HO AE1 W4 TE02 RE0]
  · isplitr; · iexact Hrec
    isplitr; · iexact Hlev
    isplitl [W3]; · iexact W3
    isplitl [B1]; · iexact B1
    isplitl [TE11]; · iexact TE11
    isplitl [RE1]; · iexact RE1
    isplitl [H8]; · iexact H8
    isplitl [B0]; · iexact B0
    isplitl [H9]; · iexact H9
    isplitl [HO]; · iexact HO
    isplitl [AE1]; · iexact AE1
    isplitl [W4]; · iexact W4
    isplitl [TE02]; · iexact TE02
    iexact RE0
  iintro ⟨W3, B1, RE1, H8, H9, HO, AE1, CE0⟩
  iapply (wpc_bind c)
  iapply (part20 I K c f9) $$ [H8 B1 H9 CE0 HO AE0 W5 TE12 RE1]
  · isplitr; · iexact Hrec
    isplitr; · iexact Hlev
    isplitl [H8]; · iexact H8
    isplitl [B1]; · iexact B1
    isplitl [H9]; · iexact H9
    isplitl [CE0]; · iexact CE0
    isplitl [HO]; · iexact HO
    isplitl [AE0]; · iexact AE0
    isplitl [W5]; · iexact W5
    isplitl [TE12]; · iexact TE12
    iexact RE1
  iintro ⟨H8, H9, HO, AE0, RE0, B0, W4, CE1⟩
  iapply (wpc_bind c)
  iapply (part21 I K c f9) $$ [B0 H9 CE1 HO AE1 W6 TE03 RE0 H8]
  · isplitr; · iexact Hrec
    isplitr; · iexact Hlev
    isplitl [B0]; · iexact B0
    isplitl [H9]; · iexact H9
    isplitl [CE1]; · iexact CE1
    isplitl [HO]; · iexact HO
    isplitl [AE1]; · iexact AE1
    isplitl [W6]; · iexact W6
    isplitl [TE03]; · iexact TE03
    isplitl [RE0]; · iexact RE0
    iexact H8
  iintro ⟨H9, HO, AE1, RE1, B1, W5, CE0, H8⟩
  iapply (wpc_bind c)
  iapply (part22 I K c f9) $$ [H9 CE0 HO AE0 W7 B1 TE13 RE1 H8]
  · isplitr; · iexact Hrec
    isplitr; · iexact Hlev
    isplitl [H9]; · iexact H9
    isplitl [CE0]; · iexact CE0
    isplitl [HO]; · iexact HO
    isplitl [AE0]; · iexact AE0
    isplitl [W7]; · iexact W7
    isplitl [B1]; · iexact B1
    isplitl [TE13]; · iexact TE13
    isplitl [RE1]; · iexact RE1
    iexact H8
  iintro ⟨H9, HO, AE0, RE0, B0, W6, CE1, H8⟩
  iapply (wpc_bind c)
  iapply (part23 I K c f9) $$ [CE1 HO AE1 H8 H9 HoS]
  · isplitr; · iexact Hrec
    isplitr; · iexact Hlev
    isplitl [CE1]; · iexact CE1
    isplitl [HO]; · iexact HO
    isplitl [AE1]; · iexact AE1
    isplitl [H8]; · iexact H8
    isplitl [H9]; · iexact H9
    iexact HoS
  iintro ⟨HO, AE1, RE1, B1, W7, H8, H9, HoS⟩
  ihave HY := (show _ ⊢ _ from le_of_eq (y_all c (YY I c))) $$ H9
  icases HY with ⟨Y0, Y1, Y2, Y3, Y4, Y5, Y6, Y7⟩
  iapply (wpc_bind c)
  iapply (part24 I K c) $$ [Y1 TR1 BR1 HO]
  · isplitr; · iexact Hrec
    isplitr; · iexact Hlev
    isplitl [Y1]; · iexact Y1
    isplitl [TR1]; · iexact TR1
    isplitl [BR1]; · iexact BR1
    iexact HO
  iintro ⟨HO, C21⟩
  iapply (wpc_bind c)
  iapply (part25 I K c) $$ [Y2 TR2 BR2 HO Y3 TR3 BR3]
  · isplitr; · iexact Hrec
    isplitr; · iexact Hlev
    isplitl [Y2]; · iexact Y2
    isplitl [TR2]; · iexact TR2
    isplitl [BR2]; · iexact BR2
    isplitl [HO]; · iexact HO
    isplitl [Y3]; · iexact Y3
    isplitl [TR3]; · iexact TR3
    iexact BR3
  iintro ⟨HO, C22, C23⟩
  iapply (wpc_bind c)
  iapply (part26 I K c) $$ [Y4 TR4 BR4 HO]
  · isplitr; · iexact Hrec
    isplitr; · iexact Hlev
    isplitl [Y4]; · iexact Y4
    isplitl [TR4]; · iexact TR4
    isplitl [BR4]; · iexact BR4
    iexact HO
  iintro ⟨HO, C24⟩
  iapply (wpc_bind c)
  iapply (part27 I K c) $$ [Y5 TR5 BR5 HO Y6 TR6 BR6]
  · isplitr; · iexact Hrec
    isplitr; · iexact Hlev
    isplitl [Y5]; · iexact Y5
    isplitl [TR5]; · iexact TR5
    isplitl [BR5]; · iexact BR5
    isplitl [HO]; · iexact HO
    isplitl [Y6]; · iexact Y6
    isplitl [TR6]; · iexact TR6
    iexact BR6
  iintro ⟨HO, C25, C26⟩
  iapply (wpc_bind c)
  iapply (part28 I K c) $$ [Y7 TR7 BR7 HO HoS H3]
  · isplitr; · iexact Hrec
    isplitr; · iexact Hlev
    isplitl [Y7]; · iexact Y7
    isplitl [TR7]; · iexact TR7
    isplitl [BR7]; · iexact BR7
    isplitl [HO]; · iexact HO
    isplitl [HoS]; · iexact HoS
    iexact H3
  iintro ⟨HO, C27, HoS, H3⟩
  iapply (wpc_bind c)
  iapply (part29 I c) $$ [H6 H3]
  · isplitl [H6]; · iexact H6
    iexact H3
  iintro ⟨H6, H3⟩
  iapply (wpc_bind c)
  iapply (part30 I c) $$ [H6 H3]
  · isplitl [H6]; · iexact H6
    iexact H3
  iintro ⟨H6, H3⟩
  iapply (wpc_bind c)
  iapply (part31 I K c) $$ [C31 HO A31 H3 H6]
  · isplitr; · iexact Hrec
    isplitr; · iexact Hlev
    isplitl [C31]; · iexact C31
    isplitl [HO]; · iexact HO
    isplitl [A31]; · iexact A31
    isplitl [H3]; · iexact H3
    iexact H6
  iintro ⟨HO, A31, R1, H3, H6⟩
  iapply (wpc_bind c)
  iapply (part32 I c) $$ [H6 H3]
  · isplitl [H6]; · iexact H6
    iexact H3
  iintro ⟨H6, H3⟩
  iapply (wpc_bind c)
  iapply (part33 I K c) $$ [C32 HO A32 H3 H6]
  · isplitr; · iexact Hrec
    isplitr; · iexact Hlev
    isplitl [C32]; · iexact C32
    isplitl [HO]; · iexact HO
    isplitl [A32]; · iexact A32
    isplitl [H3]; · iexact H3
    iexact H6
  iintro ⟨HO, A32, R2, H3, H6⟩
  iapply (wpc_bind c)
  iapply (part34 I c) $$ [H3 H6]
  · isplitl [H3]; · iexact H3
    iexact H6
  iintro ⟨H3, H6⟩
  iapply (wpc_bind c)
  iapply (part35 I K c) $$ [H6 C33 HO A33]
  · isplitr; · iexact Hrec
    isplitr; · iexact Hlev
    isplitl [H6]; · iexact H6
    isplitl [C33]; · iexact C33
    isplitl [HO]; · iexact HO
    iexact A33
  iintro ⟨H6, HO, A33, R3⟩
  iapply (wpc_bind c)
  iapply (part36 I c) $$ [H3 H6]
  · isplitl [H3]; · iexact H3
    iexact H6
  iintro ⟨H3, H6⟩
  iapply (wpc_bind c)
  iapply (part37 I c) $$ [H6 H3]
  · isplitl [H6]; · iexact H6
    iexact H3
  iintro ⟨H6, H3⟩
  iapply (wpc_bind c)
  iapply (part38 I K c) $$ [C34 HO A34 H3 H6]
  · isplitr; · iexact Hrec
    isplitr; · iexact Hlev
    isplitl [C34]; · iexact C34
    isplitl [HO]; · iexact HO
    isplitl [A34]; · iexact A34
    isplitl [H3]; · iexact H3
    iexact H6
  iintro ⟨HO, A34, R4, H3, H6⟩
  iapply (wpc_bind c)
  iapply (part39 I c) $$ [H6 H3]
  · isplitl [H6]; · iexact H6
    iexact H3
  iintro ⟨H6, H3⟩
  iapply (wpc_bind c)
  iapply (part40 I K c) $$ [H6 C35 HO A35 H3]
  · isplitr; · iexact Hrec
    isplitr; · iexact Hlev
    isplitl [H6]; · iexact H6
    isplitl [C35]; · iexact C35
    isplitl [HO]; · iexact HO
    isplitl [A35]; · iexact A35
    iexact H3
  iintro ⟨H6, HO, A35, R5, H3⟩
  iapply (wpc_bind c)
  iapply (part41 I c) $$ [H6 H3]
  · isplitl [H6]; · iexact H6
    iexact H3
  iintro ⟨H6, H3⟩
  iapply (wpc_bind c)
  iapply (part42 I c) $$ [H3 H6]
  · isplitl [H3]; · iexact H3
    iexact H6
  iintro ⟨H3, H6⟩
  iapply (wpc_bind c)
  iapply (part43 I K c) $$ [C36 HO A36 H3 H6]
  · isplitr; · iexact Hrec
    isplitr; · iexact Hlev
    isplitl [C36]; · iexact C36
    isplitl [HO]; · iexact HO
    isplitl [A36]; · iexact A36
    isplitl [H3]; · iexact H3
    iexact H6
  iintro ⟨HO, A36, R6, H3, H6⟩
  iapply (wpc_bind c)
  iapply (part44 I c) $$ [H3 H6]
  · isplitl [H3]; · iexact H3
    iexact H6
  iintro ⟨H3, H6⟩
  iapply (wpc_bind c)
  iapply (part45 I K c) $$ [C37 HO A37 H3 H6]
  · isplitr; · iexact Hrec
    isplitr; · iexact Hlev
    isplitl [C37]; · iexact C37
    isplitl [HO]; · iexact HO
    isplitl [A37]; · iexact A37
    isplitl [H3]; · iexact H3
    iexact H6
  iintro ⟨HO, A37, R7, H3, H6⟩
  iapply (wpc_bind c)
  iapply (part46 I c) $$ [H6 H3]
  · isplitl [H6]; · iexact H6
    iexact H3
  iintro ⟨H6, H3⟩
  iapply (wpc_bind c)
  iapply (part47 I K c) $$ [H6 C01 HO A01]
  · isplitr; · iexact Hrec
    isplitr; · iexact Hlev
    isplitl [H6]; · iexact H6
    isplitl [C01]; · iexact C01
    isplitl [HO]; · iexact HO
    iexact A01
  iintro ⟨H6, HO, A01, D1⟩
  iapply (wpc_bind c)
  iapply (part48 I K c) $$ [C21 HO A21]
  · isplitr; · iexact Hrec
    isplitr; · iexact Hlev
    isplitl [C21]; · iexact C21
    isplitl [HO]; · iexact HO
    iexact A21
  iintro ⟨HO, A21, Y1⟩
  iapply (wpc_bind c)
  iapply (part49 I K c) $$ [C02 HO A02]
  · isplitr; · iexact Hrec
    isplitr; · iexact Hlev
    isplitl [C02]; · iexact C02
    isplitl [HO]; · iexact HO
    iexact A02
  iintro ⟨HO, A02, D2⟩
  iapply (wpc_bind c)
  iapply (part50 I K c) $$ [C22 HO A22 C03 A03]
  · isplitr; · iexact Hrec
    isplitr; · iexact Hlev
    isplitl [C22]; · iexact C22
    isplitl [HO]; · iexact HO
    isplitl [A22]; · iexact A22
    isplitl [C03]; · iexact C03
    iexact A03
  iintro ⟨HO, A22, Y2, A03, D3⟩
  iapply (wpc_bind c)
  iapply (part51 I K c) $$ [C23 HO A23]
  · isplitr; · iexact Hrec
    isplitr; · iexact Hlev
    isplitl [C23]; · iexact C23
    isplitl [HO]; · iexact HO
    iexact A23
  iintro ⟨HO, A23, Y3⟩
  iapply (wpc_bind c)
  iapply (part52 I K c) $$ [C04 HO A04 C24 A24]
  · isplitr; · iexact Hrec
    isplitr; · iexact Hlev
    isplitl [C04]; · iexact C04
    isplitl [HO]; · iexact HO
    isplitl [A04]; · iexact A04
    isplitl [C24]; · iexact C24
    iexact A24
  iintro ⟨HO, A04, D4, A24, Y4⟩
  iapply (wpc_bind c)
  iapply (part53 I K c) $$ [C05 HO A05]
  · isplitr; · iexact Hrec
    isplitr; · iexact Hlev
    isplitl [C05]; · iexact C05
    isplitl [HO]; · iexact HO
    iexact A05
  iintro ⟨HO, A05, D5⟩
  iapply (wpc_bind c)
  iapply (part54 I K c) $$ [C25 HO A25 C06 A06]
  · isplitr; · iexact Hrec
    isplitr; · iexact Hlev
    isplitl [C25]; · iexact C25
    isplitl [HO]; · iexact HO
    isplitl [A25]; · iexact A25
    isplitl [C06]; · iexact C06
    iexact A06
  iintro ⟨HO, A25, Y5, A06, D6⟩
  iapply (wpc_bind c)
  iapply (part55 I K c) $$ [C26 HO A26]
  · isplitr; · iexact Hrec
    isplitr; · iexact Hlev
    isplitl [C26]; · iexact C26
    isplitl [HO]; · iexact HO
    iexact A26
  iintro ⟨HO, A26, Y6⟩
  iapply (wpc_bind c)
  iapply (part56 I K c) $$ [C07 HO A07]
  · isplitr; · iexact Hrec
    isplitr; · iexact Hlev
    isplitl [C07]; · iexact C07
    isplitl [HO]; · iexact HO
    iexact A07
  iintro ⟨HO, A07, D7⟩
  iapply (wpc_ret c)
  iapply (tail_end I K c) $$ [C27 HO A27]
  · isplitr; · iexact Hrec
    isplitr; · iexact Hlev
    isplitl [C27]; · iexact C27
    isplitl [HO]; · iexact HO
    iexact A27
  iintro ⟨HO, A27, Y7⟩
  iapply Hk
  isplitl [H1]; · iexact H1
  isplitl [H2]; · iexact H2
  isplitl [Abar]; · iexact Abar
  isplitl [H7]; · iexact H7
  isplitl [H4]; · iexact H4
  isplitl [H0]; · iexact H0
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [W0]; · iexact W0
  isplitl [W1]; · iexact W1
  isplitl [W2]; · iexact W2
  isplitl [W3]; · iexact W3
  isplitl [W4]; · iexact W4
  isplitl [W5]; · iexact W5
  isplitl [AE0]; · iexact AE0
  isplitl [B0]; · iexact B0
  isplitl [W6]; · iexact W6
  isplitl [AE1]; · iexact AE1
  isplitl [B1]; · iexact B1
  isplitl [W7]; · iexact W7
  isplitl [H8]; · iexact H8
  isplitl [HoS]; · iexact HoS
  isplitl [A31]; · iexact A31
  isplitl [R1]; · iexact R1
  isplitl [A32]; · iexact A32
  isplitl [R2]; · iexact R2
  isplitl [A33]; · iexact A33
  isplitl [R3]; · iexact R3
  isplitl [A34]; · iexact A34
  isplitl [R4]; · iexact R4
  isplitl [A35]; · iexact A35
  isplitl [R5]; · iexact R5
  isplitl [A36]; · iexact A36
  isplitl [R6]; · iexact R6
  isplitl [A37]; · iexact A37
  isplitl [R7]; · iexact R7
  isplitl [H3]; · iexact H3
  isplitl [H6]; · iexact H6
  isplitl [A01]; · iexact A01
  isplitl [D1]; · iexact D1
  isplitl [A21]; · iexact A21
  isplitl [Y1]; · iexact Y1
  isplitl [A02]; · iexact A02
  isplitl [D2]; · iexact D2
  isplitl [A22]; · iexact A22
  isplitl [Y2]; · iexact Y2
  isplitl [A03]; · iexact A03
  isplitl [D3]; · iexact D3
  isplitl [A23]; · iexact A23
  isplitl [Y3]; · iexact Y3
  isplitl [A04]; · iexact A04
  isplitl [D4]; · iexact D4
  isplitl [A24]; · iexact A24
  isplitl [Y4]; · iexact Y4
  isplitl [A05]; · iexact A05
  isplitl [D5]; · iexact D5
  isplitl [A25]; · iexact A25
  isplitl [Y5]; · iexact Y5
  isplitl [A06]; · iexact A06
  isplitl [D6]; · iexact D6
  isplitl [A26]; · iexact A26
  isplitl [Y6]; · iexact Y6
  isplitl [A07]; · iexact A07
  isplitl [D7]; · iexact D7
  isplitl [HO]; · iexact HO
  isplitl [A27]; · iexact A27
  isplitl [Y7]; · iexact Y7
  iexact Y0

end Cert.KernelIdeal.Moe
-- ==== Proof.Whole.lean ====
/-
  The kernel's body on whole buffers: what a device holds when the body starts and when it ends, family by family.
-/
module

public import proofs.«01_k».proof.Proof.Body

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (I : Inp F)

theorem bs2 (Φ : Fin 2 → sProp 𝕄) : bigSep Finset.univ Φ = iprop(Φ 0 ∗ Φ 1) := BI.bigSep_fin_two Φ
theorem bs4 (Φ : Fin 4 → sProp 𝕄) : bigSep Finset.univ Φ = iprop(Φ 0 ∗ Φ 1 ∗ Φ 2 ∗ Φ 3) := by
  rw [show (Finset.univ : Finset (Fin 4)) = insert 0 (insert 1 (insert 2 {3})) from by decide]
  rw [bigSep_insert (by decide), bigSep_insert (by decide), bigSep_insert (by decide), bigSep_singleton]
  rfl

/-- Who pays the duty of a transfer's cell: the sender's cells are its own, the receiver's are at the distance. -/
def sh (c : Dev nD) : Fin 4 × Fin 8 → Dev nD
  | (0, _) => c
  | (1, k) => (c + k : Fin 8)
  | (2, _) => c
  | (3, k) => (c + k : Fin 8)

/-- The tokens of the duties that device `c` pays. -/
def toks (c : Dev nD) : sProp 𝕄 :=
  iprop((bigSep Finset.univ fun j : Fin 8 => dutyTok ER (barC j) 0 (c - j : Fin 8))
    ∗ (bigSep Finset.univ fun tk : Fin 4 × Fin 8 => dutyTok ER (cellC (sh c tk) (.inl tk)) 0 0)
    ∗ bigSep Finset.univ fun br : Fin 2 × Fin 4 => dutyTok ER (ewC c br.1) br.2.val 0)

/-- The tokens, cell by cell. -/
theorem toks_at (c : Dev nD) : (toks (F := F) c : sProp 𝕄) = iprop((bigSep Finset.univ fun j : Fin 8 => dutyTok ER (barC j) 0 (c - j : Fin 8))
    ∗ ((dutyTok ER (cellC c (.inl (0, 0))) 0 0 ∗ dutyTok ER (cellC c (.inl (0, 1))) 0 0 ∗ dutyTok ER (cellC c (.inl (0, 2))) 0 0 ∗ dutyTok ER (cellC c (.inl (0, 3))) 0 0 ∗ dutyTok ER (cellC c (.inl (0, 4))) 0 0 ∗ dutyTok ER (cellC c (.inl (0, 5))) 0 0 ∗ dutyTok ER (cellC c (.inl (0, 6))) 0 0 ∗ dutyTok ER (cellC c (.inl (0, 7))) 0 0) ∗ (dutyTok ER (cellC (c + 0 : Fin 8) (.inl (1, 0))) 0 0 ∗ dutyTok ER (cellC (c + 1 : Fin 8) (.inl (1, 1))) 0 0 ∗ dutyTok ER (cellC (c + 2 : Fin 8) (.inl (1, 2))) 0 0 ∗ dutyTok ER (cellC (c + 3 : Fin 8) (.inl (1, 3))) 0 0 ∗ dutyTok ER (cellC (c + 4 : Fin 8) (.inl (1, 4))) 0 0 ∗ dutyTok ER (cellC (c + 5 : Fin 8) (.inl (1, 5))) 0 0 ∗ dutyTok ER (cellC (c + 6 : Fin 8) (.inl (1, 6))) 0 0 ∗ dutyTok ER (cellC (c + 7 : Fin 8) (.inl (1, 7))) 0 0) ∗ (dutyTok ER (cellC c (.inl (2, 0))) 0 0 ∗ dutyTok ER (cellC c (.inl (2, 1))) 0 0 ∗ dutyTok ER (cellC c (.inl (2, 2))) 0 0 ∗ dutyTok ER (cellC c (.inl (2, 3))) 0 0 ∗ dutyTok ER (cellC c (.inl (2, 4))) 0 0 ∗ dutyTok ER (cellC c (.inl (2, 5))) 0 0 ∗ dutyTok ER (cellC c (.inl (2, 6))) 0 0 ∗ dutyTok ER (cellC c (.inl (2, 7))) 0 0) ∗ (dutyTok ER (cellC (c + 0 : Fin 8) (.inl (3, 0))) 0 0 ∗ dutyTok ER (cellC (c + 1 : Fin 8) (.inl (3, 1))) 0 0 ∗ dutyTok ER (cellC (c + 2 : Fin 8) (.inl (3, 2))) 0 0 ∗ dutyTok ER (cellC (c + 3 : Fin 8) (.inl (3, 3))) 0 0 ∗ dutyTok ER (cellC (c + 4 : Fin 8) (.inl (3, 4))) 0 0 ∗ dutyTok ER (cellC (c + 5 : Fin 8) (.inl (3, 5))) 0 0 ∗ dutyTok ER (cellC (c + 6 : Fin 8) (.inl (3, 6))) 0 0 ∗ dutyTok ER (cellC (c + 7 : Fin 8) (.inl (3, 7))) 0 0))
    ∗ ((dutyTok ER (ewC c 0) 0 0 ∗ dutyTok ER (ewC c 0) 1 0 ∗ dutyTok ER (ewC c 0) 2 0 ∗ dutyTok ER (ewC c 0) 3 0) ∗ (dutyTok ER (ewC c 1) 0 0 ∗ dutyTok ER (ewC c 1) 1 0 ∗ dutyTok ER (ewC c 1) 2 0 ∗ dutyTok ER (ewC c 1) 3 0))) := by
  unfold toks
  rw [bigSep_univ_prod (fun tk : Fin 4 × Fin 8 => (dutyTok ER (cellC (sh c tk) (.inl tk)) 0 0 : sProp 𝕄)), bs4,
    bs8 (fun k : Fin 8 => (dutyTok ER (cellC (sh c (0, k)) (.inl (0, k))) 0 0 : sProp 𝕄)),
    bs8 (fun k : Fin 8 => (dutyTok ER (cellC (sh c (1, k)) (.inl (1, k))) 0 0 : sProp 𝕄)),
    bs8 (fun k : Fin 8 => (dutyTok ER (cellC (sh c (2, k)) (.inl (2, k))) 0 0 : sProp 𝕄)),
    bs8 (fun k : Fin 8 => (dutyTok ER (cellC (sh c (3, k)) (.inl (3, k))) 0 0 : sProp 𝕄)),
    bigSep_univ_prod (fun br : Fin 2 × Fin 4 => (dutyTok ER (ewC c br.1) br.2.val 0 : sProp 𝕄)), bs2, bs4, bs4]
  rfl

/-- The positions on all transfer cells, at rounds `r`. -/
abbrev pos (c : Dev nD) (r : CK → ℕ) : sProp 𝕄 := bigSep Finset.univ fun i : CK => AT (F := F) c i (r i)
theorem pos_at (c : Dev nD) (r : CK → ℕ) : (pos (F := F) c r : sProp 𝕄) = iprop(((AT (F := F) c (.inl (0, 0)) (r (.inl (0, 0))) ∗ AT (F := F) c (.inl (0, 1)) (r (.inl (0, 1))) ∗ AT (F := F) c (.inl (0, 2)) (r (.inl (0, 2))) ∗ AT (F := F) c (.inl (0, 3)) (r (.inl (0, 3))) ∗ AT (F := F) c (.inl (0, 4)) (r (.inl (0, 4))) ∗ AT (F := F) c (.inl (0, 5)) (r (.inl (0, 5))) ∗ AT (F := F) c (.inl (0, 6)) (r (.inl (0, 6))) ∗ AT (F := F) c (.inl (0, 7)) (r (.inl (0, 7)))) ∗ (AT (F := F) c (.inl (1, 0)) (r (.inl (1, 0))) ∗ AT (F := F) c (.inl (1, 1)) (r (.inl (1, 1))) ∗ AT (F := F) c (.inl (1, 2)) (r (.inl (1, 2))) ∗ AT (F := F) c (.inl (1, 3)) (r (.inl (1, 3))) ∗ AT (F := F) c (.inl (1, 4)) (r (.inl (1, 4))) ∗ AT (F := F) c (.inl (1, 5)) (r (.inl (1, 5))) ∗ AT (F := F) c (.inl (1, 6)) (r (.inl (1, 6))) ∗ AT (F := F) c (.inl (1, 7)) (r (.inl (1, 7)))) ∗ (AT (F := F) c (.inl (2, 0)) (r (.inl (2, 0))) ∗ AT (F := F) c (.inl (2, 1)) (r (.inl (2, 1))) ∗ AT (F := F) c (.inl (2, 2)) (r (.inl (2, 2))) ∗ AT (F := F) c (.inl (2, 3)) (r (.inl (2, 3))) ∗ AT (F := F) c (.inl (2, 4)) (r (.inl (2, 4))) ∗ AT (F := F) c (.inl (2, 5)) (r (.inl (2, 5))) ∗ AT (F := F) c (.inl (2, 6)) (r (.inl (2, 6))) ∗ AT (F := F) c (.inl (2, 7)) (r (.inl (2, 7)))) ∗ (AT (F := F) c (.inl (3, 0)) (r (.inl (3, 0))) ∗ AT (F := F) c (.inl (3, 1)) (r (.inl (3, 1))) ∗ AT (F := F) c (.inl (3, 2)) (r (.inl (3, 2))) ∗ AT (F := F) c (.inl (3, 3)) (r (.inl (3, 3))) ∗ AT (F := F) c (.inl (3, 4)) (r (.inl (3, 4))) ∗ AT (F := F) c (.inl (3, 5)) (r (.inl (3, 5))) ∗ AT (F := F) c (.inl (3, 6)) (r (.inl (3, 6))) ∗ AT (F := F) c (.inl (3, 7)) (r (.inl (3, 7))))) ∗ AT (F := F) c (.inr 0) (r (.inr 0)) ∗ AT (F := F) c (.inr 1) (r (.inr 1))) := by
  rw [show (pos (F := F) c r : sProp 𝕄) = _ from bigSep_univ_sum (fun i : CK => (AT (F := F) c i (r i) : sProp 𝕄)),
    bigSep_univ_prod (fun tk : Fin 4 × Fin 8 => (AT (F := F) c (.inl tk) (r (.inl tk)) : sProp 𝕄)), bs4, bs8, bs8, bs8, bs8, bs2]
  rfl
theorem pos_end (c : Dev nD) : (pos (F := F) c roundsOf : sProp 𝕄) = iprop(((AT (F := F) c (.inl (0, 0)) 0 ∗ AT (F := F) c (.inl (0, 1)) 1 ∗ AT (F := F) c (.inl (0, 2)) 1 ∗ AT (F := F) c (.inl (0, 3)) 1 ∗ AT (F := F) c (.inl (0, 4)) 1 ∗ AT (F := F) c (.inl (0, 5)) 1 ∗ AT (F := F) c (.inl (0, 6)) 1 ∗ AT (F := F) c (.inl (0, 7)) 1) ∗ (AT (F := F) c (.inl (1, 0)) 0 ∗ AT (F := F) c (.inl (1, 1)) 1 ∗ AT (F := F) c (.inl (1, 2)) 1 ∗ AT (F := F) c (.inl (1, 3)) 1 ∗ AT (F := F) c (.inl (1, 4)) 1 ∗ AT (F := F) c (.inl (1, 5)) 1 ∗ AT (F := F) c (.inl (1, 6)) 1 ∗ AT (F := F) c (.inl (1, 7)) 1) ∗ (AT (F := F) c (.inl (2, 0)) 0 ∗ AT (F := F) c (.inl (2, 1)) 1 ∗ AT (F := F) c (.inl (2, 2)) 1 ∗ AT (F := F) c (.inl (2, 3)) 1 ∗ AT (F := F) c (.inl (2, 4)) 1 ∗ AT (F := F) c (.inl (2, 5)) 1 ∗ AT (F := F) c (.inl (2, 6)) 1 ∗ AT (F := F) c (.inl (2, 7)) 1) ∗ (AT (F := F) c (.inl (3, 0)) 0 ∗ AT (F := F) c (.inl (3, 1)) 1 ∗ AT (F := F) c (.inl (3, 2)) 1 ∗ AT (F := F) c (.inl (3, 3)) 1 ∗ AT (F := F) c (.inl (3, 4)) 1 ∗ AT (F := F) c (.inl (3, 5)) 1 ∗ AT (F := F) c (.inl (3, 6)) 1 ∗ AT (F := F) c (.inl (3, 7)) 1)) ∗ AT (F := F) c (.inr 0) 4 ∗ AT (F := F) c (.inr 1) 4) := by
  rw [pos_at]
  rfl

/-- Round 0 of every transfer cell of the device is reached. -/
abbrev rch (c : Dev nD) : sProp 𝕄 := bigSep Finset.univ fun i : CK => reached ER (cellC c i) 0
theorem rch_at (c : Dev nD) (i : CK) : (rch (F := F) c : sProp 𝕄) ⊢ reached ER (cellC c i) 0 := bigSep_elim (Finset.mem_univ i)

/-- What the device waits for with, given at the launch. -/
def creds (c : Dev nD) : sProp 𝕄 :=
  iprop(cred (tallyAt (barC c) () 7) ∗ (bigSep (Finset.univ.erase 0) fun k : Fin 8 => CR (F := F) c (.inl (1, k)))
    ∗ bigSep (Finset.univ.erase 0) fun k : Fin 8 => CR (F := F) c (.inl (3, k)))

/-- The scratch buffers at any contents. -/
def scr (c : Dev nD) : sProp 𝕄 :=
  iprop((∃ f, pt (F := F) c cc0_scratch0 Finset.univ f) ∗ (∃ f, pt (F := F) c cc0_scratch1 Finset.univ f) ∗ (∃ f, pt (F := F) c cc0_scratch2 Finset.univ f)
    ∗ (∃ f, pt (F := F) c cc0_scratch3 Finset.univ f) ∗ (∃ f, pt (F := F) c cc0_scratch4 Finset.univ f) ∗ ∃ f, pt (F := F) c cc0_scratch5 Finset.univ f)

/-- The argument blocks. -/
def args (c : Dev nD) : sProp 𝕄 :=
  iprop(pt c cc0_stg0_0 Finset.univ (I.x c) ∗ pt c cc0_stg1_0 Finset.univ (I.rw c) ∗ pt c cc0_stg2_0 Finset.univ (I.ri c)
    ∗ pt c cc0_stg3_0 Finset.univ (I.sl c) ∗ pt c cc0_stg4_0 Finset.univ (I.sw c) ∗ pt c main_arg3 Finset.univ (I.ew c))

/-- What the signals carry, from the own slots and the tokens. -/
theorem sigs (c : Dev nD) (f8 : Vec F S8x8x64x512 .bf16) (f10 : Vec F S8x8x64x1024 .bf16) :
    iprop(rch (F := F) c ∗ (bigSep Finset.univ fun j : Fin 8 => dutyTok ER (barC j) 0 (c - j : Fin 8)) ∗ pt c cc0_scratch1 Finset.univ f8 ∗ pt c cc0_scratch3 Finset.univ f10)
      ⊢ iprop((bigSep Finset.univ fun j : Fin 8 => sigRes (F := F) c j) ∗ (∃ f, recvP (F := F) c c f) ∗ ∃ f, resP (F := F) c c f) := by
  rw [recv_slots, res_slots, bigSep_univ_at (fun j : Fin 8 => (dutyTok ER (barC j) 0 (c - j : Fin 8) : sProp 𝕄)) c,
    bigSep_univ_at (fun j : Fin 8 => (recvP c j f8 : sProp 𝕄)) c, bigSep_univ_at (fun j : Fin 8 => (resP c j f10 : sProp 𝕄)) c,
    bigSep_univ_at (fun j : Fin 8 => (sigRes (F := F) c j : sProp 𝕄)) c]
  iintro ⟨#HR, ⟨-, HT⟩, ⟨H8, HV⟩, ⟨H10, HS⟩⟩
  isplitl [HT HV HS]
  · isplitr
    · unfold sigRes; rw [if_pos rfl]; iempintro
    iapply (bigSep_with_persistent (S := Finset.univ.erase (c : Fin 8)) (R := rch (F := F) c)
      (Φ := fun j : Fin 8 => iprop(dutyTok ER (barC j) 0 (c - j : Fin 8) ∗ recvP c j f8 ∗ resP c j f10)) (fun j hj => by
        unfold sigRes
        rw [if_neg (Finset.ne_of_mem_erase hj)]
        unfold barPay
        rw [show ((j : Fin 8) + (c - j : Fin 8) : Fin 8) = c from fin_add_sub' c j]
        iintro ⟨#HR, HT, HV, HS⟩
        isplitl [HT]; · iexact HT
        isplitl [HV]; · iexists f8; iexact HV
        isplitl [HS]; · iexists f10; iexact HS
        isplitr
        · iapply (rch_at c (.inl (1, (c - j : Fin 8)))); iexact HR
        iapply (rch_at c (.inl (3, (c - j : Fin 8)))); iexact HR))
    isplitr; · iexact HR
    rw [bigSep_sep', bigSep_sep']
    isplitl [HT]; · iexact HT
    isplitl [HV]; · iexact HV
    iexact HS
  isplitl [H8]
  · iexists f8; iexact H8
  iexists f10; iexact H10

theorem glue4 (f : Fin 4 → Vec F S512x1024 .f32) : glue f = glue ![f 0, f 1, f 2, f 3] :=
  congrArg glue (funext fun b => by
    match b with
    | 0 => rfl
    | 1 => rfl
    | 2 => rfl
    | 3 => rfl)

theorem out_glue (c : Dev nD) : glue ![(PP I c 0 8), (PP I c 1 8), (PP I c 2 8), (PP I c 3 8)] = OUT I c :=
  congrArg glue (funext fun b => by
    match b with
    | 0 => rfl
    | 1 => rfl
    | 2 => rfl
    | 3 => rfl)

set_option maxHeartbeats 4000000 in
/-- The body, from everything a device holds to everything it holds. -/
theorem body_whole (K : GSem nD τ sig → ℕ) (c : Dev nD) (f6 : Vec F S2048x1024 .f32) {Q : PUnit → sProp 𝕄} :
    iprop(recs I K ∗ levAts L lv ∗ rch (F := F) c ∗ pos (F := F) c (fun _ => 0) ∗ atPos ER (barC c) 0 ∅ 0 ∗ toks (F := F) c ∗ creds (F := F) c
        ∗ ow (F := F) c (sigL c 0) ∗ args I c ∗ pt c cc0_stg5_0 Finset.univ f6 ∗ scr (F := F) c)
      ⊢ iprop(((pos (F := F) c roundsOf ∗ atPos ER (barC c) 1 ∅ 0 ∗ ow (F := F) c [] ∗ args I c
          ∗ pt c cc0_stg5_0 Finset.univ (OUT I c) ∗ scr (F := F) c) -∗ Q ⟨⟩)
        -∗ wpc c (cc0__body (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10) Q) := by
  rw [toks_at, pos_at, pos_end]
  unfold creds args scr
  rw [bs7, bs7, w_slots, bs8 (fun k : Fin 8 => wP c k (I.ew c))]
  iintro ⟨#Hrec, #Hlev, #HR, ⟨⟨⟨A00, A01, A02, A03, A04, A05, A06, A07⟩, ⟨A10, A11, A12, A13, A14, A15, A16, A17⟩, ⟨A20, A21, A22, A23, A24, A25, A26, A27⟩, ⟨A30, A31, A32, A33, A34, A35, A36, A37⟩⟩, AE0, AE1⟩, Abar, ⟨TB, ⟨⟨T00, T01, T02, T03, T04, T05, T06, T07⟩, ⟨T10, T11, T12, T13, T14, T15, T16, T17⟩, ⟨T20, T21, T22, T23, T24, T25, T26, T27⟩, ⟨T30, T31, T32, T33, T34, T35, T36, T37⟩⟩, ⟨⟨TE00, TE01, TE02, TE03⟩, ⟨TE10, TE11, TE12, TE13⟩⟩⟩, ⟨Cbar, ⟨C11, C12, C13, C14, C15, C16, C17⟩, ⟨C31, C32, C33, C34, C35, C36, C37⟩⟩, HO, ⟨H0, H1, H2, H3, H4, ⟨W0, W1, W2, W3, W4, W5, W6, W7⟩⟩, H6, ⟨H7, ⟨%f8, H8⟩, ⟨%f9, H9⟩, ⟨%f10, H10⟩, ⟨%f11, H11⟩, ⟨%f12, H12⟩⟩⟩ Hk
  ihave HSg := (sigs c f8 f10) $$ [TB H8 H10]
  · isplitr; · iexact HR
    isplitl [TB]; · iexact TB
    isplitl [H8]; · iexact H8
    iexact H10
  icases HSg with ⟨HSg, HoR, HoS⟩
  ihave HS8 := (show _ ⊢ _ from le_of_eq (bs8 (fun j : Fin 8 => sigRes (F := F) c j))) $$ HSg
  icases HS8 with ⟨S0, S1, S2, S3, S4, S5, S6, S7⟩
  ihave HB := (show _ ⊢ _ from le_of_eq ((ew_slots c f11).trans (bs2 _))) $$ H11
  icases HB with ⟨B0, B1⟩
  ihave HD := (show _ ⊢ _ from le_of_eq ((d_slots c f12).trans (bs8 _))) $$ H12
  icases HD with ⟨D0, D1, D2, D3, D4, D5, D6, D7⟩
  ihave H6' := (show _ ⊢ _ from le_of_eq (congrArg (fun f => (pt c cc0_stg5_0 Finset.univ f : sProp 𝕄)) ((glue_of f6).trans (glue4 _)))) $$ H6
  ihave H9' := (show _ ⊢ _ from le_of_eq (congrArg (fun f => (pt c cc0_scratch2 Finset.univ f : sProp 𝕄)) (YN_zero I c f9).symm)) $$ H9
  iapply (body_split I K c (fun b p => f6 (iOut ⟨512 * b.val + (p 0).val, row_lt b (p 0)⟩ (p 1))) f9) $$ [W0 B0 TE00 HO S0 S1 S2 S3 S4 S5 S6 S7 H0 H1 H2 H7 Cbar Abar H3 HoR D1 T01 T11 D2 T02 T12 D3 T03 T13 D4 T04 T14 D5 T05 T15 D6 T06 T16 D7 T07 T17 H4 H6' C11 A11 C12 A12 C13 A13 C14 A14 C15 A15 C16 A16 C17 A17 AE0 W1 B1 TE10 H9' AE1 W2 TE01 W3 TE11 W4 TE02 W5 TE12 W6 TE03 W7 TE13 HoS T21 T31 T22 T32 T23 T33 T24 T34 T25 T35 T26 T36 T27 T37 C31 A31 C32 A32 C33 A33 C34 A34 C35 A35 C36 A36 C37 A37 A01 A21 A02 A22 A03 A23 A04 A24 A05 A25 A06 A26 A07 A27]
  · isplitr; · iexact Hrec
    isplitr; · iexact Hlev
    isplitl [W0]
    · iexact W0
    isplitl [B0]
    · iexists f11; iexact B0
    isplitl [TE00]
    · iexact TE00
    isplitr
    · iapply (rch_at c (.inr 0)); iexact HR
    isplitl [HO]
    · iexact HO
    isplitl [S0]
    · iexact S0
    isplitl [S1]
    · iexact S1
    isplitl [S2]
    · iexact S2
    isplitl [S3]
    · iexact S3
    isplitl [S4]
    · iexact S4
    isplitl [S5]
    · iexact S5
    isplitl [S6]
    · iexact S6
    isplitl [S7]
    · iexact S7
    isplitl [H0]
    · iexact H0
    isplitl [H1]
    · iexact H1
    isplitl [H2]
    · iexact H2
    isplitl [H7]
    · iexact H7
    isplitl [Cbar]
    · iexact Cbar
    isplitl [Abar]
    · iexact Abar
    isplitl [H3]
    · iexact H3
    isplitl [HoR]
    · iexact HoR
    isplitl [D1]
    · iexists f12; iexact D1
    isplitl [T01 T11]
    · isplitl [T01]; · iexact T01
      isplitr; · iapply (rch_at c (.inl (0, 1))); iexact HR
      iexact T11
    isplitl [D2]
    · iexists f12; iexact D2
    isplitl [T02 T12]
    · isplitl [T02]; · iexact T02
      isplitr; · iapply (rch_at c (.inl (0, 2))); iexact HR
      iexact T12
    isplitl [D3]
    · iexists f12; iexact D3
    isplitl [T03 T13]
    · isplitl [T03]; · iexact T03
      isplitr; · iapply (rch_at c (.inl (0, 3))); iexact HR
      iexact T13
    isplitl [D4]
    · iexists f12; iexact D4
    isplitl [T04 T14]
    · isplitl [T04]; · iexact T04
      isplitr; · iapply (rch_at c (.inl (0, 4))); iexact HR
      iexact T14
    isplitl [D5]
    · iexists f12; iexact D5
    isplitl [T05 T15]
    · isplitl [T05]; · iexact T05
      isplitr; · iapply (rch_at c (.inl (0, 5))); iexact HR
      iexact T15
    isplitl [D6]
    · iexists f12; iexact D6
    isplitl [T06 T16]
    · isplitl [T06]; · iexact T06
      isplitr; · iapply (rch_at c (.inl (0, 6))); iexact HR
      iexact T16
    isplitl [D7]
    · iexists f12; iexact D7
    isplitl [T07 T17]
    · isplitl [T07]; · iexact T07
      isplitr; · iapply (rch_at c (.inl (0, 7))); iexact HR
      iexact T17
    isplitl [H4]
    · iexact H4
    isplitl [H6']
    · iexact H6'
    isplitl [C11]
    · iexact C11
    isplitl [A11]
    · iexact A11
    isplitl [C12]
    · iexact C12
    isplitl [A12]
    · iexact A12
    isplitl [C13]
    · iexact C13
    isplitl [A13]
    · iexact A13
    isplitl [C14]
    · iexact C14
    isplitl [A14]
    · iexact A14
    isplitl [C15]
    · iexact C15
    isplitl [A15]
    · iexact A15
    isplitl [C16]
    · iexact C16
    isplitl [A16]
    · iexact A16
    isplitl [C17]
    · iexact C17
    isplitl [A17]
    · iexact A17
    isplitl [AE0]
    · iexact AE0
    isplitl [W1]
    · iexact W1
    isplitl [B1]
    · iexists f11; iexact B1
    isplitl [TE10]
    · iexact TE10
    isplitr
    · iapply (rch_at c (.inr 1)); iexact HR
    isplitl [H9']
    · iexact H9'
    isplitl [AE1]
    · iexact AE1
    isplitl [W2]
    · iexact W2
    isplitl [TE01]
    · iexact TE01
    isplitl [W3]
    · iexact W3
    isplitl [TE11]
    · iexact TE11
    isplitl [W4]
    · iexact W4
    isplitl [TE02]
    · iexact TE02
    isplitl [W5]
    · iexact W5
    isplitl [TE12]
    · iexact TE12
    isplitl [W6]
    · iexact W6
    isplitl [TE03]
    · iexact TE03
    isplitl [W7]
    · iexact W7
    isplitl [TE13]
    · iexact TE13
    isplitl [HoS]
    · iexact HoS
    isplitl [T21 T31]
    · isplitl [T21]; · iexact T21
      isplitr; · iapply (rch_at c (.inl (2, 1))); iexact HR
      iexact T31
    isplitl [T22 T32]
    · isplitl [T22]; · iexact T22
      isplitr; · iapply (rch_at c (.inl (2, 2))); iexact HR
      iexact T32
    isplitl [T23 T33]
    · isplitl [T23]; · iexact T23
      isplitr; · iapply (rch_at c (.inl (2, 3))); iexact HR
      iexact T33
    isplitl [T24 T34]
    · isplitl [T24]; · iexact T24
      isplitr; · iapply (rch_at c (.inl (2, 4))); iexact HR
      iexact T34
    isplitl [T25 T35]
    · isplitl [T25]; · iexact T25
      isplitr; · iapply (rch_at c (.inl (2, 5))); iexact HR
      iexact T35
    isplitl [T26 T36]
    · isplitl [T26]; · iexact T26
      isplitr; · iapply (rch_at c (.inl (2, 6))); iexact HR
      iexact T36
    isplitl [T27 T37]
    · isplitl [T27]; · iexact T27
      isplitr; · iapply (rch_at c (.inl (2, 7))); iexact HR
      iexact T37
    isplitl [C31]
    · iexact C31
    isplitl [A31]
    · iexact A31
    isplitl [C32]
    · iexact C32
    isplitl [A32]
    · iexact A32
    isplitl [C33]
    · iexact C33
    isplitl [A33]
    · iexact A33
    isplitl [C34]
    · iexact C34
    isplitl [A34]
    · iexact A34
    isplitl [C35]
    · iexact C35
    isplitl [A35]
    · iexact A35
    isplitl [C36]
    · iexact C36
    isplitl [A36]
    · iexact A36
    isplitl [C37]
    · iexact C37
    isplitl [A37]
    · iexact A37
    isplitl [A01]
    · iexact A01
    isplitl [A21]
    · iexact A21
    isplitl [A02]
    · iexact A02
    isplitl [A22]
    · iexact A22
    isplitl [A03]
    · iexact A03
    isplitl [A23]
    · iexact A23
    isplitl [A04]
    · iexact A04
    isplitl [A24]
    · iexact A24
    isplitl [A05]
    · iexact A05
    isplitl [A25]
    · iexact A25
    isplitl [A06]
    · iexact A06
    isplitl [A26]
    · iexact A26
    isplitl [A07]
    · iexact A07
    iexact A27
  iintro ⟨H1, H2, Abar, H7, H4, H0, A11, A12, A13, A14, A15, A16, A17, W0, W1, W2, W3, W4, W5, AE0, B0, W6, AE1, B1, W7, H8, HoS, A31, R1, A32, R2, A33, R3, A34, R4, A35, R5, A36, R6, A37, R7, H3, H6, A01, D1, A21, Y1, A02, D2, A22, Y2, A03, D3, A23, Y3, A04, D4, A24, Y4, A05, D5, A25, Y5, A06, D6, A26, Y6, A07, D7, HO, A27, Y7, Y0⟩
  iapply Hk
  isplitl [A00 A01 A02 A03 A04 A05 A06 A07 A10 A11 A12 A13 A14 A15 A16 A17 A20 A21 A22 A23 A24 A25 A26 A27 A30 A31 A32 A33 A34 A35 A36 A37 AE0 AE1]
  · isplitl [A00 A01 A02 A03 A04 A05 A06 A07 A10 A11 A12 A13 A14 A15 A16 A17 A20 A21 A22 A23 A24 A25 A26 A27 A30 A31 A32 A33 A34 A35 A36 A37]
    · isplitl [A00 A01 A02 A03 A04 A05 A06 A07]
      · isplitl [A00]; · iexact A00
        isplitl [A01]; · iexact A01
        isplitl [A02]; · iexact A02
        isplitl [A03]; · iexact A03
        isplitl [A04]; · iexact A04
        isplitl [A05]; · iexact A05
        isplitl [A06]; · iexact A06
        iexact A07
      isplitl [A10 A11 A12 A13 A14 A15 A16 A17]
      · isplitl [A10]; · iexact A10
        isplitl [A11]; · iexact A11
        isplitl [A12]; · iexact A12
        isplitl [A13]; · iexact A13
        isplitl [A14]; · iexact A14
        isplitl [A15]; · iexact A15
        isplitl [A16]; · iexact A16
        iexact A17
      isplitl [A20 A21 A22 A23 A24 A25 A26 A27]
      · isplitl [A20]; · iexact A20
        isplitl [A21]; · iexact A21
        isplitl [A22]; · iexact A22
        isplitl [A23]; · iexact A23
        isplitl [A24]; · iexact A24
        isplitl [A25]; · iexact A25
        isplitl [A26]; · iexact A26
        iexact A27
      isplitl [A30]; · iexact A30
      isplitl [A31]; · iexact A31
      isplitl [A32]; · iexact A32
      isplitl [A33]; · iexact A33
      isplitl [A34]; · iexact A34
      isplitl [A35]; · iexact A35
      isplitl [A36]; · iexact A36
      iexact A37
    isplitl [AE0]; · iexact AE0
    iexact AE1
  isplitl [Abar]
  · iexact Abar
  isplitl [HO]
  · iexact HO
  isplitl [H0 H1 H2 H3 H4 W0 W1 W2 W3 W4 W5 W6 W7]
  · isplitl [H0]; · iexact H0
    isplitl [H1]; · iexact H1
    isplitl [H2]; · iexact H2
    isplitl [H3]; · iexact H3
    isplitl [H4]; · iexact H4
    isplitl [W0]; · iexact W0
    isplitl [W1]; · iexact W1
    isplitl [W2]; · iexact W2
    isplitl [W3]; · iexact W3
    isplitl [W4]; · iexact W4
    isplitl [W5]; · iexact W5
    isplitl [W6]; · iexact W6
    iexact W7
  isplitl [H6]
  · iapply (show _ ⊢ _ from le_of_eq (congrArg (fun f => (pt c cc0_stg5_0 Finset.univ f : sProp 𝕄)) (out_glue I c))) $$ H6
  isplitl [H7]
  · iexists (XS I c); iexact H7
  isplitl [H8]
  · iexists (RECV I c); iexact H8
  isplitl [Y0 Y1 Y2 Y3 Y4 Y5 Y6 Y7]
  · iapply (y_back c)
    isplitl [Y0]; · iexists (YY I c); iexact Y0
    isplitl [Y1]; · iexact Y1
    isplitl [Y2]; · iexact Y2
    isplitl [Y3]; · iexact Y3
    isplitl [Y4]; · iexact Y4
    isplitl [Y5]; · iexact Y5
    isplitl [Y6]; · iexact Y6
    iexact Y7
  isplitl [HoS R1 R2 R3 R4 R5 R6 R7]
  · iexists (RES I c)
    iapply (show _ ⊢ _ from le_of_eq (res_all c (RES I c)))
    isplitl [HoS]; · iexact HoS
    isplitl [R1]; · iexact R1
    isplitl [R2]; · iexact R2
    isplitl [R3]; · iexact R3
    isplitl [R4]; · iexact R4
    isplitl [R5]; · iexact R5
    isplitl [R6]; · iexact R6
    iexact R7
  isplitl [B0 B1]
  · iapply (ew_join c)
    rw [bs2]
    isplitl [B0]; · iexists (EW I c 6); iexact B0
    iexists (EW I c 7); iexact B1
  iapply (d_join c)
  rw [bs8]
  isplitl [D0]; · iexists f12; iexact D0
  isplitl [D1]; · iexact D1
  isplitl [D2]; · iexact D2
  isplitl [D3]; · iexact D3
  isplitl [D4]; · iexact D4
  isplitl [D5]; · iexact D5
  isplitl [D6]; · iexact D6
  iexact D7

end Cert.KernelIdeal.Moe
-- ==== Proof.Ghost.lean ====
/-
  What the launch hands out: the cells' invariants, the positions, the rights to open, the tokens of the duties, the credits.
-/
module

public import proofs.«01_k».proof.Proof.Whole

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (I : Inp F)

theorem osem_inj : Function.Injective osem := by decide +kernel
theorem osem_ne_bar : ∀ i : CK, osem i ≠ .reg barS := fun _ h => nomatch h

def barEmb : Dev nD ↪ GSem nD τ sig := ⟨fun c => barC c, fun _ _ h => congrArg (fun g : GSem nD τ sig => g.1.1) h⟩
def scEmb : Dev nD × CK ↪ GSem nD τ sig :=
  ⟨fun ci => cellC ci.1 ci.2, fun _ _ h => Prod.ext (congrArg (fun g : GSem nD τ sig => g.1.1) h) (osem_inj (congrArg Prod.snd h))⟩

/-- The barrier cells, and the transfer cells, which open when the kernel starts. -/
abbrev barCells : Finset (GSem nD τ sig) := Finset.univ.map barEmb
abbrev scCells : Finset (GSem nD τ sig) := Finset.univ.map scEmb

/-- The duties of one device's cells: the barrier's, the transfers', the weights' copies'. -/
abbrev TK : Type := Fin 8 ⊕ (Fin 4 × Fin 8) ⊕ (Fin 2 × Fin 4)

def tkOf : TK → SemLoc sig × ℕ × Fin 8
  | .inl d => (.reg barS, 0, d)
  | .inr (.inl tk) => (osem (.inl tk), 0, 0)
  | .inr (.inr br) => (osem (.inr br.1), br.2.val, 0)

theorem tkOf_inj : Function.Injective tkOf := by decide +kernel

def tokEmb : Dev nD × TK ↪ GSem nD τ sig × ℕ × Fin 8 :=
  ⟨fun ct => (((ct.1 : Thread nD τ), (tkOf ct.2).1), (tkOf ct.2).2.1, (tkOf ct.2).2.2), fun _ _ h =>
    Prod.ext (congrArg (fun t : GSem nD τ sig × ℕ × Fin 8 => t.1.1.1) h)
      (tkOf_inj (Prod.ext (congrArg (fun t : GSem nD τ sig × ℕ × Fin 8 => t.1.2) h) (congrArg (fun t : GSem nD τ sig × ℕ × Fin 8 => t.2) h)))⟩
abbrev allToks : Finset (GSem nD τ sig × ℕ × Fin 8) := Finset.univ.map tokEmb

theorem disjoint_cells : Disjoint (barCells : Finset (GSem nD τ sig)) scCells := by
  rw [Finset.disjoint_left]
  intro g h₁ h₂
  obtain ⟨c, -, rfl⟩ := Finset.mem_map.mp h₁
  obtain ⟨ci, -, h⟩ := Finset.mem_map.mp h₂
  exact osem_ne_bar ci.2 (congrArg Prod.snd h)

theorem bigSep_two {S T : Finset (GSem nD τ sig)} (h : Disjoint S T) (Φ : GSem nD τ sig → sProp 𝕄) : bigSep (S ∪ T) Φ = iprop(bigSep S Φ ∗ bigSep T Φ) := bigSep_union h
theorem bigSep_kinds {S T : Finset (SemLoc sig)} (h : Disjoint S T) (Φ : SemLoc sig → sProp 𝕄) : bigSep (S ∪ T) Φ = iprop(bigSep S Φ ∗ bigSep T Φ) := bigSep_union h

/-- All invariants, device by device. -/
theorem recs_intro (K : GSem nD τ sig → ℕ) :
    iprop((bigSep (barCells ∪ scCells) fun g => cellInv ER (sched I) (K g) g) ∗ bigSep barCells fun g => reached ER g 0)
      ⊢ (recs I K : sProp 𝕄) := by
  rw [bigSep_two disjoint_cells, bigSep_map, bigSep_map, bigSep_map, bigSep_univ_prod]
  unfold recs
  iintro ⟨⟨HB, HC⟩, HR⟩
  isplitl [HC]; · iexact HC
  isplitl [HB]; · iexact HB
  iexact HR

theorem pos_intro : bigSep barCells (fun g => (atPos ER g 0 ∅ 0 : sProp 𝕄)) ⊢ bigSep Finset.univ fun c : Dev nD => (atPos ER (barC c) 0 ∅ 0 : sProp 𝕄) :=
  Entails.of_eq (bigSep_map (s := Finset.univ) barEmb (Φ := fun g : GSem nD τ sig => (atPos ER g 0 ∅ 0 : sProp 𝕄)))

/-- The rights to open the transfer cells of a device. -/
abbrev opens (c : Dev nD) : sProp 𝕄 := bigSep Finset.univ fun i : CK => openTok ER (cellC c i)

theorem opens_intro : bigSep scCells (fun g => (openTok ER g : sProp 𝕄)) ⊢ bigSep Finset.univ fun c : Dev nD => opens (F := F) c := by
  rw [bigSep_map, bigSep_univ_prod]
  exact BI.Entails.refl _

/-- Barrier tokens by payer, transfer tokens by payer. -/
def eBar : Dev nD × Fin 8 ≃ Dev nD × Fin 8 where
  toFun p := (p.2, (p.1 - p.2 : Fin 8))
  invFun p := ((p.1 + p.2 : Fin 8), p.1)
  left_inv := by decide +kernel
  right_inv := by decide +kernel
def eTk : Dev nD × (Fin 4 × Fin 8) ≃ Dev nD × (Fin 4 × Fin 8) where
  toFun p := (sh p.1 p.2, p.2)
  invFun p := ((if p.2.1 = 0 ∨ p.2.1 = 2 then p.1 else (p.1 - p.2.2 : Fin 8)), p.2)
  left_inv := by decide +kernel
  right_inv := by decide +kernel

theorem toks_intro : bigSep allToks (fun x => (dutyTok ER x.1 x.2.1 x.2.2 : sProp 𝕄)) ⊢ bigSep Finset.univ fun c : Dev nD => toks (F := F) c := by
  have e : (bigSep allToks (fun x => (dutyTok ER x.1 x.2.1 x.2.2 : sProp 𝕄)) : sProp 𝕄)
      = iprop((bigSep Finset.univ fun c : Dev nD => bigSep Finset.univ fun d : Fin 8 => dutyTok ER (barC c) 0 d)
        ∗ (bigSep Finset.univ fun c : Dev nD => bigSep Finset.univ fun tk : Fin 4 × Fin 8 => dutyTok ER (cellC c (.inl tk)) 0 0)
        ∗ bigSep Finset.univ fun c : Dev nD => bigSep Finset.univ fun br : Fin 2 × Fin 4 => dutyTok ER (ewC c br.1) br.2.val 0) := by
    rw [bigSep_map, bigSep_univ_prod, ← bigSep_sep', ← bigSep_sep']
    refine bigSep_congr fun c _ => ?_
    rw [bigSep_univ_sum, bigSep_univ_sum]
    rfl
  rw [e]
  unfold toks
  rw [bigSep_sep', bigSep_sep']
  refine Entails.of_eq (congrArg₂ _ ?_ (congrArg₂ _ ?_ rfl))
  · refine ((bigSep_univ_prod (fun p : Dev nD × Fin 8 => (dutyTok ER (barC p.1) 0 p.2 : sProp 𝕄))).symm.trans
      (bigSep_univ_equiv eBar _)).trans (bigSep_univ_prod _)
  · refine ((bigSep_univ_prod (fun p : Dev nD × (Fin 4 × Fin 8) => (dutyTok ER (cellC p.1 (.inl p.2)) 0 0 : sProp 𝕄))).symm.trans
      (bigSep_univ_equiv eTk _)).trans (bigSep_univ_prod _)

/-! ## Credits -/

abbrev O₀ (c : Dev nD) : CellTallies nD τ sig Unit := sumL (sigL c 0)

theorem sumL_at (l : List (GSem nD τ sig × ℕ)) (g : GSem nD τ sig) : sumL l g () = (l.map fun p => if p.1 = g then p.2 else 0).sum := by
  induction l with
  | nil => rfl
  | cons p l ih =>
    show (sumL l + tallyAt p.1 () p.2 : CellTallies nD τ sig Unit) g () = _
    rw [Pi.add_apply, Finsupp.add_apply, ih, tallyAt_apply, List.map_cons, List.sum_cons, Nat.add_comm]
    refine congrArg (· + _) ?_
    by_cases h : p.1 = g
    · rw [if_pos ⟨h.symm, rfl⟩, if_pos h]
    · rw [if_neg fun h' => h h'.1.symm, if_neg h]

theorem sumL_app (l l' : List (GSem nD τ sig × ℕ)) (g : GSem nD τ sig) : sumL (l ++ l') g () = sumL l g () + sumL l' g () := by
  rw [sumL_at, sumL_at, sumL_at, List.map_append, List.sum_append]

theorem sum_zero_of (l : List (GSem nD τ sig × ℕ)) (g : GSem nD τ sig) (h : ∀ p ∈ l, p.1 ≠ g) : sumL l g () = 0 := by
  rw [sumL_at]
  refine List.sum_eq_zero fun x hx => ?_
  obtain ⟨p, hp, rfl⟩ := List.mem_map.mp hx
  exact if_neg (h p hp)

theorem cell_ne {c d : Dev nD} {i j : CK} (h : i ≠ j) : cellC c i ≠ cellC d j := fun e => h (osem_inj (congrArg Prod.snd e))
theorem cell_ne_bar {c d : Dev nD} {i : CK} : cellC c i ≠ barC d := fun e => osem_ne_bar i (congrArg Prod.snd e)
theorem cell_eq {c d : Dev nD} {i j : CK} : cellC c i = cellC d j ↔ c = d ∧ i = j :=
  ⟨fun e => ⟨congrArg (fun g : GSem nD τ sig => g.1.1) e, osem_inj (congrArg Prod.snd e)⟩, fun ⟨h, h'⟩ => by rw [h, h']⟩
theorem kind_eq {c d : Dev nD} {t : Fin 4} {k k' : Fin 8} : cellC c (.inl (t, k)) = cellC d (.inl (t, k')) ↔ c = d ∧ k = k' := by
  rw [cell_eq]
  exact and_congr Iff.rfl ⟨fun h => congrArg Prod.snd (Sum.inl.inj h), fun h => by rw [h]⟩
theorem bar_eq {c d : Dev nD} : barC c = barC d ↔ c = d := ⟨fun e => congrArg (fun g : GSem nD τ sig => g.1.1) e, fun h => by rw [h]⟩

theorem O₀_at (d : Dev nD) (g : GSem nD τ sig) : O₀ d g () = sumL (([0, 1, 2, 3, 4, 5, 6, 7] : List (Fin 8)).map (sigO d)) g ()
    + (sumL (([1, 2, 3, 4, 5, 6, 7] : List (Fin 8)).map (dispO d)) g () + sumL (([1, 2, 3, 4, 5, 6, 7] : List (Fin 8)).map (retO d)) g ()) := by
  rw [← sumL_app, ← sumL_app]; rfl

theorem sum_bar (c : Dev nD) : ∑ d : Dev nD, O₀ d (barC c) () = 7 := by
  have h (d : Dev nD) : O₀ d (barC c) () = ((([0, 1, 2, 3, 4, 5, 6, 7] : List (Fin 8)).map fun j => if j = c then (if j = d then 0 else 1) else 0)).sum := by
    rw [O₀_at, sum_zero_of (([1, 2, 3, 4, 5, 6, 7] : List (Fin 8)).map (dispO d)) _ (fun p hp => by
        obtain ⟨k, -, rfl⟩ := List.mem_map.mp hp; exact cell_ne_bar),
      sum_zero_of (([1, 2, 3, 4, 5, 6, 7] : List (Fin 8)).map (retO d)) _ (fun p hp => by
        obtain ⟨k, -, rfl⟩ := List.mem_map.mp hp; exact cell_ne_bar), sumL_at, List.map_map]
    refine congrArg List.sum (List.map_congr_left fun j _ => ?_)
    show (if barC j = barC c then (if j = d then 0 else 1) else 0) = _
    simp only [bar_eq]
  rw [Finset.sum_congr rfl fun d _ => h d]
  clear h; revert c; decide +kernel

theorem sum_disp (c : Dev nD) (k : Fin 8) (hk : k ≠ 0) : ∑ d : Dev nD, O₀ d (drC c k) () = ND := by
  have h (d : Dev nD) : O₀ d (drC c k) () = (([1, 2, 3, 4, 5, 6, 7] : List (Fin 8)).map fun j => if (d + j : Fin 8) = c ∧ j = k then 1 else 0).sum * ND := by
    rw [O₀_at, sum_zero_of (([0, 1, 2, 3, 4, 5, 6, 7] : List (Fin 8)).map (sigO d)) _ (fun p hp => by
        obtain ⟨k, -, rfl⟩ := List.mem_map.mp hp; exact cell_ne_bar.symm),
      sum_zero_of (([1, 2, 3, 4, 5, 6, 7] : List (Fin 8)).map (retO d)) _ (fun p hp => by
        obtain ⟨k, -, rfl⟩ := List.mem_map.mp hp; exact cell_ne (by simp)), sumL_at, List.map_map, Nat.zero_add, Nat.add_zero,
      ← List.sum_map_mul_right]
    refine congrArg List.sum (List.map_congr_left fun j _ => ?_)
    show (if drC (d + j : Fin 8) j = drC c k then ND else 0) = (if (d + j : Fin 8) = c ∧ j = k then 1 else 0) * ND
    rw [ite_mul, one_mul, zero_mul]
    exact if_congr kind_eq rfl rfl
  rw [Finset.sum_congr rfl fun d _ => h d, ← Finset.sum_mul]
  refine (congrArg (· * ND) (show _ = 1 from ?_)).trans (Nat.one_mul _)
  clear h; revert c k; decide +kernel

theorem sum_ret (c : Dev nD) (k : Fin 8) (hk : k ≠ 0) : ∑ d : Dev nD, O₀ d (rrC c k) () = NR := by
  have h (d : Dev nD) : O₀ d (rrC c k) () = (([1, 2, 3, 4, 5, 6, 7] : List (Fin 8)).map fun j => if (d + j : Fin 8) = c ∧ j = k then 1 else 0).sum * NR := by
    rw [O₀_at, sum_zero_of (([0, 1, 2, 3, 4, 5, 6, 7] : List (Fin 8)).map (sigO d)) _ (fun p hp => by
        obtain ⟨k, -, rfl⟩ := List.mem_map.mp hp; exact cell_ne_bar.symm),
      sum_zero_of (([1, 2, 3, 4, 5, 6, 7] : List (Fin 8)).map (dispO d)) _ (fun p hp => by
        obtain ⟨k, -, rfl⟩ := List.mem_map.mp hp; exact cell_ne (by simp)), sumL_at, List.map_map, Nat.zero_add, Nat.zero_add,
      ← List.sum_map_mul_right]
    refine congrArg List.sum (List.map_congr_left fun j _ => ?_)
    show (if rrC (d + j : Fin 8) j = rrC c k then NR else 0) = (if (d + j : Fin 8) = c ∧ j = k then 1 else 0) * NR
    rw [ite_mul, one_mul, zero_mul]
    exact if_congr kind_eq rfl rfl
  rw [Finset.sum_congr rfl fun d _ => h d, ← Finset.sum_mul]
  refine (congrArg (· * NR) (show _ = 1 from ?_)).trans (Nat.one_mul _)
  clear h; revert c k; decide +kernel

theorem launch_at (g : GSem nD τ sig) (n : ℕ) (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

/-- The semaphores of kind `t` at the distances from 1 on. -/
def kindAt (t : Fin 4) : Finset (SemLoc sig) := (Finset.univ.erase 0).map ⟨fun k : Fin 8 => osem (.inl (t, k)), fun k k' h => by
  have := osem_inj h; simpa using this⟩

theorem creds_intro (c : Dev nD) : (Pipeline.launchCred O₀ c : sProp 𝕄) ⊢ creds (F := F) c := by
  unfold Pipeline.launchCred creds
  rw [bigSep_univ_at _ (SemLoc.reg barS), launch_at _ 7 (sum_bar c)]
  refine BI.sep_mono (BI.Entails.refl _) ?_
  refine (bigSep_subset (t := kindAt 1 ∪ kindAt 3) (fun s hs => ?_)).trans ?_
  · refine Finset.mem_erase.mpr ⟨fun e => ?_, Finset.mem_univ _⟩
    rcases Finset.mem_union.mp hs with hs | hs
    · obtain ⟨k, -, hk⟩ := Finset.mem_map.mp hs; exact osem_ne_bar _ (hk.trans e)
    · obtain ⟨k, -, hk⟩ := Finset.mem_map.mp hs; exact osem_ne_bar _ (hk.trans e)
  rw [bigSep_kinds (by
    rw [Finset.disjoint_left]
    intro s hs hs'
    obtain ⟨k, -, hk⟩ := Finset.mem_map.mp hs
    obtain ⟨k', -, hk'⟩ := Finset.mem_map.mp hs'
    have := osem_inj (hk.trans hk'.symm)
    simp at this)]
  unfold kindAt
  rw [bigSep_map, bigSep_map]
  have e (t : Fin 4) (h : ∀ k : Fin 8, k ≠ 0 → ∑ d : Dev nD, O₀ d (cellC c (.inl (t, k))) () = amtOf (.inl (t, k))) :
      (bigSep (Finset.univ.erase 0) fun k : Fin 8 => (cred (tallyOn (cellC c (.inl (t, k))) (launchCredit (Pipeline.owing O₀) 0 (cellC c (.inl (t, k))))) : sProp 𝕄))
        = bigSep (Finset.univ.erase 0) fun k : Fin 8 => CR (F := F) c (.inl (t, k)) :=
    bigSep_congr fun k hk => congrArg cred (launch_at _ _ (h k (Finset.ne_of_mem_erase hk)))
  exact le_of_eq (congrArg₂ (fun A B : sProp 𝕄 => iprop(A ∗ B)) (e 1 (sum_disp c)) (e 3 (sum_ret c)))

/-! ## Opening and closing -/

theorem open_all (K : GSem nD τ sig → ℕ) (c : Dev nD) :
    iprop(recs I K ∗ opens (F := F) c ∗ bigSep Finset.univ fun i : CK => semVal (cellC c i) 0)
      ⊢ (|={Set.univ}=> iprop(pos (F := F) c (fun _ => 0) ∗ rch (F := F) c) : sProp 𝕄) := by
  rw [← bigSep_sep', ← bigSep_sep']
  refine (bigSep_with_persistent (R := recs I K) (Ψ := fun i : CK => iprop(|={Set.univ}=> (AT (F := F) c i 0 ∗ reached ER (cellC c i) 0)))
    fun i _ => ?_).trans (bigSep_fupd _ _)
  iintro ⟨#HR, Ho, Hv⟩
  iapply (Rounds.cell_open ER (sched I) (g := cellC c i) (Set.mem_univ (K (cellC c i))))
  isplitr; · iapply (recs_cell I K c i); iexact HR
  isplitl [Ho]; · iexact Ho
  iexact Hv

theorem close_all (K : GSem nD τ sig → ℕ) (c : Dev nD) :
    iprop(recs I K ∗ pos (F := F) c roundsOf)
      ⊢ (|={Set.univ}=> bigSep Finset.univ fun i : CK => semVal (cellC c i) 0 : sProp 𝕄) := by
  refine (bigSep_with_persistent (R := recs I K) (Ψ := fun i : CK => iprop(|={Set.univ}=> semVal (cellC c i) 0))
    fun i _ => ?_).trans (bigSep_fupd _ _)
  iintro ⟨#HR, Hp⟩
  iapply (Rounds.cell_close ER (sched I) (Set.mem_univ (K (cellC c i))) id (g := cellC c i) (R := roundsOf i)
    (fun r hr => by rw [duties_ck, if_neg (by omega)]))
  isplitr; · iapply (recs_cell I K c i); iexact HR
  iexact Hp

theorem close_bar (K : GSem nD τ sig → ℕ) (c : Dev nD) :
    iprop(recs I K ∗ atPos ER (barC c) 1 ∅ 0) ⊢ (|={Set.univ}=> semVal (barC c) 0 : sProp 𝕄) := by
  iintro ⟨#HR, Hp⟩
  iapply (Rounds.cell_close ER (sched I) (Set.mem_univ (K (barC c))) id (g := barC c) (R := 1) (duties_bar_later I c))
  isplitr; · iapply (recs_bar I K c); iexact HR
  iexact Hp

end Cert.KernelIdeal.Moe
-- ==== Proof.Region.lean ====
/-
  The region of the kernel's one call: its proof data, and the body's obligation.
-/
module

public import proofs.«01_k».proof.Proof.Ghost
public import proofs.«01_k».proof.Proof.Gen.KernelIdeal.Frame
public import Idealize.ShloMosaic.Lib.Pipeline.RegionTalk
public import Idealize.ShloMosaic.Lib.Pipeline.RegionArrays
public import Idealize.ShloMosaic.Lib.Pipeline.FrameTail
public import Idealize.ShloMosaic.Lib.Pipeline.ValueKit

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

open Idealize.ShloMosaic.Pipeline (Dat BodyObligation)

variable (m : (ℓ : Loc nD τ sig) → Buf (Elt F) ℓ) (ρ : Dev nD → PrngReg)

/-- What the devices' memories hold when the kernel starts. -/
def inp : Inp F where
  x c := iblk m c 0 t0_0
  rw c := iblk m c 1 t0_0
  ri c := iblk m c 2 t0_0
  sl c := iblk m c 3 t0_0
  sw c := iblk m c 4 t0_0
  ew c := V m c main_arg3

/-- The counters of the kernel's own cells, at zero. -/
abbrev zeros (c : Dev nD) : sProp 𝕄 := bigSep Finset.univ fun i : CK => semVal (cellC c i) 0

/-- What the body starts with beside its buffers and what it owes. -/
def Xk (c : Dev nD) : sProp 𝕄 :=
  iprop(∃ K, recs (inp m) K ∗ levAts L lv ∗ rch (F := F) c ∗ pos (F := F) c (fun _ => 0) ∗ atPos ER (barC c) 0 ∅ 0 ∗ toks (F := F) c ∗ creds (F := F) c)

abbrev Φ₀ (c : Dev nD) : sProp 𝕄 := iprop(Xk m c ∗ scr (F := F) c ∗ (∃ r, prngReg c r) ∗ pt c main_arg3 Finset.univ ((inp m).ew c))
abbrev Φ₁ (c : Dev nD) : sProp 𝕄 :=
  iprop(semVal (barC c) 0 ∗ zeros (F := F) c ∗ scr (F := F) c ∗ (∃ r, prngReg c r) ∗ pt c main_arg3 Finset.univ ((inp m).ew c))

/-- The region's data: the arrays as found, every input's block unchanged, the result `OUT`. -/
def dat (c : Dev nD) : Dat τ (Elt F) Unit ℕ UU ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => OUT (inp m) c
  Φ t := if t.val = 0 then Φ₀ m c else Φ₁ m c
  q _ := fullShare
  owed t := if t.val = 0 then O₀ c else 0

theorem after_0 (c : Dev nD) (t : Fin cfg0.N) : (dat m c).after 0 t = iblk m c 0 t := by dsimp only [dat]
theorem after_1 (c : Dev nD) (t : Fin cfg0.N) : (dat m c).after 1 t = iblk m c 1 t := by dsimp only [dat]
theorem after_2 (c : Dev nD) (t : Fin cfg0.N) : (dat m c).after 2 t = iblk m c 2 t := by dsimp only [dat]
theorem after_3 (c : Dev nD) (t : Fin cfg0.N) : (dat m c).after 3 t = iblk m c 3 t := by dsimp only [dat]
theorem after_4 (c : Dev nD) (t : Fin cfg0.N) : (dat m c).after 4 t = iblk m c 4 t := by dsimp only [dat]
theorem after_5 (c : Dev nD) (t : Fin cfg0.N) : (dat m c).after 5 t = OUT (inp m) c := by dsimp only [dat]
theorem before_0 (c : Dev nD) (t : Fin cfg0.N) (d) : (dat m c).before 0 t d = iblk m c 0 t :=
  ((dat m c).before_in_eq_fetched 0 rfl (fun _ => rfl) (fun _ _ _ => rfl) (fun t => by rw [after_0]; unfold Dat.blockOf iblk; rfl) t d).trans
    (by unfold Dat.fetched Dat.blockOf iblk; rfl)
theorem before_1 (c : Dev nD) (t : Fin cfg0.N) (d) : (dat m c).before 1 t d = iblk m c 1 t :=
  ((dat m c).before_in_eq_fetched 1 rfl (fun _ => rfl) (fun _ _ _ => rfl) (fun t => by rw [after_1]; unfold Dat.blockOf iblk; rfl) t d).trans
    (by unfold Dat.fetched Dat.blockOf iblk; rfl)
theorem before_2 (c : Dev nD) (t : Fin cfg0.N) (d) : (dat m c).before 2 t d = iblk m c 2 t :=
  ((dat m c).before_in_eq_fetched 2 rfl (fun _ => rfl) (fun _ _ _ => rfl) (fun t => by rw [after_2]; unfold Dat.blockOf iblk; rfl) t d).trans
    (by unfold Dat.fetched Dat.blockOf iblk; rfl)
theorem before_3 (c : Dev nD) (t : Fin cfg0.N) (d) : (dat m c).before 3 t d = iblk m c 3 t :=
  ((dat m c).before_in_eq_fetched 3 rfl (fun _ => rfl) (fun _ _ _ => rfl) (fun t => by rw [after_3]; unfold Dat.blockOf iblk; rfl) t d).trans
    (by unfold Dat.fetched Dat.blockOf iblk; rfl)
theorem before_4 (c : Dev nD) (t : Fin cfg0.N) (d) : (dat m c).before 4 t d = iblk m c 4 t :=
  ((dat m c).before_in_eq_fetched 4 rfl (fun _ => rfl) (fun _ _ _ => rfl) (fun t => by rw [after_4]; unfold Dat.blockOf iblk; rfl) t d).trans
    (by unfold Dat.fetched Dat.blockOf iblk; rfl)

theorem owesAt_intro (c : Dev nD) (t : Fin (cfg0.N + 1)) (O : CellTallies nD τ sig Unit) (h0 : (dat m c).owed t = O) (W : Waits sig Unit) :
    (owes (c : Thread nD τ) O W : sProp 𝕄) ⊢ ((dat m c).owesAt () t : sProp 𝕄) := by
  unfold Dat.owesAt Pipeline.owesWithin Dat.bound; rw [h0, show (dat m c).recorded t = Set.univ from rfl]
  iintro HO; iexists W; isplitr; · ipureintro; exact fun _ _ => Or.inl trivial
  iexact HO
theorem owesAt_elim (c : Dev nD) (t : Fin (cfg0.N + 1)) (O : CellTallies nD τ sig Unit) (h0 : (dat m c).owed t = O) :
    ((dat m c).owesAt () t : sProp 𝕄) ⊢ iprop(∃ W, owes (c : Thread nD τ) O W) := by
  unfold Dat.owesAt Pipeline.owesWithin; rw [h0]
  iintro ⟨%W, -, HO⟩; iexists W; iexact HO

theorem owed_first (c : Dev nD) : (dat (F := F) m c).owed t0_0.castSucc = O₀ c := rfl
theorem owed_next (c : Dev nD) : (dat (F := F) m c).owed t0_0.succ = 0 := rfl
theorem Φ_first (c : Dev nD) : (dat (F := F) m c).Φ t0_0.castSucc = Φ₀ m c := rfl
theorem Φ_next (c : Dev nD) : (dat (F := F) m c).Φ t0_0.succ = Φ₁ m c := rfl

/-- What the body leaves, its cells closed. -/
theorem body_closed (c : Dev nD) (f6 : Vec F S2048x1024 .f32) {Q : PUnit → sProp 𝕄} :
    iprop(Xk m c ∗ ow (F := F) c (sigL c 0) ∗ args (inp m) c ∗ pt c cc0_stg5_0 Finset.univ f6 ∗ scr (F := F) c)
      ⊢ iprop(((semVal (barC c) 0 ∗ zeros (F := F) c ∗ ow (F := F) c [] ∗ args (inp m) c
          ∗ pt c cc0_stg5_0 Finset.univ (OUT (inp m) c) ∗ scr (F := F) c) -∗ Q ⟨⟩)
        -∗ wpc c (cc0__body (F := F) a0 g0 a1 g1 a2 g2 a3 g3 a4 g4 a5 g5 a6 g6 a7 g7 a8 g8 a9 g9 a10 g10 a11 g11 a12 g12 cc0_scratch6 cc0_scratch7 cc0_scratch8 cc0_scratch9 cc0_scratch10) Q) := by
  unfold Xk
  iintro ⟨⟨%K, #HR, #HL, Hr, Hp, Hb, Ht, Hc⟩, HO, HA, H6, HS⟩ Hk
  iapply (wp_fupd (Fr := frame) (wpE := wpE (defs₀ (F := F)) 𝒱₀ c none) (E := Set.univ) _ Q)
  iapply (body_whole (inp m) K c f6 (Q := fun a => iprop(|={Set.univ}=> Q a))) $$ [Hr Hp Hb Ht Hc HO HA H6 HS]
  · isplitr; · iexact HR
    isplitr; · iexact HL
    isplitl [Hr]; · iexact Hr
    isplitl [Hp]; · iexact Hp
    isplitl [Hb]; · iexact Hb
    isplitl [Ht]; · iexact Ht
    isplitl [Hc]; · iexact Hc
    isplitl [HO]; · iexact HO
    isplitl [HA]; · iexact HA
    isplitl [H6]; · iexact H6
    iexact HS
  iintro ⟨Hp, Hb, HO, HA, H6, HS⟩
  imod (close_all (inp m) K c) $$ [Hp] with Hz
  · isplitr; · iexact HR
    iexact Hp
  imod (close_bar (inp m) K c) $$ [Hb] with Hb0
  · isplitr; · iexact HR
    iexact Hb
  imodintro
  iapply Hk
  isplitl [Hb0]; · iexact Hb0
  isplitl [Hz]; · iexact Hz
  isplitl [HO]; · iexact HO
  isplitl [HA]; · iexact HA
  isplitl [H6]; · iexact H6
  iexact HS

theorem owns_intro (c : Dev nD) (b : Ref sig .tc) (x : Buf (Elt F) ((c : Thread nD τ).loc b)) :
    (pt c b Finset.univ x : sProp 𝕄) ⊢ owns (c : Thread nD τ) (Memref.whole b) fullShare x := by
  unfold owns
  rw [(Memref.isWhole_whole b).set_eq_univ]
  iintro H
  iexists x
  isplitr; · ipureintro; rfl
  iexact H
theorem owns_elim (c : Dev nD) (b : Ref sig .tc) (x : Buf (Elt F) ((c : Thread nD τ).loc b)) :
    (owns (c : Thread nD τ) (Memref.whole b) fullShare x : sProp 𝕄) ⊢ pt c b Finset.univ x := by
  unfold owns
  rw [(Memref.isWhole_whole b).set_eq_univ]
  iintro ⟨%f, %hf, H⟩
  obtain rfl : f = x := hf
  iexact H

set_option maxHeartbeats 4000000 in
theorem body (c : Dev nD) : BodyObligation (dat (F := F) m c) (defs₀ (F := F)) 𝒱₀ () Set.univ := fun t => by
  obtain rfl := fin_N0 t
  rw [bigSep_W0, bigSep_W0]
  sl_whnfR [defs₀, Defs.onTc]
  simp only [before_0, before_1, before_2, before_3, before_4]
  rw [Φ_first, Φ_next, after_0, after_1, after_2, after_3, after_4, after_5]
  iintro ⟨⟨HX, HS, Hr, HE⟩, Ho, ⟨%d0, H0⟩, ⟨%d1, H1⟩, ⟨%d2, H2⟩, ⟨%d3, H3⟩, ⟨%d4, H4⟩, ⟨%d5, H5⟩⟩
  ihave HO := (owesAt_elim m c _ _ (owed_first m c)) $$ Ho
  ihave H0 := (show owns (c : Thread nD τ) (stage0_0 0) fullShare (iblk m c 0 t0_0) ⊢ (pt c cc0_stg0_0 Finset.univ ((inp m).x c) : sProp 𝕄) from owns_elim c cc0_stg0_0 ((inp m).x c)) $$ H0
  ihave H1 := (show owns (c : Thread nD τ) (stage0_1 0) fullShare (iblk m c 1 t0_0) ⊢ (pt c cc0_stg1_0 Finset.univ ((inp m).rw c) : sProp 𝕄) from owns_elim c cc0_stg1_0 ((inp m).rw c)) $$ H1
  ihave H2 := (show owns (c : Thread nD τ) (stage0_2 0) fullShare (iblk m c 2 t0_0) ⊢ (pt c cc0_stg2_0 Finset.univ ((inp m).ri c) : sProp 𝕄) from owns_elim c cc0_stg2_0 ((inp m).ri c)) $$ H2
  ihave H3 := (show owns (c : Thread nD τ) (stage0_3 0) fullShare (iblk m c 3 t0_0) ⊢ (pt c cc0_stg3_0 Finset.univ ((inp m).sl c) : sProp 𝕄) from owns_elim c cc0_stg3_0 ((inp m).sl c)) $$ H3
  ihave H4 := (show owns (c : Thread nD τ) (stage0_4 0) fullShare (iblk m c 4 t0_0) ⊢ (pt c cc0_stg4_0 Finset.univ ((inp m).sw c) : sProp 𝕄) from owns_elim c cc0_stg4_0 ((inp m).sw c)) $$ H4
  ihave H5 := (show owns (c : Thread nD τ) (stage0_5 0) fullShare ((dat m c).before 5 t0_0 d5) ⊢ (pt c cc0_stg5_0 Finset.univ ((dat m c).before 5 t0_0 d5) : sProp 𝕄) from owns_elim c cc0_stg5_0 ((dat m c).before 5 t0_0 d5)) $$ H5
  iapply (body_closed m c _) $$ [HX HO H0 H1 H2 H3 H4 HE H5 HS]
  · isplitl [HX]; · iexact HX
    isplitl [HO]; · unfold ow; iexact HO
    isplitl [H0 H1 H2 H3 H4 HE]
    · unfold args
      isplitl [H0]; · iexact H0
      isplitl [H1]; · iexact H1
      isplitl [H2]; · iexact H2
      isplitl [H3]; · iexact H3
      isplitl [H4]; · iexact H4
      iexact HE
    isplitl [H5]; · iexact H5
    iexact HS
  unfold args ow
  iintro ⟨Hb, Hz, ⟨%W, HO⟩, ⟨H0, H1, H2, H3, H4, HE⟩, H5, HS⟩
  isplitl [Hb Hz HS Hr HE]
  · isplitl [Hb]; · iexact Hb
    isplitl [Hz]; · iexact Hz
    isplitl [HS]; · iexact HS
    isplitl [Hr]; · iexact Hr
    iexact HE
  isplitl [HO]; · iapply (owesAt_intro m c _ _ (owed_next m c) W); iexact HO
  isplitl [H0]; · iapply (show (pt c cc0_stg0_0 Finset.univ ((inp m).x c) : sProp 𝕄) ⊢ owns (c : Thread nD τ) (stage0_0 0) fullShare (iblk m c 0 t0_0) from owns_intro c cc0_stg0_0 ((inp m).x c)); iexact H0
  isplitl [H1]; · iapply (show (pt c cc0_stg1_0 Finset.univ ((inp m).rw c) : sProp 𝕄) ⊢ owns (c : Thread nD τ) (stage0_1 0) fullShare (iblk m c 1 t0_0) from owns_intro c cc0_stg1_0 ((inp m).rw c)); iexact H1
  isplitl [H2]; · iapply (show (pt c cc0_stg2_0 Finset.univ ((inp m).ri c) : sProp 𝕄) ⊢ owns (c : Thread nD τ) (stage0_2 0) fullShare (iblk m c 2 t0_0) from owns_intro c cc0_stg2_0 ((inp m).ri c)); iexact H2
  isplitl [H3]; · iapply (show (pt c cc0_stg3_0 Finset.univ ((inp m).sl c) : sProp 𝕄) ⊢ owns (c : Thread nD τ) (stage0_3 0) fullShare (iblk m c 3 t0_0) from owns_intro c cc0_stg3_0 ((inp m).sl c)); iexact H3
  isplitl [H4]; · iapply (show (pt c cc0_stg4_0 Finset.univ ((inp m).sw c) : sProp 𝕄) ⊢ owns (c : Thread nD τ) (stage0_4 0) fullShare (iblk m c 4 t0_0) from owns_intro c cc0_stg4_0 ((inp m).sw c)); iexact H4
  iapply (show (pt c cc0_stg5_0 Finset.univ (OUT (inp m) c) : sProp 𝕄) ⊢ owns (c : Thread nD τ) (stage0_5 0) fullShare (OUT (inp m) c) from owns_intro c cc0_stg5_0 (OUT (inp m) c)); iexact H5

end Cert.KernelIdeal.Moe
-- ==== Proof.Segs.lean ====
/-
  The launch: the region's record, @main as segments, the ghost state, the run.
-/
module

public import proofs.«01_k».proof.Proof.Region
public import Idealize.ShloMosaic.Adequacy
public import Idealize.ShloMosaic.Init

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

open Idealize.ShloMosaic.Pipeline (Dat BodyObligation)

variable (m : (ℓ : Loc nD τ sig) → Buf (Elt F) ℓ) (ρ : Dev nD → PrngReg)

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c := fun _ c => dat m c

theorem kitP : Pipeline.PLaunchFacts (nD := nD) (τ := τ) (pcfgs (F := F)) 0 := Gen.launch0.toP
theorem cellOf_inj' : Function.Injective (Pipeline.cellOf (nD := nD) (τ := τ) (Pipeline.pin (pcfgs (F := F)) adm)) := kitP.cellOf_inj adm

/-! ## The buffers between the segments -/

abbrev S₀ : Finset (DevRef τ sig) := Pipeline.ucRefs τ sig
abbrev V0 (c : Dev nD) : Valuation τ sig (Elt F) := fun b => m (c, b)
abbrev V1 (c : Dev nD) : Valuation τ sig (Elt F) := StableHlo.after hostOps0 (V0 m c)
abbrev V2 (c : Dev nD) : Valuation τ sig (Elt F) := StableHlo.after hostOps0_1 (V1 m c)
abbrev V3 (c : Dev nD) : Valuation τ sig (Elt F) := StableHlo.after hostOps0_2 (V2 m c)
abbrev V4 (c : Dev nD) : Valuation τ sig (Elt F) := StableHlo.after hostOps0_3 (V3 m c)
def V5 (c : Dev nD) : Valuation τ sig (Elt F) := StableHlo.after hostOps0_4 (V4 m c)
/-- After the kernel: the result's buffer at the result. -/
def V6 (c : Dev nD) : Valuation τ sig (Elt F) := Function.update (V5 m c) (Proc.devRef .tc main_v19) (OUT (inp m) c)

theorem V5_eq (c : Dev nD) (b : Ref sig .tc) : V5 m c (Proc.devRef .tc b) = V m c b := by
  unfold V5 V
  simp only [List.flatten_cons, List.flatten_nil, List.append_nil, StableHlo.after_append]

theorem V6_res (c : Dev nD) : V6 m c (Proc.devRef .tc main_v19) = OUT (inp m) c := by
  unfold V6; rw [Function.update_self]
theorem V6_of_ne (c : Dev nD) (b : DevRef τ sig) (h : b ≠ Proc.devRef .tc main_v19) : V6 m c b = V5 m c b := by
  unfold V6; rw [Function.update_of_ne h]
theorem V6_arg (c : Dev nD) (b : Ref sig .tc) (h : b ≠ main_v19) : V6 m c (Proc.devRef .tc b) = V m c b :=
  (V6_of_ne m c _ (StableHlo.devRef_ne_of_ne h)).trans (V5_eq m c b)

/-! ## The region's record -/

abbrev Hs : Finset (DevRef τ sig) := {Proc.devRef .tc main_arg3}
abbrev Ar : Finset (DevRef τ sig) := Pipeline.arrRefs (τ := τ) spec0
abbrev Sr : Finset (DevRef τ sig) := S₀ \ Ar

theorem ar_sub : Ar ⊆ S₀ := Pipeline.arrRefs_sub_ucRefs spec0 (by decide)
theorem not_mem_ar {b : Ref sig .tc} (h : ∀ w, Pipeline.arrRef spec0 w ≠ b) : (Proc.devRef .tc b : DevRef τ sig) ∉ Ar := fun hb => by
  obtain ⟨r, hr, e⟩ := Finset.mem_map.mp hb
  obtain ⟨w, -, rfl⟩ := Finset.mem_image.mp hr
  by_cases h' : Pipeline.arrRef spec0 w = b
  · exact h w h'
  · exact StableHlo.devRef_ne_of_ne h' e
theorem hs_sub : Hs ⊆ Sr := fun b hb => by
  rw [Finset.mem_singleton.mp hb]
  exact Finset.mem_sdiff.mpr ⟨Pipeline.devRef_mem_ucRefs (by decide), not_mem_ar (by decide)⟩
theorem res_mem : (Proc.devRef .tc main_v19 : DevRef τ sig) ∈ Ar :=
  Finset.mem_map.mpr ⟨main_v19, Finset.mem_image.mpr ⟨5, Finset.mem_univ _, rfl⟩, rfl⟩

theorem held_hs (c : Dev nD) (W : Valuation τ sig (Elt F)) : (StableHlo.held (c.tc : Thread nD τ) Hs W : sProp 𝕄)
    = pt c main_arg3 Finset.univ (W (Proc.devRef .tc main_arg3)) := by
  unfold StableHlo.held
  rw [BI.bigSep_singleton]

theorem ownSems_eq (c : Dev nD) : (Pipeline.ownSems0 osem c : sProp 𝕄) = zeros c := rfl

def Tk (c : Dev nD) : sProp 𝕄 :=
  iprop((∃ K, recs (inp m) K ∗ atPos ER (barC c) 0 ∅ 0 ∗ opens (F := F) c ∗ toks (F := F) c) ∗ creds (F := F) c)
def Yk (c : Dev nD) : sProp 𝕄 := semVal (barC c) 0

theorem hopen (c : Dev nD) : iprop(Tk m c ∗ Pipeline.ownSems0 osem c ∗ levAts L lv) ⊢ (|={Set.univ}=> Xk m c : sProp 𝕄) := by
  rw [ownSems_eq]
  unfold Tk Xk
  iintro ⟨⟨⟨%K, #HR, Hb, Ho, Ht⟩, Hc⟩, Hz, #HL⟩
  imod (open_all (inp m) K c) $$ [Ho Hz] with ⟨Hp, Hr⟩
  · isplitr; · iexact HR
    isplitl [Ho]; · iexact Ho
    iexact Hz
  imodintro
  iexists K
  isplitr; · iexact HR
  isplitr; · iexact HL
  isplitl [Hr]; · iexact Hr
  isplitl [Hp]; · iexact Hp
  isplitl [Hb]; · iexact Hb
  isplitl [Ht]; · iexact Ht
  iexact Hc

theorem rest_scr (c : Dev nD) : (Pipeline.scopedRest (Ix := Unit) (Name := ℕ) (U := UU) (Lvl := ℕ) (Val := Elt F) (Pipeline.pin (pcfgs (F := F)) adm 0).spec c : sProp 𝕄) = scr c :=
  scopedRest0_eq c

theorem arg3_at (c : Dev nD) : (inp m).ew c = V5 m c (Proc.devRef .tc main_arg3) := (V5_eq m c main_arg3).symm
theorem arg3_at' (c : Dev nD) : V6 m c (Proc.devRef .tc main_arg3) = V5 m c (Proc.devRef .tc main_arg3) :=
  V6_of_ne m c _ (StableHlo.devRef_ne_of_ne (by decide))

theorem hin (c : Dev nD) : iprop(Pipeline.scopedRest (Pipeline.pin (pcfgs (F := F)) adm 0).spec c ∗ (∃ r, prngReg c r) ∗ StableHlo.held (c.tc : Thread nD τ) Hs (V5 m c) ∗ Xk m c)
    ⊢ (pdats m 0 c).Φ 0 := by
  rw [show (pdats m 0 c).Φ 0 = Φ₀ m c from rfl, rest_scr, held_hs]
  unfold Φ₀
  rw [arg3_at]
  iintro ⟨Hs, Hp, He, HX⟩
  isplitl [HX]; · iexact HX
  isplitl [Hs]; · iexact Hs
  isplitl [Hp]; · iexact Hp
  iexact He

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) Hs (V6 m c) ∗ Pipeline.ownSems0 osem c ∗ Yk (F := F) c) := by
  rw [show (pdats m 0 c).Φ (Fin.last _) = Φ₁ m c from rfl, rest_scr, held_hs, arg3_at', ownSems_eq]
  unfold Yk Φ₁
  rw [arg3_at]
  iintro ⟨Hb, Hz, Hs, Hp, He⟩
  isplitl [Hs]; · iexact Hs
  isplitl [Hp]; · iexact Hp
  isplitl [He]; · iexact He
  isplitl [Hz]; · iexact Hz
  iexact Hb

theorem cutD (c : Dev nD) (t : Fin ((Pipeline.pin (pcfgs (F := F)) adm 0).N + 1)) (g : GSem nD τ sig) (i : Unit) (h : 0 < (pdats (F := F) m 0 c).owed t g i) :
    i ∈ L g ∧ (0 : ℕ) < lv g i := by
  have e : (pdats (F := F) m 0 c).owed t = if t.val = 0 then O₀ c else 0 := rfl
  rw [e] at h
  split at h
  · obtain ⟨p, hp, rfl⟩ := sumL_pos h
    have ha := above_sigL c 0 0 (by decide) p hp
    refine ⟨?_, ha.2⟩
    unfold L; rw [if_pos ha.1]; exact Finset.mem_singleton_self _
  · exact absurd h (Nat.lt_irrefl 0)

theorem hW (c : Dev nD) (w : Fin cfg0.W) : (dat m c).arrAt w 0 = V5 m c (Proc.devRef .tc (Pipeline.arrRef spec0 w)) :=
  (V5_eq m c _).symm

theorem hW' (c : Dev nD) (w : Fin cfg0.W) : (dat m c).arrAt w cfg0.N = V6 m c (Proc.devRef .tc (Pipeline.arrRef spec0 w)) := by
  fin_cases w
  · exact ((dat m c).arrAt_in 0 rfl _).trans (V6_arg m c main_arg0 (by decide)).symm
  · exact ((dat m c).arrAt_in 1 rfl _).trans (V6_arg m c main_arg1 (by decide)).symm
  · exact ((dat m c).arrAt_in 2 rfl _).trans (V6_arg m c main_arg2 (by decide)).symm
  · exact ((dat m c).arrAt_in 3 rfl _).trans (V6_arg m c main_v18 (by decide)).symm
  · exact ((dat m c).arrAt_in 4 rfl _).trans (V6_arg m c main_arg4 (by decide)).symm
  · refine Eq.trans ?_ (V6_res m c).symm
    refine Pipeline.Dat.arrAt_eq_of_after_last (dat := dat m c) 5 t0_0 (by decide +kernel) _ fun j => ?_
    rw [after_5]
    rfl

theorem lv_staging (w : Fin cfg0.W) (s : Fin (cfg0.win w).nbuf) : lvS (.dma ((cfg0.win w).sem s)) ≤ 0 := by
  revert w s; decide
theorem share_full (c : Dev nD) (w : Fin cfg0.W) : (dat (F := F) m c).share w = fullShare := by
  unfold Dat.share
  split <;> rfl

local notation "ℝ𝕊" => Pipeline.RegionSeg (pcfgs (F := F)) adm (pdats m) () defs₀ 𝒱₀ L lv
local notation "ℍ" => Pipeline.HostSeg (Name := ℕ) (U := UU) (pcfgs (F := F)) defs₀ 𝒱₀ L lv

set_option backward.isDefEq.respectTransparency.types false in
def reg0 : ℝ𝕊 0 :=
  Pipeline.RegionSeg.ofTalk (pcfgs (F := F)) adm (pdats m) () defs₀ 𝒱₀ L lv 0 osem (by decide : Pipeline.OwnSemFacts spec0 osem)
    Hs Sr hs_sub kitP rfl (fun c => (body m c).loose)
    (fun _ => 0) O₀ (fun c => (zero_add _).symm) (fun _ => rfl) (fun _ => rfl) (share_full m)
    (V5 m) (V6 m) (fun c b hb => V6_of_ne m c b fun e => (Finset.mem_sdiff.mp (Finset.mem_sdiff.mp hb).1).2 (e ▸ res_mem))
    (Tk m) (Yk (F := F)) (Xk m) (Yk (F := F)) (hopen m) (hin m) (hout m)
    (fun c => by iintro H; imodintro; iexact H)
    (fun _ => 0)
    ⟨fun c w s => by rw [L_tc]; exact Finset.mem_singleton_self _, fun c w s => lv_staging w s, fun c t g i h => cutD m c t g i h⟩
    (fun _ => iprop(emp))
    (hW m) (hW' m)

/-- What rides beside the buffers up to the region. -/
def R (c : Dev nD) : sProp 𝕄 := iprop(Tk m c ∗ (∃ r, prngReg c r) ∗ ∃ W, owes (c : Thread nD τ) (O₀ c) W)

theorem sub_of {l : List (HloOp τ sig (Elt F))} (h : l.Forall fun op => op.bufs ⊆ StableHlo.tcRefs τ sig) : ∀ op ∈ l, op.bufs ⊆ S₀ :=
  fun op ho => Pipeline.sub_ucRefs op (List.forall_iff_forall_mem.mp h op ho)

def seg0 : ℍ := Pipeline.HostSeg.ofOps _ _ _ _ _ S₀ hostOps0 (sub_of hostOps0_sub) (List.forall_iff_forall_mem.mp hostOps0_fresh) (V0 m) (R m)
def seg1 : ℍ := Pipeline.HostSeg.ofOps _ _ _ _ _ S₀ hostOps0_1 (sub_of hostOps0_1_sub) (List.forall_iff_forall_mem.mp hostOps0_1_fresh) (V1 m) (R m)
def seg2 : ℍ := Pipeline.HostSeg.ofOps _ _ _ _ _ S₀ hostOps0_2 (sub_of hostOps0_2_sub) (List.forall_iff_forall_mem.mp hostOps0_2_fresh) (V2 m) (R m)
def seg3 : ℍ := Pipeline.HostSeg.ofOps _ _ _ _ _ S₀ hostOps0_3 (sub_of hostOps0_3_sub) (List.forall_iff_forall_mem.mp hostOps0_3_fresh) (V3 m) (R m)
def seg4 : ℍ := Pipeline.HostSeg.ofOps _ _ _ _ _ S₀ hostOps0_4 (sub_of hostOps0_4_sub) (List.forall_iff_forall_mem.mp hostOps0_4_fresh) (V4 m) (R m)

/-- @main as the list. -/
def segs : List (Pipeline.Seg (pcfgs (F := F)) adm (pdats m) () defs₀ 𝒱₀ L lv) :=
  [.host (seg0 m), .host (seg1 m), .host (seg2 m), .host (seg3 m), .host (seg4 m), .region (reg0 m)]

theorem main_eq (c : Dev nD) : main (F := F) c = Pipeline.Seg.run (segs m) := by
  rw [Gen.main_chain, Pipeline.Seg.run_eq_chain]
  rfl

theorem reg0_pre (c : Dev nD) : iprop(StableHlo.held (c : Thread nD τ) S₀ (V5 m c) ∗ R m c) ⊢ (reg0 m).pre c := by
  show _ ⊢ iprop(StableHlo.held (c.tc : Thread nD τ) Ar (V5 m c) ∗ (∃ r, prngReg c r)
    ∗ (StableHlo.held (c.tc : Thread nD τ) Sr (V5 m c) ∗ emp) ∗ Tk m c ∗ ∃ Wd, owes (c : Thread nD τ) (0 + O₀ c) Wd)
  rw [zero_add, StableHlo.held_sub_split (c.tc : Thread nD τ) ar_sub (V5 m c)]
  unfold R
  iintro ⟨⟨Ha, Hh⟩, HT, Hp, HO⟩
  isplitl [Ha]; · iexact Ha
  isplitl [Hp]; · iexact Hp
  isplitl [Hh]
  · isplitl [Hh]; · iexact Hh
    iempintro
  isplitl [HT]; · iexact HT
  iexact HO

theorem reg0_post (c : Dev nD) : (reg0 m).post c
    ⊢ iprop(StableHlo.held (c : Thread nD τ) S₀ (V6 m c) ∗ (semVal (barC c) 0 ∗ ∃ W, owes (c : Thread nD τ) (0 : CellTallies nD τ sig Unit) W)) := by
  show iprop(StableHlo.held (c.tc : Thread nD τ) Ar (V6 m c) ∗ (∃ r, prngReg c r)
    ∗ (StableHlo.held (c.tc : Thread nD τ) Sr (V6 m c) ∗ emp) ∗ Yk (F := F) c ∗ ∃ Wd, owes (c : Thread nD τ) (0 : CellTallies nD τ sig Unit) Wd) ⊢ _
  rw [StableHlo.held_sub_split (c.tc : Thread nD τ) ar_sub (V6 m c)]
  unfold Yk
  iintro ⟨Ha, -, ⟨Hh, -⟩, Hb, HO⟩
  isplitl [Ha Hh]
  · isplitl [Ha]; · iexact Ha
    iexact Hh
  isplitl [Hb]; · iexact Hb
  iexact HO

end Cert.KernelIdeal.Moe
-- ==== Proof.Run.lean ====
/-
  The run of the whole program on the eight devices.
-/
module

public import proofs.«01_k».proof.Proof.Segs

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

open Idealize.ShloMosaic.Pipeline (Dat BodyObligation)

variable (m : (ℓ : Loc nD τ sig) → Buf (Elt F) ℓ) (ρ : Dev nD → PrngReg)

/-- A family of pairs is two families, and back. -/
theorem fam_split {Φ Ψ : Dev nD → sProp 𝕄} :
    (bigSep Finset.univ fun c => iprop(Φ c ∗ Ψ c)) ⊢ iprop(bigSep Finset.univ Φ ∗ bigSep Finset.univ Ψ) :=
  Entails.of_eq (bigSep_sep _ _ _)
theorem fam_join {Φ Ψ : Dev nD → sProp 𝕄} :
    iprop(bigSep Finset.univ Φ ∗ bigSep Finset.univ Ψ) ⊢ (bigSep Finset.univ fun c => iprop(Φ c ∗ Ψ c)) :=
  Entails.of_eq (bigSep_sep _ _ _).symm

/-- The launch element: the staging cells' part, and the protocol's. -/
def u₀ : UU :=
  (initOf (Pipeline.cells (Pipeline.pin (pcfgs (F := F)) adm) cellOf_inj') (Pipeline.launchToks (Pipeline.pin (pcfgs (F := F)) adm) cellOf_inj'),
    launchOf barCells scCells allToks)

/-- The protocol's part, all of it on device 0 until the launch deals it. -/
abbrev seed : sProp 𝕄 := BI.own (ER (launchOf barCells scCells allToks))
def G (c : Dev nD) : sProp 𝕄 := if c = 0 then seed else iprop(emp)
theorem G_all : bigSep Finset.univ (G (F := F)) = seed := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

theorem unscopedSems0_eq (c : Dev nD) : (unscopedSems0 c : sProp 𝕄) = semVal (barC c) 0 := by
  unfold unscopedSems0
  rw [show (Finset.univ.filter fun sm : SemLoc sig => ¬ sm.isScoped .tc) = {SemLoc.reg barS} from by decide, BI.bigSep_singleton]

abbrev T₀ (c : Dev nD) : sProp 𝕄 := iprop(StableHlo.held (c : Thread nD τ) S₀ (V0 m c) ∗ R m c)
abbrev Tₙ (c : Dev nD) : sProp 𝕄 := iprop(StableHlo.held (c : Thread nD τ) S₀ (V6 m c) ∗ semVal (barC c) 0)

/-- A device's share of the ghost state, and of everything else. -/
def linear (c : Dev nD) : sProp 𝕄 := iprop(atPos ER (barC c) 0 ∅ 0 ∗ opens (F := F) c ∗ toks (F := F) c)
def bundle (c : Dev nD) : sProp 𝕄 :=
  iprop(StableHlo.held (c : Thread nD τ) S₀ (V0 m c) ∗ creds (F := F) c ∗ owes (c : Thread nD τ) (O₀ c) ∅ ∗ ∃ r, prngReg c r)

theorem T₀_intro (κ : GSem nD τ sig → ℕ) (c : Dev nD) : iprop(recs (inp m) κ ∗ (linear (F := F) c ∗ bundle m c)) ⊢ T₀ m c := by
  unfold linear bundle T₀ R Tk
  iintro ⟨#HR, ⟨Hb, Ho, Ht⟩, Hh, Hc, HO, Hp⟩
  isplitl [Hh]; · iexact Hh
  isplitl [Hb Ho Ht Hc]
  · isplitl [Hb Ho Ht]
    · iexists κ
      isplitr; · iexact HR
      isplitl [Hb]; · iexact Hb
      isplitl [Ho]; · iexact Ho
      iexact Ht
    iexact Hc
  isplitl [Hp]; · iexact Hp
  iexists ∅; iexact HO

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G (F := F) c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G (F := F) c)
      ⊢ (iprop(bundle m c ∗ (semVal (barC c) 0 ∗ G (F := F) c)) : sProp 𝕄) := by
    rw [show unscopedBufs c (fun b => m ((c : Thread nD τ).loc b)) = StableHlo.held (c : Thread nD τ) S₀ (V0 m c) from Pipeline.unscopedBufs_held c (V0 m c),
      unscopedSems0_eq]
    unfold bundle
    iintro ⟨Hh, Hus, HO, Hcr, Hp, HG⟩
    ihave Hc := (creds_intro (F := F) c) $$ Hcr
    isplitl [Hh Hc HO Hp]
    · isplitl [Hh]; · iexact Hh
      isplitl [Hc]; · iexact Hc
      isplitl [HO]; · iexact HO
      iexists (ρ c); iexact Hp
    isplitl [Hus]; · iexact Hus
    iexact HG
  have hv : bigSep Finset.univ (fun c : Dev nD => (semVal (barC c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G (F := F) c))
      ⊢ (bigSep Finset.univ fun c : Dev nD => iprop(bundle m c ∗ (semVal (barC c) 0 ∗ G (F := F) c)) : sProp 𝕄) from bigSep_mono fun c _ => hcore c) $$ H
  ihave H2 := fam_split $$ H'; icases H2 with ⟨HB, H3⟩
  ihave H4 := fam_split $$ H3; icases H4 with ⟨Hv, HG⟩
  ihave Hu := (show bigSep Finset.univ (G (F := F)) ⊢ seed from Entails.of_eq (G_all (F := F))) $$ HG
  imod (Rounds.fund_launch ER (sched (inp m)) disjoint_cells (fun g _ h => h) allToks) $$ [Hv Hu] with ⟨%κ, -, #Hinv, #Hr, Hat, Hopen, Htok⟩
  · isplitl [Hv]
    · iapply hv $$ Hv
    · iexact Hu
  imodintro
  iapply (bigSep_with_persistent (R := recs (inp m) κ) (Φ := fun c => iprop(linear (F := F) c ∗ bundle m c)) fun c _ => T₀_intro m κ c)
  isplitr
  · iapply (recs_intro (inp m) κ)
    isplitr; · iexact Hinv
    iexact Hr
  iapply fam_join
  isplitr [HB]
  · unfold linear
    iapply fam_join; isplitl [Hat]; · iapply (pos_intro (F := F)) $$ Hat
    iapply fam_join; isplitl [Hopen]; · iapply (opens_intro (F := F)) $$ Hopen
    iapply (toks_intro (F := F)) $$ Htok
  · iexact HB

theorem unscoped_eq : ∀ sm : SemLoc sig, sm.isScoped .tc = false → sm = .reg barS := by decide

theorem res_uc : (Proc.devRef .tc main_v19 : DevRef τ sig) ∈ S₀ := ar_sub res_mem

set_option backward.isDefEq.respectTransparency.types false in
/-- Every execution of @main on the eight devices ends; then every device's result is `OUT`, its arguments are as launched,
    and every semaphore counter is at zero. -/
theorem run_main : θ_run defs (onTc (τ := τ) (main (F := F))) (s₀ m ρ)
    (fun r => (∀ c : Dev nD, r.2.mem ((c.tc : Thread nD τ).loc main_v19) = OUT (inp m) c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) ∧ r.2.sem = fun _ => 0) :=
  Pipeline.θ_run_regions_kit_sems (pcfgs (F := F)) adm (pdats m) () cellOf_inj' EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := by
      refine ⟨fun c => .rfl, fun c => .rfl, fun c => .rfl, fun c => .rfl, fun c => .rfl, fun c => reg0_pre m c, fun c => (reg0_post m c).trans ?_⟩
      show iprop(StableHlo.held (c : Thread nD τ) S₀ (V6 m c)
          ∗ (semVal (barC c) 0 ∗ ∃ W, owes (c : Thread nD τ) (0 : CellTallies nD τ sig Unit) W))
        ⊢ iprop(Tₙ m c ∗ ∃ W, owes (c : Thread nD τ) (0 : CellTallies nD τ sig Unit) W)
      iintro ⟨Hh, Hb0, HO⟩
      isplitr [HO]
      · isplitl [Hh]; · iexact Hh
        iexact Hb0
      · iexact HO)
    (hinit := init m ρ)
    (QY := fun c s => (∀ b ∈ S₀, s.mem (c, b) = V6 m c b) ∧ s.sem (barC c) = 0)
    (hfin := fun c s' => by
      dsimp only [Tₙ]
      iintro ⟨⟨Hh, Hb0⟩, HSI⟩
      icombine HSI Hb0 gives %hb
      ihave H := (pointsTo_read_all S₀ (fun b => ((c : Dev nD), b)) (V6 m c) s') $$ [Hh HSI]
      · isplitl [Hh]
        · unfold StableHlo.held; iexact Hh
        iexact HSI
      icases H with ⟨%hx, HSI⟩
      imodintro
      isplitr
      · ipureintro
        exact ⟨hx, by simpa using hb⟩
      iexact HSI)
    (hQ := fun s h hs => ⟨fun c => by
        have hc := (h c).1
        refine ⟨(hc _ res_uc).trans (V6_res m c),
          (hc _ (Pipeline.devRef_mem_ucRefs (b := main_arg0) (by decide))).trans ((V6_arg m c main_arg0 (by decide)).trans (V_main_arg0 m c)),
          (hc _ (Pipeline.devRef_mem_ucRefs (b := main_arg1) (by decide))).trans ((V6_arg m c main_arg1 (by decide)).trans (V_main_arg1 m c)),
          (hc _ (Pipeline.devRef_mem_ucRefs (b := main_arg2) (by decide))).trans ((V6_arg m c main_arg2 (by decide)).trans (V_main_arg2 m c)),
          (hc _ (Pipeline.devRef_mem_ucRefs (b := main_arg3) (by decide))).trans ((V6_arg m c main_arg3 (by decide)).trans (V_main_arg3 m c)),
          (hc _ (Pipeline.devRef_mem_ucRefs (b := main_arg4) (by decide))).trans ((V6_arg m c main_arg4 (by decide)).trans (V_main_arg4 m c))⟩,
      sem_eq_zero hs fun c sm hsm => by
        obtain rfl := unscoped_eq sm hsm
        exact (h c).2⟩)

end Cert.KernelIdeal.Moe
-- ==== Proof.Frames.lean ====
/-
  The claims that the programs run to the end, leave their arguments as they were and every counter at zero.
-/
module

public import proofs.«01_k».proof.Defs
public import proofs.«01_k».proof.Proof.Run
public import proofs.«01_k».proof.Proof.Gen.Kernel
public import proofs.«01_k».proof.Proof.Gen.ReferenceIdeal
public import proofs.«01_k».proof.Proof.Gen.ReferenceIdeal.Run

@[expose] public section

noncomputable section

namespace Cert.Proof

open Idealize.ShloMosaic Idealize.SL.Sem

/-- The kernel with its floats as extended reals. -/
theorem frame_ideal : Cert.quiescent_KernelIdeal := fun m ρ _ =>
  (θ_run Cert.KernelIdeal.defs _ _).mono (fun _ h => ⟨fun c => (h.1 c).2, h.2⟩) (Cert.KernelIdeal.Moe.run_main (F := Ideal) m ρ)

set_option maxRecDepth 20000 in
/-- The two printings of the kernel have one table of bodies. -/
theorem bodies_same : Cert.Kernel.defs₀ (F := Bits) = Cert.KernelIdeal.defs₀ (F := Bits) := by
  unfold Cert.Kernel.defs₀ Cert.KernelIdeal.defs₀
  refine congrArg Defs.onTc (funext fun l => ?_)
  match l with
  | (0 : Fin 1) =>
    refine funext fun p => ?_
    rcases p with ⟨t, s⟩
    rfl

theorem defs_same : Cert.Kernel.defs (F := Bits) = Cert.KernelIdeal.defs (F := Bits) := by
  unfold Cert.Kernel.defs Cert.KernelIdeal.defs
  exact congrArg (Pipeline.defs _) bodies_same

/-- What the frame claim says, of any table of bodies. -/
def FrameAt (D : Defs Cert.KernelIdeal.nD Cert.KernelIdeal.τ Cert.KernelIdeal.sig (Elt Bits) (Pipeline.Sig Cert.KernelIdeal.Λ₀ (Fin 1) fun p => (Cert.KernelIdeal.pcfgs (F := Bits) p).Adm)) : Prop :=
  ∀ (m : (ℓ : Loc Cert.KernelIdeal.nD Cert.KernelIdeal.τ Cert.KernelIdeal.sig) → Buf (Elt Bits) ℓ) (ρ : Dev Cert.KernelIdeal.nD → PrngReg),
    θ_run D (onTc (τ := Cert.KernelIdeal.τ) (Cert.KernelIdeal.main (F := Bits))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

theorem frame_bits : FrameAt (Cert.KernelIdeal.defs (F := Bits)) := fun m ρ =>
  (θ_run Cert.KernelIdeal.defs _ _).mono (fun _ h => ⟨fun c => (h.1 c).2, h.2⟩) (Cert.KernelIdeal.Moe.run_main (F := Bits) m ρ)

theorem frame_bits' (D : Defs Cert.KernelIdeal.nD Cert.KernelIdeal.τ Cert.KernelIdeal.sig (Elt Bits) (Pipeline.Sig Cert.KernelIdeal.Λ₀ (Fin 1) fun p => (Cert.KernelIdeal.pcfgs (F := Bits) p).Adm))
    (e : D = Cert.KernelIdeal.defs (F := Bits)) : FrameAt D := by subst e; exact frame_bits

/-- The kernel at the chip's own floats. -/
theorem frame_kernel : Cert.quiescent_Kernel := fun m ρ _ => frame_bits' Cert.Kernel.defs defs_same m ρ

/-- The reference: it has no counters. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Plain.lean ====
/-
  Plain mathematics of the layer: the indicator of two equal words, and the softmax probability of an expert.
-/
module

public import Idealize.ShloMosaic.Lib.Pointwise
public import Idealize.ShloMosaic.PureOps.Ideal

@[expose] public section

noncomputable section

namespace Cert.Plain

open Idealize.ShloMosaic

/-- One where the two words are equal, zero elsewhere. -/
def hot (a b : BitVec 32) : EReal := if a = b then 1 else 0

/-- The kernel's way to make the indicator: compare, widen, convert. -/
theorem hot_eq (a b : BitVec 32) :
    (FloatOps.sitofp (F := Ideal) FTy.f32 (BitVec.setWidth 32 (IntOp.cmpi CmpIPredicate.eq a b)) : EReal) = hot a b := by
  show (((BitVec.setWidth 32 (BitVec.ofBool (a == b))).toInt : ℝ) : EReal) = hot a b
  unfold hot
  by_cases h : a = b
  · subst h; simp
  · rw [beq_false_of_ne h, if_neg h]; simp

/-- Small numbers are equal when their words are. -/
theorem ofNat_inj {a b : ℕ} (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl; rfl

/-- A sum with an indicator of one position is the term at that position. -/
theorem sum_pick (e : Fin 64) (f : Fin 64 → EReal) :
    ∑ k : Fin 64, Scalar.select (IntOp.cmpi CmpIPredicate.eq (BitVec.ofNat 32 e.val) (BitVec.ofNat 32 k.val)) (f k) 0 = f e := by
  rw [Finset.sum_eq_single e]
  · show Scalar.select (BitVec.ofBool (_ == _)) _ _ = _
    simp [Scalar.select]
  · intro k _ hk
    have h : BitVec.ofNat 32 e.val ≠ BitVec.ofNat 32 k.val := fun h =>
      hk (Fin.ext ((ofNat_inj (by omega) (by omega)).1 h).symm)
    show Scalar.select (BitVec.ofBool (_ == _)) _ _ = _
    rw [beq_false_of_ne h]
    rfl
  · simp

/-- The exponential of a score less the largest. -/
def gex (s : Fin 64 → EReal) (k : Fin 64) : EReal :=
  Ideal.exp (s k - Finset.fold max (Ideal.ofBits FTy.f32 0xFF800000#32) s Finset.univ)

/-- The softmax probability of expert `e`. -/
def prob (s : Fin 64 → EReal) (e : Fin 64) : EReal := Ideal.div (gex s e) (∑ k, gex s k)

end Cert.Plain
-- ==== Proof.Prob.lean ====
/-
  A softmax probability of finite scores is a nonnegative number, so it moves in and out of a sum.
-/
module

public import proofs.«01_k».proof.Proof.Plain

@[expose] public section

noncomputable section

namespace Cert.Plain

open Idealize.ShloMosaic

/-- A number that is neither infinity. -/
def Fin' (a : EReal) : Prop := ∃ r : ℝ, a = (r : EReal)

theorem fin_mul {a b : EReal} (ha : Fin' a) (hb : Fin' b) : Fin' (a * b) := by
  obtain ⟨r, rfl⟩ := ha; obtain ⟨s, rfl⟩ := hb
  exact ⟨r * s, (EReal.coe_mul r s).symm⟩

theorem fin_sum {α : Type} (s : Finset α) (f : α → EReal) (hf : ∀ a, Fin' (f a)) : Fin' (∑ a ∈ s, f a) := by
  classical
  induction s using Finset.induction_on with
  | empty => exact ⟨0, by simp⟩
  | insert a s ha ih =>
    rw [Finset.sum_insert ha]
    obtain ⟨r, hr⟩ := hf a; obtain ⟨t, ht⟩ := ih
    exact ⟨r + t, by rw [hr, ht]; exact (EReal.coe_add r t).symm⟩

theorem neg_inf : Ideal.ofBits FTy.f32 0xFF800000#32 = (⊥ : EReal) := by
  show Ideal.ieee 8 23 0xFF800000#32 = _
  unfold Ideal.ieee
  simp

/-- The largest of finite scores is one of them. -/
theorem fold_max_mem (s : Fin 64 → EReal) : ∃ k, Finset.fold max (⊥ : EReal) s Finset.univ = s k := by
  obtain ⟨k, _, hk⟩ := Finset.exists_mem_eq_sup Finset.univ Finset.univ_nonempty s
  exact ⟨k, hk⟩

/-- A nonnegative number that is not infinite moves out of a sum. -/
theorem sum_mul_out {α : Type} (t : Finset α) (p : EReal) (h0 : 0 ≤ p) (h1 : p ≠ ⊤) (f : α → EReal) :
    ∑ a ∈ t, p * f a = p * ∑ a ∈ t, f a := by
  classical
  induction t using Finset.induction_on with
  | empty => simp
  | insert a t ha ih =>
    rw [Finset.sum_insert ha, Finset.sum_insert ha, ih, EReal.left_distrib_of_nonneg_of_ne_top h0 h1]

theorem prob_fin (s : Fin 64 → EReal) (hs : ∀ k, Fin' (s k)) (e : Fin 64) : 0 ≤ prob s e ∧ prob s e ≠ ⊤ := by
  obtain ⟨k0, hk0⟩ := fold_max_mem s
  choose r hr using hs
  have hg : ∀ k, gex s k = ((Real.exp (r k - r k0) : ℝ) : EReal) := fun k => by
    unfold gex
    rw [neg_inf, hk0, hr k, hr k0]
    show Ideal.exp (((r k : ℝ) : EReal) - ((r k0 : ℝ) : EReal)) = _
    rw [← EReal.coe_sub]
    rfl
  have hsum : ∑ k, gex s k = ((∑ k, Real.exp (r k - r k0) : ℝ) : EReal) := by
    rw [Finset.sum_congr rfl fun k _ => hg k]
    exact (map_sum (⟨⟨((↑) : ℝ → EReal), EReal.coe_zero⟩, EReal.coe_add⟩ : ℝ →+ EReal) _ _).symm
  have hpos : 0 < ∑ k, Real.exp (r k - r k0) := Finset.sum_pos (fun k _ => Real.exp_pos _) Finset.univ_nonempty
  unfold prob
  rw [hg e, hsum]
  unfold Ideal.div
  rw [if_neg (by exact_mod_cast hpos.ne'), ← EReal.coe_inv, ← EReal.coe_mul]
  exact ⟨by exact_mod_cast mul_nonneg (Real.exp_pos _).le (inv_nonneg.2 hpos.le), EReal.coe_ne_top _⟩

end Cert.Plain
-- ==== Proof.Pre.lean ====
/-
  What the precondition says: the tokens and the router's weights are finite, every token names an expert, and no expert has more than
  64 of a device's tokens.
-/
module

public import proofs.«01_k».proof.Defs
public import proofs.«01_k».proof.Proof.Frames
public import proofs.«01_k».proof.Proof.Prob
public import Idealize.ShloMosaic.Lib.Pointwise
public import Idealize.ShloMosaic.Lib.StableHlo.Predicate

@[expose] public section

set_option maxRecDepth 16384

noncomputable section

namespace Cert.Proof

open Idealize.ShloMosaic Idealize.ShloMosaic.TcCoe Cert.Plain

theorem facts_pre : Cert.Pre_finite_within_capacity_KernelIdeal.Facts where
  bcast_S64_S1x64_1 := by decide
  bcast_S2048x1_S2048x64_0_1 := by decide
  bcast_S1x64_S2048x64_0_1 := by decide
  bcast_S_S2048x512 := by decide
  bcast_S_S512x64 := by decide
  bcast_S_S2048x1 := by decide
  natLt_1_32 := by decide
  reducesTo_S2048x64_S64_d0 := by decide
  h_S_ := by decide
  bcast_S_S64 := by decide

theorem facts_pre_ref : Cert.Pre_finite_within_capacity_ReferenceIdeal.Facts where
  bcast_S64_S1x64_1 := by decide
  bcast_S16384x1_S16384x64_0_1 := by decide
  bcast_S1x64_S16384x64_0_1 := by decide
  bcast_S_S16384x512 := by decide
  bcast_S_S512x64 := by decide
  bcast_S_S16384x1 := by decide
  natLt_1_32 := by decide
  reducesTo_S16384x64_S64_d0 := by decide
  h_S_ := by decide
  bcast_S_S64 := by decide

theorem frame_ideal_pre : Cert.quiescent_KernelIdeal_pre_finite_within_capacity_KernelIdeal
    (hPre_finite_within_capacity_KernelIdeal := facts_pre) := fun m ρ _ => frame_ideal m ρ trivial

theorem frame_ref_pre : Cert.quiescent_ReferenceIdeal_pre_finite_within_capacity_ReferenceIdeal
    (hPre_finite_within_capacity_ReferenceIdeal := facts_pre_ref) := fun m ρ _ => frame_ref m ρ trivial

/-- A number whose absolute value is below infinity is finite. -/
theorem fin_of_abs (a : EReal) (h : Ideal.cmp .olt (max a (-a)) (Ideal.ofBits FTy.f32 0x7F800000#32) = 1#1) : Fin' a := by
  have hi : Ideal.ofBits FTy.f32 0x7F800000#32 = (⊤ : EReal) := by
    show Ideal.ieee 8 23 0x7F800000#32 = _
    unfold Ideal.ieee
    simp
  rw [hi] at h
  induction a using EReal.rec with
  | bot => exfalso; revert h; simp [Ideal.cmp]
  | coe r => exact ⟨r, rfl⟩
  | top => exfalso; revert h; simp [Ideal.cmp]

open Cert.Pre_finite_within_capacity_KernelIdeal in
theorem decode [Facts] (x : FVec Ideal S2048x512 .f32) (rw : FVec Ideal S512x64 .f32) (ri : IVec S2048x1 32)
    (ew : FVec Ideal S8x512x1024 .f32) (sw : FVec Ideal S512x1024 .f32)
    (h1 : (fn x rw ri ew sw).1 = fun _ => 1#1)
    (h2 : (fn x rw ri ew sw).2.1 = fun _ => 1#1)
    (h3 : (fn x rw ri ew sw).2.2.1 = fun _ => 1#1)
    (h4 : (fn x rw ri ew sw).2.2.2.1 = fun _ => 1#1)
    (h5 : (fn x rw ri ew sw).2.2.2.2 = fun _ => 1#1) :
    (∀ i j, Fin' (x (ix2 i j))) ∧ (∀ j k, Fin' (rw (ix2 j k)))
      ∧ ∃ e : Fin 2048 → Fin 64, (∀ p, ri (ix2 p 0) = BitVec.ofNat 32 (e p).val)
        ∧ ∀ k, (Finset.univ.filter fun q : Fin 2048 => e q = k).card ≤ 64 := by
  refine ⟨fun i j => ?_, fun j k => ?_, ?_⟩
  · refine fin_of_abs _ (Eq.trans ?_ (congrFun h1 (ix2 i j)))
    symm
    pointwise [fn, fn_part1]
    rfl
  · refine fin_of_abs _ (Eq.trans ?_ (congrFun h2 (ix2 j k)))
    symm
    pointwise [fn, fn_part1]
    rfl
  · have hge : ∀ p, IntOp.cmpi .sge (ri (ix2 p 0)) 0#32 = 1#1 := fun p => by
      refine Eq.trans ?_ (congrFun h3 (ix2 p 0))
      symm
      pointwise [fn, fn_part1]
    have hlt : ∀ p, IntOp.cmpi .slt (ri (ix2 p 0)) 64#32 = 1#1 := fun p => by
      refine Eq.trans ?_ (congrFun h4 (ix2 p 0))
      symm
      pointwise [fn, fn_part1]
    have hn : ∀ p, (ri (ix2 p 0)).toNat < 64 := fun p => by
      have a : BitVec.ofBool (BitVec.sle 0#32 (ri (ix2 p 0))) = 1#1 := hge p
      have b : BitVec.ofBool (BitVec.slt (ri (ix2 p 0)) 64#32) = 1#1 := hlt p
      rw [StableHlo.Predicate.ofBool_eq_one_iff, BitVec.sle_iff_toInt_le] at a
      rw [StableHlo.Predicate.ofBool_eq_one_iff, BitVec.slt_iff_toInt_lt] at b
      have c : (0#32).toInt = 0 := rfl
      have d : (64#32).toInt = 64 := rfl
      rw [c] at a
      rw [d] at b
      have t := BitVec.toInt_eq_toNat_cond (ri (ix2 p 0))
      have l := (ri (ix2 p 0)).isLt
      split at t <;> omega
    refine ⟨fun p => ⟨(ri (ix2 p 0)).toNat, hn p⟩, fun p => ((BitVec.ofNat_toNat 32 _).trans (BitVec.setWidth_eq _)).symm, fun k => ?_⟩
    have h := congrFun h5 (ix1 k)
    have hc : (Host.reduce IntOp.addi (extui 32 (cmpi .eq (broadcastInDim S2048x64 ![0, 1] Facts.bcast_S2048x1_S2048x64_0_1 ri)
        (broadcastInDim S2048x64 ![0, 1] Facts.bcast_S1x64_S2048x64_0_1 (broadcastInDim S1x64 ![1] Facts.bcast_S64_S1x64_1 (iotaInDim S64 32 0))))
        Facts.natLt_1_32) (constantI S_ 32 0#32) Facts.reducesTo_S2048x64_S64_d0 Facts.h_S_ (ix1 k)).toNat = _ :=
      StableHlo.Predicate.toNat_reduce_count_rows (by decide) _ _ _ _ (ix1 k)
    have hcard : (Finset.univ.filter fun q : Fin 2048 => (⟨(ri (ix2 q 0)).toNat, hn q⟩ : Fin 64) = k).card
        = (Finset.univ.filter fun p : Fin 2048 => cmpi .eq (broadcastInDim S2048x64 ![0, 1] Facts.bcast_S2048x1_S2048x64_0_1 ri)
        (broadcastInDim S2048x64 ![0, 1] Facts.bcast_S1x64_S2048x64_0_1 (broadcastInDim S1x64 ![1] Facts.bcast_S64_S1x64_1 (iotaInDim S64 32 0)))
          (StableHlo.Predicate.ij p k) = 1#1).card := by
      refine congrArg Finset.card (Finset.filter_congr fun q _ => ?_)
      have hi : (StableHlo.Predicate.ij q k : S2048x64.Idx) = ix2 q k := by
        funext b; match b with | ⟨0, _⟩ => rfl | ⟨1, _⟩ => rfl
      have hq : cmpi .eq (broadcastInDim S2048x64 ![0, 1] Facts.bcast_S2048x1_S2048x64_0_1 ri)
        (broadcastInDim S2048x64 ![0, 1] Facts.bcast_S1x64_S2048x64_0_1 (broadcastInDim S1x64 ![1] Facts.bcast_S64_S1x64_1 (iotaInDim S64 32 0)))
          (ix2 q k) = IntOp.cmpi .eq (ri (ix2 q 0)) (BitVec.ofNat 32 k.val) := by
        pointwise
      rw [hi, hq, StableHlo.Predicate.cmpi_eq_iff]
      have hk := k.isLt
      constructor
      · intro e
        rw [← e]
        exact ((BitVec.ofNat_toNat 32 _).trans (BitVec.setWidth_eq _)).symm
      · intro e
        refine Fin.ext ?_
        show (ri (ix2 q 0)).toNat = k.val
        rw [e, BitVec.toNat_ofNat]
        omega
    refine le_of_eq_of_le (hcard.trans hc.symm) ?_
    have hs : ∀ R : IVec S64 32, cmpi .sle R (broadcastInDim S64 ![] Facts.bcast_S_S64 (constantI S_ 32 64#32)) (ix1 k)
        = IntOp.cmpi .sle (R (ix1 k)) 64#32 := fun R => by pointwise
    dsimp only [fn, fn_part1] at h
    rw [hs] at h
    refine (StableHlo.Predicate.sle_iff_toNat ?_ (by decide)).1 h
    rw [hc]
    exact lt_of_le_of_lt (Finset.card_le_univ _) (by simp)

end Cert.Proof
-- ==== Proof.PayA.lean ====
/-
  The kernel's computations at the extended reals, read at an index.
-/
module

public import proofs.«01_k».proof.Proof.Data
public import proofs.«01_k».proof.Proof.Plain
public import Idealize.ShloMosaic.Lib.Pointwise

@[expose] public section

set_option maxRecDepth 16384

noncomputable section

namespace Cert.KernelIdeal.Moe

open Idealize.ShloMosaic Idealize.ShloMosaic.TcCoe
open Cert.KernelIdeal Cert.KernelIdeal.Gen Cert.Plain

theorem dispG_at (w : BitVec 32) (xs : FVec Ideal S2048x512 .bf16) (sl : IVec S2048x1 32) (e : Fin 8) (r : Fin 64) (j : Fin 512) :
    dispG (F := Ideal) w xs sl (ix4 (0 : Fin 1) e r j)
      = ∑ p : Fin 2048, hot (sl (ix2 p (0 : Fin 1))) (BitVec.ofNat 32 (e.val * 64 + r.val) + w * 512#32) * xs (ix2 p j) := by
  pointwise [dispG]
  exact Finset.sum_congr rfl fun p _ => congrArg (· * xs (ix2 p j)) (hot_eq _ _)

theorem combG_at (w : BitVec 32) (rb : FVec Ideal S1x8x64x1024 .bf16) (sl : IVec S512x1 32) (prev : FVec Ideal S512x1024 .f32) (i : Fin 512) (o : Fin 1024) :
    combG (F := Ideal) w rb sl prev (ix2 i o)
      = prev (ix2 i o) + ∑ q : Fin 512, hot (sl (ix2 i (0 : Fin 1))) (BitVec.ofNat 32 q.val + w * 512#32)
          * rb (ix4 (0 : Fin 1) (⟨q.val / 64, by omega⟩ : Fin 8) (⟨q.val % 64, by omega⟩ : Fin 64) o) := by
  pointwise [combG]
  exact congrArg (prev (ix2 i o) + ·) (Finset.sum_congr rfl fun q _ => congrArg (· * _) (hot_eq _ _))

theorem sharedG_at (xb : FVec Ideal S512x512 .f32) (w : FVec Ideal S512x1024 .f32) (i : Fin 512) (o : Fin 1024) :
    sharedG (F := Ideal) xb w (ix2 i o) = ∑ j : Fin 512, xb (ix2 i j) * w (ix2 j o) := by
  pointwise [sharedG, k0_pay11]

theorem expG_at (r : FVec Ideal S8x1x64x512 .bf16) (w : FVec Ideal S1x512x1024 .f32) (d : Fin 8) (t : Fin 64) (o : Fin 1024) :
    expG (F := Ideal) r w (ix4 d (0 : Fin 1) t o) = ∑ j : Fin 512, r (ix4 d (0 : Fin 1) t j) * w (ix3 (0 : Fin 1) j o) := by
  pointwise [expG, k0_pay16]

/-- A scaled row: the token times the probability of its expert. -/
theorem scaled_at (x : FVec Ideal S2048x512 .f32) (rw : FVec Ideal S512x64 .f32) (ri : IVec S2048x1 32) (i : Fin 2048) (j : Fin 512)
    (e : Fin 64) (he : ri (ix2 i (0 : Fin 1)) = BitVec.ofNat 32 e.val) :
    k0_pay1 (F := Ideal) x rw ri x (ix2 i j)
      = x (ix2 i j) * prob (fun k => ∑ j : Fin 512, x (ix2 i j) * rw (ix2 j k)) e := by
  pointwise [k0_pay1]
  rw [he]
  exact congrArg (x (ix2 i j) * Ideal.div · _) (sum_pick e _)

end Cert.KernelIdeal.Moe
-- ==== Proof.HostVals.lean ====
/-
  What the kernel call finds: the arguments as launched, and the slot of every token as the operations before it compute it.
-/
module

public import proofs.«01_k».proof.Proof.Region
public import Idealize.ShloMosaic.Lib.StableHlo.Run
public import Idealize.ShloMosaic.Lib.Pipeline.ValueKit.Point

@[expose] public section

set_option maxRecDepth 16384

noncomputable section

namespace Cert.KernelIdeal.Moe

open Idealize.ShloMosaic Idealize.ShloMosaic.TcCoe
open Cert.KernelIdeal Cert.KernelIdeal.Gen

variable {F : FTy → Type} [FloatOps F]
variable (m : (ℓ : Loc nD τ sig) → Buf (Elt F) ℓ)

/-- Which expert a token has, by token and expert. -/
def isExp (ri : IVec S2048x1 32) : IVec S2048x64 1 :=
  cmpi .eq (broadcastInDim S2048x64 ![0, 1] bcast_S2048x1_S2048x64_0_1 ri)
    (broadcastInDim S2048x64 ![0, 1] bcast_S1x64_S2048x64_0_1 (broadcastInDim S1x64 ![1] bcast_S64_S1x64_1 (iotaInDim S64 32 0)))

/-- The number of tokens up to a token that have an expert. -/
def runCount (ri : IVec S2048x1 32) : IVec S2048x64 32 :=
  Host.reduceWindow IntOp.addi ![2048, 1] ![1, 1] ![2047, 0] ![0, 0] (extui 32 (isExp ri) natLt_1_32)
    (broadcastInDim S_ ![] bcast_S_S_ (constantI S_ 32 0#32)) reduceWindows_S2048x64_S2048x64_w2048s1p2047_0_w1s1p0_0 h_S_

/-- The place of a token among the tokens of its expert. -/
def place (ri : IVec S2048x1 32) : IVec S2048 32 :=
  subi (Host.reduce IntOp.addi (select (isExp ri) (runCount ri) (broadcastInDim S2048x64 ![] bcast_S_S2048x64 (constantI S_ 32 0#32)))
    (constantI S_ 32 0#32) reducesTo_S2048x64_S2048_d1 h_S_) (broadcastInDim S2048 ![] bcast_S_S2048 (constantI S_ 32 1#32))

/-- The slot of every token. -/
def slots (ri : IVec S2048x1 32) : IVec S2048x1 32 :=
  broadcastInDim S2048x1 ![0] bcast_S2048_S2048x1_0
    (addi (muli (shapeCast S2048 ri shapeCasts_S2048x1_S2048) (broadcastInDim S2048 ![] bcast_S_S2048 (constantI S_ 32 64#32)))
      (minsi (place ri) (broadcastInDim S2048 ![] bcast_S_S2048 (constantI S_ 32 63#32))))

theorem V_slots (c : Dev nD) : V m c main_v18 = slots (m ((c : Thread nD τ).loc main_arg2)) := by
  show StableHlo.after _ _ (Proc.devRef .tc main_v18) = _
  simp only [hostOps0, hostOps0_1, hostOps0_2, hostOps0_3, hostOps0_4, List.flatten_cons, List.flatten_nil, List.append_nil, List.cons_append,
      List.nil_append]
  after_results_simp
  simp only [StableHlo.TRef.toBuf, StableHlo.TRef.ofBuf, cast_cast, cast_eq, id, slots, place, runCount, isExp]
  rfl

theorem idx0 (a : Fin 2) : win0_0.index t0_0 a = 0 := rfl
theorem idx1 (a : Fin 2) : win0_1.index t0_0 a = 0 := rfl
theorem idx2 (a : Fin 2) : win0_2.index t0_0 a = 0 := rfl
theorem idx3 (a : Fin 2) : win0_3.index t0_0 a = 0 := rfl
theorem idx4 (a : Fin 2) : win0_4.index t0_0 a = 0 := rfl
theorem inp_x (c : Dev nD) : (inp m).x c = m ((c : Thread nD τ).loc main_arg0) := by
  show iblk m c 0 t0_0 = _
  rw [← V_main_arg0 m c]
  blk_ext! [iblk, idx0]
theorem inp_rw (c : Dev nD) : (inp m).rw c = m ((c : Thread nD τ).loc main_arg1) := by
  show iblk m c 1 t0_0 = _
  rw [← V_main_arg1 m c]
  blk_ext! [iblk, idx1]
theorem inp_ri (c : Dev nD) : (inp m).ri c = m ((c : Thread nD τ).loc main_arg2) := by
  show iblk m c 2 t0_0 = _
  rw [← V_main_arg2 m c]
  blk_ext! [iblk, idx2]
theorem inp_sw (c : Dev nD) : (inp m).sw c = m ((c : Thread nD τ).loc main_arg4) := by
  show iblk m c 4 t0_0 = _
  rw [← V_main_arg4 m c]
  blk_ext! [iblk, idx4]
theorem inp_sl (c : Dev nD) : (inp m).sl c = slots (m ((c : Thread nD τ).loc main_arg2)) := by
  show iblk m c 3 t0_0 = _
  rw [← V_slots m c]
  blk_ext! [iblk, idx3]
theorem inp_ew (c : Dev nD) : (inp m).ew c = m ((c : Thread nD τ).loc main_arg3) := V_main_arg3 m c

end Cert.KernelIdeal.Moe
-- ==== Proof.Slots.lean ====
/-
  The slot of a token as a number: 64 times its expert, plus the number of earlier tokens of the same expert. While no expert has more
  than 64 tokens, no two tokens have the same slot, and the slot tells the expert.
-/
module

public import proofs.«01_k».proof.Proof.HostVals
public import proofs.«01_k».proof.Proof.Plain
public import Idealize.ShloMosaic.Lib.Pointwise
public import Idealize.ShloMosaic.Lib.StableHlo.Predicate

@[expose] public section

set_option maxRecDepth 16384

noncomputable section

namespace Cert.KernelIdeal.Moe

open Idealize.ShloMosaic Idealize.ShloMosaic.TcCoe
open Cert.KernelIdeal Cert.KernelIdeal.Gen Cert.Plain

/-- A list's fold of word additions of small numbers is the word of their sum. -/
theorem foldl_words {α : Type} (f : α → BitVec 32) (h : α → ℕ) (hf : ∀ a, f a = BitVec.ofNat 32 (h a)) (l : List α) (s : ℕ) :
    l.foldl (fun r n => IntOp.addi r (f n)) (BitVec.ofNat 32 s) = BitVec.ofNat 32 (s + (l.map h).sum) := by
  induction l generalizing s with
  | nil => simp
  | cons a l ih =>
    rw [List.foldl_cons, hf a]
    show List.foldl _ (BitVec.ofNat 32 s + BitVec.ofNat 32 (h a)) l = _
    rw [← BitVec.ofNat_add, ih, List.map_cons, List.sum_cons, Nat.add_assoc]

/-- The same for a fold over a finite set. -/
theorem fold_words {α : Type} [DecidableEq α] (f : α → BitVec 32) (h : α → ℕ) (hf : ∀ a, f a = BitVec.ofNat 32 (h a)) (s : Finset α) :
    Finset.fold IntOp.addi 0#32 f s = BitVec.ofNat 32 (∑ a ∈ s, h a) := by
  induction s using Finset.induction_on with
  | empty => rfl
  | insert a s ha ih =>
    rw [Finset.fold_insert ha, ih, hf a, Finset.sum_insert ha]
    exact (BitVec.ofNat_add _ _).symm

/-- The number of tokens up to `p` whose expert is `k`. -/
def cnt (e : Fin 2048 → Fin 64) (p : Fin 2048) (k : Fin 64) : ℕ := (Finset.univ.filter fun q : Fin 2048 => q ≤ p ∧ e q = k).card

theorem cnt_pos (e : Fin 2048 → Fin 64) (p : Fin 2048) : 1 ≤ cnt e p (e p) :=
  Finset.card_pos.2 ⟨p, Finset.mem_filter.2 ⟨Finset.mem_univ _, le_refl _, rfl⟩⟩

theorem cnt_le (e : Fin 2048 → Fin 64) (hcap : ∀ k, (Finset.univ.filter fun q : Fin 2048 => e q = k).card ≤ 64) (p : Fin 2048) (k : Fin 64) :
    cnt e p k ≤ 64 :=
  (Finset.card_le_card fun _ hq => Finset.mem_filter.2 ⟨Finset.mem_univ _, (Finset.mem_filter.1 hq).2.2⟩).trans (hcap k)

theorem cnt_lt (e : Fin 2048 → Fin 64) (q p : Fin 2048) (h : q < p) : cnt e q (e p) < cnt e p (e p) := by
  refine Finset.card_lt_card ⟨fun r hr => ?_, fun hs => ?_⟩
  · have := (Finset.mem_filter.1 hr).2
    exact Finset.mem_filter.2 ⟨Finset.mem_univ _, this.1.trans h.le, this.2⟩
  · have := (Finset.mem_filter.1 (hs (Finset.mem_filter.2 ⟨Finset.mem_univ _, le_refl _, rfl⟩))).2.1
    exact absurd h (not_lt.2 this)

/-- The slot of token `p` as a number. -/
def slotN (e : Fin 2048 → Fin 64) (p : Fin 2048) : ℕ := (e p).val * 64 + (cnt e p (e p) - 1)

section
variable (e : Fin 2048 → Fin 64) (hcap : ∀ k, (Finset.univ.filter fun q : Fin 2048 => e q = k).card ≤ 64)
include hcap

theorem slotN_div (p : Fin 2048) : slotN e p / 64 = (e p).val := by
  have := cnt_le e hcap p (e p); have := cnt_pos e p
  unfold slotN; omega

theorem slotN_lt (p : Fin 2048) : slotN e p < 4096 := by
  have := cnt_le e hcap p (e p); have := cnt_pos e p
  unfold slotN; omega

theorem slotN_inj (p q : Fin 2048) (h : slotN e p = slotN e q) : p = q := by
  have he : e p = e q := Fin.ext (by rw [← slotN_div e hcap p, ← slotN_div e hcap q, h])
  have h1 := cnt_pos e p; have h2 := cnt_pos e q
  unfold slotN at h
  rcases lt_trichotomy p q with hl | hl | hl
  · have := cnt_lt e p q hl; rw [he] at h h1; omega
  · exact hl
  · have := cnt_lt e q p hl; rw [← he] at h h2; omega

end

section
variable (ri : IVec S2048x1 32) (e : Fin 2048 → Fin 64) (he : ∀ p, ri (ix2 p 0) = BitVec.ofNat 32 (e p).val)
include he

theorem isExp_at (p : Fin 2048) (k : Fin 64) : isExp ri (ix2 p k) = if e p = k then 1#1 else 0#1 := by
  have h : isExp ri (ix2 p k) = IntOp.cmpi .eq (ri (ix2 p 0)) (BitVec.ofNat 32 k.val) := by
    pointwise [isExp]
  rw [h, he p]
  show BitVec.ofBool (_ == _) = _
  by_cases hk : e p = k
  · subst hk; simp
  · have hn : BitVec.ofNat 32 (e p).val ≠ BitVec.ofNat 32 k.val := fun h =>
      hk (Fin.ext ((ofNat_inj (by omega) (by omega)).1 h))
    rw [beq_false_of_ne hn, if_neg hk]; rfl

theorem runCount_at (p : Fin 2048) (k : Fin 64) : runCount ri (ix2 p k) = BitVec.ofNat 32 (cnt e p k) := by
  classical
  unfold runCount Host.reduceWindow
  pointwise
  have hb : ∀ w : (⟨2, ![2048, 1]⟩ : Shape).Idx, p.val + (w 0).val - 2047 < 2048 := fun w => by
    have h0 : (w 0).val < 2048 := (w 0).isLt
    omega
  refine (foldl_words _ (fun n => if 2047 ≤ p.val + ((⟨2, ![2048, 1]⟩ : Shape).rowMajor.symm n 0).val
      ∧ e ⟨p.val + ((⟨2, ![2048, 1]⟩ : Shape).rowMajor.symm n 0).val - 2047, hb _⟩ = k then 1 else 0) (fun n => ?_) _ 0).trans ?_
  · have hi : ∀ (w : (⟨2, ![2048, 1]⟩ : Shape).Idx)
        (hlt : ∀ a : Fin 2, (ix2 p k a).val * (![1, 1] : Fin 2 → ℕ) a + (w a).val - (![2047, 0] : Fin 2 → ℕ) a < S2048x64.size a), 2047 ≤ p.val + (w 0).val →
        (fun a => ⟨(ix2 p k a).val * (![1, 1] : Fin 2 → ℕ) a + (w a).val - (![2047, 0] : Fin 2 → ℕ) a, hlt a⟩ : S2048x64.Idx)
          = ix2 (⟨p.val + (w 0).val - 2047, hb w⟩ : Fin 2048) k := fun w hlt hw => by
      funext a
      refine Fin.ext ?_
      match a with
      | ⟨0, _⟩ => show p.val * 1 + (w 0).val - 2047 = p.val + (w 0).val - 2047; omega
      | ⟨1, _⟩ =>
        have h1 : (w 1).val < 1 := (w 1).isLt
        show k.val * 1 + (w 1).val - 0 = k.val
        omega
    by_cases hw : 2047 ≤ p.val + ((⟨2, ![2048, 1]⟩ : Shape).rowMajor.symm n 0).val
    · refine (dif_pos ⟨hw, hb _⟩).trans ?_
      refine (congrArg (fun i => BitVec.setWidth 32 (isExp ri i)) (hi _ _ hw)).trans ?_
      dsimp only
      rw [isExp_at ri e he]
      by_cases hk : e ⟨p.val + ((⟨2, ![2048, 1]⟩ : Shape).rowMajor.symm n 0).val - 2047, hb _⟩ = k
      · rw [if_pos hk, if_pos ⟨hw, hk⟩]; rfl
      · rw [if_neg hk, if_neg fun h => hk h.2]; rfl
    · exact (dif_neg fun h => hw h.1).trans (by rw [if_neg fun h => hw h.1])
  · rw [Nat.zero_add, ← Fin.sum_univ_def, Equiv.sum_comp (⟨2, ![2048, 1]⟩ : Shape).rowMajor.symm
      (fun w : (⟨2, ![2048, 1]⟩ : Shape).Idx => if 2047 ≤ p.val + (w 0).val ∧ e ⟨p.val + (w 0).val - 2047, hb w⟩ = k then 1 else 0),
      ← Finset.card_filter]
    refine congrArg _ (Finset.card_bij' (fun w _ => (⟨p.val + (w 0).val - 2047, hb w⟩ : Fin 2048))
      (fun q hq => (ix2 (⟨2047 + q.val - p.val, by
          have := (Finset.mem_filter.1 hq).2.1
          have h' : q.val ≤ p.val := this
          omega⟩ : Fin 2048) (0 : Fin 1) : (⟨2, ![2048, 1]⟩ : Shape).Idx)) ?_ ?_ ?_ ?_)
    · intro w hw
      have h := (Finset.mem_filter.1 hw).2
      refine Finset.mem_filter.2 ⟨Finset.mem_univ _, ?_, h.2⟩
      have h0 : (w 0).val < 2048 := (w 0).isLt
      show p.val + (w 0).val - 2047 ≤ p.val
      omega
    · intro q hq
      have h := (Finset.mem_filter.1 hq).2
      have h' : q.val ≤ p.val := h.1
      refine Finset.mem_filter.2 ⟨Finset.mem_univ _, ?_, ?_⟩
      · show 2047 ≤ p.val + (2047 + q.val - p.val)
        omega
      · refine (congrArg e (Fin.ext ?_)).trans h.2
        show p.val + (2047 + q.val - p.val) - 2047 = q.val
        omega
    · intro w hw
      have h := (Finset.mem_filter.1 hw).2.1
      have h1 : (w 1).val < 1 := (w 1).isLt
      funext a
      refine Fin.ext ?_
      match a with
      | ⟨0, _⟩ => show 2047 + (p.val + (w 0).val - 2047) - p.val = (w 0).val; omega
      | ⟨1, _⟩ => show 0 = (w 1).val; omega
    · intro q hq
      have h : q.val ≤ p.val := (Finset.mem_filter.1 hq).2.1
      refine Fin.ext ?_
      show p.val + (2047 + q.val - p.val) - 2047 = q.val
      omega

theorem place_at (p : Fin 2048) : place ri (ix1 p) = BitVec.ofNat 32 (cnt e p (e p) - 1) := by
  pointwise [place]
  rw [fold_words _ (fun k => if k = e p then cnt e p (e p) else 0) (fun k => ?_)]
  · rw [Finset.sum_ite_eq' Finset.univ (e p) (fun _ => cnt e p (e p)), if_pos (Finset.mem_univ _)]
    obtain ⟨c, hc⟩ : ∃ c, cnt e p (e p) = c + 1 := ⟨cnt e p (e p) - 1, by have := cnt_pos e p; omega⟩
    rw [hc]
    show BitVec.ofNat 32 (c + 1) - 1#32 = BitVec.ofNat 32 (c + 1 - 1)
    rw [BitVec.ofNat_add, BitVec.add_sub_cancel, Nat.add_sub_cancel]
  · rw [isExp_at ri e he]
    by_cases hk : k = e p
    · subst hk; rw [if_pos rfl, if_pos rfl, runCount_at ri e he]; rfl
    · rw [if_neg (Ne.symm hk), if_neg hk]; rfl

theorem slots_at (hcap : ∀ k, (Finset.univ.filter fun q : Fin 2048 => e q = k).card ≤ 64) (p : Fin 2048) :
    slots ri (ix2 p 0) = BitVec.ofNat 32 (slotN e p) := by
  have h1 := cnt_le e hcap p (e p)
  have h : slots ri (ix2 p 0) = IntOp.addi (IntOp.muli (ri (ix2 p 0)) 64#32) (IntOp.minsi (place ri (ix1 p)) 63#32) := by
    pointwise [slots]
  have hm : ∀ n, n < 64 → IntOp.minsi (BitVec.ofNat 32 n) 63#32 = BitVec.ofNat 32 n := by decide
  rw [h, he p, place_at ri e he, hm _ (by omega)]
  show BitVec.ofNat 32 (e p).val * BitVec.ofNat 32 64 + _ = _
  rw [← BitVec.ofNat_mul, ← BitVec.ofNat_add]
  rfl

end

end Cert.KernelIdeal.Moe
-- ==== Proof.Sums.lean ====
/-
  The output of a device at a token: the shared expert's product, and the product of the token's scaled row with its own expert's weights.
  Every one-hot product picks the one row that the token's slot names.
-/
module

public import proofs.«01_k».proof.Proof.PayA
public import proofs.«01_k».proof.Proof.Slots
public import proofs.«01_k».proof.Proof.Data

@[expose] public section

set_option maxRecDepth 16384

noncomputable section

namespace Cert.KernelIdeal.Moe

open Idealize.ShloMosaic Idealize.ShloMosaic.TcCoe
open Cert.KernelIdeal Cert.KernelIdeal.Gen Cert.Plain

theorem i1x512_eq (e : Fin 8) (r : Fin 64) (j : Fin 512) : i1x512 e r j = ix4 (0 : Fin 1) e r j := by
  funext a; match a with | 0 => rfl | 1 => rfl | 2 => rfl | 3 => rfl
theorem iE_eq (d : Fin 8) (r : Fin 64) (o : Fin 1024) : iE d r o = ix4 d (0 : Fin 1) r o := by
  funext a; match a with | 0 => rfl | 1 => rfl | 2 => rfl | 3 => rfl
theorem iW_eq (e : Fin 8) (j : Fin 512) (o : Fin 1024) : iW e j o = ix3 e j o := by
  funext a; match a with | 0 => rfl | 1 => rfl | 2 => rfl
theorem iO_eq (i : Fin 512) (o : Fin 1024) : iO i o = ix2 i o := by
  funext a; match a with | 0 => rfl | 1 => rfl

/-- The word of a place among the slots of a device. -/
theorem word_slot (n d : ℕ) : BitVec.ofNat 32 n + BitVec.ofNat 32 d * 512#32 = BitVec.ofNat 32 (n + d * 512) := by
  rw [BitVec.ofNat_add, BitVec.ofNat_mul]

theorem hot_self (a : BitVec 32) (x : EReal) : hot a a * x = x := by
  unfold hot; rw [if_pos rfl, one_mul]
theorem hot_ne {m n : ℕ} (hm : m < 2 ^ 32) (hn : n < 2 ^ 32) (h : m ≠ n) (x : EReal) :
    hot (BitVec.ofNat 32 m) (BitVec.ofNat 32 n) * x = 0 := by
  unfold hot; rw [if_neg fun e => h ((ofNat_inj hm hn).1 e), zero_mul]

theorem dev_back (c d : Fin 8) : c + (d - c) = d := by revert c d; decide
theorem dev_step (c d n : Fin 8) : c - n = d ↔ c - d = n := by revert c d n; decide

variable (I : Inp Ideal) (e : Dev nD → Fin 2048 → Fin 64)
variable (hcap : ∀ c k, (Finset.univ.filter fun q : Fin 2048 => e c q = k).card ≤ 64)
variable (hsl : ∀ c p, I.sl c (ix2 p (0 : Fin 1)) = BitVec.ofNat 32 (slotN (e c) p))
include hcap hsl

/-- A row sent is the scaled row of the token whose slot it is. -/
theorem disp_pick (c : Dev nD) (k : Fin 8) (p : Fin 2048) (el : Fin 8) (r : Fin 64) (j : Fin 512)
    (h : slotN (e c) p = el.val * 64 + r.val + (c + k : Fin 8).val * 512) :
    DISP I c k (i1x512 el r j) = XS I c (ix2 p j) := by
  unfold DISP wUp
  rw [i1x512_eq, dispG_at, word_slot, ← h]
  rw [Finset.sum_eq_single p]
  · rw [hsl, hot_self]
  · intro q _ hq
    have h1 := slotN_lt (e c) (hcap c) p
    have h2 := slotN_lt (e c) (hcap c) q
    rw [hsl, hot_ne (by omega) (by omega) fun he => hq (slotN_inj (e c) (hcap c) q p he)]
  · simp

/-- A row received is the scaled row of the sender's token whose slot it is. -/
theorem recv_pick (c d : Dev nD) (p : Fin 2048) (el : Fin 8) (r : Fin 64) (j : Fin 512)
    (h : slotN (e c) p = el.val * 64 + r.val + d.val * 512) :
    RECV I d (i8x512 c el r j) = XS I c (ix2 p j) := by
  show DISP I c (d - c : Fin 8) (i1x512 el r j) = _
  exact disp_pick I e hcap hsl c _ p el r j (by rw [dev_back]; exact h)

/-- A result received is the product of the token's scaled row and its expert's weights. -/
theorem res_pick (c d : Dev nD) (p : Fin 2048) (el : Fin 8) (r : Fin 64) (o : Fin 1024)
    (h : slotN (e c) p = el.val * 64 + r.val + d.val * 512) :
    RES I c (i8x1024 d el r o) = ∑ j : Fin 512, XS I c (ix2 p j) * I.ew d (ix3 el j o) := by
  show expG (rowsE I d el) (wtsE I d el) (iE c r o) = _
  rw [iE_eq, expG_at]
  refine Finset.sum_congr rfl fun j _ => ?_
  have h1 : rowsE I d el (ix4 c (0 : Fin 1) r j) = XS I c (ix2 p j) := recv_pick I e hcap hsl c d p el r j h
  have h2 : wtsE I d el (ix3 (0 : Fin 1) j o) = I.ew d (ix3 el j o) := congrArg (I.ew d) (iW_eq el j o)
  rw [h1, h2]

/-- What a device adds for the results of device `c - n`: the token's product when its expert is there, zero otherwise. -/
theorem comb_pick (c : Dev nD) (b : Fin 4) (n : Fin 8) (prev : FVec Ideal S512x1024 .f32) (i : Fin 512) (o : Fin 1024)
    (p : Fin 2048) (hp : p.val = 512 * b.val + i.val) (d : Dev nD) (el : Fin 8) (r : Fin 64)
    (h : slotN (e c) p = el.val * 64 + r.val + d.val * 512) :
    combG (wDn c n) (resB I c (c - n : Fin 8)) (slRow I c b) prev (ix2 i o)
      = prev (ix2 i o) + if (c - d : Fin 8) = n then ∑ j : Fin 512, XS I c (ix2 p j) * I.ew d (ix3 el j o) else 0 := by
  unfold wDn
  have hs : slRow I c b (ix2 i (0 : Fin 1)) = BitVec.ofNat 32 (slotN (e c) p) := by
    rw [← hsl c p]
    refine congrArg (I.sl c) ?_
    funext a
    match a with
    | 0 => exact Fin.ext hp.symm
    | 1 => rfl
  rw [combG_at, hs]
  refine congrArg (prev (ix2 i o) + ·) ?_
  have hlt := slotN_lt (e c) (hcap c) p
  by_cases hd : (c - d : Fin 8) = n
  · rw [if_pos hd]
    have hd' : (c - n : Fin 8) = d := (dev_step c d n).2 hd
    rw [hd', Finset.sum_eq_single (⟨el.val * 64 + r.val, by omega⟩ : Fin 512)]
    · rw [word_slot, ← h, hot_self]
      refine Eq.trans ?_ (res_pick I e hcap hsl c d p el r o h)
      show RES I c (i8x1024 d _ _ o) = _
      congr 2
      · exact Fin.ext (by show (el.val * 64 + r.val) / 64 = el.val; omega)
      · exact Fin.ext (by show (el.val * 64 + r.val) % 64 = r.val; omega)
    · intro q _ hq
      rw [word_slot, hot_ne (by omega) (by omega)]
      intro he
      exact hq (Fin.ext (by show q.val = el.val * 64 + r.val; omega))
    · simp
  · rw [if_neg hd]
    refine Finset.sum_eq_zero fun q _ => ?_
    rw [word_slot]
    generalize hw : (c - n : Fin 8) = w
    have hne : w.val ≠ d.val := fun hv => hd ((dev_step c d n).1 (hw.trans (Fin.ext hv)))
    have hw8 : w.val < 8 := w.isLt
    rw [hot_ne (by omega) (by omega)]
    intro he
    omega

/-- A block of the output after the results of `n` devices are added. -/
theorem pp_at (c : Dev nD) (b : Fin 4) (i : Fin 512) (o : Fin 1024)
    (p : Fin 2048) (hp : p.val = 512 * b.val + i.val) (d : Dev nD) (el : Fin 8) (r : Fin 64)
    (h : slotN (e c) p = el.val * 64 + r.val + d.val * 512) (n : ℕ) (hn : n ≤ 8) :
    PP I c b n (ix2 i o) = (∑ j : Fin 512, I.x c (ix2 p j) * I.sw c (ix2 j o))
      + if (c - d : Fin 8).val < n then ∑ j : Fin 512, XS I c (ix2 p j) * I.ew d (ix3 el j o) else 0 := by
  induction n with
  | zero =>
    rw [if_neg (Nat.not_lt_zero _), add_zero]
    show sharedG (xRow I c b) (I.sw c) (ix2 i o) = _
    rw [sharedG_at]
    refine Finset.sum_congr rfl fun j _ => congrArg (· * _) ?_
    refine congrArg (I.x c) ?_
    funext a
    match a with
    | 0 => exact Fin.ext hp.symm
    | 1 => rfl
  | succ n ih =>
    show combG (wDn c (Fin.ofNat 8 n)) (resB I c (c - Fin.ofNat 8 n : Fin 8)) (slRow I c b) (PP I c b n) (ix2 i o) = _
    rw [comb_pick I e hcap hsl c b (Fin.ofNat 8 n) (PP I c b n) i o p hp d el r h, ih (by omega), add_assoc]
    refine congrArg (_ + ·) ?_
    have hv : (Fin.ofNat 8 n).val = n := Nat.mod_eq_of_lt (by omega)
    generalize (c - d : Fin 8) = w
    rcases lt_trichotomy w.val n with hl | hl | hl
    · rw [if_pos hl, if_neg fun he => by rw [he, hv] at hl; omega, if_pos (by omega), add_zero]
    · rw [if_neg (by omega), if_pos (Fin.ext (hl.trans hv.symm)), if_pos (by omega), zero_add]
    · rw [if_neg (by omega), if_neg fun he => by rw [he, hv] at hl; omega, if_neg (by omega), add_zero]

/-- The output at a token. -/
theorem out_at (c : Dev nD) (p : Fin 2048) (o : Fin 1024) :
    OUT I c (ix2 p o) = (∑ j : Fin 512, I.x c (ix2 p j) * I.sw c (ix2 j o))
      + ∑ j : Fin 512, XS I c (ix2 p j)
          * I.ew (⟨(e c p).val / 8, by omega⟩ : Fin 8) (ix3 (⟨(e c p).val % 8, by omega⟩ : Fin 8) j o) := by
  have hdiv := slotN_div (e c) (hcap c) p
  have hlt := slotN_lt (e c) (hcap c) p
  have hb : p.val / 512 < 4 := by omega
  have hi : p.val % 512 < 512 := Nat.mod_lt _ (by decide)
  show PP I c ⟨p.val / 512, hb⟩ 8 (iO ⟨p.val % 512, hi⟩ o) = _
  refine (congrArg (PP I c ⟨p.val / 512, hb⟩ 8) (iO_eq _ _)).trans ((pp_at I e hcap hsl c ⟨p.val / 512, hb⟩ ⟨p.val % 512, hi⟩ o p
    (by show p.val = 512 * (p.val / 512) + p.val % 512; omega) (⟨(e c p).val / 8, by omega⟩ : Fin 8) ⟨(e c p).val % 8, by omega⟩
    ⟨slotN (e c) p % 64, Nat.mod_lt _ (by decide)⟩
    (by show slotN (e c) p = (e c p).val % 8 * 64 + slotN (e c) p % 64 + (e c p).val / 8 * 512; omega) 8 (le_refl _)).trans ?_)
  rw [if_pos (Fin.isLt _)]

end Cert.KernelIdeal.Moe
-- ==== Proof.RefAt.lean ====
/-
  The reference at a token and an output: the softmax probability, the two gathers of the token's expert, and the whole result.
-/
module

public import proofs.«01_k».proof.Proof.Gen.ReferenceIdeal
public import proofs.«01_k».proof.Proof.Plain
public import Idealize.ShloMosaic.Lib.Pointwise
public import Idealize.ShloMosaic.Lib.StableHlo.Predicate

@[expose] public section

set_option maxRecDepth 16384

noncomputable section

namespace Cert.ReferenceIdeal.Moe

open Idealize.ShloMosaic Idealize.ShloMosaic.TcCoe
open Cert.ReferenceIdeal Cert.ReferenceIdeal.Gen Cert.Plain

/-- The probability of every expert, by token. -/
def smax (x : FVec Ideal S16384x512 .f32) (rw : FVec Ideal S512x64 .f32) : FVec Ideal S16384x64 .f32 :=
 (Host.divf (Host.exp (subf (Host.dotGeneral dot_S16384x512_S512x64_S16384x64_1_0_0_1_n_n none x rw) (broadcastInDim S16384x64 ![0, 1] bcast_S16384x1_S16384x64_0_1 (broadcastInDim S16384x1 ![0] bcast_S16384_S16384x1_0 (Host.reduce FloatOps.maximumf (Host.dotGeneral dot_S16384x512_S512x64_S16384x64_1_0_0_1_n_n none x rw) (constant S_ .f32 0xFF800000#32) reducesTo_S16384x64_S16384_d1 h_S_))))) (broadcastInDim S16384x64 ![0, 1] bcast_S16384x1_S16384x64_0_1 (broadcastInDim S16384x1 ![0] bcast_S16384_S16384x1_0 (Host.reduceAdd (Host.exp (subf (Host.dotGeneral dot_S16384x512_S512x64_S16384x64_1_0_0_1_n_n none x rw) (broadcastInDim S16384x64 ![0, 1] bcast_S16384x1_S16384x64_0_1 (broadcastInDim S16384x1 ![0] bcast_S16384_S16384x1_0 (Host.reduce FloatOps.maximumf (Host.dotGeneral dot_S16384x512_S512x64_S16384x64_1_0_0_1_n_n none x rw) (constant S_ .f32 0xFF800000#32) reducesTo_S16384x64_S16384_d1 h_S_))))) (constant S_ .f32 0x00000000#32) reducesTo_S16384x64_S16384_d1 h_S_))))

theorem smax_at (x : FVec Ideal S16384x512 .f32) (rw : FVec Ideal S512x64 .f32) (i : Fin 16384) (k : Fin 64) :
    smax x rw (ix2 i k) = prob (fun k => ∑ j : Fin 512, x (ix2 i j) * rw (ix2 j k)) k := by
  pointwise [smax]
  rfl

/-- Indices with `n` added to those below zero. -/
def wrapI (n : BitVec 32) (v : IVec S16384 32) : IVec S16384 32 :=
  select (cmpi .slt v (broadcastInDim S16384 ![] bcast_S_S16384 (constantI S_ 32 0#32))) (addi v (broadcastInDim S16384 ![] bcast_S_S16384 (constantI S_ 32 n))) v

/-- The pairs of a token and its expert. -/
def pairI (ri : IVec S16384x1 32) : IVec S16384x2 32 :=
  concatenate S16384x2 1 [⟨S16384x1, (broadcastInDim S16384x1 ![0] bcast_S16384_S16384x1_0 (wrapI 16384#32 (iotaInDim S16384 32 0)))⟩, ⟨S16384x1, (broadcastInDim S16384x1 ![0] bcast_S16384_S16384x1_0 (wrapI 64#32 (shapeCast _ ri shapeCasts_S16384x1_S16384)))⟩] concatenates_S16384x1_S16384x1_S16384x2_d1

/-- A small number is not below zero, so its word is left as it is. -/
theorem wrap_ofNat (n : ℕ) (hn : n < 2 ^ 31) (v : BitVec 32) :
    Scalar.select (IntOp.cmpi .slt (BitVec.ofNat 32 n) 0#32) v (BitVec.ofNat 32 n) = BitVec.ofNat 32 n := by
  have h : IntOp.cmpi .slt (BitVec.ofNat 32 n) 0#32 = 0#1 := by
    show BitVec.ofBool (BitVec.slt _ _) = _
    rw [BitVec.slt_eq_decide, StableHlo.Predicate.toInt_ofNat_small _ hn, decide_eq_false (by simp)]
    rfl
  rw [h]; rfl

theorem pairI_0 (ri : IVec S16384x1 32) (i : Fin 16384) : pairI ri (ix2 i (0 : Fin 2)) = BitVec.ofNat 32 i.val := by
  pointwise [pairI, wrapI]
  exact wrap_ofNat _ (by omega) _
theorem pairI_1 (ri : IVec S16384x1 32) (i : Fin 16384) (e : Fin 64) (he : ri (ix2 i 0) = BitVec.ofNat 32 e.val) :
    pairI ri (ix2 i (1 : Fin 2)) = BitVec.ofNat 32 e.val := by
  pointwise [pairI, wrapI]
  rw [he]
  exact wrap_ofNat _ (by omega) _
theorem wrapW_at (ri : IVec S16384x1 32) (i : Fin 16384) (e : Fin 64) (he : ri (ix2 i 0) = BitVec.ofNat 32 e.val) :
    (broadcastInDim S16384x1 ![0] bcast_S16384_S16384x1_0 (wrapI 64#32 (shapeCast _ ri shapeCasts_S16384x1_S16384))) (ix2 i (0 : Fin 1)) = BitVec.ofNat 32 e.val := by
  pointwise [wrapI]
  rw [he]
  exact wrap_ofNat _ (by omega) _

/-- A gather of single entries, by a pair of indices. -/
theorem gprob_at (x : FVec Ideal S16384x64 .f32) (idx : IVec S16384x2 32) (i : Fin 16384) (e : Fin 64)
    (h0 : idx (ix2 i 0) = BitVec.ofNat 32 i.val) (h1 : idx (ix2 i 1) = BitVec.ofNat 32 e.val) :
    Host.gather gather_S16384x64_S16384x2_S16384_n_01_n_n_01_1_11 x idx (ix1 i) = x (ix2 i e) := by
  unfold Host.gather
  refine congrArg x (funext fun a => Fin.ext ?_)
  match a with
  | ⟨0, _⟩ =>
    have hs : gather_S16384x64_S16384x2_S16384_n_01_n_n_01_1_11.siIdx (ix1 i) ⟨0, by decide⟩ = ix2 i (0 : Fin 2) := by
      funext b
      match b with
      | ⟨0, _⟩ => rfl
      | ⟨1, _⟩ => rfl
    show min (idx (gather_S16384x64_S16384x2_S16384_n_01_n_n_01_1_11.siIdx (ix1 i) ⟨0, _⟩)).toInt.toNat 16383 + 0 + 0 = i.val
    rw [hs, h0, StableHlo.Predicate.toInt_ofNat_small _ (by omega)]
    omega
  | ⟨1, _⟩ =>
    have hs : gather_S16384x64_S16384x2_S16384_n_01_n_n_01_1_11.siIdx (ix1 i) ⟨1, by decide⟩ = ix2 i (1 : Fin 2) := by
      funext b
      match b with
      | ⟨0, _⟩ => rfl
      | ⟨1, _⟩ => rfl
    show min (idx (gather_S16384x64_S16384x2_S16384_n_01_n_n_01_1_11.siIdx (ix1 i) ⟨1, _⟩)).toInt.toNat 63 + 0 + 0 = e.val
    rw [hs, h1, StableHlo.Predicate.toInt_ofNat_small _ (by omega)]
    omega

/-- A gather of one expert's weights for every token. -/
theorem gW_at (x : FVec Ideal S64x512x1024 .f32) (idx : IVec S16384x1 32) (i : Fin 16384) (j : Fin 512) (o : Fin 1024) (e : Fin 64)
    (h : idx (ix2 i 0) = BitVec.ofNat 32 e.val) :
    Host.gather gather_S64x512x1024_S16384x1_S16384x512x1024_12_0_n_n_0_1_15121024 x idx (ix3 i j o) = x (ix3 e j o) := by
  unfold Host.gather
  refine congrArg x (funext fun a => Fin.ext ?_)
  match a with
  | ⟨0, _⟩ =>
    have hs : gather_S64x512x1024_S16384x1_S16384x512x1024_12_0_n_n_0_1_15121024.siIdx (ix3 i j o) ⟨0, by decide⟩ = ix2 i (0 : Fin 1) := by
      funext b
      match b with
      | ⟨0, _⟩ => rfl
      | ⟨1, _⟩ => rfl
    show min (idx (gather_S64x512x1024_S16384x1_S16384x512x1024_12_0_n_n_0_1_15121024.siIdx (ix3 i j o) ⟨0, _⟩)).toInt.toNat 63 + 0 + 0 = e.val
    rw [hs, h, StableHlo.Predicate.toInt_ofNat_small _ (by omega)]
    omega
  | ⟨1, _⟩ =>
    show 0 + 0 + j.val = j.val
    omega
  | ⟨2, _⟩ =>
    show 0 + 0 + o.val = o.val
    omega

theorem bdot_at (x : FVec Ideal S16384x512 .f32) (y : FVec Ideal S16384x512x1024 .f32) (i : Fin 16384) (o : Fin 1024) :
   (Host.dotGeneral dot_S16384x512_S16384x512x1024_S16384x1024_1_1_n_2_0_0 none x y) (ix2 i o) = ∑ j : Fin 512, x (ix2 i j) * y (ix3 i j o) := by
  pointwise
theorem sdot_at (x : FVec Ideal S16384x512 .f32) (y : FVec Ideal S512x1024 .f32) (i : Fin 16384) (o : Fin 1024) :
   (Host.dotGeneral dot_S16384x512_S512x1024_S16384x1024_1_0_0_1_n_n none x y) (ix2 i o) = ∑ j : Fin 512, x (ix2 i j) * y (ix2 j o) := by
  pointwise

/-- The reference's result. -/
def REF (x : FVec Ideal S16384x512 .f32) (rw : FVec Ideal S512x64 .f32) (ri : IVec S16384x1 32) (ew : FVec Ideal S64x512x1024 .f32)
    (sw : FVec Ideal S512x1024 .f32) : FVec Ideal S16384x1024 .f32 :=
  addf (Host.dotGeneral dot_S16384x512_S512x1024_S16384x1024_1_0_0_1_n_n none x sw)
    (mulf (broadcastInDim S16384x1024 ![0, 1] bcast_S16384x1_S16384x1024_0_1 (broadcastInDim S16384x1 ![0] bcast_S16384_S16384x1_0
        (Host.gather gather_S16384x64_S16384x2_S16384_n_01_n_n_01_1_11 (smax x rw) (pairI ri))))
      (Host.dotGeneral dot_S16384x512_S16384x512x1024_S16384x1024_1_1_n_2_0_0 none x
        (Host.gather gather_S64x512x1024_S16384x1_S16384x512x1024_12_0_n_n_0_1_15121024 ew
          (broadcastInDim S16384x1 ![0] bcast_S16384_S16384x1_0 (wrapI 64#32 (shapeCast _ ri shapeCasts_S16384x1_S16384))))))

/-- The reference's result at a token and an output: the shared expert's product, and the probability of the token's expert times that
    expert's product. -/
theorem REF_at (x : FVec Ideal S16384x512 .f32) (rw : FVec Ideal S512x64 .f32) (ri : IVec S16384x1 32) (ew : FVec Ideal S64x512x1024 .f32)
    (sw : FVec Ideal S512x1024 .f32) (i : Fin 16384) (o : Fin 1024) (e : Fin 64) (he : ri (ix2 i 0) = BitVec.ofNat 32 e.val) :
    REF x rw ri ew sw (ix2 i o) = (∑ j : Fin 512, x (ix2 i j) * sw (ix2 j o))
      + prob (fun k => ∑ j : Fin 512, x (ix2 i j) * rw (ix2 j k)) e * ∑ j : Fin 512, x (ix2 i j) * ew (ix3 e j o) := by
  have h1 := gprob_at (smax x rw) (pairI ri) i e (pairI_0 ri i) (pairI_1 ri i e he)
  rw [smax_at] at h1
  have h2 : ∀ j : Fin 512, _ := fun j => gW_at ew _ i j o e (wrapW_at ri i e he)
  have h3 := bdot_at x (Host.gather gather_S64x512x1024_S16384x1_S16384x512x1024_12_0_n_n_0_1_15121024 ew
          (broadcastInDim S16384x1 ![0] bcast_S16384_S16384x1_0 (wrapI 64#32 (shapeCast _ ri shapeCasts_S16384x1_S16384)))) i o
  rw [Finset.sum_congr rfl fun j _ => congrArg (x (ix2 i j) * ·) (h2 j)] at h3
  rw [← h1, ← h3, ← sdot_at x sw i o]
  pointwise [REF]

end Cert.ReferenceIdeal.Moe
-- ==== Proof.Alg.lean ====
/-
  The kernel and the reference give the same results over the extended reals, device by device.
-/
module

public import proofs.«01_k».proof.Defs
public import proofs.«01_k».proof.Proof.Pre
public import proofs.«01_k».proof.Proof.Sums
public import proofs.«01_k».proof.Proof.RefAt

@[expose] public section

set_option maxRecDepth 16384

noncomputable section

namespace Cert.Proof

open Idealize.ShloMosaic Idealize.ShloMosaic.TcCoe Cert.Plain
open Cert.KernelIdeal.Moe Cert.ReferenceIdeal.Moe

/-- Token `p` of device `c` among all the tokens. -/
def tok (c : Fin 8) (p : Fin 2048) : Fin 16384 := ⟨c.val * 2048 + p.val, by omega⟩

/-- Block `c` of an array cut along its rows, at a row and a column. -/
theorem block_at {α : Type} {n : ℕ} (h : Layout.Tiles ⟨2, ![2048, n]⟩ ⟨2, ![16384, n]⟩ 0 8) (c : Fin 8)
    (v : (⟨2, ![16384, n]⟩ : Shape).Idx → α) (p : Fin 2048) (j : Fin n) :
    Layout.block ⟨2, ![2048, n]⟩ ⟨2, ![16384, n]⟩ 0 8 c v h (ix2 p j) = v (ix2 (tok c p) j) := by
  refine congrArg v ?_
  funext a
  match a with
  | ⟨0, _⟩ => rfl
  | ⟨1, _⟩ => rfl

/-- Block `d` of the experts' weights. -/
theorem block_ew {α : Type} (h : Layout.Tiles ⟨3, ![8, 512, 1024]⟩ ⟨3, ![64, 512, 1024]⟩ 0 8) (d : Fin 8)
    (v : (⟨3, ![64, 512, 1024]⟩ : Shape).Idx → α) (el : Fin 8) (j : Fin 512) (o : Fin 1024) (k : Fin 64) (hk : k.val = d.val * 8 + el.val) :
    Layout.block ⟨3, ![8, 512, 1024]⟩ ⟨3, ![64, 512, 1024]⟩ 0 8 d v h (ix3 el j o) = v (ix3 k j o) := by
  refine congrArg v ?_
  funext a
  match a with
  | ⟨0, _⟩ => exact Fin.ext hk.symm
  | ⟨1, _⟩ => rfl
  | ⟨2, _⟩ => rfl

/-- The output of a device at a token is the reference's result there. -/
theorem value (I : Inp Ideal) (X : FVec Ideal Cert.ReferenceIdeal.S16384x512 .f32) (RW : FVec Ideal Cert.ReferenceIdeal.S512x64 .f32)
    (RI : IVec Cert.ReferenceIdeal.S16384x1 32) (EW : FVec Ideal Cert.ReferenceIdeal.S64x512x1024 .f32)
    (SW : FVec Ideal Cert.ReferenceIdeal.S512x1024 .f32)
    (hx : ∀ (c : Fin 8) p j, I.x c (ix2 p j) = X (ix2 (tok c p) j)) (hrw : ∀ c, I.rw c = RW)
    (hri : ∀ (c : Fin 8) p, I.ri c (ix2 p (0 : Fin 1)) = RI (ix2 (tok c p) (0 : Fin 1)))
    (hew : ∀ (d el : Fin 8) (j : Fin 512) (o : Fin 1024) (k : Fin 64), k.val = d.val * 8 + el.val → I.ew d (ix3 el j o) = EW (ix3 k j o))
    (hsw : ∀ c, I.sw c = SW)
    (hsl : ∀ c, I.sl c = slots (I.ri c))
    (fx : ∀ (c : Fin 8) (p : Fin 2048) (j : Fin 512), Fin' (I.x c (ix2 p j))) (frw : ∀ (c : Fin 8) (j : Fin 512) (k : Fin 64), Fin' (I.rw c (ix2 j k)))
    (e : Fin 8 → Fin 2048 → Fin 64) (he : ∀ c p, I.ri c (ix2 p (0 : Fin 1)) = BitVec.ofNat 32 (e c p).val)
    (hcap : ∀ c k, (Finset.univ.filter fun q : Fin 2048 => e c q = k).card ≤ 64)
    (c : Fin 8) (p : Fin 2048) (o : Fin 1024) :
    OUT I c (ix2 p o) = REF X RW RI EW SW (ix2 (tok c p) o) := by
  have hsl' : ∀ c p, I.sl c (ix2 p (0 : Fin 1)) = BitVec.ofNat 32 (slotN (e c) p) := fun c p => by
    rw [hsl c]; exact slots_at (I.ri c) (e c) (he c) (hcap c) p
  rw [out_at I e hcap hsl' c p o, REF_at X RW RI EW SW (tok c p) o (e c p) ((hri c p).symm.trans (he c p))]
  have hs : (fun k => ∑ j : Fin 512, X (ix2 (tok c p) j) * RW (ix2 j k)) = fun k => ∑ j : Fin 512, I.x c (ix2 p j) * I.rw c (ix2 j k) :=
    funext fun k => Finset.sum_congr rfl fun j _ => by rw [hx, hrw]
  obtain ⟨h0, h1⟩ := prob_fin (fun k => ∑ j : Fin 512, I.x c (ix2 p j) * I.rw c (ix2 j k))
    (fun k => fin_sum _ _ fun j => fin_mul (fx c p j) (frw c j k)) (e c p)
  rw [hs]
  refine congrArg₂ (· + ·) (Finset.sum_congr rfl fun j _ => by rw [hx, hsw]) ?_
  rw [← sum_mul_out _ _ h0 h1]
  refine Finset.sum_congr rfl fun j _ => ?_
  have hxs : XS I c (ix2 p j) = I.x c (ix2 p j) * prob (fun k => ∑ j : Fin 512, I.x c (ix2 p j) * I.rw c (ix2 j k)) (e c p) :=
    scaled_at (I.x c) (I.rw c) (I.ri c) p j (e c p) (he c p)
  rw [hxs, hew _ _ j o (e c p) (by show (e c p).val = (e c p).val / 8 * 8 + (e c p).val % 8; omega), hx, mul_comm (X _), mul_assoc]

theorem algebraic : Cert.algebraic_KernelIdeal_ReferenceIdeal_pre_finite_within_capacity_KernelIdeal
    (hPre_finite_within_capacity_KernelIdeal := facts_pre) := by
  intro m g m' g' hpre hin
  have hd := fun c => @decode facts_pre _ _ _ _ _ (hpre c).1 (hpre c).2.1 (hpre c).2.2.1 (hpre c).2.2.2.1 (hpre c).2.2.2.2
  choose fx frw e he hcap using hd
  refine ⟨REF (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)), ?_, ?_⟩
  · refine (θ_run Cert.KernelIdeal.defs _ _).mono (fun r h c => ⟨(h.1 c).1.trans ?_, (h.1 c).2⟩)
      (Cert.KernelIdeal.Moe.run_main (F := Ideal) m g)
    funext i
    obtain ⟨p, o, rfl⟩ : ∃ (p : Fin 2048) (o : Fin 1024), i = ix2 p o := ⟨i 0, i 1, eq_ix2 i⟩
    refine Eq.trans ?_ (block_at (by decide) c _ p o).symm
    refine value (inp m) _ _ _ _ _ (fun c p j => ?_) (fun c => ?_) (fun c p => ?_) (fun d el j o k hk => ?_) (fun c => ?_) (fun c => ?_)
      (fun c p j => ?_) (fun c j k => ?_) e (fun c p => ?_) hcap c p o
    · rw [inp_x, (hin c).1]; exact block_at (by decide) c _ p j
    · rw [inp_rw, (hin c).2.1]
    · rw [inp_ri, (hin c).2.2.1]; exact block_at (by decide) c _ p 0
    · rw [inp_ew, (hin d).2.2.2.1]; exact block_ew (by decide) d _ el j o k hk
    · rw [inp_sw, (hin c).2.2.2.2]
    · rw [inp_sl, inp_ri]
    · rw [inp_x]; exact fx c p j
    · rw [inp_rw]; exact frw c j k
    · rw [inp_ri]; exact he c p
  · exact (θ_run Cert.ReferenceIdeal.defs _ _).mono (fun r h => h 0) (Cert.ReferenceIdeal.Value.run (F := Ideal) m' g')

end Cert.Proof
-- ==== Proof.lean ====
/-
  The proof of `Cert.Claim` (proofs.«01_k».proof.Defs): the claims, each proved in a module under Proof/.
-/
module

public import proofs.«01_k».proof.Defs
public import proofs.«01_k».proof.Proof.Alg

@[expose] public section

noncomputable section

namespace Cert.Proof

theorem claim : Cert.Claim :=
  ⟨Cert.Kernel.Gen.facts, Cert.KernelIdeal.Gen.facts, Cert.ReferenceIdeal.Gen.facts, facts_pre, facts_pre_ref,
    frame_kernel, frame_ideal, frame_ideal_pre, frame_ref, frame_ref_pre, trivial, algebraic⟩

end Cert.Proof

end
